-- ==== Defs.lean ====
def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7)
      ∧ r.2.mem ((c.tc : Thread Cert.Inp.nD Cert.Inp.τ).loc Cert.Inp.main_arg8) = m ((c.tc : Thread Cert.Inp.nD Cert.Inp.τ).loc Cert.Inp.main_arg8)
      ∧ r.2.mem ((c.tc : Thread Cert.Inp.nD Cert.Inp.τ).loc Cert.Inp.main_arg9) = m ((c.tc : Thread Cert.Inp.nD Cert.Inp.τ).loc Cert.Inp.main_arg9))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
      ∧ r.2.mem ((c.tc : Thread Cert.InpIdeal.nD Cert.InpIdeal.τ).loc Cert.InpIdeal.main_arg8) = m ((c.tc : Thread Cert.InpIdeal.nD Cert.InpIdeal.τ).loc Cert.InpIdeal.main_arg8)
      ∧ r.2.mem ((c.tc : Thread Cert.InpIdeal.nD Cert.InpIdeal.τ).loc Cert.InpIdeal.main_arg9) = m ((c.tc : Thread Cert.InpIdeal.nD Cert.InpIdeal.τ).loc Cert.InpIdeal.main_arg9))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7)
      ∧ r.2.mem ((c.tc : Thread Cert.InpRefIdeal.nD Cert.InpRefIdeal.τ).loc Cert.InpRefIdeal.main_arg8) = m ((c.tc : Thread Cert.InpRefIdeal.nD Cert.InpRefIdeal.τ).loc Cert.InpRefIdeal.main_arg8)
      ∧ r.2.mem ((c.tc : Thread Cert.InpRefIdeal.nD Cert.InpRefIdeal.τ).loc Cert.InpRefIdeal.main_arg9) = m ((c.tc : Thread Cert.InpRefIdeal.nD Cert.InpRefIdeal.τ).loc Cert.InpRefIdeal.main_arg9))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)
      ∧ m' ((c.tc : Thread Cert.InpRefIdeal.nD Cert.InpRefIdeal.τ).loc Cert.InpRefIdeal.main_arg7) = m ((c.tc : Thread Cert.InpIdeal.nD Cert.InpIdeal.τ).loc Cert.InpIdeal.main_arg7)
      ∧ m' ((c.tc : Thread Cert.InpRefIdeal.nD Cert.InpRefIdeal.τ).loc Cert.InpRefIdeal.main_arg8) = m ((c.tc : Thread Cert.InpIdeal.nD Cert.InpIdeal.τ).loc Cert.InpIdeal.main_arg8)
      ∧ m' ((c.tc : Thread Cert.InpRefIdeal.nD Cert.InpRefIdeal.τ).loc Cert.InpRefIdeal.main_arg9) = m ((c.tc : Thread Cert.InpIdeal.nD Cert.InpIdeal.τ).loc Cert.InpIdeal.main_arg9)) →
    ∃ (v0 : (c : Dev Cert.InpIdeal.nD) → Buf (Elt Ideal) ((c.tc : Thread Cert.InpIdeal.nD Cert.InpIdeal.τ).loc Cert.InpIdeal.main_v54_0)) (v1 : (c : Dev Cert.InpIdeal.nD) → Buf (Elt Ideal) ((c.tc : Thread Cert.InpIdeal.nD Cert.InpIdeal.τ).loc Cert.InpIdeal.main_v54_1)) (v2 : (c : Dev Cert.InpIdeal.nD) → Buf (Elt Ideal) ((c.tc : Thread Cert.InpIdeal.nD Cert.InpIdeal.τ).loc Cert.InpIdeal.main_v54_2)) (v3 : (c : Dev Cert.InpIdeal.nD) → Buf (Elt Ideal) ((c.tc : Thread Cert.InpIdeal.nD Cert.InpIdeal.τ).loc Cert.InpIdeal.main_v54_3)) (v4 : (c : Dev Cert.InpIdeal.nD) → Buf (Elt Ideal) ((c.tc : Thread Cert.InpIdeal.nD Cert.InpIdeal.τ).loc Cert.InpIdeal.main_v54_4)) (v5 : (c : Dev Cert.InpIdeal.nD) → Buf (Elt Ideal) ((c.tc : Thread Cert.InpIdeal.nD Cert.InpIdeal.τ).loc Cert.InpIdeal.main_v54_5)) (v6 : (c : Dev Cert.InpIdeal.nD) → Buf (Elt Ideal) ((c.tc : Thread Cert.InpIdeal.nD Cert.InpIdeal.τ).loc Cert.InpIdeal.main_v54_6)) (v7 : (c : Dev Cert.InpIdeal.nD) → Buf (Elt Ideal) ((c.tc : Thread Cert.InpIdeal.nD Cert.InpIdeal.τ).loc Cert.InpIdeal.main_v54_7)) (v8 : (c : Dev Cert.InpIdeal.nD) → Buf (Elt Ideal) ((c.tc : Thread Cert.InpIdeal.nD Cert.InpIdeal.τ).loc Cert.InpIdeal.main_v54_8)) (v9 : (c : Dev Cert.InpIdeal.nD) → Buf (Elt Ideal) ((c.tc : Thread Cert.InpIdeal.nD Cert.InpIdeal.τ).loc Cert.InpIdeal.main_v54_9)) (v10 : (c : Dev Cert.InpIdeal.nD) → Buf (Elt Ideal) ((c.tc : Thread Cert.InpIdeal.nD Cert.InpIdeal.τ).loc Cert.InpIdeal.main_v54_10)) (v11 : (c : Dev Cert.InpIdeal.nD) → Buf (Elt Ideal) ((c.tc : Thread Cert.InpIdeal.nD Cert.InpIdeal.τ).loc Cert.InpIdeal.main_v54_11)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v54_0) = v0 c
          ∧ r.2.mem ((c.tc : Thread Cert.InpIdeal.nD Cert.InpIdeal.τ).loc Cert.InpIdeal.main_v54_1) = v1 c
          ∧ r.2.mem ((c.tc : Thread Cert.InpIdeal.nD Cert.InpIdeal.τ).loc Cert.InpIdeal.main_v54_2) = v2 c
          ∧ r.2.mem ((c.tc : Thread Cert.InpIdeal.nD Cert.InpIdeal.τ).loc Cert.InpIdeal.main_v54_3) = v3 c
          ∧ r.2.mem ((c.tc : Thread Cert.InpIdeal.nD Cert.InpIdeal.τ).loc Cert.InpIdeal.main_v54_4) = v4 c
          ∧ r.2.mem ((c.tc : Thread Cert.InpIdeal.nD Cert.InpIdeal.τ).loc Cert.InpIdeal.main_v54_5) = v5 c
          ∧ r.2.mem ((c.tc : Thread Cert.InpIdeal.nD Cert.InpIdeal.τ).loc Cert.InpIdeal.main_v54_6) = v6 c
          ∧ r.2.mem ((c.tc : Thread Cert.InpIdeal.nD Cert.InpIdeal.τ).loc Cert.InpIdeal.main_v54_7) = v7 c
          ∧ r.2.mem ((c.tc : Thread Cert.InpIdeal.nD Cert.InpIdeal.τ).loc Cert.InpIdeal.main_v54_8) = v8 c
          ∧ r.2.mem ((c.tc : Thread Cert.InpIdeal.nD Cert.InpIdeal.τ).loc Cert.InpIdeal.main_v54_9) = v9 c
          ∧ r.2.mem ((c.tc : Thread Cert.InpIdeal.nD Cert.InpIdeal.τ).loc Cert.InpIdeal.main_v54_10) = v10 c
          ∧ r.2.mem ((c.tc : Thread Cert.InpIdeal.nD Cert.InpIdeal.τ).loc Cert.InpIdeal.main_v54_11) = v11 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
          ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
          ∧ r.2.mem ((c.tc : Thread Cert.InpIdeal.nD Cert.InpIdeal.τ).loc Cert.InpIdeal.main_arg8) = m ((c.tc : Thread Cert.InpIdeal.nD Cert.InpIdeal.τ).loc Cert.InpIdeal.main_arg8)
          ∧ r.2.mem ((c.tc : Thread Cert.InpIdeal.nD Cert.InpIdeal.τ).loc Cert.InpIdeal.main_arg9) = m ((c.tc : Thread Cert.InpIdeal.nD Cert.InpIdeal.τ).loc Cert.InpIdeal.main_arg9))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v337) = v0 c
          ∧ r.2.mem ((c.tc : Thread Cert.InpRefIdeal.nD Cert.InpRefIdeal.τ).loc Cert.InpRefIdeal.main_v332) = v1 c
          ∧ r.2.mem ((c.tc : Thread Cert.InpRefIdeal.nD Cert.InpRefIdeal.τ).loc Cert.InpRefIdeal.main_v333) = v2 c
          ∧ r.2.mem ((c.tc : Thread Cert.InpRefIdeal.nD Cert.InpRefIdeal.τ).loc Cert.InpRefIdeal.main_v339) = v3 c
          ∧ r.2.mem ((c.tc : Thread Cert.InpRefIdeal.nD Cert.InpRefIdeal.τ).loc Cert.InpRefIdeal.main_v340) = v4 c
          ∧ r.2.mem ((c.tc : Thread Cert.InpRefIdeal.nD Cert.InpRefIdeal.τ).loc Cert.InpRefIdeal.main_v341) = v5 c
          ∧ r.2.mem ((c.tc : Thread Cert.InpRefIdeal.nD Cert.InpRefIdeal.τ).loc Cert.InpRefIdeal.main_v342) = v6 c
          ∧ r.2.mem ((c.tc : Thread Cert.InpRefIdeal.nD Cert.InpRefIdeal.τ).loc Cert.InpRefIdeal.main_v345) = v7 c
          ∧ r.2.mem ((c.tc : Thread Cert.InpRefIdeal.nD Cert.InpRefIdeal.τ).loc Cert.InpRefIdeal.main_v347) = v8 c
          ∧ r.2.mem ((c.tc : Thread Cert.InpRefIdeal.nD Cert.InpRefIdeal.τ).loc Cert.InpRefIdeal.main_v348) = v9 c
          ∧ r.2.mem ((c.tc : Thread Cert.InpRefIdeal.nD Cert.InpRefIdeal.τ).loc Cert.InpRefIdeal.main_v356) = v10 c
          ∧ r.2.mem ((c.tc : Thread Cert.InpRefIdeal.nD Cert.InpRefIdeal.τ).loc Cert.InpRefIdeal.main_v364) = v11 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6)
          ∧ r.2.mem ((c.tc : Thread Cert.InpRefIdeal.nD Cert.InpRefIdeal.τ).loc Cert.InpRefIdeal.main_arg7) = m' ((c.tc : Thread Cert.InpRefIdeal.nD Cert.InpRefIdeal.τ).loc Cert.InpRefIdeal.main_arg7)
          ∧ r.2.mem ((c.tc : Thread Cert.InpRefIdeal.nD Cert.InpRefIdeal.τ).loc Cert.InpRefIdeal.main_arg8) = m' ((c.tc : Thread Cert.InpRefIdeal.nD Cert.InpRefIdeal.τ).loc Cert.InpRefIdeal.main_arg8)
          ∧ r.2.mem ((c.tc : Thread Cert.InpRefIdeal.nD Cert.InpRefIdeal.τ).loc Cert.InpRefIdeal.main_arg9) = m' ((c.tc : Thread Cert.InpRefIdeal.nD Cert.InpRefIdeal.τ).loc Cert.InpRefIdeal.main_arg9))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v8)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v8) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v15) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def Claim : Prop :=
  ∃ (hInp : Cert.Inp.Facts) (hInpIdeal : Cert.InpIdeal.Facts) (hInpRefIdeal : Cert.InpRefIdeal.Facts) (hOut : Cert.Out.Facts) (hOutIdeal : Cert.OutIdeal.Facts) (hOutRefIdeal : Cert.OutRefIdeal.Facts),
    quiescent_Inp (hInp := hInp)
    ∧ quiescent_InpIdeal (hInpIdeal := hInpIdeal)
    ∧ quiescent_InpRefIdeal (hInpRefIdeal := hInpRefIdeal)
    ∧ quiescent_Out (hOut := hOut)
    ∧ quiescent_OutIdeal (hOutIdeal := hOutIdeal)
    ∧ quiescent_OutRefIdeal (hOutRefIdeal := hOutRefIdeal)
    ∧ preserves_Inp_InpIdeal
    ∧ algebraic_InpIdeal_InpRefIdeal (hInpIdeal := hInpIdeal) (hInpRefIdeal := hInpRefIdeal)
    ∧ preserves_Out_OutIdeal
    ∧ algebraic_OutIdeal_OutRefIdeal (hOutIdeal := hOutIdeal) (hOutRefIdeal := hOutRefIdeal)
-- ==== Inp.lean ====
abbrev S32x2048x1024 : Shape := ⟨3, ![32, 2048, 1024]⟩
abbrev S1x1024 : Shape := ⟨2, ![1, 1024]⟩
abbrev S1x1024x9232 : Shape := ⟨3, ![1, 1024, 9232]⟩
abbrev S1x16 : Shape := ⟨2, ![1, 16]⟩
abbrev S1x64 : Shape := ⟨2, ![1, 64]⟩
abbrev S1x31x1024 : Shape := ⟨3, ![1, 31, 1024]⟩
abbrev S_ : Shape := ⟨0, ![]⟩
abbrev S1024x1024 : Shape := ⟨2, ![1024, 1024]⟩
abbrev S1024 : Shape := ⟨1, ![1024]⟩
abbrev S1024x9232 : Shape := ⟨2, ![1024, 9232]⟩
abbrev S16 : Shape := ⟨1, ![16]⟩
abbrev S64 : Shape := ⟨1, ![64]⟩
abbrev S31x1024 : Shape := ⟨2, ![31, 1024]⟩
abbrev S1024x16 : Shape := ⟨2, ![1024, 16]⟩
abbrev S1024x128 : Shape := ⟨2, ![1024, 128]⟩
abbrev S1024x3072 : Shape := ⟨2, ![1024, 3072]⟩
abbrev S1024x6144 : Shape := ⟨2, ![1024, 6144]⟩
abbrev S1024x9344 : Shape := ⟨2, ![1024, 9344]⟩
abbrev S1024x1 : Shape := ⟨2, ![1024, 1]⟩
abbrev S128 : Shape := ⟨1, ![128]⟩
abbrev S1x128 : Shape := ⟨2, ![1, 128]⟩
abbrev S128x1024 : Shape := ⟨2, ![128, 1024]⟩
abbrev S256x1024 : Shape := ⟨2, ![256, 1024]⟩
abbrev S16x64 : Shape := ⟨2, ![16, 64]⟩
abbrev S32x1024 : Shape := ⟨2, ![32, 1024]⟩
abbrev S32x8x128 : Shape := ⟨3, ![32, 8, 128]⟩
abbrev S8x32x128 : Shape := ⟨3, ![8, 32, 128]⟩
abbrev S1x8x128 : Shape := ⟨3, ![1, 8, 128]⟩
abbrev S8x1x128 : Shape := ⟨3, ![8, 1, 128]⟩
abbrev S32x32x1024 : Shape := ⟨3, ![32, 32, 1024]⟩
abbrev S65536x1024 : Shape := ⟨2, ![65536, 1024]⟩
abbrev S32x1024x2048 : Shape := ⟨3, ![32, 1024, 2048]⟩
abbrev S65536x16 : Shape := ⟨2, ![65536, 16]⟩
abbrev S32x16x2048 : Shape := ⟨3, ![32, 16, 2048]⟩
abbrev S1x32x1024 : Shape := ⟨3, ![1, 32, 1024]⟩
abbrev S1x1024x256 : Shape := ⟨3, ![1, 1024, 256]⟩
abbrev S256x16 : Shape := ⟨2, ![256, 16]⟩
abbrev S1x16x256 : Shape := ⟨3, ![1, 16, 256]⟩
abbrev S8x288x128 : Shape := ⟨3, ![8, 288, 128]⟩
abbrev S8x256x128 : Shape := ⟨3, ![8, 256, 128]⟩
abbrev S256 : Shape := ⟨1, ![256]⟩
abbrev S256x1 : Shape := ⟨2, ![256, 1]⟩
abbrev S1x32x128 : Shape := ⟨3, ![1, 32, 128]⟩
abbrev S32x128 : Shape := ⟨2, ![32, 128]⟩
abbrev S256x128 : Shape := ⟨2, ![256, 128]⟩
abbrev S1x256x128 : Shape := ⟨3, ![1, 256, 128]⟩
abbrev S1x1x128 : Shape := ⟨3, ![1, 1, 128]⟩
abbrev S128x128 : Shape := ⟨2, ![128, 128]⟩
abbrev S1x128x128 : Shape := ⟨3, ![1, 128, 128]⟩
abbrev S256x256 : Shape := ⟨2, ![256, 256]⟩
abbrev S1024x256 : Shape := ⟨2, ![1024, 256]⟩
abbrev S128x256 : Shape := ⟨2, ![128, 256]⟩
abbrev S16x256 : Shape := ⟨2, ![16, 256]⟩

abbrev nBuf : Space → Nat
  | .hbm => 102
  | .vmem => 41
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x9232, .f32⟩
  | .hbm, ⟨3, _⟩ => ⟨S1x16, .f32⟩
  | .hbm, ⟨4, _⟩ => ⟨S1x64, .f32⟩
  | .hbm, ⟨5, _⟩ => ⟨S1x64, .f32⟩
  | .hbm, ⟨6, _⟩ => ⟨S1x31x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1024x1024, .f32⟩
  | .hbm, ⟨12, _⟩ => ⟨S1024, .f32⟩
  | .hbm, ⟨13, _⟩ => ⟨S1024x9232, .f32⟩
  | .hbm, ⟨14, _⟩ => ⟨S16, .f32⟩
  | .hbm, ⟨15, _⟩ => ⟨S64, .f32⟩
  | .hbm, ⟨16, _⟩ => ⟨S64, .f32⟩
  | .hbm, ⟨17, _⟩ => ⟨S31x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024x16, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S1024x3072, .f32⟩
  | .hbm, ⟨26, _⟩ => ⟨S1024x6144, .f32⟩
  | .hbm, ⟨27, _⟩ => ⟨S1024x9344, .f32⟩
  | .hbm, ⟨28, _⟩ => ⟨S1024x9344, .bf16⟩
  | .hbm, ⟨29, _⟩ => ⟨S1024, .i32⟩
  | .hbm, ⟨30, _⟩ => ⟨S_, .i32⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S1024, .i32⟩
  | .hbm, ⟨39, _⟩ => ⟨S1024, .i32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S128, .i32⟩
  | .hbm, ⟨50, _⟩ => ⟨S1x128, .i32⟩
  | .hbm, ⟨51, _⟩ => ⟨S1024x128, .i32⟩
  | .hbm, ⟨52, _⟩ => ⟨S1024x128, .i32⟩
  | .hbm, ⟨53, _⟩ => ⟨S1024x128, .i1⟩
  | .hbm, ⟨54, _⟩ => ⟨S1024x128, .bf16⟩
  | .hbm, ⟨55, _⟩ => ⟨S128x1024, .bf16⟩
  | .hbm, ⟨56, _⟩ => ⟨S128x1024, .bf16⟩
  | .hbm, ⟨57, _⟩ => ⟨S256x1024, .bf16⟩
  | .hbm, ⟨58, _⟩ => ⟨S1x1024, .f32⟩
  | .hbm, ⟨59, _⟩ => ⟨S_, .i32⟩
  | .hbm, ⟨60, _⟩ => ⟨S_, .f32⟩
  | .hbm, ⟨61, _⟩ => ⟨S128, .f32⟩
  | .hbm, ⟨62, _⟩ => ⟨S1x128, .f32⟩
  | .hbm, ⟨63, _⟩ => ⟨S1x64, .f32⟩
  | .hbm, ⟨64, _⟩ => ⟨S16x64, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S1x1024, .f32⟩
  | .hbm, ⟨70, _⟩ => ⟨S1x64, .f32⟩
  | .hbm, ⟨71, _⟩ => ⟨S16x64, .f32⟩
  | .hbm, ⟨72, _⟩ => ⟨S1024, .f32⟩
  | .hbm, ⟨73, _⟩ => ⟨S1x1024, .f32⟩
  | .hbm, ⟨74, _⟩ => ⟨S_, .i32⟩
  | .hbm, ⟨75, _⟩ => ⟨S_, .f32⟩
  | .hbm, ⟨76, _⟩ => ⟨S32x1024, .f32⟩
  | .hbm, ⟨77, _⟩ => ⟨S32x8x128, .f32⟩
  | .hbm, ⟨78, _⟩ => ⟨S8x32x128, .f32⟩
  | .hbm, ⟨79, _⟩ => ⟨S1x1024, .f32⟩
  | .hbm, ⟨80, _⟩ => ⟨S1x8x128, .f32⟩
  | .hbm, ⟨81, _⟩ => ⟨S8x1x128, .f32⟩
  | .hbm, ⟨82, _⟩ => ⟨S1x1024, .f32⟩
  | .hbm, ⟨83, _⟩ => ⟨S1x1024, .f32⟩
  | .hbm, ⟨84, _⟩ => ⟨S1024x1024, .bf16⟩
  | .hbm, ⟨85, _⟩ => ⟨S1024x1024, .bf16⟩
  | .hbm, ⟨86, _⟩ => ⟨S1024x1024, .bf16⟩
  | .hbm, ⟨87, _⟩ => ⟨S_, .f32⟩
  | .hbm, ⟨88, _⟩ => ⟨S32x32x1024, .f32⟩
  | .hbm, ⟨89, _⟩ => ⟨S65536x1024, .f32⟩
  | .hbm, ⟨90, _⟩ => ⟨S65536x1024, .bf16⟩
  | .hbm, ⟨91, _⟩ => ⟨S32x1024x2048, .f32⟩
  | .hbm, ⟨92, _⟩ => ⟨S32x1024x2048, .f32⟩
  | .hbm, ⟨93, _⟩ => ⟨S65536x1024, .bf16⟩
  | .hbm, ⟨94, _⟩ => ⟨S32x1024x2048, .bf16⟩
  | .hbm, ⟨95, _⟩ => ⟨S65536x16, .f32⟩
  | .hbm, ⟨96, _⟩ => ⟨S32x16x2048, .f32⟩
  | .hbm, ⟨97, _⟩ => ⟨S65536x1024, .bf16⟩
  | .hbm, ⟨98, _⟩ => ⟨S65536x1024, .bf16⟩
  | .hbm, ⟨99, _⟩ => ⟨S32x32x1024, .f32⟩
  | .hbm, ⟨100, _⟩ => ⟨S65536x1024, .bf16⟩
  | .hbm, ⟨101, _⟩ => ⟨S65536x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x9344, .bf16⟩
  | .local _ .vmem, ⟨4, _⟩ => ⟨S1x128, .f32⟩
  | .local _ .vmem, ⟨5, _⟩ => ⟨S1x1024, .f32⟩
  | .local _ .vmem, ⟨6, _⟩ => ⟨S1x1024, .f32⟩
  | .local _ .vmem, ⟨7, _⟩ => ⟨S1024x128, .bf16⟩
  | .local _ .vmem, ⟨8, _⟩ => ⟨S256x1024, .bf16⟩
  | .local _ .vmem, ⟨9, _⟩ => ⟨S1x32x1024, .f32⟩
  | .local _ .vmem, ⟨10, _⟩ => ⟨S1x32x1024, .f32⟩
  | .local _ .vmem, ⟨11, _⟩ => ⟨S8x32x128, .f32⟩
  | .local _ .vmem, ⟨12, _⟩ => ⟨S8x1x128, .f32⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024x256, .f32⟩
  | .local _ .vmem, ⟨18, _⟩ => ⟨S1x1024x256, .f32⟩
  | .local _ .vmem, ⟨19, _⟩ => ⟨S1x1024x256, .f32⟩
  | .local _ .vmem, ⟨20, _⟩ => ⟨S1x1024x256, .f32⟩
  | .local _ .vmem, ⟨21, _⟩ => ⟨S256x1024, .bf16⟩
  | .local _ .vmem, ⟨22, _⟩ => ⟨S256x1024, .bf16⟩
  | .local _ .vmem, ⟨23, _⟩ => ⟨S1x1024x256, .bf16⟩
  | .local _ .vmem, ⟨24, _⟩ => ⟨S1x1024x256, .bf16⟩
  | .local _ .vmem, ⟨25, _⟩ => ⟨S256x16, .f32⟩
  | .local _ .vmem, ⟨26, _⟩ => ⟨S256x16, .f32⟩
  | .local _ .vmem, ⟨27, _⟩ => ⟨S1x16x256, .f32⟩
  | .local _ .vmem, ⟨28, _⟩ => ⟨S1x16x256, .f32⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S1x32x1024, .f32⟩
  | .local _ .vmem, ⟨34, _⟩ => ⟨S1x32x1024, .f32⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S8x288x128, .f32⟩
  | .local _ .vmem, ⟨40, _⟩ => ⟨S8x256x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_1 : Ref sig .tc := ⟨.hbm, 59, rfl⟩
abbrev main_call2_v0 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_2 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_c_3 : Ref sig .tc := ⟨.hbm, 74, rfl⟩
abbrev main_call3_v0 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_4 : Ref sig .tc := ⟨.hbm, 87, rfl⟩
abbrev main_v52 : Ref sig .tc := ⟨.hbm, 88, rfl⟩
abbrev main_v53 : Ref sig .tc := ⟨.hbm, 89, rfl⟩
abbrev main_v54_0 : Ref sig .tc := ⟨.hbm, 90, rfl⟩
abbrev main_v54_1 : Ref sig .tc := ⟨.hbm, 91, rfl⟩
abbrev main_v54_2 : Ref sig .tc := ⟨.hbm, 92, rfl⟩
abbrev main_v54_3 : Ref sig .tc := ⟨.hbm, 93, rfl⟩
abbrev main_v54_4 : Ref sig .tc := ⟨.hbm, 94, rfl⟩
abbrev main_v54_5 : Ref sig .tc := ⟨.hbm, 95, rfl⟩
abbrev main_v54_6 : Ref sig .tc := ⟨.hbm, 96, rfl⟩
abbrev main_v54_7 : Ref sig .tc := ⟨.hbm, 97, rfl⟩
abbrev main_v54_8 : Ref sig .tc := ⟨.hbm, 98, rfl⟩
abbrev main_v54_9 : Ref sig .tc := ⟨.hbm, 99, rfl⟩
abbrev main_v54_10 : Ref sig .tc := ⟨.hbm, 100, rfl⟩
abbrev main_v54_11 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x9344 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x16 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x16x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x32x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== InpRefIdeal.lean ====
abbrev S32x2048x1024 : Shape := ⟨3, ![32, 2048, 1024]⟩
abbrev S1x1024 : Shape := ⟨2, ![1, 1024]⟩
abbrev S1x1024x9232 : Shape := ⟨3, ![1, 1024, 9232]⟩
abbrev S1x16 : Shape := ⟨2, ![1, 16]⟩
abbrev S1x64 : Shape := ⟨2, ![1, 64]⟩
abbrev S1x31x1024 : Shape := ⟨3, ![1, 31, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x9232 : Shape := ⟨2, ![1024, 9232]⟩
abbrev S31x1024 : Shape := ⟨2, ![31, 1024]⟩
abbrev S1024x1024 : Shape := ⟨2, ![1024, 1024]⟩
abbrev S32x2048x16x64 : Shape := ⟨4, ![32, 2048, 16, 64]⟩
abbrev S64 : Shape := ⟨1, ![64]⟩
abbrev S32x2048x16 : Shape := ⟨3, ![32, 2048, 16]⟩
abbrev S32x2048x16x1 : Shape := ⟨4, ![32, 2048, 16, 1]⟩
abbrev S1x1x1x64 : Shape := ⟨4, ![1, 1, 1, 64]⟩
abbrev S1024x16 : Shape := ⟨2, ![1024, 16]⟩
abbrev S16 : Shape := ⟨1, ![16]⟩
abbrev S1x1x16 : Shape := ⟨3, ![1, 1, 16]⟩
abbrev S32x30x1024 : Shape := ⟨3, ![32, 30, 1024]⟩
abbrev S32x2078x1024 : Shape := ⟨3, ![32, 2078, 1024]⟩
abbrev S32x1024x2048 : Shape := ⟨3, ![32, 1024, 2048]⟩
abbrev S65536x1024 : Shape := ⟨2, ![65536, 1024]⟩
abbrev S65536x16 : Shape := ⟨2, ![65536, 16]⟩
abbrev S32x16x2048 : Shape := ⟨3, ![32, 16, 2048]⟩
abbrev S32x32x1024 : Shape := ⟨3, ![32, 32, 1024]⟩

abbrev nBuf : Space → Nat
  | .hbm => 438
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x9232, .f32⟩
  | 3 => ⟨S1x16, .f32⟩
  | 4 => ⟨S1x64, .f32⟩
  | 5 => ⟨S1x64, .f32⟩
  | 6 => ⟨S1x31x1024, .f32⟩
  | 7 => ⟨S1x1024, .f32⟩
  | 8 => ⟨S1x1024, .f32⟩
  | 9 => ⟨S1x1024, .f32⟩
  | 10 => ⟨S1024, .f32⟩
  | 11 => ⟨S32x2048x1024, .f32⟩
  | 12 => ⟨S_, .f32⟩
  | 13 => ⟨S32x2048, .f32⟩
  | 14 => ⟨S32x2048x1, .f32⟩
  | 15 => ⟨S_, .f32⟩
  | 16 => ⟨S32x2048x1, .f32⟩
  | 17 => ⟨S32x2048x1, .f32⟩
  | 18 => ⟨S_, .f32⟩
  | 19 => ⟨S32x2048x1, .f32⟩
  | 20 => ⟨S32x2048x1, .f32⟩
  | 21 => ⟨S32x2048x1, .f32⟩
  | 22 => ⟨S32x2048x1024, .f32⟩
  | 23 => ⟨S32x2048x1024, .f32⟩
  | 24 => ⟨S1x1x1024, .f32⟩
  | 25 => ⟨S32x2048x1024, .f32⟩
  | 26 => ⟨S32x2048x1024, .f32⟩
  | 27 => ⟨S1024x9232, .f32⟩
  | 28 => ⟨S31x1024, .f32⟩
  | 29 => ⟨S1024x1024, .f32⟩
  | 30 => ⟨S32x2048x1024, .f32⟩
  | 31 => ⟨S32x2048x16x64, .f32⟩
  | 32 => ⟨S64, .f32⟩
  | 33 => ⟨S32x2048x16x64, .f32⟩
  | 34 => ⟨S_, .f32⟩
  | 35 => ⟨S32x2048x16, .f32⟩
  | 36 => ⟨S32x2048x16x1, .f32⟩
  | 37 => ⟨S_, .f32⟩
  | 38 => ⟨S32x2048x16x1, .f32⟩
  | 39 => ⟨S32x2048x16x1, .f32⟩
  | 40 => ⟨S_, .f32⟩
  | 41 => ⟨S32x2048x16x1, .f32⟩
  | 42 => ⟨S32x2048x16x1, .f32⟩
  | 43 => ⟨S32x2048x16x1, .f32⟩
  | 44 => ⟨S32x2048x16x64, .f32⟩
  | 45 => ⟨S32x2048x16x64, .f32⟩
  | 46 => ⟨S1x1x1x64, .f32⟩
  | 47 => ⟨S32x2048x16x64, .f32⟩
  | 48 => ⟨S32x2048x16x64, .f32⟩
  | 49 => ⟨S_, .f32⟩
  | 50 => ⟨S32x2048x16x64, .f32⟩
  | 51 => ⟨S32x2048x16x64, .f32⟩
  | 52 => ⟨S1024x1024, .f32⟩
  | 53 => ⟨S32x2048x1024, .f32⟩
  | 54 => ⟨S32x2048x16x64, .f32⟩
  | 55 => ⟨S64, .f32⟩
  | 56 => ⟨S32x2048x16x64, .f32⟩
  | 57 => ⟨S_, .f32⟩
  | 58 => ⟨S32x2048x16, .f32⟩
  | 59 => ⟨S32x2048x16x1, .f32⟩
  | 60 => ⟨S_, .f32⟩
  | 61 => ⟨S32x2048x16x1, .f32⟩
  | 62 => ⟨S32x2048x16x1, .f32⟩
  | 63 => ⟨S_, .f32⟩
  | 64 => ⟨S32x2048x16x1, .f32⟩
  | 65 => ⟨S32x2048x16x1, .f32⟩
  | 66 => ⟨S32x2048x16x1, .f32⟩
  | 67 => ⟨S32x2048x16x64, .f32⟩
  | 68 => ⟨S32x2048x16x64, .f32⟩
  | 69 => ⟨S1x1x1x64, .f32⟩
  | 70 => ⟨S32x2048x16x64, .f32⟩
  | 71 => ⟨S32x2048x16x64, .f32⟩
  | 72 => ⟨S1024x1024, .f32⟩
  | 73 => ⟨S32x2048x1024, .f32⟩
  | 74 => ⟨S1024x16, .f32⟩
  | 75 => ⟨S32x2048x16, .f32⟩
  | 76 => ⟨S16, .f32⟩
  | 77 => ⟨S1x1x16, .f32⟩
  | 78 => ⟨S32x2048x16, .f32⟩
  | 79 => ⟨S32x2048x16, .f32⟩
  | 80 => ⟨S32x2048x16, .f32⟩
  | 81 => ⟨S_, .f32⟩
  | 82 => ⟨S32x2048x16, .f32⟩
  | 83 => ⟨S32x2048x16, .f32⟩
  | 84 => ⟨S32x2048x16, .f32⟩
  | 85 => ⟨S32x2048x16, .f32⟩
  | 86 => ⟨S32x2048x16, .i1⟩
  | 87 => ⟨S32x2048x16, .f32⟩
  | 88 => ⟨S32x2048x16, .f32⟩
  | 89 => ⟨S32x2048x16, .f32⟩
  | 90 => ⟨S32x2048x16, .f32⟩
  | 91 => ⟨S32x2048x16, .f32⟩
  | 92 => ⟨S32x2048x16, .f32⟩
  | 93 => ⟨S32x2048x16, .f32⟩
  | 94 => ⟨S32x2048x16, .f32⟩
  | 95 => ⟨S32x2048x16, .f32⟩
  | 96 => ⟨S1024x1024, .f32⟩
  | 97 => ⟨S32x2048x1024, .f32⟩
  | 98 => ⟨S1024x1024, .f32⟩
  | 99 => ⟨S32x2048x1024, .f32⟩
  | 100 => ⟨S1024x1024, .f32⟩
  | 101 => ⟨S32x2048x1024, .f32⟩
  | 102 => ⟨S32x2048x1024, .f32⟩
  | 103 => ⟨S32x2048x1024, .f32⟩
  | 104 => ⟨S_, .f32⟩
  | 105 => ⟨S32x2048x1024, .f32⟩
  | 106 => ⟨S32x2048x1024, .f32⟩
  | 107 => ⟨S_, .f32⟩
  | 108 => ⟨S32x2048x1024, .f32⟩
  | 109 => ⟨S32x2048x1024, .f32⟩
  | 110 => ⟨S32x2048x1024, .f32⟩
  | 111 => ⟨S1024x1024, .f32⟩
  | 112 => ⟨S32x2048x1024, .f32⟩
  | 113 => ⟨S1024x1024, .f32⟩
  | 114 => ⟨S32x2048x1024, .f32⟩
  | 115 => ⟨S1024x1024, .f32⟩
  | 116 => ⟨S32x2048x1024, .f32⟩
  | 117 => ⟨S_, .f32⟩
  | 118 => ⟨S32x30x1024, .f32⟩
  | 119 => ⟨S32x2078x1024, .f32⟩
  | 120 => ⟨S1x1024, .f32⟩
  | 121 => ⟨S1024, .f32⟩
  | 122 => ⟨S32x2048x1024, .f32⟩
  | 123 => ⟨S1x1x1024, .f32⟩
  | 124 => ⟨S32x2048x1024, .f32⟩
  | 125 => ⟨S32x2048x1024, .f32⟩
  | 126 => ⟨S_, .f32⟩
  | 127 => ⟨S32x2048x1024, .f32⟩
  | _ => ⟨S32x2048x1024, .f32⟩

abbrev hbmTy0_1 (i : Nat) : BufTy := match i % 128 with
  | 0 => ⟨S32x2048x1024, .f32⟩
  | 1 => ⟨S1x1024, .f32⟩
  | 2 => ⟨S1024, .f32⟩
  | 3 => ⟨S32x2048x1024, .f32⟩
  | 4 => ⟨S1x1x1024, .f32⟩
  | 5 => ⟨S32x2048x1024, .f32⟩
  | 6 => ⟨S32x2048x1024, .f32⟩
  | 7 => ⟨S32x2048x1024, .f32⟩
  | 8 => ⟨S1x1024, .f32⟩
  | 9 => ⟨S1024, .f32⟩
  | 10 => ⟨S32x2048x1024, .f32⟩
  | 11 => ⟨S1x1x1024, .f32⟩
  | 12 => ⟨S32x2048x1024, .f32⟩
  | 13 => ⟨S32x2048x1024, .f32⟩
  | 14 => ⟨S32x2048x1024, .f32⟩
  | 15 => ⟨S1x1024, .f32⟩
  | 16 => ⟨S1024, .f32⟩
  | 17 => ⟨S32x2048x1024, .f32⟩
  | 18 => ⟨S1x1x1024, .f32⟩
  | 19 => ⟨S32x2048x1024, .f32⟩
  | 20 => ⟨S32x2048x1024, .f32⟩
  | 21 => ⟨S32x2048x1024, .f32⟩
  | 22 => ⟨S1x1024, .f32⟩
  | 23 => ⟨S1024, .f32⟩
  | 24 => ⟨S32x2048x1024, .f32⟩
  | 25 => ⟨S1x1x1024, .f32⟩
  | 26 => ⟨S32x2048x1024, .f32⟩
  | 27 => ⟨S32x2048x1024, .f32⟩
  | 28 => ⟨S32x2048x1024, .f32⟩
  | 29 => ⟨S1x1024, .f32⟩
  | 30 => ⟨S1024, .f32⟩
  | 31 => ⟨S32x2048x1024, .f32⟩
  | 32 => ⟨S1x1x1024, .f32⟩
  | 33 => ⟨S32x2048x1024, .f32⟩
  | 34 => ⟨S32x2048x1024, .f32⟩
  | 35 => ⟨S32x2048x1024, .f32⟩
  | 36 => ⟨S1x1024, .f32⟩
  | 37 => ⟨S1024, .f32⟩
  | 38 => ⟨S32x2048x1024, .f32⟩
  | 39 => ⟨S1x1x1024, .f32⟩
  | 40 => ⟨S32x2048x1024, .f32⟩
  | 41 => ⟨S32x2048x1024, .f32⟩
  | 42 => ⟨S32x2048x1024, .f32⟩
  | 43 => ⟨S1x1024, .f32⟩
  | 44 => ⟨S1024, .f32⟩
  | 45 => ⟨S32x2048x1024, .f32⟩
  | 46 => ⟨S1x1x1024, .f32⟩
  | 47 => ⟨S32x2048x1024, .f32⟩
  | 48 => ⟨S32x2048x1024, .f32⟩
  | 49 => ⟨S32x2048x1024, .f32⟩
  | 50 => ⟨S1x1024, .f32⟩
  | 51 => ⟨S1024, .f32⟩
  | 52 => ⟨S32x2048x1024, .f32⟩
  | 53 => ⟨S1x1x1024, .f32⟩
  | 54 => ⟨S32x2048x1024, .f32⟩
  | 55 => ⟨S32x2048x1024, .f32⟩
  | 56 => ⟨S32x2048x1024, .f32⟩
  | 57 => ⟨S1x1024, .f32⟩
  | 58 => ⟨S1024, .f32⟩
  | 59 => ⟨S32x2048x1024, .f32⟩
  | 60 => ⟨S1x1x1024, .f32⟩
  | 61 => ⟨S32x2048x1024, .f32⟩
  | 62 => ⟨S32x2048x1024, .f32⟩
  | 63 => ⟨S32x2048x1024, .f32⟩
  | 64 => ⟨S1x1024, .f32⟩
  | 65 => ⟨S1024, .f32⟩
  | 66 => ⟨S32x2048x1024, .f32⟩
  | 67 => ⟨S1x1x1024, .f32⟩
  | 68 => ⟨S32x2048x1024, .f32⟩
  | 69 => ⟨S32x2048x1024, .f32⟩
  | 70 => ⟨S32x2048x1024, .f32⟩
  | 71 => ⟨S1x1024, .f32⟩
  | 72 => ⟨S1024, .f32⟩
  | 73 => ⟨S32x2048x1024, .f32⟩
  | 74 => ⟨S1x1x1024, .f32⟩
  | 75 => ⟨S32x2048x1024, .f32⟩
  | 76 => ⟨S32x2048x1024, .f32⟩
  | 77 => ⟨S32x2048x1024, .f32⟩
  | 78 => ⟨S1x1024, .f32⟩
  | 79 => ⟨S1024, .f32⟩
  | 80 => ⟨S32x2048x1024, .f32⟩
  | 81 => ⟨S1x1x1024, .f32⟩
  | 82 => ⟨S32x2048x1024, .f32⟩
  | 83 => ⟨S32x2048x1024, .f32⟩
  | 84 => ⟨S32x2048x1024, .f32⟩
  | 85 => ⟨S1x1024, .f32⟩
  | 86 => ⟨S1024, .f32⟩
  | 87 => ⟨S32x2048x1024, .f32⟩
  | 88 => ⟨S1x1x1024, .f32⟩
  | 89 => ⟨S32x2048x1024, .f32⟩
  | 90 => ⟨S32x2048x1024, .f32⟩
  | 91 => ⟨S32x2048x1024, .f32⟩
  | 92 => ⟨S1x1024, .f32⟩
  | 93 => ⟨S1024, .f32⟩
  | 94 => ⟨S32x2048x1024, .f32⟩
  | 95 => ⟨S1x1x1024, .f32⟩
  | 96 => ⟨S32x2048x1024, .f32⟩
  | 97 => ⟨S32x2048x1024, .f32⟩
  | 98 => ⟨S32x2048x1024, .f32⟩
  | 99 => ⟨S1x1024, .f32⟩
  | 100 => ⟨S1024, .f32⟩
  | 101 => ⟨S32x2048x1024, .f32⟩
  | 102 => ⟨S1x1x1024, .f32⟩
  | 103 => ⟨S32x2048x1024, .f32⟩
  | 104 => ⟨S32x2048x1024, .f32⟩
  | 105 => ⟨S32x2048x1024, .f32⟩
  | 106 => ⟨S1x1024, .f32⟩
  | 107 => ⟨S1024, .f32⟩
  | 108 => ⟨S32x2048x1024, .f32⟩
  | 109 => ⟨S1x1x1024, .f32⟩
  | 110 => ⟨S32x2048x1024, .f32⟩
  | 111 => ⟨S32x2048x1024, .f32⟩
  | 112 => ⟨S32x2048x1024, .f32⟩
  | 113 => ⟨S1x1024, .f32⟩
  | 114 => ⟨S1024, .f32⟩
  | 115 => ⟨S32x2048x1024, .f32⟩
  | 116 => ⟨S1x1x1024, .f32⟩
  | 117 => ⟨S32x2048x1024, .f32⟩
  | 118 => ⟨S32x2048x1024, .f32⟩
  | 119 => ⟨S32x2048x1024, .f32⟩
  | 120 => ⟨S1x1024, .f32⟩
  | 121 => ⟨S1024, .f32⟩
  | 122 => ⟨S32x2048x1024, .f32⟩
  | 123 => ⟨S1x1x1024, .f32⟩
  | 124 => ⟨S32x2048x1024, .f32⟩
  | 125 => ⟨S32x2048x1024, .f32⟩
  | 126 => ⟨S32x2048x1024, .f32⟩
  | 127 => ⟨S1x1024, .f32⟩
  | _ => ⟨S32x2048x1024, .f32⟩

abbrev hbmTy0_2 (i : Nat) : BufTy := match i % 128 with
  | 0 => ⟨S1024, .f32⟩
  | 1 => ⟨S32x2048x1024, .f32⟩
  | 2 => ⟨S1x1x1024, .f32⟩
  | 3 => ⟨S32x2048x1024, .f32⟩
  | 4 => ⟨S32x2048x1024, .f32⟩
  | 5 => ⟨S32x2048x1024, .f32⟩
  | 6 => ⟨S1x1024, .f32⟩
  | 7 => ⟨S1024, .f32⟩
  | 8 => ⟨S32x2048x1024, .f32⟩
  | 9 => ⟨S1x1x1024, .f32⟩
  | 10 => ⟨S32x2048x1024, .f32⟩
  | 11 => ⟨S32x2048x1024, .f32⟩
  | 12 => ⟨S32x2048x1024, .f32⟩
  | 13 => ⟨S1x1024, .f32⟩
  | 14 => ⟨S1024, .f32⟩
  | 15 => ⟨S32x2048x1024, .f32⟩
  | 16 => ⟨S1x1x1024, .f32⟩
  | 17 => ⟨S32x2048x1024, .f32⟩
  | 18 => ⟨S32x2048x1024, .f32⟩
  | 19 => ⟨S32x2048x1024, .f32⟩
  | 20 => ⟨S1x1024, .f32⟩
  | 21 => ⟨S1024, .f32⟩
  | 22 => ⟨S32x2048x1024, .f32⟩
  | 23 => ⟨S1x1x1024, .f32⟩
  | 24 => ⟨S32x2048x1024, .f32⟩
  | 25 => ⟨S32x2048x1024, .f32⟩
  | 26 => ⟨S32x2048x1024, .f32⟩
  | 27 => ⟨S1x1024, .f32⟩
  | 28 => ⟨S1024, .f32⟩
  | 29 => ⟨S32x2048x1024, .f32⟩
  | 30 => ⟨S1x1x1024, .f32⟩
  | 31 => ⟨S32x2048x1024, .f32⟩
  | 32 => ⟨S32x2048x1024, .f32⟩
  | 33 => ⟨S32x2048x1024, .f32⟩
  | 34 => ⟨S1x1024, .f32⟩
  | 35 => ⟨S1024, .f32⟩
  | 36 => ⟨S32x2048x1024, .f32⟩
  | 37 => ⟨S1x1x1024, .f32⟩
  | 38 => ⟨S32x2048x1024, .f32⟩
  | 39 => ⟨S32x2048x1024, .f32⟩
  | 40 => ⟨S32x2048x1024, .f32⟩
  | 41 => ⟨S1x1024, .f32⟩
  | 42 => ⟨S1024, .f32⟩
  | 43 => ⟨S32x2048x1024, .f32⟩
  | 44 => ⟨S1x1x1024, .f32⟩
  | 45 => ⟨S32x2048x1024, .f32⟩
  | 46 => ⟨S32x2048x1024, .f32⟩
  | 47 => ⟨S32x2048x1024, .f32⟩
  | 48 => ⟨S1x1024, .f32⟩
  | 49 => ⟨S1024, .f32⟩
  | 50 => ⟨S32x2048x1024, .f32⟩
  | 51 => ⟨S1x1x1024, .f32⟩
  | 52 => ⟨S32x2048x1024, .f32⟩
  | 53 => ⟨S32x2048x1024, .f32⟩
  | 54 => ⟨S32x2048x1024, .f32⟩
  | 55 => ⟨S1x1024, .f32⟩
  | 56 => ⟨S1024, .f32⟩
  | 57 => ⟨S32x2048x1024, .f32⟩
  | 58 => ⟨S1x1x1024, .f32⟩
  | 59 => ⟨S32x2048x1024, .f32⟩
  | 60 => ⟨S32x2048x1024, .f32⟩
  | 61 => ⟨S32x2048x1024, .f32⟩
  | 62 => ⟨S1x1024, .f32⟩
  | 63 => ⟨S1024, .f32⟩
  | 64 => ⟨S32x2048x1024, .f32⟩
  | 65 => ⟨S1x1x1024, .f32⟩
  | 66 => ⟨S32x2048x1024, .f32⟩
  | 67 => ⟨S32x2048x1024, .f32⟩
  | 68 => ⟨S32x2048x1024, .f32⟩
  | 69 => ⟨S1x1024, .f32⟩
  | 70 => ⟨S1024, .f32⟩
  | 71 => ⟨S32x2048x1024, .f32⟩
  | 72 => ⟨S1x1x1024, .f32⟩
  | 73 => ⟨S32x2048x1024, .f32⟩
  | 74 => ⟨S32x2048x1024, .f32⟩
  | 75 => ⟨S32x2048x1024, .f32⟩
  | 76 => ⟨S1x1024, .f32⟩
  | 77 => ⟨S1024, .f32⟩
  | 78 => ⟨S32x2048x1024, .f32⟩
  | 79 => ⟨S1x1x1024, .f32⟩
  | 80 => ⟨S32x2048x1024, .f32⟩
  | 81 => ⟨S32x2048x1024, .f32⟩
  | 82 => ⟨S32x2048x1024, .f32⟩
  | 83 => ⟨S1024, .f32⟩
  | 84 => ⟨S1x1x1024, .f32⟩
  | 85 => ⟨S32x2048x1024, .f32⟩
  | 86 => ⟨S32x2048x1024, .f32⟩
  | 87 => ⟨S1024, .f32⟩
  | 88 => ⟨S1024, .f32⟩
  | 89 => ⟨S_, .f32⟩
  | 90 => ⟨S32x2048, .f32⟩
  | 91 => ⟨S32x2048x1, .f32⟩
  | 92 => ⟨S_, .f32⟩
  | 93 => ⟨S32x2048x1, .f32⟩
  | 94 => ⟨S32x2048x1, .f32⟩
  | 95 => ⟨S32x2048x1024, .f32⟩
  | 96 => ⟨S32x2048x1024, .f32⟩
  | 97 => ⟨S32x2048x1024, .f32⟩
  | 98 => ⟨S_, .f32⟩
  | 99 => ⟨S32x2048, .f32⟩
  | 100 => ⟨S32x2048x1, .f32⟩
  | 101 => ⟨S_, .f32⟩
  | 102 => ⟨S32x2048x1, .f32⟩
  | 103 => ⟨S32x2048x1, .f32⟩
  | 104 => ⟨S_, .f32⟩
  | 105 => ⟨S32x2048x1, .f32⟩
  | 106 => ⟨S32x2048x1, .f32⟩
  | 107 => ⟨S32x2048x1, .f32⟩
  | 108 => ⟨S32x2048x1024, .f32⟩
  | 109 => ⟨S32x2048x1024, .f32⟩
  | 110 => ⟨S1x1x1024, .f32⟩
  | 111 => ⟨S32x2048x1024, .f32⟩
  | 112 => ⟨S32x2048x1024, .f32⟩
  | 113 => ⟨S1x1x1024, .f32⟩
  | 114 => ⟨S32x2048x1024, .f32⟩
  | 115 => ⟨S32x2048x1024, .f32⟩
  | 116 => ⟨S32x2048x1024, .f32⟩
  | 117 => ⟨S32x2048x1024, .f32⟩
  | 118 => ⟨S_, .f32⟩
  | 119 => ⟨S32x2048x1024, .f32⟩
  | 120 => ⟨S32x2048x1024, .f32⟩
  | 121 => ⟨S_, .f32⟩
  | 122 => ⟨S32x2048x1024, .f32⟩
  | 123 => ⟨S32x2048x1024, .f32⟩
  | 124 => ⟨S32x2048x1024, .f32⟩
  | 125 => ⟨S32x2048x1024, .f32⟩
  | 126 => ⟨S32x2048x1024, .f32⟩
  | 127 => ⟨S_, .f32⟩
  | _ => ⟨S32x2048x1024, .f32⟩

abbrev hbmTy0_3 (i : Nat) : BufTy := match i % 128 with
  | 0 => ⟨S32x2048x1024, .f32⟩
  | 1 => ⟨S32x2048x1024, .f32⟩
  | 2 => ⟨S_, .f32⟩
  | 3 => ⟨S32x2048x1024, .f32⟩
  | 4 => ⟨S32x2048x1024, .f32⟩
  | 5 => ⟨S32x2048x1024, .f32⟩
  | 6 => ⟨S32x2048x1024, .f32⟩
  | 7 => ⟨S32x2048x1024, .f32⟩
  | 8 => ⟨S32x1024x2048, .f32⟩
  | 9 => ⟨S32x1024x2048, .f32⟩
  | 10 => ⟨S_, .f32⟩
  | 11 => ⟨S32x2048x16x64, .f32⟩
  | 12 => ⟨S32x2048x16x64, .f32⟩
  | 13 => ⟨S65536x1024, .f32⟩
  | 14 => ⟨S65536x1024, .bf16⟩
  | 15 => ⟨S65536x1024, .f32⟩
  | 16 => ⟨S65536x1024, .bf16⟩
  | 17 => ⟨S32x1024x2048, .bf16⟩
  | 18 => ⟨S65536x16, .f32⟩
  | 19 => ⟨S32x16x2048, .f32⟩
  | 20 => ⟨S32x2048x1024, .f32⟩
  | 21 => ⟨S32x2048x1024, .f32⟩
  | 22 => ⟨S_, .f32⟩
  | 23 => ⟨S32x2048x1024, .f32⟩
  | 24 => ⟨S32x2048x1024, .f32⟩
  | 25 => ⟨S_, .f32⟩
  | 26 => ⟨S32x2048x1024, .f32⟩
  | 27 => ⟨S32x2048x1024, .f32⟩
  | 28 => ⟨S32x2048x1024, .f32⟩
  | 29 => ⟨S65536x1024, .f32⟩
  | 30 => ⟨S65536x1024, .bf16⟩
  | 31 => ⟨S65536x1024, .f32⟩
  | 32 => ⟨S65536x1024, .bf16⟩
  | 33 => ⟨S32x32x1024, .f32⟩
  | 34 => ⟨S32x2048x1024, .f32⟩
  | 35 => ⟨S32x2048x1024, .f32⟩
  | 36 => ⟨S_, .f32⟩
  | 37 => ⟨S32x2048x1024, .f32⟩
  | 38 => ⟨S32x2048x1024, .f32⟩
  | 39 => ⟨S_, .f32⟩
  | 40 => ⟨S32x2048x1024, .f32⟩
  | 41 => ⟨S32x2048x1024, .f32⟩
  | 42 => ⟨S65536x1024, .f32⟩
  | 43 => ⟨S65536x1024, .bf16⟩
  | 44 => ⟨S32x2048x1024, .f32⟩
  | 45 => ⟨S32x2048x1024, .f32⟩
  | 46 => ⟨S_, .f32⟩
  | 47 => ⟨S32x2048x1024, .f32⟩
  | 48 => ⟨S32x2048x1024, .f32⟩
  | 49 => ⟨S_, .f32⟩
  | 50 => ⟨S32x2048x1024, .f32⟩
  | 51 => ⟨S32x2048x1024, .f32⟩
  | 52 => ⟨S65536x1024, .f32⟩
  | 53 => ⟨S65536x1024, .bf16⟩
  | _ => ⟨S32x2048x1024, .f32⟩

abbrev hbmTy (i : Nat) : BufTy := match i / 128 with
  | 0 => hbmTy0_0 i
  | 1 => hbmTy0_1 i
  | 2 => hbmTy0_2 i
  | 3 => hbmTy0_3 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call0_v0 : Ref sig .tc := ⟨.hbm, 80, rfl⟩
abbrev main_call0_call0_cst : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_call0_v2 : Ref sig .tc := ⟨.hbm, 84, rfl⟩
abbrev main_call0_call0_v3 : Ref sig .tc := ⟨.hbm, 85, rfl⟩
abbrev main_call0_call0_v4 : Ref sig .tc := ⟨.hbm, 86, rfl⟩
abbrev main_call0_call0_v5 : Ref sig .tc := ⟨.hbm, 87, rfl⟩
abbrev main_call0_call0_v6 : Ref sig .tc := ⟨.hbm, 88, rfl⟩
abbrev main_call0_call0_v7 : Ref sig .tc := ⟨.hbm, 89, rfl⟩
abbrev main_call0_call0_v8 : Ref sig .tc := ⟨.hbm, 90, rfl⟩
abbrev main_call0_call0_v9 : Ref sig .tc := ⟨.hbm, 91, rfl⟩
abbrev main_call0_call0_v10 : Ref sig .tc := ⟨.hbm, 92, rfl⟩
abbrev main_call0_call0_v11 : Ref sig .tc := ⟨.hbm, 93, rfl⟩
abbrev main_call0_v1 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_9 : Ref sig .tc := ⟨.hbm, 104, rfl⟩
abbrev main_v69 : Ref sig .tc := ⟨.hbm, 105, rfl⟩
abbrev main_v70 : Ref sig .tc := ⟨.hbm, 106, rfl⟩
abbrev main_cst_10 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_11 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_12 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_v264 : Ref sig .tc := ⟨.hbm, 303, rfl⟩
abbrev main_v265 : Ref sig .tc := ⟨.hbm, 304, rfl⟩
abbrev main_v266 : Ref sig .tc := ⟨.hbm, 305, rfl⟩
abbrev main_v267 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_v271 : Ref sig .tc := ⟨.hbm, 310, rfl⟩
abbrev main_v272 : Ref sig .tc := ⟨.hbm, 311, rfl⟩
abbrev main_v273 : Ref sig .tc := ⟨.hbm, 312, rfl⟩
abbrev main_v274 : Ref sig .tc := ⟨.hbm, 313, rfl⟩
abbrev main_v275 : Ref sig .tc := ⟨.hbm, 314, rfl⟩
abbrev main_v276 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_v285 : Ref sig .tc := ⟨.hbm, 324, rfl⟩
abbrev main_v286 : Ref sig .tc := ⟨.hbm, 325, rfl⟩
abbrev main_v287 : Ref sig .tc := ⟨.hbm, 326, rfl⟩
abbrev main_v288 : Ref sig .tc := ⟨.hbm, 327, rfl⟩
abbrev main_v289 : Ref sig .tc := ⟨.hbm, 328, rfl⟩
abbrev main_v290 : Ref sig .tc := ⟨.hbm, 329, rfl⟩
abbrev main_v291 : Ref sig .tc := ⟨.hbm, 330, rfl⟩
abbrev main_v292 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_v296 : Ref sig .tc := ⟨.hbm, 335, rfl⟩
abbrev main_v297 : Ref sig .tc := ⟨.hbm, 336, rfl⟩
abbrev main_v298 : Ref sig .tc := ⟨.hbm, 337, rfl⟩
abbrev main_v299 : Ref sig .tc := ⟨.hbm, 338, rfl⟩
abbrev main_v300 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_v305 : Ref sig .tc := ⟨.hbm, 344, rfl⟩
abbrev main_cst_13 : Ref sig .tc := ⟨.hbm, 345, rfl⟩
abbrev main_v306 : Ref sig .tc := ⟨.hbm, 346, rfl⟩
abbrev main_v307 : Ref sig .tc := ⟨.hbm, 347, rfl⟩
abbrev main_cst_14 : Ref sig .tc := ⟨.hbm, 348, rfl⟩
abbrev main_v308 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_cst_15 : Ref sig .tc := ⟨.hbm, 354, rfl⟩
abbrev main_v313 : Ref sig .tc := ⟨.hbm, 355, rfl⟩
abbrev main_v314 : Ref sig .tc := ⟨.hbm, 356, rfl⟩
abbrev main_cst_16 : Ref sig .tc := ⟨.hbm, 357, rfl⟩
abbrev main_v315 : Ref sig .tc := ⟨.hbm, 358, rfl⟩
abbrev main_v316 : Ref sig .tc := ⟨.hbm, 359, rfl⟩
abbrev main_cst_17 : Ref sig .tc := ⟨.hbm, 360, rfl⟩
abbrev main_v317 : Ref sig .tc := ⟨.hbm, 361, rfl⟩
abbrev main_v318 : Ref sig .tc := ⟨.hbm, 362, rfl⟩
abbrev main_v319 : Ref sig .tc := ⟨.hbm, 363, rfl⟩
abbrev main_v320 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_call1_v0 : Ref sig .tc := ⟨.hbm, 372, rfl⟩
abbrev main_call1_v1 : Ref sig .tc := ⟨.hbm, 373, rfl⟩
abbrev main_call1_cst : Ref sig .tc := ⟨.hbm, 374, rfl⟩
abbrev main_call1_v2 : Ref sig .tc := ⟨.hbm, 375, rfl⟩
abbrev main_call1_v3 : Ref sig .tc := ⟨.hbm, 376, rfl⟩
abbrev main_call1_cst_0 : Ref sig .tc := ⟨.hbm, 377, rfl⟩
abbrev main_call1_v4 : Ref sig .tc := ⟨.hbm, 378, rfl⟩
abbrev main_call1_v5 : Ref sig .tc := ⟨.hbm, 379, rfl⟩
abbrev main_v328 : Ref sig .tc := ⟨.hbm, 380, rfl⟩
abbrev main_call2_v0 : Ref sig .tc := ⟨.hbm, 381, rfl⟩
abbrev main_call2_v1 : Ref sig .tc := ⟨.hbm, 382, rfl⟩
abbrev main_call2_cst : Ref sig .tc := ⟨.hbm, 383, rfl⟩
abbrev main_call2_v2 : Ref sig .tc := ⟨.hbm, 384, rfl⟩
abbrev main_call2_v3 : Ref sig .tc := ⟨.hbm, 385, rfl⟩
abbrev main_call2_cst_0 : Ref sig .tc := ⟨.hbm, 386, rfl⟩
abbrev main_call2_v4 : Ref sig .tc := ⟨.hbm, 387, rfl⟩
abbrev main_call2_v5 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_cst_18 : Ref sig .tc := ⟨.hbm, 394, rfl⟩
abbrev main_v334 : Ref sig .tc := ⟨.hbm, 395, rfl⟩
abbrev main_v335 : Ref sig .tc := ⟨.hbm, 396, rfl⟩
abbrev main_v336 : Ref sig .tc := ⟨.hbm, 397, rfl⟩
abbrev main_v337 : Ref sig .tc := ⟨.hbm, 398, rfl⟩
abbrev main_v338 : Ref sig .tc := ⟨.hbm, 399, rfl⟩
abbrev main_v339 : Ref sig .tc := ⟨.hbm, 400, rfl⟩
abbrev main_v340 : Ref sig .tc := ⟨.hbm, 401, rfl⟩
abbrev main_v341 : Ref sig .tc := ⟨.hbm, 402, rfl⟩
abbrev main_v342 : Ref sig .tc := ⟨.hbm, 403, rfl⟩
abbrev main_call3_v0 : Ref sig .tc := ⟨.hbm, 404, rfl⟩
abbrev main_call3_v1 : Ref sig .tc := ⟨.hbm, 405, rfl⟩
abbrev main_call3_cst : Ref sig .tc := ⟨.hbm, 406, rfl⟩
abbrev main_call3_v2 : Ref sig .tc := ⟨.hbm, 407, rfl⟩
abbrev main_call3_v3 : Ref sig .tc := ⟨.hbm, 408, rfl⟩
abbrev main_call3_cst_0 : Ref sig .tc := ⟨.hbm, 409, rfl⟩
abbrev main_call3_v4 : Ref sig .tc := ⟨.hbm, 410, rfl⟩
abbrev main_call3_v5 : Ref sig .tc := ⟨.hbm, 411, rfl⟩
abbrev main_v343 : Ref sig .tc := ⟨.hbm, 412, rfl⟩
abbrev main_v344 : Ref sig .tc := ⟨.hbm, 413, rfl⟩
abbrev main_v345 : Ref sig .tc := ⟨.hbm, 414, rfl⟩
abbrev main_v346 : Ref sig .tc := ⟨.hbm, 415, rfl⟩
abbrev main_v347 : Ref sig .tc := ⟨.hbm, 416, rfl⟩
abbrev main_v348 : Ref sig .tc := ⟨.hbm, 417, rfl⟩
abbrev main_v349 : Ref sig .tc := ⟨.hbm, 418, rfl⟩
abbrev main_v350 : Ref sig .tc := ⟨.hbm, 419, rfl⟩
abbrev main_cst_19 : Ref sig .tc := ⟨.hbm, 420, rfl⟩
abbrev main_v351 : Ref sig .tc := ⟨.hbm, 421, rfl⟩
abbrev main_v352 : Ref sig .tc := ⟨.hbm, 422, rfl⟩
abbrev main_cst_20 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_v357 : Ref sig .tc := ⟨.hbm, 428, rfl⟩
abbrev main_v358 : Ref sig .tc := ⟨.hbm, 429, rfl⟩
abbrev main_cst_21 : Ref sig .tc := ⟨.hbm, 430, rfl⟩
abbrev main_v359 : Ref sig .tc := ⟨.hbm, 431, rfl⟩
abbrev main_v360 : Ref sig .tc := ⟨.hbm, 432, rfl⟩
abbrev main_cst_22 : Ref sig .tc := ⟨.hbm, 433, rfl⟩
abbrev main_v361 : Ref sig .tc := ⟨.hbm, 434, rfl⟩
abbrev main_v362 : Ref sig .tc := ⟨.hbm, 435, rfl⟩
abbrev main_v363 : Ref sig .tc := ⟨.hbm, 436, rfl⟩
abbrev main_v364 : Ref sig .tc := ⟨.hbm, 437, rfl⟩

abbrev nD : Nat := 1
abbrev τ : Topo := Topo.v7x

variable {F : FTy → Type} [FloatOps F]
-- ==== Out.lean ====
abbrev S32x2048x1024 : Shape := ⟨3, ![32, 2048, 1024]⟩
abbrev S65536x1024 : Shape := ⟨2, ![65536, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 17
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .bf16⟩
  | .hbm, ⟨2, _⟩ => ⟨S65536x1024, .bf16⟩
  | .hbm, ⟨3, _⟩ => ⟨S65536x1024, .bf16⟩
  | .hbm, ⟨4, _⟩ => ⟨S65536x1024, .bf16⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S65536x1024, .f32⟩
  | .hbm, ⟨15, _⟩ => ⟨S65536x1024, .bf16⟩
  | .hbm, ⟨16, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S32x2048x1024 : Shape := ⟨3, ![32, 2048, 1024]⟩
abbrev S65536x1024 : Shape := ⟨2, ![65536, 1024]⟩
abbrev S1x1024x1024 : Shape := ⟨3, ![1, 1024, 1024]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .bf16⟩
  | .hbm, ⟨2, _⟩ => ⟨S65536x1024, .bf16⟩
  | .hbm, ⟨3, _⟩ => ⟨S65536x1024, .bf16⟩
  | .hbm, ⟨4, _⟩ => ⟨S65536x1024, .bf16⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S32x2048x1024, .f32⟩
  | .hbm, ⟨9, _⟩ => ⟨S65536x1024, .f32⟩
  | .hbm, ⟨10, _⟩ => ⟨S1024x1024, .f32⟩
  | .hbm, ⟨11, _⟩ => ⟨S65536x1024, .f32⟩
  | .hbm, ⟨12, _⟩ => ⟨S65536x1024, .f32⟩
  | .hbm, ⟨13, _⟩ => ⟨S1024x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S1024x1024, .f32⟩
  | .hbm, ⟨22, _⟩ => ⟨S65536x1024, .f32⟩
  | .hbm, ⟨23, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Hand.InpIdealData.lean ====
/- The input projection's launch, with a name for what every point leaves in each of its output blocks and in the
   halo buffer it carries from tile to tile: the pieces the point's run stores, read as one array. -/
module

public import proofs.«01_k».proof.Proof.Gen.InpIdeal.Frame.RunB
public import Idealize.ShloMosaic.Lib.Claim
public import Idealize.ShloMosaic.Lib.Pipeline.ValueKit.Tiles

@[expose] public section

set_option maxRecDepth 16384

noncomputable section

namespace Cert.InpIdeal.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InpIdeal Cert.InpIdeal.Gen

variable {F : FTy → Type} [FloatOps F]
variable (m : (ℓ : Loc nD τ sig) → Buf (Elt F) ℓ) (ρ : Dev nD → PrngReg)

/-- The body's run at a sequence's first tile. -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The body's run at a later tile, over what the halo buffer holds. -/
abbrev runB (c : Dev nD) (t : Fin cfg0.N) (h0 : ¬t.val % 8 = 0) (s : Vec F S8x288x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) s

theorem coverA_13 (c : Dev nD) (t : Fin cfg0.N) (h0 : t.val % 8 = 0) (y : S256x1024.Idx) : ∃ pc ∈ (runA m c t h0).1, y ∈ pc.1.set :=
  View.cover_of_tiledL (runA m c t h0).1 S256x1024.size (by sl_kernel_rfl) y
def blkA_13 (c : Dev nD) (t : Fin cfg0.N) (h0 : t.val % 8 = 0) : Vec F S256x1024 .bf16 := View.canon (runA m c t h0).1
theorem coverA_14 (c : Dev nD) (t : Fin cfg0.N) (h0 : t.val % 8 = 0) (y : S1x1024x256.Idx) : ∃ pc ∈ (runA m c t h0).2.1, y ∈ pc.1.set :=
  View.cover_of_tiledL (runA m c t h0).2.1 S1x1024x256.size (by sl_kernel_rfl) y
def blkA_14 (c : Dev nD) (t : Fin cfg0.N) (h0 : t.val % 8 = 0) : Vec F S1x1024x256 .f32 := View.canon (runA m c t h0).2.1
theorem coverA_15 (c : Dev nD) (t : Fin cfg0.N) (h0 : t.val % 8 = 0) (y : S1x1024x256.Idx) : ∃ pc ∈ (runA m c t h0).2.2.1, y ∈ pc.1.set :=
  View.cover_of_tiledL (runA m c t h0).2.2.1 S1x1024x256.size (by sl_kernel_rfl) y
def blkA_15 (c : Dev nD) (t : Fin cfg0.N) (h0 : t.val % 8 = 0) : Vec F S1x1024x256 .f32 := View.canon (runA m c t h0).2.2.1
theorem coverA_16 (c : Dev nD) (t : Fin cfg0.N) (h0 : t.val % 8 = 0) (y : S256x1024.Idx) : ∃ pc ∈ (runA m c t h0).2.2.2.1, y ∈ pc.1.set :=
  View.cover_of_tiledL (runA m c t h0).2.2.2.1 S256x1024.size (by sl_kernel_rfl) y
def blkA_16 (c : Dev nD) (t : Fin cfg0.N) (h0 : t.val % 8 = 0) : Vec F S256x1024 .bf16 := View.canon (runA m c t h0).2.2.2.1
theorem coverA_17 (c : Dev nD) (t : Fin cfg0.N) (h0 : t.val % 8 = 0) (y : S1x1024x256.Idx) : ∃ pc ∈ (runA m c t h0).2.2.2.2.1, y ∈ pc.1.set :=
  View.cover_of_tiledL (runA m c t h0).2.2.2.2.1 S1x1024x256.size (by sl_kernel_rfl) y
def blkA_17 (c : Dev nD) (t : Fin cfg0.N) (h0 : t.val % 8 = 0) : Vec F S1x1024x256 .bf16 := View.canon (runA m c t h0).2.2.2.2.1
theorem coverA_18 (c : Dev nD) (t : Fin cfg0.N) (h0 : t.val % 8 = 0) (y : S256x16.Idx) : ∃ pc ∈ (runA m c t h0).2.2.2.2.2.1, y ∈ pc.1.set :=
  View.cover_of_tiledL (runA m c t h0).2.2.2.2.2.1 S256x16.size (by sl_kernel_rfl) y
def blkA_18 (c : Dev nD) (t : Fin cfg0.N) (h0 : t.val % 8 = 0) : Vec F S256x16 .f32 := View.canon (runA m c t h0).2.2.2.2.2.1
theorem coverA_19 (c : Dev nD) (t : Fin cfg0.N) (h0 : t.val % 8 = 0) (y : S1x16x256.Idx) : ∃ pc ∈ (runA m c t h0).2.2.2.2.2.2.1, y ∈ pc.1.set :=
  View.cover_of_tiledL (runA m c t h0).2.2.2.2.2.2.1 S1x16x256.size (by sl_kernel_rfl) y
def blkA_19 (c : Dev nD) (t : Fin cfg0.N) (h0 : t.val % 8 = 0) : Vec F S1x16x256 .f32 := View.canon (runA m c t h0).2.2.2.2.2.2.1
theorem coverA_20 (c : Dev nD) (t : Fin cfg0.N) (h0 : t.val % 8 = 0) (y : S256x1024.Idx) : ∃ pc ∈ (runA m c t h0).2.2.2.2.2.2.2.1, y ∈ pc.1.set :=
  View.cover_of_tiledL (runA m c t h0).2.2.2.2.2.2.2.1 S256x1024.size (by sl_kernel_rfl) y
def blkA_20 (c : Dev nD) (t : Fin cfg0.N) (h0 : t.val % 8 = 0) : Vec F S256x1024 .bf16 := View.canon (runA m c t h0).2.2.2.2.2.2.2.1
theorem coverA_21 (c : Dev nD) (t : Fin cfg0.N) (h0 : t.val % 8 = 0) (y : S256x1024.Idx) : ∃ pc ∈ (runA m c t h0).2.2.2.2.2.2.2.2.1, y ∈ pc.1.set :=
  View.cover_of_tiledL (runA m c t h0).2.2.2.2.2.2.2.2.1 S256x128.size (by sl_kernel_rfl) y
def blkA_21 (c : Dev nD) (t : Fin cfg0.N) (h0 : t.val % 8 = 0) : Vec F S256x1024 .bf16 := View.canon (runA m c t h0).2.2.2.2.2.2.2.2.1
theorem coverA_22 (c : Dev nD) (t : Fin cfg0.N) (h0 : t.val % 8 = 0) (y : S1x32x1024.Idx) : ∃ pc ∈ (runA m c t h0).2.2.2.2.2.2.2.2.2.1, y ∈ pc.1.set :=
  View.cover_of_tiledL (runA m c t h0).2.2.2.2.2.2.2.2.2.1 S1x32x1024.size (by sl_kernel_rfl) y
def blkA_22 (c : Dev nD) (t : Fin cfg0.N) (h0 : t.val % 8 = 0) : Vec F S1x32x1024 .f32 := View.canon (runA m c t h0).2.2.2.2.2.2.2.2.2.1
theorem coverA_23 (c : Dev nD) (t : Fin cfg0.N) (h0 : t.val % 8 = 0) (y : S256x1024.Idx) : ∃ pc ∈ (runA m c t h0).2.2.2.2.2.2.2.2.2.2.1, y ∈ pc.1.set :=
  View.cover_of_tiledL (runA m c t h0).2.2.2.2.2.2.2.2.2.2.1 S256x1024.size (by sl_kernel_rfl) y
def blkA_23 (c : Dev nD) (t : Fin cfg0.N) (h0 : t.val % 8 = 0) : Vec F S256x1024 .bf16 := View.canon (runA m c t h0).2.2.2.2.2.2.2.2.2.2.1
theorem coverA_24 (c : Dev nD) (t : Fin cfg0.N) (h0 : t.val % 8 = 0) (y : S256x1024.Idx) : ∃ pc ∈ (runA m c t h0).2.2.2.2.2.2.2.2.2.2.2.1, y ∈ pc.1.set :=
  View.cover_of_tiledL (runA m c t h0).2.2.2.2.2.2.2.2.2.2.2.1 S256x1024.size (by sl_kernel_rfl) y
def blkA_24 (c : Dev nD) (t : Fin cfg0.N) (h0 : t.val % 8 = 0) : Vec F S256x1024 .bf16 := View.canon (runA m c t h0).2.2.2.2.2.2.2.2.2.2.2.1
theorem coverA_s (c : Dev nD) (t : Fin cfg0.N) (h0 : t.val % 8 = 0) (y : S8x288x128.Idx) : ∃ pc ∈ (runA m c t h0).2.2.2.2.2.2.2.2.2.2.2.2.1, y ∈ pc.1.set :=
  View.cover_of_tiledBy (runA m c t h0).2.2.2.2.2.2.2.2.2.2.2.2.1 ![1, 32, 128] (by sl_kernel_rfl) y
def haloA (c : Dev nD) (t : Fin cfg0.N) (h0 : t.val % 8 = 0) : Vec F S8x288x128 .f32 := View.canon (runA m c t h0).2.2.2.2.2.2.2.2.2.2.2.2.1

theorem coverB_13 (c : Dev nD) (t : Fin cfg0.N) (h0 : ¬t.val % 8 = 0) (s : Vec F S8x288x128 .f32) (y : S256x1024.Idx) : ∃ pc ∈ (runB m c t h0 s).1, y ∈ pc.1.set :=
  View.cover_of_tiledL (runB m c t h0 s).1 S256x1024.size (by sl_kernel_rfl) y
def blkB_13 (c : Dev nD) (t : Fin cfg0.N) (h0 : ¬t.val % 8 = 0) (s : Vec F S8x288x128 .f32) : Vec F S256x1024 .bf16 := View.canon (runB m c t h0 s).1
theorem coverB_14 (c : Dev nD) (t : Fin cfg0.N) (h0 : ¬t.val % 8 = 0) (s : Vec F S8x288x128 .f32) (y : S1x1024x256.Idx) : ∃ pc ∈ (runB m c t h0 s).2.1, y ∈ pc.1.set :=
  View.cover_of_tiledL (runB m c t h0 s).2.1 S1x1024x256.size (by sl_kernel_rfl) y
def blkB_14 (c : Dev nD) (t : Fin cfg0.N) (h0 : ¬t.val % 8 = 0) (s : Vec F S8x288x128 .f32) : Vec F S1x1024x256 .f32 := View.canon (runB m c t h0 s).2.1
theorem coverB_15 (c : Dev nD) (t : Fin cfg0.N) (h0 : ¬t.val % 8 = 0) (s : Vec F S8x288x128 .f32) (y : S1x1024x256.Idx) : ∃ pc ∈ (runB m c t h0 s).2.2.1, y ∈ pc.1.set :=
  View.cover_of_tiledL (runB m c t h0 s).2.2.1 S1x1024x256.size (by sl_kernel_rfl) y
def blkB_15 (c : Dev nD) (t : Fin cfg0.N) (h0 : ¬t.val % 8 = 0) (s : Vec F S8x288x128 .f32) : Vec F S1x1024x256 .f32 := View.canon (runB m c t h0 s).2.2.1
theorem coverB_16 (c : Dev nD) (t : Fin cfg0.N) (h0 : ¬t.val % 8 = 0) (s : Vec F S8x288x128 .f32) (y : S256x1024.Idx) : ∃ pc ∈ (runB m c t h0 s).2.2.2.1, y ∈ pc.1.set :=
  View.cover_of_tiledL (runB m c t h0 s).2.2.2.1 S256x1024.size (by sl_kernel_rfl) y
def blkB_16 (c : Dev nD) (t : Fin cfg0.N) (h0 : ¬t.val % 8 = 0) (s : Vec F S8x288x128 .f32) : Vec F S256x1024 .bf16 := View.canon (runB m c t h0 s).2.2.2.1
theorem coverB_17 (c : Dev nD) (t : Fin cfg0.N) (h0 : ¬t.val % 8 = 0) (s : Vec F S8x288x128 .f32) (y : S1x1024x256.Idx) : ∃ pc ∈ (runB m c t h0 s).2.2.2.2.1, y ∈ pc.1.set :=
  View.cover_of_tiledL (runB m c t h0 s).2.2.2.2.1 S1x1024x256.size (by sl_kernel_rfl) y
def blkB_17 (c : Dev nD) (t : Fin cfg0.N) (h0 : ¬t.val % 8 = 0) (s : Vec F S8x288x128 .f32) : Vec F S1x1024x256 .bf16 := View.canon (runB m c t h0 s).2.2.2.2.1
theorem coverB_18 (c : Dev nD) (t : Fin cfg0.N) (h0 : ¬t.val % 8 = 0) (s : Vec F S8x288x128 .f32) (y : S256x16.Idx) : ∃ pc ∈ (runB m c t h0 s).2.2.2.2.2.1, y ∈ pc.1.set :=
  View.cover_of_tiledL (runB m c t h0 s).2.2.2.2.2.1 S256x16.size (by sl_kernel_rfl) y
def blkB_18 (c : Dev nD) (t : Fin cfg0.N) (h0 : ¬t.val % 8 = 0) (s : Vec F S8x288x128 .f32) : Vec F S256x16 .f32 := View.canon (runB m c t h0 s).2.2.2.2.2.1
theorem coverB_19 (c : Dev nD) (t : Fin cfg0.N) (h0 : ¬t.val % 8 = 0) (s : Vec F S8x288x128 .f32) (y : S1x16x256.Idx) : ∃ pc ∈ (runB m c t h0 s).2.2.2.2.2.2.1, y ∈ pc.1.set :=
  View.cover_of_tiledL (runB m c t h0 s).2.2.2.2.2.2.1 S1x16x256.size (by sl_kernel_rfl) y
def blkB_19 (c : Dev nD) (t : Fin cfg0.N) (h0 : ¬t.val % 8 = 0) (s : Vec F S8x288x128 .f32) : Vec F S1x16x256 .f32 := View.canon (runB m c t h0 s).2.2.2.2.2.2.1
theorem coverB_20 (c : Dev nD) (t : Fin cfg0.N) (h0 : ¬t.val % 8 = 0) (s : Vec F S8x288x128 .f32) (y : S256x1024.Idx) : ∃ pc ∈ (runB m c t h0 s).2.2.2.2.2.2.2.1, y ∈ pc.1.set :=
  View.cover_of_tiledL (runB m c t h0 s).2.2.2.2.2.2.2.1 S256x1024.size (by sl_kernel_rfl) y
def blkB_20 (c : Dev nD) (t : Fin cfg0.N) (h0 : ¬t.val % 8 = 0) (s : Vec F S8x288x128 .f32) : Vec F S256x1024 .bf16 := View.canon (runB m c t h0 s).2.2.2.2.2.2.2.1
theorem coverB_21 (c : Dev nD) (t : Fin cfg0.N) (h0 : ¬t.val % 8 = 0) (s : Vec F S8x288x128 .f32) (y : S256x1024.Idx) : ∃ pc ∈ (runB m c t h0 s).2.2.2.2.2.2.2.2.1, y ∈ pc.1.set :=
  View.cover_of_tiledL (runB m c t h0 s).2.2.2.2.2.2.2.2.1 S256x128.size (by sl_kernel_rfl) y
def blkB_21 (c : Dev nD) (t : Fin cfg0.N) (h0 : ¬t.val % 8 = 0) (s : Vec F S8x288x128 .f32) : Vec F S256x1024 .bf16 := View.canon (runB m c t h0 s).2.2.2.2.2.2.2.2.1
theorem coverB_22 (c : Dev nD) (t : Fin cfg0.N) (h0 : ¬t.val % 8 = 0) (s : Vec F S8x288x128 .f32) (y : S1x32x1024.Idx) : ∃ pc ∈ (runB m c t h0 s).2.2.2.2.2.2.2.2.2.1, y ∈ pc.1.set :=
  View.cover_of_tiledL (runB m c t h0 s).2.2.2.2.2.2.2.2.2.1 S1x32x1024.size (by sl_kernel_rfl) y
def blkB_22 (c : Dev nD) (t : Fin cfg0.N) (h0 : ¬t.val % 8 = 0) (s : Vec F S8x288x128 .f32) : Vec F S1x32x1024 .f32 := View.canon (runB m c t h0 s).2.2.2.2.2.2.2.2.2.1
theorem coverB_23 (c : Dev nD) (t : Fin cfg0.N) (h0 : ¬t.val % 8 = 0) (s : Vec F S8x288x128 .f32) (y : S256x1024.Idx) : ∃ pc ∈ (runB m c t h0 s).2.2.2.2.2.2.2.2.2.2.1, y ∈ pc.1.set :=
  View.cover_of_tiledL (runB m c t h0 s).2.2.2.2.2.2.2.2.2.2.1 S256x1024.size (by sl_kernel_rfl) y
def blkB_23 (c : Dev nD) (t : Fin cfg0.N) (h0 : ¬t.val % 8 = 0) (s : Vec F S8x288x128 .f32) : Vec F S256x1024 .bf16 := View.canon (runB m c t h0 s).2.2.2.2.2.2.2.2.2.2.1
theorem coverB_24 (c : Dev nD) (t : Fin cfg0.N) (h0 : ¬t.val % 8 = 0) (s : Vec F S8x288x128 .f32) (y : S256x1024.Idx) : ∃ pc ∈ (runB m c t h0 s).2.2.2.2.2.2.2.2.2.2.2.1, y ∈ pc.1.set :=
  View.cover_of_tiledL (runB m c t h0 s).2.2.2.2.2.2.2.2.2.2.2.1 S256x1024.size (by sl_kernel_rfl) y
def blkB_24 (c : Dev nD) (t : Fin cfg0.N) (h0 : ¬t.val % 8 = 0) (s : Vec F S8x288x128 .f32) : Vec F S256x1024 .bf16 := View.canon (runB m c t h0 s).2.2.2.2.2.2.2.2.2.2.2.1
theorem coverB_s (c : Dev nD) (t : Fin cfg0.N) (h0 : ¬t.val % 8 = 0) (s : Vec F S8x288x128 .f32) (y : S8x288x128.Idx) : ∃ pc ∈ (runB m c t h0 s).2.2.2.2.2.2.2.2.2.2.2.2.1, y ∈ pc.1.set :=
  View.cover_of_tiledBy (runB m c t h0 s).2.2.2.2.2.2.2.2.2.2.2.2.1 ![1, 32, 128] (by sl_kernel_rfl) y
def haloB (c : Dev nD) (t : Fin cfg0.N) (h0 : ¬t.val % 8 = 0) (s : Vec F S8x288x128 .f32) : Vec F S8x288x128 .f32 := View.canon (runB m c t h0 s).2.2.2.2.2.2.2.2.2.2.2.2.1

/-- What the halo buffer holds after point `n`. -/
def halo (c : Dev nD) : (n : ℕ) → n < cfg0.N → Vec F S8x288x128 .f32
  | 0, hn => haloA m c ⟨0, hn⟩ (Nat.zero_mod 8)
  | n + 1, hn => if h0 : (n + 1) % 8 = 0 then haloA m c ⟨n + 1, hn⟩ h0
    else haloB m c ⟨n + 1, hn⟩ h0 (halo c n (Nat.lt_of_succ_lt hn))

/-- What it held before a point that is not the first. -/
abbrev before (c : Dev nD) (t : Fin cfg0.N) : Vec F S8x288x128 .f32 :=
  halo m c (t.val - 1) (Nat.lt_of_le_of_lt (Nat.sub_le _ _) t.isLt)

theorem halo_A (c : Dev nD) (t : Fin cfg0.N) (h0 : t.val % 8 = 0) : halo m c t.val t.isLt = haloA m c t h0 := by
  obtain ⟨n, hn⟩ := t
  cases n with
  | zero => rfl
  | succ n => exact dif_pos h0

theorem halo_B (c : Dev nD) (t : Fin cfg0.N) (h0 : ¬t.val % 8 = 0) :
    halo m c t.val t.isLt = haloB m c t h0 (before m c t) := by
  obtain ⟨n, hn⟩ := t
  cases n with
  | zero => exact absurd (Nat.zero_mod 8) h0
  | succ n => exact dif_neg h0

def left13 (c : Dev nD) (t : Fin cfg0.N) : Vec F S256x1024 .bf16 :=
  if h0 : t.val % 8 = 0 then blkA_13 m c t h0 else blkB_13 m c t h0 (before m c t)
theorem left13_A (c : Dev nD) (t : Fin cfg0.N) (h0 : t.val % 8 = 0) : left13 m c t = blkA_13 m c t h0 := dif_pos h0
theorem left13_B (c : Dev nD) (t : Fin cfg0.N) (h0 : ¬t.val % 8 = 0) : left13 m c t = blkB_13 m c t h0 (before m c t) := dif_neg h0
def left14 (c : Dev nD) (t : Fin cfg0.N) : Vec F S1x1024x256 .f32 :=
  if h0 : t.val % 8 = 0 then blkA_14 m c t h0 else blkB_14 m c t h0 (before m c t)
theorem left14_A (c : Dev nD) (t : Fin cfg0.N) (h0 : t.val % 8 = 0) : left14 m c t = blkA_14 m c t h0 := dif_pos h0
theorem left14_B (c : Dev nD) (t : Fin cfg0.N) (h0 : ¬t.val % 8 = 0) : left14 m c t = blkB_14 m c t h0 (before m c t) := dif_neg h0
def left15 (c : Dev nD) (t : Fin cfg0.N) : Vec F S1x1024x256 .f32 :=
  if h0 : t.val % 8 = 0 then blkA_15 m c t h0 else blkB_15 m c t h0 (before m c t)
theorem left15_A (c : Dev nD) (t : Fin cfg0.N) (h0 : t.val % 8 = 0) : left15 m c t = blkA_15 m c t h0 := dif_pos h0
theorem left15_B (c : Dev nD) (t : Fin cfg0.N) (h0 : ¬t.val % 8 = 0) : left15 m c t = blkB_15 m c t h0 (before m c t) := dif_neg h0
def left16 (c : Dev nD) (t : Fin cfg0.N) : Vec F S256x1024 .bf16 :=
  if h0 : t.val % 8 = 0 then blkA_16 m c t h0 else blkB_16 m c t h0 (before m c t)
theorem left16_A (c : Dev nD) (t : Fin cfg0.N) (h0 : t.val % 8 = 0) : left16 m c t = blkA_16 m c t h0 := dif_pos h0
theorem left16_B (c : Dev nD) (t : Fin cfg0.N) (h0 : ¬t.val % 8 = 0) : left16 m c t = blkB_16 m c t h0 (before m c t) := dif_neg h0
def left17 (c : Dev nD) (t : Fin cfg0.N) : Vec F S1x1024x256 .bf16 :=
  if h0 : t.val % 8 = 0 then blkA_17 m c t h0 else blkB_17 m c t h0 (before m c t)
theorem left17_A (c : Dev nD) (t : Fin cfg0.N) (h0 : t.val % 8 = 0) : left17 m c t = blkA_17 m c t h0 := dif_pos h0
theorem left17_B (c : Dev nD) (t : Fin cfg0.N) (h0 : ¬t.val % 8 = 0) : left17 m c t = blkB_17 m c t h0 (before m c t) := dif_neg h0
def left18 (c : Dev nD) (t : Fin cfg0.N) : Vec F S256x16 .f32 :=
  if h0 : t.val % 8 = 0 then blkA_18 m c t h0 else blkB_18 m c t h0 (before m c t)
theorem left18_A (c : Dev nD) (t : Fin cfg0.N) (h0 : t.val % 8 = 0) : left18 m c t = blkA_18 m c t h0 := dif_pos h0
theorem left18_B (c : Dev nD) (t : Fin cfg0.N) (h0 : ¬t.val % 8 = 0) : left18 m c t = blkB_18 m c t h0 (before m c t) := dif_neg h0
def left19 (c : Dev nD) (t : Fin cfg0.N) : Vec F S1x16x256 .f32 :=
  if h0 : t.val % 8 = 0 then blkA_19 m c t h0 else blkB_19 m c t h0 (before m c t)
theorem left19_A (c : Dev nD) (t : Fin cfg0.N) (h0 : t.val % 8 = 0) : left19 m c t = blkA_19 m c t h0 := dif_pos h0
theorem left19_B (c : Dev nD) (t : Fin cfg0.N) (h0 : ¬t.val % 8 = 0) : left19 m c t = blkB_19 m c t h0 (before m c t) := dif_neg h0
def left20 (c : Dev nD) (t : Fin cfg0.N) : Vec F S256x1024 .bf16 :=
  if h0 : t.val % 8 = 0 then blkA_20 m c t h0 else blkB_20 m c t h0 (before m c t)
theorem left20_A (c : Dev nD) (t : Fin cfg0.N) (h0 : t.val % 8 = 0) : left20 m c t = blkA_20 m c t h0 := dif_pos h0
theorem left20_B (c : Dev nD) (t : Fin cfg0.N) (h0 : ¬t.val % 8 = 0) : left20 m c t = blkB_20 m c t h0 (before m c t) := dif_neg h0
def left21 (c : Dev nD) (t : Fin cfg0.N) : Vec F S256x1024 .bf16 :=
  if h0 : t.val % 8 = 0 then blkA_21 m c t h0 else blkB_21 m c t h0 (before m c t)
theorem left21_A (c : Dev nD) (t : Fin cfg0.N) (h0 : t.val % 8 = 0) : left21 m c t = blkA_21 m c t h0 := dif_pos h0
theorem left21_B (c : Dev nD) (t : Fin cfg0.N) (h0 : ¬t.val % 8 = 0) : left21 m c t = blkB_21 m c t h0 (before m c t) := dif_neg h0
def left22 (c : Dev nD) (t : Fin cfg0.N) : Vec F S1x32x1024 .f32 :=
  if h0 : t.val % 8 = 0 then blkA_22 m c t h0 else blkB_22 m c t h0 (before m c t)
theorem left22_A (c : Dev nD) (t : Fin cfg0.N) (h0 : t.val % 8 = 0) : left22 m c t = blkA_22 m c t h0 := dif_pos h0
theorem left22_B (c : Dev nD) (t : Fin cfg0.N) (h0 : ¬t.val % 8 = 0) : left22 m c t = blkB_22 m c t h0 (before m c t) := dif_neg h0
def left23 (c : Dev nD) (t : Fin cfg0.N) : Vec F S256x1024 .bf16 :=
  if h0 : t.val % 8 = 0 then blkA_23 m c t h0 else blkB_23 m c t h0 (before m c t)
theorem left23_A (c : Dev nD) (t : Fin cfg0.N) (h0 : t.val % 8 = 0) : left23 m c t = blkA_23 m c t h0 := dif_pos h0
theorem left23_B (c : Dev nD) (t : Fin cfg0.N) (h0 : ¬t.val % 8 = 0) : left23 m c t = blkB_23 m c t h0 (before m c t) := dif_neg h0
def left24 (c : Dev nD) (t : Fin cfg0.N) : Vec F S256x1024 .bf16 :=
  if h0 : t.val % 8 = 0 then blkA_24 m c t h0 else blkB_24 m c t h0 (before m c t)
theorem left24_A (c : Dev nD) (t : Fin cfg0.N) (h0 : t.val % 8 = 0) : left24 m c t = blkA_24 m c t h0 := dif_pos h0
theorem left24_B (c : Dev nD) (t : Fin cfg0.N) (h0 : ¬t.val % 8 = 0) : left24 m c t = blkB_24 m c t h0 (before m c t) := dif_neg h0
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare (halo m c n hn) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (halo m c n hn) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (halo m c (n - 1) (by omega)) ∗ (∃ d, owns (c : Thread nD τ) scM0_1 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => left13 m c t
    | ⟨14, _⟩ => left14 m c t
    | ⟨15, _⟩ => left15 m c t
    | ⟨16, _⟩ => left16 m c t
    | ⟨17, _⟩ => left17 m c t
    | ⟨18, _⟩ => left18 m c t
    | ⟨19, _⟩ => left19 m c t
    | ⟨20, _⟩ => left20 m c t
    | ⟨21, _⟩ => left21 m c t
    | ⟨22, _⟩ => left22 m c t
    | ⟨23, _⟩ => left23 m c t
    | ⟨24, _⟩ => left24 m c t
    | ⟨_ + 25, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = left13 m c t := by dsimp only [dats]
theorem after0_14 (c : Dev nD) (t : Fin cfg0.N) : (dats m 0 c).after 14 t = left14 m c t := by dsimp only [dats]
theorem after0_15 (c : Dev nD) (t : Fin cfg0.N) : (dats m 0 c).after 15 t = left15 m c t := by dsimp only [dats]
theorem after0_16 (c : Dev nD) (t : Fin cfg0.N) : (dats m 0 c).after 16 t = left16 m c t := by dsimp only [dats]
theorem after0_17 (c : Dev nD) (t : Fin cfg0.N) : (dats m 0 c).after 17 t = left17 m c t := by dsimp only [dats]
theorem after0_18 (c : Dev nD) (t : Fin cfg0.N) : (dats m 0 c).after 18 t = left18 m c t := by dsimp only [dats]
theorem after0_19 (c : Dev nD) (t : Fin cfg0.N) : (dats m 0 c).after 19 t = left19 m c t := by dsimp only [dats]
theorem after0_20 (c : Dev nD) (t : Fin cfg0.N) : (dats m 0 c).after 20 t = left20 m c t := by dsimp only [dats]
theorem after0_21 (c : Dev nD) (t : Fin cfg0.N) : (dats m 0 c).after 21 t = left21 m c t := by dsimp only [dats]
theorem after0_22 (c : Dev nD) (t : Fin cfg0.N) : (dats m 0 c).after 22 t = left22 m c t := by dsimp only [dats]
theorem after0_23 (c : Dev nD) (t : Fin cfg0.N) : (dats m 0 c).after 23 t = left23 m c t := by dsimp only [dats]
theorem after0_24 (c : Dev nD) (t : Fin cfg0.N) : (dats m 0 c).after 24 t = left24 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.succ = PhiS m c (t.val + 1) t.isLt from rfl, PhiS_succ]
  have hN : t.val < 256 := lt_of_lt_of_eq t.isLt (show cfg0.N = 256 from N_0)
  by_cases h0 : t.val % 8 = 0
  · by_cases hz : t.val = 0
    · rw [PhiS_castSucc m c t, PhiS_zero m c _ _ hz, PhiA0_eq]
      rw [left13_A m c t h0, left14_A m c t h0, left15_A m c t h0, left16_A m c t h0, left17_A m c t h0, left18_A m c t h0, left19_A m c t h0, left20_A m c t h0, left21_A m c t h0, left22_A m c t h0, left23_A m c t h0, left24_A m c t h0, halo_A m c t h0]
      unfold blkA_13 blkA_14 blkA_15 blkA_16 blkA_17 blkA_18 blkA_19 blkA_20 blkA_21 blkA_22 blkA_23 blkA_24 haloA; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [HS0]; · iexact HS0
      isplitl [HS1]; · iexact HS1
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_eq_canon _ _ _ (coverA_s m c t h0)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_eq_canon _ _ _ (coverA_13 m c t h0)
      isplitl [H14]
      · unfold owns; iexists _; isplitr
        swap; · iexact H14
        ipureintro; exact View.read_writes_eq_canon _ _ _ (coverA_14 m c t h0)
      isplitl [H15]
      · unfold owns; iexists _; isplitr
        swap; · iexact H15
        ipureintro; exact View.read_writes_eq_canon _ _ _ (coverA_15 m c t h0)
      isplitl [H16]
      · unfold owns; iexists _; isplitr
        swap; · iexact H16
        ipureintro; exact View.read_writes_eq_canon _ _ _ (coverA_16 m c t h0)
      isplitl [H17]
      · unfold owns; iexists _; isplitr
        swap; · iexact H17
        ipureintro; exact View.read_writes_eq_canon _ _ _ (coverA_17 m c t h0)
      isplitl [H18]
      · unfold owns; iexists _; isplitr
        swap; · iexact H18
        ipureintro; exact View.read_writes_eq_canon _ _ _ (coverA_18 m c t h0)
      isplitl [H19]
      · unfold owns; iexists _; isplitr
        swap; · iexact H19
        ipureintro; exact View.read_writes_eq_canon _ _ _ (coverA_19 m c t h0)
      isplitl [H20]
      · unfold owns; iexists _; isplitr
        swap; · iexact H20
        ipureintro; exact View.read_writes_eq_canon _ _ _ (coverA_20 m c t h0)
      isplitl [H21]
      · unfold owns; iexists _; isplitr
        swap; · iexact H21
        ipureintro; exact View.read_writes_eq_canon _ _ _ (coverA_21 m c t h0)
      isplitl [H22]
      · unfold owns; iexists _; isplitr
        swap; · iexact H22
        ipureintro; exact View.read_writes_eq_canon _ _ _ (coverA_22 m c t h0)
      isplitl [H23]
      · unfold owns; iexists _; isplitr
        swap; · iexact H23
        ipureintro; exact View.read_writes_eq_canon _ _ _ (coverA_23 m c t h0)
      unfold owns; iexists _; isplitr
      swap; · iexact H24
      ipureintro; exact View.read_writes_eq_canon _ _ _ (coverA_24 m c t h0)
    · rw [PhiS_castSucc m c t, PhiS_pos m c _ _ hz]
      rw [left13_A m c t h0, left14_A m c t h0, left15_A m c t h0, left16_A m c t h0, left17_A m c t h0, left18_A m c t h0, left19_A m c t h0, left20_A m c t h0, left21_A m c t h0, left22_A m c t h0, left23_A m c t h0, left24_A m c t h0, halo_A m c t h0]
      unfold blkA_13 blkA_14 blkA_15 blkA_16 blkA_17 blkA_18 blkA_19 blkA_20 blkA_21 blkA_22 blkA_23 blkA_24 haloA; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [HS0]; · iexists _; iexact HS0
      isplitl [HS1]; · iexact HS1
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_eq_canon _ _ _ (coverA_s m c t h0)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_eq_canon _ _ _ (coverA_13 m c t h0)
      isplitl [H14]
      · unfold owns; iexists _; isplitr
        swap; · iexact H14
        ipureintro; exact View.read_writes_eq_canon _ _ _ (coverA_14 m c t h0)
      isplitl [H15]
      · unfold owns; iexists _; isplitr
        swap; · iexact H15
        ipureintro; exact View.read_writes_eq_canon _ _ _ (coverA_15 m c t h0)
      isplitl [H16]
      · unfold owns; iexists _; isplitr
        swap; · iexact H16
        ipureintro; exact View.read_writes_eq_canon _ _ _ (coverA_16 m c t h0)
      isplitl [H17]
      · unfold owns; iexists _; isplitr
        swap; · iexact H17
        ipureintro; exact View.read_writes_eq_canon _ _ _ (coverA_17 m c t h0)
      isplitl [H18]
      · unfold owns; iexists _; isplitr
        swap; · iexact H18
        ipureintro; exact View.read_writes_eq_canon _ _ _ (coverA_18 m c t h0)
      isplitl [H19]
      · unfold owns; iexists _; isplitr
        swap; · iexact H19
        ipureintro; exact View.read_writes_eq_canon _ _ _ (coverA_19 m c t h0)
      isplitl [H20]
      · unfold owns; iexists _; isplitr
        swap; · iexact H20
        ipureintro; exact View.read_writes_eq_canon _ _ _ (coverA_20 m c t h0)
      isplitl [H21]
      · unfold owns; iexists _; isplitr
        swap; · iexact H21
        ipureintro; exact View.read_writes_eq_canon _ _ _ (coverA_21 m c t h0)
      isplitl [H22]
      · unfold owns; iexists _; isplitr
        swap; · iexact H22
        ipureintro; exact View.read_writes_eq_canon _ _ _ (coverA_22 m c t h0)
      isplitl [H23]
      · unfold owns; iexists _; isplitr
        swap; · iexact H23
        ipureintro; exact View.read_writes_eq_canon _ _ _ (coverA_23 m c t h0)
      unfold owns; iexists _; isplitr
      swap; · iexact H24
      ipureintro; exact View.read_writes_eq_canon _ _ _ (coverA_24 m c t h0)
  · by_cases hz : t.val = 0
    · exfalso; have hN : t.val < 256 := lt_of_lt_of_eq t.isLt (show cfg0.N = 256 from N_0); omega
    · rw [PhiS_castSucc m c t, PhiS_pos m c _ _ hz]
      rw [left13_B m c t h0, left14_B m c t h0, left15_B m c t h0, left16_B m c t h0, left17_B m c t h0, left18_B m c t h0, left19_B m c t h0, left20_B m c t h0, left21_B m c t h0, left22_B m c t h0, left23_B m c t h0, left24_B m c t h0, halo_B m c t h0]
      unfold blkB_13 blkB_14 blkB_15 blkB_16 blkB_17 blkB_18 blkB_19 blkB_20 blkB_21 blkB_22 blkB_23 blkB_24 haloB; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [HS0]; · iexact HS0
      isplitl [HS1]; · iexact HS1
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_eq_canon _ _ _ (coverB_s m c t h0 (before m c t))
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_eq_canon _ _ _ (coverB_13 m c t h0 (before m c t))
      isplitl [H14]
      · unfold owns; iexists _; isplitr
        swap; · iexact H14
        ipureintro; exact View.read_writes_eq_canon _ _ _ (coverB_14 m c t h0 (before m c t))
      isplitl [H15]
      · unfold owns; iexists _; isplitr
        swap; · iexact H15
        ipureintro; exact View.read_writes_eq_canon _ _ _ (coverB_15 m c t h0 (before m c t))
      isplitl [H16]
      · unfold owns; iexists _; isplitr
        swap; · iexact H16
        ipureintro; exact View.read_writes_eq_canon _ _ _ (coverB_16 m c t h0 (before m c t))
      isplitl [H17]
      · unfold owns; iexists _; isplitr
        swap; · iexact H17
        ipureintro; exact View.read_writes_eq_canon _ _ _ (coverB_17 m c t h0 (before m c t))
      isplitl [H18]
      · unfold owns; iexists _; isplitr
        swap; · iexact H18
        ipureintro; exact View.read_writes_eq_canon _ _ _ (coverB_18 m c t h0 (before m c t))
      isplitl [H19]
      · unfold owns; iexists _; isplitr
        swap; · iexact H19
        ipureintro; exact View.read_writes_eq_canon _ _ _ (coverB_19 m c t h0 (before m c t))
      isplitl [H20]
      · unfold owns; iexists _; isplitr
        swap; · iexact H20
        ipureintro; exact View.read_writes_eq_canon _ _ _ (coverB_20 m c t h0 (before m c t))
      isplitl [H21]
      · unfold owns; iexists _; isplitr
        swap; · iexact H21
        ipureintro; exact View.read_writes_eq_canon _ _ _ (coverB_21 m c t h0 (before m c t))
      isplitl [H22]
      · unfold owns; iexists _; isplitr
        swap; · iexact H22
        ipureintro; exact View.read_writes_eq_canon _ _ _ (coverB_22 m c t h0 (before m c t))
      isplitl [H23]
      · unfold owns; iexists _; isplitr
        swap; · iexact H23
        ipureintro; exact View.read_writes_eq_canon _ _ _ (coverB_23 m c t h0 (before m c t))
      unfold owns; iexists _; isplitr
      swap; · iexact H24
      ipureintro; exact View.read_writes_eq_canon _ _ _ (coverB_24 m c t h0 (before m c t))

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 256 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.InpIdeal.Data

end
-- ==== Proof.Hand.InpSpec.lean ====
/- The mixer's inputs as formulas over rows of extended reals, and the arithmetic by which the kernel's way of taking
   the rmsnorm of a head (sums and spreads over all 16 heads by 0/1 matrices) and the logarithm of the sigmoid are the plain
   ones. -/
module

public import Idealize.ShloMosaic.PureOps.Ideal.Laws
public import Idealize.ShloMosaic.Lib.Pointwise

@[expose] public section

noncomputable section

namespace Cert.InpSpec

open Idealize.ShloMosaic

/-- The rmsnorm epsilon. -/
abbrev eps : EReal := Ideal.ofBits .f32 0x358637BD#32

/-- One entry of a row's rmsnorm, times its gain. -/
def hid (x g : Fin 1024 → EReal) (j : Fin 1024) : EReal :=
  x j * Ideal.rsqrt (Ideal.div (∑ d, x d * x d) (Ideal.ofBits .f32 0x44800000#32) + eps) * g j

/-- The 64 columns of the head that column `j` belongs to. -/
abbrev inHead (j : Fin 1024) (d : Fin 64) : Fin 1024 := ⟨j.val / 64 * 64 + d.val, by omega⟩

/-- One entry of the rmsnorm within its head. -/
def normed (y : Fin 1024 → EReal) (j : Fin 1024) : EReal :=
  y j * Ideal.rsqrt (Ideal.div (∑ d, y (inHead j d) * y (inHead j d)) (Ideal.ofBits .f32 0x42800000#32) + eps)

/-- The logarithm of the sigmoid. -/
def logSig (z : EReal) : EReal := -(max (-z) 0 + Ideal.log1p (Ideal.exp (-(max z (-z)))))

/-- The sigmoid. -/
def sigm (z : EReal) : EReal := Ideal.div 1 (1 + Ideal.exp (-z))

theorem zero_sub' (a : EReal) : 0 - a = -a := by rw [sub_eq_add_neg, zero_add]

theorem sq_nonneg' (a : EReal) : 0 ≤ a * a := by
  rcases le_total 0 a with h | h
  · exact mul_nonneg h h
  · have h' : 0 ≤ -a := EReal.neg_nonneg.mpr h
    have := mul_nonneg h' h'
    rwa [neg_mul_neg] at this

theorem eps_coe : eps = ((8796093 * 2 ^ (-43 : ℤ) : ℝ) : EReal) := by
  simp [eps, Ideal.ofBits, Ideal.ieee, -EReal.coe_mul]
theorem c64_coe : Ideal.ofBits .f32 0x42800000#32 = ((64 : ℝ) : EReal) := by
  simp [Ideal.ofBits, Ideal.ieee, -EReal.coe_mul]; norm_num
theorem inv64_coe : Ideal.ofBits .f32 0x3C800000#32 = ((1 / 64 : ℝ) : EReal) := by
  simp [Ideal.ofBits, Ideal.ieee, -EReal.coe_mul]; norm_num
theorem scale_coe : Ideal.ofBits .f32 0x3E000000#32 * Ideal.ofBits .f32 0x3FB8AA3B#32 = Ideal.ofBits .f32 0x3E38AA3B#32 := by
  simp [Ideal.ofBits, Ideal.ieee, -EReal.coe_mul]
  rw [← EReal.coe_mul]
  norm_num

theorem mul_inv64 (s : EReal) : s * Ideal.ofBits .f32 0x3C800000#32 = Ideal.div s (Ideal.ofBits .f32 0x42800000#32) := by
  rw [inv64_coe, c64_coe, Ideal.div_coe (by norm_num)]

/-- The reciprocal root of a sum of squares plus the epsilon is a real number. -/
theorem rsqrt_real (s : EReal) (h : 0 ≤ s) : ∃ q : ℝ, Ideal.rsqrt (s + eps) = (q : EReal) := by
  rw [eps_coe]
  induction s with
  | bot => exact absurd h (by simp)
  | top => exact ⟨0, by rw [EReal.top_add_coe]; exact Ideal.rsqrt_top⟩
  | coe r =>
    have hr : 0 ≤ r := by exact_mod_cast h
    have hp : 0 < r + 8796093 * 2 ^ (-43 : ℤ) := by positivity
    refine ⟨(Real.sqrt (r + 8796093 * 2 ^ (-43 : ℤ)))⁻¹, ?_⟩
    rw [← EReal.coe_add, Ideal.rsqrt_coe, if_neg (not_lt.mpr hp.le), if_neg hp.ne']

/-- A sum over all columns that a 0/1 weight restricts to one head is the sum over that head's columns. -/
theorem sum_head (f : Fin 1024 → EReal) (j : Fin 1024) :
    (∑ k : Fin 1024, f k * (if k.val / 64 = j.val / 64 then (1 : EReal) else 0)) = ∑ d : Fin 64, f (inHead j d) := by
  simp only [mul_ite, mul_one, mul_zero]
  rw [← Finset.sum_filter]
  refine (Finset.sum_nbij' (fun d => inHead j d) (fun k => (⟨k.val % 64, Nat.mod_lt _ (by decide)⟩ : Fin 64)) ?_ ?_ ?_ ?_ ?_).symm
  · intro d _; simp only [Finset.mem_filter, Finset.mem_univ, true_and, inHead]; omega
  · intro k _; exact Finset.mem_univ _
  · intro d _; apply Fin.ext; simp only [inHead]; omega
  · intro k hk
    simp only [Finset.mem_filter, Finset.mem_univ, true_and] at hk
    apply Fin.ext; simp only [inHead]; omega
  · intro d _; rfl

/-- The kernel's factor of one head, from the sums of all heads. -/
def factor (y : Fin 1024 → EReal) (l : Fin 128) : EReal :=
  Ideal.rsqrt ((∑ k : Fin 1024, (y k * y k) * (if k.val / 64 = l.val then (1 : EReal) else 0)) * Ideal.ofBits .f32 0x3C800000#32 + eps)

theorem factor_real (y : Fin 1024 → EReal) (l : Fin 128) : ∃ q : ℝ, factor y l = (q : EReal) := by
  unfold factor
  apply rsqrt_real
  apply mul_nonneg
  · refine Finset.sum_nonneg fun k _ => mul_nonneg (sq_nonneg' _) ?_
    split <;> simp
  · rw [inv64_coe]; exact_mod_cast (by norm_num : (0 : ℝ) ≤ 1 / 64)

theorem factor_at (y : Fin 1024 → EReal) (j : Fin 1024) (l : Fin 128) (h : j.val / 64 = l.val) :
    y j * factor y l = normed y j := by
  unfold factor normed
  rw [← h, sum_head (fun k => y k * y k) j, mul_inv64]

/-- The kernel's rmsnorm within a head is the plain one: the split of the factor in two parts adds nothing over the reals, and
    spreading the factors over the columns picks the column's own head. -/
theorem spread (y : Fin 1024 → EReal) (j : Fin 1024) :
    y j * ((∑ l : Fin 128, factor y l * (if j.val / 64 = l.val then (1 : EReal) else 0))
      + ∑ l : Fin 128, (factor y l - factor y l) * (if j.val / 64 = l.val then (1 : EReal) else 0)) = normed y j := by
  have h0 : ∀ l, factor y l - factor y l = 0 := fun l => by
    obtain ⟨q, hq⟩ := factor_real y l
    rw [hq, ← EReal.coe_sub, sub_self, EReal.coe_zero]
  have hl : j.val / 64 < 128 := by omega
  rw [← factor_at y j ⟨j.val / 64, hl⟩ rfl]
  simp only [h0, zero_mul, Finset.sum_const_zero, add_zero, mul_ite, mul_one, mul_zero, ite_self]
  congr 1
  rw [← Finset.sum_filter]
  have : (Finset.univ.filter fun l : Fin 128 => j.val / 64 = l.val) = {⟨j.val / 64, hl⟩} := by
    ext l; simp only [Finset.mem_filter, Finset.mem_univ, true_and, Finset.mem_singleton, Fin.ext_iff]; omega
  rw [this, Finset.sum_singleton]

theorem logSig_min (z : EReal) : min z 0 - Ideal.log1p (Ideal.exp (-(max z (-z)))) = logSig z := by
  unfold logSig
  have hz : max (-z) 0 = -(min z 0) := by
    rcases le_total z 0 with h | h
    · rw [min_eq_left h, max_eq_left (EReal.neg_nonneg.mpr h)]
    · rw [min_eq_right h, max_eq_right (by rw [EReal.neg_le]; simpa using h)]; simp
  have he : ∃ q : ℝ, Ideal.log1p (Ideal.exp (-(max z (-z)))) = (q : EReal) := by
    have h1 : Ideal.log1p 0 = ((0 : ℝ) : EReal) := by
      show Ideal.log (1 + 0) = _
      rw [add_zero, ← EReal.coe_one]
      show (if (1 : ℝ) ≤ 0 then (⊥ : EReal) else (Real.log 1 : EReal)) = _
      rw [if_neg (by norm_num), Real.log_one]
    induction z with
    | bot => exact ⟨0, by rw [EReal.neg_bot, max_eq_right bot_le, EReal.neg_top]; exact h1⟩
    | top => exact ⟨0, by rw [EReal.neg_top, max_eq_left bot_le, EReal.neg_top]; exact h1⟩
    | coe r =>
      refine ⟨Real.log (1 + Real.exp (-(max r (-r)))), ?_⟩
      rw [← EReal.coe_neg, ← EReal.coe_strictMono.monotone.map_max, ← EReal.coe_neg]
      show Ideal.log (1 + ((Real.exp (-(max r (-r))) : ℝ) : EReal)) = _
      rw [← EReal.coe_one, ← EReal.coe_add]
      show (if (1 + Real.exp (-(max r (-r)))) ≤ 0 then (⊥ : EReal) else (Real.log (1 + Real.exp (-(max r (-r)))) : EReal)) = _
      rw [if_neg (not_le.mpr (by positivity))]
  obtain ⟨q, hq⟩ := he
  rw [hq, hz, EReal.neg_add (by simp) (by simp), neg_neg]

theorem logSig_select (z : EReal) [Decidable (-z ≠ -z)] :
    (-if -z ≠ -z then -z else max (-z) 0 + Ideal.log1p (Ideal.exp (-FloatOps.absf (F := Ideal) (φ := .f32) (-z)))) = logSig z := by
  rw [if_neg (fun h => h rfl)]
  unfold logSig
  show -(_ + Ideal.log1p (Ideal.exp (-(max (-z) (- -z))))) = _
  rw [neg_neg, max_comm (-z) z]

/-! The mixer's inputs over the whole arrays, at time `t` of sequence `b`. -/

abbrev SX : Shape := ⟨3, ![32, 2048, 1024]⟩
abbrev SG : Shape := ⟨2, ![1, 1024]⟩
abbrev SP : Shape := ⟨3, ![1, 1024, 9232]⟩
abbrev SB : Shape := ⟨2, ![1, 16]⟩
abbrev SH : Shape := ⟨2, ![1, 64]⟩

/-- One column of the input projection. -/
def proj (x : SX.Idx → EReal) (g : SG.Idx → EReal) (w : SP.Idx → EReal) (b : Fin 32) (t : Fin 2048) (col : Fin 9232) : EReal :=
  ∑ d : Fin 1024, hid (fun k => x (ix3 b t k)) (fun k => g (ix2 0 k)) d * w (ix3 0 d col)

/-- Column `j` of the section of the projection that starts at `o`. -/
def sec (x : SX.Idx → EReal) (g : SG.Idx → EReal) (w : SP.Idx → EReal) (o : Nat) (ho : o + 1024 ≤ 9232) (b : Fin 32) (t : Fin 2048)
    (j : Fin 1024) : EReal := proj x g w b t ⟨o + j.val, by omega⟩

abbrev colInHead (j : Fin 1024) : Fin 64 := ⟨j.val % 64, Nat.mod_lt _ (by decide)⟩

/-- Queries, scaled for an exponential of base two. -/
def queries (x : SX.Idx → EReal) (g : SG.Idx → EReal) (w : SP.Idx → EReal) (a : SH.Idx → EReal) (b : Fin 32) (t : Fin 2048) (j : Fin 1024) : EReal :=
  normed (fun k => sec x g w 0 (by decide) b t k) j * (a (ix2 0 (colInHead j)) * Ideal.ofBits .f32 0x3E38AA3B#32)

def keys (x : SX.Idx → EReal) (g : SG.Idx → EReal) (w : SP.Idx → EReal) (a : SH.Idx → EReal) (b : Fin 32) (t : Fin 2048) (j : Fin 1024) : EReal :=
  normed (fun k => sec x g w 1024 (by decide) b t k) j * a (ix2 0 (colInHead j))

def values (x : SX.Idx → EReal) (g : SG.Idx → EReal) (w : SP.Idx → EReal) (b : Fin 32) (t : Fin 2048) (j : Fin 1024) : EReal :=
  sec x g w 2048 (by decide) b t j

/-- The log of the forget gate, one per head. -/
def forget (x : SX.Idx → EReal) (g : SG.Idx → EReal) (w : SP.Idx → EReal) (f : SB.Idx → EReal) (b : Fin 32) (t : Fin 2048) (j : Fin 16) : EReal :=
  logSig (proj x g w b t ⟨3072 + j.val, by omega⟩ + f (ix2 0 j))

/-- The attention branch's gate. -/
def gateA (x : SX.Idx → EReal) (g : SG.Idx → EReal) (w : SP.Idx → EReal) (b : Fin 32) (t : Fin 2048) (j : Fin 1024) : EReal :=
  sec x g w 3088 (by decide) b t j * sigm (sec x g w 3088 (by decide) b t j)

/-- The convolution branch's gated input. -/
def convIn (x : SX.Idx → EReal) (g : SG.Idx → EReal) (w : SP.Idx → EReal) (b : Fin 32) (t : Fin 2048) (j : Fin 1024) : EReal :=
  sec x g w 4112 (by decide) b t j * sigm (sec x g w 5136 (by decide) b t j)

/-- The two merge gates. -/
def mergeA (x : SX.Idx → EReal) (g : SG.Idx → EReal) (w : SP.Idx → EReal) (b : Fin 32) (t : Fin 2048) (j : Fin 1024) : EReal :=
  sigm (sec x g w 7184 (by decide) b t j)
def mergeB (x : SX.Idx → EReal) (g : SG.Idx → EReal) (w : SP.Idx → EReal) (b : Fin 32) (t : Fin 2048) (j : Fin 1024) : EReal :=
  sigm (sec x g w 8208 (by decide) b t j)

/-- The sequence and the time of a row of the flattened arrays. -/
abbrev seqAt (r : Fin 65536) : Fin 32 := ⟨r.val / 2048, by omega⟩
abbrev timeAt (r : Fin 65536) : Fin 2048 := ⟨r.val % 2048, Nat.mod_lt _ (by decide)⟩

end Cert.InpSpec
-- ==== Proof.Hand.InpRefStages.lean ====
/- The reference's inputs of the mixer, stage by stage over its arguments: the hidden rows, one projection, the rmsnorm
   per head, the log of the forget gate and the sigmoid; and each stage's entries. -/
module

public import proofs.«01_k».proof.Proof.Gen.InpRefIdeal
public import proofs.«01_k».proof.Proof.Gen.InpRefIdeal.Run
public import proofs.«01_k».proof.Proof.Hand.InpSpec
public import Idealize.ShloMosaic.Lib.Pointwise

@[expose] public section

set_option maxHeartbeats 1000000
set_option maxRecDepth 16384

noncomputable section

namespace Cert.InpRefIdeal.Rows

open Idealize.ShloMosaic Idealize.ShloMosaic.TcCoe Idealize.SL.Sem Cert.InpRefIdeal Cert.InpRefIdeal.Gen Cert.InpSpec

/-- The hidden rows: rmsnorm of the residual stream. -/
def hidden (x : FVec Ideal S32x2048x1024 .f32) (g : FVec Ideal S1x1024 .f32) : FVec Ideal S32x2048x1024 .f32 :=
  mulf (mulf x (broadcastInDim S32x2048x1024 ![0, 1, 2] bcast_S32x2048x1_S32x2048x1024_0_1_2
      (Host.rsqrt (addf (Host.divf (broadcastInDim S32x2048x1 ![0, 1] bcast_S32x2048_S32x2048x1_0_1
            (Host.reduceAdd (mulf x x) (constant S_ .f32 0x00000000#32) reducesTo_S32x2048x1024_S32x2048_d2 h_S_))
          (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2
      (broadcastInDim S1x1x1024 ![2] bcast_S1024_S1x1x1024_2 (shapeCast S1024 g shapeCasts_S1x1024_S1024)))

def flatW (w : FVec Ideal S1x1024x9232 .f32) : FVec Ideal S1024x9232 .f32 := shapeCast S1024x9232 w shapeCasts_S1x1024x9232_S1024x9232

/-- One 1024-wide projection of the hidden rows, by the columns from `o` on. -/
def section_ (o : Nat) (h : Shape.Slices S1024x9232 ![0, o] S1024x1024) (x : FVec Ideal S32x2048x1024 .f32) (g : FVec Ideal S1x1024 .f32)
    (w : FVec Ideal S1x1024x9232 .f32) : FVec Ideal S32x2048x1024 .f32 :=
  Host.dotGeneral dot_S32x2048x1024_S1024x1024_S32x2048x1024_2_0_01_1_n_n none (hidden x g) (extractStridedSlice S1024x1024 ![0, o] (flatW w) h)

theorem hidden_at (x : FVec Ideal S32x2048x1024 .f32) (g : FVec Ideal S1x1024 .f32) (b : Fin 32) (t : Fin 2048) (j : Fin 1024) :
    hidden x g (ix3 b t j) = hid (fun d => x (ix3 b t d)) (fun d => g (ix2 0 d)) j := by
  pointwise [hidden]
  rfl
theorem section_at (o : Nat) (h : Shape.Slices S1024x9232 ![0, o] S1024x1024) (x : FVec Ideal S32x2048x1024 .f32) (g : FVec Ideal S1x1024 .f32)
    (w : FVec Ideal S1x1024x9232 .f32) (b : Fin 32) (t : Fin 2048) (j : Fin 1024) :
    section_ o h x g w (ix3 b t j) = proj x g w b t ⟨o + j.val, by have := h.2 1; have e : o + 1024 ≤ 9232 := this; omega⟩ := by
  pointwise [section_, flatW]
  simp only [hidden_at]
  rfl

/-- The rmsnorm over each head's 64 columns. -/
def headNorm (y : FVec Ideal S32x2048x1024 .f32) (a : FVec Ideal S1x64 .f32) : FVec Ideal S32x2048x16x64 .f32 :=
  mulf (mulf (shapeCast S32x2048x16x64 y shapeCasts_S32x2048x1024_S32x2048x16x64)
      (broadcastInDim S32x2048x16x64 ![0, 1, 2, 3] bcast_S32x2048x16x1_S32x2048x16x64_0_1_2_3
        (Host.rsqrt (addf (Host.divf (broadcastInDim S32x2048x16x1 ![0, 1, 2] bcast_S32x2048x16_S32x2048x16x1_0_1_2
            (Host.reduceAdd (mulf (shapeCast S32x2048x16x64 y shapeCasts_S32x2048x1024_S32x2048x16x64 : FVec Ideal S32x2048x16x64 .f32)
              (shapeCast S32x2048x16x64 y shapeCasts_S32x2048x1024_S32x2048x16x64))
              (constant S_ .f32 0x00000000#32) reducesTo_S32x2048x16x64_S32x2048x16_d3 h_S_))
          (broadcastInDim S32x2048x16x1 ![] bcast_S_S32x2048x16x1 (constant S_ .f32 0x42800000#32)))
        (broadcastInDim S32x2048x16x1 ![] bcast_S_S32x2048x16x1 (constant S_ .f32 0x358637BD#32))))))
    (broadcastInDim S32x2048x16x64 ![0, 1, 2, 3] bcast_S1x1x1x64_S32x2048x16x64_0_1_2_3
      (broadcastInDim S1x1x1x64 ![3] bcast_S64_S1x1x1x64_3 (shapeCast S64 a shapeCasts_S1x64_S64)))

theorem headNorm_at (y : FVec Ideal S32x2048x1024 .f32) (a : FVec Ideal S1x64 .f32) (b : Fin 32) (t : Fin 2048) (hd : Fin 16) (d : Fin 64) :
    headNorm y a (ix4 b t hd d) = normed (fun k => y (ix3 b t k)) ⟨hd.val * 64 + d.val, by omega⟩ * a (ix2 0 d) := by
  pointwise [headNorm]
  have e : (hd.val * 64 + d.val) / 64 = hd.val := by omega
  unfold normed
  simp only [inHead, e]

/-- The same at a column of the joined heads. -/
theorem headNorm_col (y : FVec Ideal S32x2048x1024 .f32) (a : FVec Ideal S1x64 .f32) (b : Fin 32) (t : Fin 2048) (j : Fin 1024)
    (h0 : j.val / 64 < 16) (h1 : j.val % 64 < 64) :
    headNorm y a (ix4 b t ⟨j.val / 64, h0⟩ ⟨j.val % 64, h1⟩) = normed (fun k => y (ix3 b t k)) j * a (ix2 0 (colInHead j)) := by
  rw [headNorm_at]
  have e : (⟨j.val / 64 * 64 + j.val % 64, by omega⟩ : Fin 1024) = j := Fin.ext (by show j.val / 64 * 64 + j.val % 64 = j.val; omega)
  rw [e]

/-- The forget gate before the logarithm. -/
def gate (x : FVec Ideal S32x2048x1024 .f32) (g : FVec Ideal S1x1024 .f32) (w : FVec Ideal S1x1024x9232 .f32) (bf : FVec Ideal S1x16 .f32) :
    FVec Ideal S32x2048x16 .f32 :=
  addf (Host.dotGeneral dot_S32x2048x1024_S1024x16_S32x2048x16_2_0_01_1_n_n none (hidden x g)
      (extractStridedSlice S1024x16 ![0, 3072] (flatW w) slices_S1024x9232_S1024x16_0_3072))
    (broadcastInDim S32x2048x16 ![0, 1, 2] bcast_S1x1x16_S32x2048x16_0_1_2
      (broadcastInDim S1x1x16 ![2] bcast_S16_S1x1x16_2 (shapeCast S16 bf shapeCasts_S1x16_S16)))

theorem gate_at (x : FVec Ideal S32x2048x1024 .f32) (g : FVec Ideal S1x1024 .f32) (w : FVec Ideal S1x1024x9232 .f32) (bf : FVec Ideal S1x16 .f32)
    (b : Fin 32) (t : Fin 2048) (j : Fin 16) : gate x g w bf (ix3 b t j) = proj x g w b t ⟨3072 + j.val, by omega⟩ + bf (ix2 0 j) := by
  pointwise [gate, flatW]
  simp only [hidden_at]
  rfl

abbrev zeros : FVec Ideal S32x2048x16 .f32 := broadcastInDim S32x2048x16 ![] bcast_S_S32x2048x16 (constant S_ .f32 0x00000000#32)

/-- The logarithm of the sigmoid. -/
def logSigmoid (z : FVec Ideal S32x2048x16 .f32) : FVec Ideal S32x2048x16 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

theorem logSigmoid_at (z : FVec Ideal S32x2048x16 .f32) (b : Fin 32) (t : Fin 2048) (j : Fin 16) : logSigmoid z (ix3 b t j) = logSig (z (ix3 b t j)) := by
  pointwise [logSigmoid]
  exact logSig_select _

def sigmoid (y : FVec Ideal S32x2048x1024 .f32) : FVec Ideal S32x2048x1024 .f32 :=
  Host.divf (broadcastInDim S32x2048x1024 ![] bcast_S_S32x2048x1024 (constant S_ .f32 0x3F800000#32))
    (addf (broadcastInDim S32x2048x1024 ![] bcast_S_S32x2048x1024 (constant S_ .f32 0x3F800000#32)) (Host.exp (Host.negf y)))

theorem sigmoid_at (y : FVec Ideal S32x2048x1024 .f32) (b : Fin 32) (t : Fin 2048) (j : Fin 1024) : sigmoid y (ix3 b t j) = sigm (y (ix3 b t j)) := by
  pointwise [sigmoid]
  rfl

/-- The scaled queries, as rows. -/
def refQ (x : FVec Ideal S32x2048x1024 .f32) (g : FVec Ideal S1x1024 .f32) (w : FVec Ideal S1x1024x9232 .f32) (a : FVec Ideal S1x64 .f32) : FVec Ideal S65536x1024 .bf16 :=
  truncf .bf16 (shapeCast S65536x1024 (mulf (mulf (headNorm (section_ 0 slices_S1024x9232_S1024x1024_0_0 x g w) a)
      (broadcastInDim S32x2048x16x64 ![] bcast_S_S32x2048x16x64 (constant S_ .f32 0x3E000000#32)))
      (broadcastInDim S32x2048x16x64 ![] bcast_S_S32x2048x16x64 (constant S_ .f32 0x3FB8AA3B#32)) : FVec Ideal S32x2048x16x64 .f32)
    shapeCasts_S32x2048x16x64_S65536x1024) bitsLt_bf16_f32
theorem refQ_at (x : FVec Ideal S32x2048x1024 .f32) (g : FVec Ideal S1x1024 .f32) (w : FVec Ideal S1x1024x9232 .f32) (a : FVec Ideal S1x64 .f32) (r : Fin 65536) (j : Fin 1024) :
    refQ x g w a (ix2 r j) = queries x g w a (seqAt r) (timeAt r) j := by
  pointwise [refQ]
  rw [headNorm_col, mul_assoc, mul_assoc, scale_coe]
  simp only [section_at]
  rfl

/-- The keys, as rows. -/
def refK (x : FVec Ideal S32x2048x1024 .f32) (g : FVec Ideal S1x1024 .f32) (w : FVec Ideal S1x1024x9232 .f32) (a : FVec Ideal S1x64 .f32) : FVec Ideal S65536x1024 .bf16 :=
  truncf .bf16 (shapeCast S65536x1024 (headNorm (section_ 1024 slices_S1024x9232_S1024x1024_0_1024 x g w) a)
    shapeCasts_S32x2048x16x64_S65536x1024) bitsLt_bf16_f32
theorem refK_at (x : FVec Ideal S32x2048x1024 .f32) (g : FVec Ideal S1x1024 .f32) (w : FVec Ideal S1x1024x9232 .f32) (a : FVec Ideal S1x64 .f32) (r : Fin 65536) (j : Fin 1024) :
    refK x g w a (ix2 r j) = keys x g w a (seqAt r) (timeAt r) j := by
  pointwise [refK]
  rw [headNorm_col]
  simp only [section_at]
  rfl

/-- The keys, time last. -/
def refKt (x : FVec Ideal S32x2048x1024 .f32) (g : FVec Ideal S1x1024 .f32) (w : FVec Ideal S1x1024x9232 .f32) (a : FVec Ideal S1x64 .f32) : FVec Ideal S32x1024x2048 .f32 :=
  transpose S32x1024x2048 [0, 2, 1] (shapeCast S32x2048x1024 (headNorm (section_ 1024 slices_S1024x9232_S1024x1024_0_1024 x g w) a)
    shapeCasts_S32x2048x16x64_S32x2048x1024) transposes_S32x2048x1024_S32x1024x2048_0_2_1
theorem refKt_at (x : FVec Ideal S32x2048x1024 .f32) (g : FVec Ideal S1x1024 .f32) (w : FVec Ideal S1x1024x9232 .f32) (a : FVec Ideal S1x64 .f32) (b : Fin 32) (j : Fin 1024) (t : Fin 2048) :
    refKt x g w a (ix3 b j t) = keys x g w a b t j := by
  pointwise [refKt]
  rw [headNorm_col]
  simp only [section_at]
  rfl

/-- The values, time last. -/
def refVt (x : FVec Ideal S32x2048x1024 .f32) (g : FVec Ideal S1x1024 .f32) (w : FVec Ideal S1x1024x9232 .f32) : FVec Ideal S32x1024x2048 .f32 :=
  transpose S32x1024x2048 [0, 2, 1] (section_ 2048 slices_S1024x9232_S1024x1024_0_2048 x g w) transposes_S32x2048x1024_S32x1024x2048_0_2_1
theorem refVt_at (x : FVec Ideal S32x2048x1024 .f32) (g : FVec Ideal S1x1024 .f32) (w : FVec Ideal S1x1024x9232 .f32) (b : Fin 32) (j : Fin 1024) (t : Fin 2048) :
    refVt x g w (ix3 b j t) = values x g w b t j := by
  pointwise [refVt]
  rw [section_at]
  rfl

/-- The values again, as the attention reads them. -/
def refVb (x : FVec Ideal S32x2048x1024 .f32) (g : FVec Ideal S1x1024 .f32) (w : FVec Ideal S1x1024x9232 .f32) : FVec Ideal S32x1024x2048 .bf16 :=
  truncf .bf16 (transpose S32x1024x2048 [0, 2, 1] (section_ 2048 slices_S1024x9232_S1024x1024_0_2048 x g w) transposes_S32x2048x1024_S32x1024x2048_0_2_1) bitsLt_bf16_f32
theorem refVb_at (x : FVec Ideal S32x2048x1024 .f32) (g : FVec Ideal S1x1024 .f32) (w : FVec Ideal S1x1024x9232 .f32) (b : Fin 32) (j : Fin 1024) (t : Fin 2048) :
    refVb x g w (ix3 b j t) = values x g w b t j := by
  pointwise [refVb]
  rw [section_at]
  rfl

/-- The log of the forget gate, as rows. -/
def refF (x : FVec Ideal S32x2048x1024 .f32) (g : FVec Ideal S1x1024 .f32) (w : FVec Ideal S1x1024x9232 .f32) (bf : FVec Ideal S1x16 .f32) : FVec Ideal S65536x16 .f32 :=
  shapeCast S65536x16 (logSigmoid (gate x g w bf)) shapeCasts_S32x2048x16_S65536x16
theorem refF_at (x : FVec Ideal S32x2048x1024 .f32) (g : FVec Ideal S1x1024 .f32) (w : FVec Ideal S1x1024x9232 .f32) (bf : FVec Ideal S1x16 .f32) (r : Fin 65536) (j : Fin 16) :
    refF x g w bf (ix2 r j) = forget x g w bf (seqAt r) (timeAt r) j := by
  pointwise [refF]
  rw [logSigmoid_at, gate_at]
  rfl

/-- The log of the forget gate, time last. -/
def refFt (x : FVec Ideal S32x2048x1024 .f32) (g : FVec Ideal S1x1024 .f32) (w : FVec Ideal S1x1024x9232 .f32) (bf : FVec Ideal S1x16 .f32) : FVec Ideal S32x16x2048 .f32 :=
  transpose S32x16x2048 [0, 2, 1] (logSigmoid (gate x g w bf)) transposes_S32x2048x16_S32x16x2048_0_2_1
theorem refFt_at (x : FVec Ideal S32x2048x1024 .f32) (g : FVec Ideal S1x1024 .f32) (w : FVec Ideal S1x1024x9232 .f32) (bf : FVec Ideal S1x16 .f32) (b : Fin 32) (j : Fin 16) (t : Fin 2048) :
    refFt x g w bf (ix3 b j t) = forget x g w bf b t j := by
  pointwise [refFt]
  rw [logSigmoid_at, gate_at]
  rfl

/-- The attention branch's gate. -/
def refGA (x : FVec Ideal S32x2048x1024 .f32) (g : FVec Ideal S1x1024 .f32) (w : FVec Ideal S1x1024x9232 .f32) : FVec Ideal S65536x1024 .bf16 :=
  truncf .bf16 (shapeCast S65536x1024 (mulf (section_ 3088 slices_S1024x9232_S1024x1024_0_3088 x g w) (sigmoid (section_ 3088 slices_S1024x9232_S1024x1024_0_3088 x g w))) shapeCasts_S32x2048x1024_S65536x1024) bitsLt_bf16_f32
theorem refGA_at (x : FVec Ideal S32x2048x1024 .f32) (g : FVec Ideal S1x1024 .f32) (w : FVec Ideal S1x1024x9232 .f32) (r : Fin 65536) (j : Fin 1024) :
    refGA x g w (ix2 r j) = gateA x g w (seqAt r) (timeAt r) j := by
  pointwise [refGA]
  rw [sigmoid_at, section_at]
  rfl

/-- The convolution's last 32 gated inputs. -/
def refU (x : FVec Ideal S32x2048x1024 .f32) (g : FVec Ideal S1x1024 .f32) (w : FVec Ideal S1x1024x9232 .f32) : FVec Ideal S32x32x1024 .f32 :=
  extractStridedSlice S32x32x1024 ![0, 2016, 0] (mulf (section_ 4112 slices_S1024x9232_S1024x1024_0_4112 x g w) (sigmoid (section_ 5136 slices_S1024x9232_S1024x1024_0_5136 x g w))) slices_S32x2048x1024_S32x32x1024_0_2016_0
theorem refU_at (x : FVec Ideal S32x2048x1024 .f32) (g : FVec Ideal S1x1024 .f32) (w : FVec Ideal S1x1024x9232 .f32) (b : Fin 32) (t : Fin 32) (j : Fin 1024) :
    refU x g w (ix3 b t j) = convIn x g w b ⟨2016 + t.val, by omega⟩ j := by
  pointwise [refU]
  rw [sigmoid_at, section_at, section_at]
  rfl

/-- A merge gate. -/
def refMA (x : FVec Ideal S32x2048x1024 .f32) (g : FVec Ideal S1x1024 .f32) (w : FVec Ideal S1x1024x9232 .f32) : FVec Ideal S65536x1024 .bf16 :=
  truncf .bf16 (shapeCast S65536x1024 (sigmoid (section_ 7184 slices_S1024x9232_S1024x1024_0_7184 x g w)) shapeCasts_S32x2048x1024_S65536x1024) bitsLt_bf16_f32
theorem refMA_at (x : FVec Ideal S32x2048x1024 .f32) (g : FVec Ideal S1x1024 .f32) (w : FVec Ideal S1x1024x9232 .f32) (r : Fin 65536) (j : Fin 1024) :
    refMA x g w (ix2 r j) = mergeA x g w (seqAt r) (timeAt r) j := by
  pointwise [refMA]
  rw [sigmoid_at, section_at]
  rfl

/-- A merge gate. -/
def refMB (x : FVec Ideal S32x2048x1024 .f32) (g : FVec Ideal S1x1024 .f32) (w : FVec Ideal S1x1024x9232 .f32) : FVec Ideal S65536x1024 .bf16 :=
  truncf .bf16 (shapeCast S65536x1024 (sigmoid (section_ 8208 slices_S1024x9232_S1024x1024_0_8208 x g w)) shapeCasts_S32x2048x1024_S65536x1024) bitsLt_bf16_f32
theorem refMB_at (x : FVec Ideal S32x2048x1024 .f32) (g : FVec Ideal S1x1024 .f32) (w : FVec Ideal S1x1024x9232 .f32) (r : Fin 65536) (j : Fin 1024) :
    refMB x g w (ix2 r j) = mergeB x g w (seqAt r) (timeAt r) j := by
  pointwise [refMB]
  rw [sigmoid_at, section_at]
  rfl

end Cert.InpRefIdeal.Rows
-- ==== Proof.Hand.InpConvSpec.lean ====
/- The convolution branch as formulas over rows of extended reals: thirty-one taps over time, a layernorm over the channels
   and the two silus. -/
module

public import proofs.«01_k».proof.Proof.Hand.InpSpec

@[expose] public section

noncomputable section

namespace Cert.InpSpec

open Idealize.ShloMosaic

abbrev SD : Shape := ⟨3, ![1, 31, 1024]⟩

/-- `b` and the first `n` terms of `f`, added in order. -/
def taps (b : EReal) (f : ℕ → EReal) : ℕ → EReal
  | 0 => b
  | n + 1 => taps b f n + f n

/-- The bias may be added last. -/
theorem taps_last (b : EReal) (f : ℕ → EReal) : ∀ n, taps b f n = taps 0 f n + b
  | 0 => by show b = 0 + b; rw [zero_add]
  | n + 1 => by
    show taps b f n + f n = taps 0 f n + f n + b
    rw [taps_last b f n, add_right_comm]

theorem taps_congr (b : EReal) {f f' : ℕ → EReal} : ∀ n, (∀ k, k < n → f k = f' k) → taps b f n = taps b f' n
  | 0, _ => rfl
  | n + 1, h => by
    show taps b f n + f n = taps b f' n + f' n
    rw [taps_congr b n fun k hk => h k (Nat.lt_succ_of_lt hk), h n (Nat.lt_succ_self n)]

/-- The convolution's gated input, `n` counted from 30 before the start of the sequence, where it is zero. -/
def past (x : SX.Idx → EReal) (g : SG.Idx → EReal) (w : SP.Idx → EReal) (b : Fin 32) (j : Fin 1024) (n : ℕ) : EReal :=
  if n < 30 then 0 else convIn x g w b (Fin.ofNat 2048 (n - 30)) j

/-- The convolution at time `t` in channel `j`. -/
def convAt (x : SX.Idx → EReal) (g : SG.Idx → EReal) (w : SP.Idx → EReal) (wd : SD.Idx → EReal) (bd : SG.Idx → EReal)
    (b : Fin 32) (t : Fin 2048) (j : Fin 1024) : EReal :=
  taps (bd (ix2 0 j)) (fun k => wd (ix3 0 (Fin.ofNat 31 k) j) * past x g w b j (t.val + k)) 31

def mean (y : Fin 1024 → EReal) : EReal := Ideal.div (∑ d, y d) (Ideal.ofBits .f32 0x44800000#32)

/-- One entry of a row's layernorm. -/
def layer (y g b : Fin 1024 → EReal) (j : Fin 1024) : EReal :=
  (y j - mean y) * Ideal.rsqrt (Ideal.div (∑ d, (y d - mean y) * (y d - mean y)) (Ideal.ofBits .f32 0x44800000#32) + eps) * g j + b j

/-- The convolution branch up to its gate. -/
def gateC (x : SX.Idx → EReal) (g : SG.Idx → EReal) (w : SP.Idx → EReal) (wd : SD.Idx → EReal) (bd lg lb : SG.Idx → EReal)
    (b : Fin 32) (t : Fin 2048) (j : Fin 1024) : EReal :=
  (layer (convAt x g w wd bd b t) (fun d => lg (ix2 0 d)) (fun d => lb (ix2 0 d)) j
      * sigm (layer (convAt x g w wd bd b t) (fun d => lg (ix2 0 d)) (fun d => lb (ix2 0 d)) j))
    * (sec x g w 6160 (by decide) b t j * sigm (sec x g w 6160 (by decide) b t j))

theorem c1024_coe : Ideal.ofBits .f32 0x44800000#32 = ((1024 : ℝ) : EReal) := by
  simp [Ideal.ofBits, Ideal.ieee, -EReal.coe_mul]; norm_num
theorem inv1024_coe : Ideal.ofBits .f32 0x3A800000#32 = ((1 / 1024 : ℝ) : EReal) := by
  simp [Ideal.ofBits, Ideal.ieee, -EReal.coe_mul]; norm_num
theorem mul_inv1024 (s : EReal) : s * Ideal.ofBits .f32 0x3A800000#32 = Ideal.div s (Ideal.ofBits .f32 0x44800000#32) := by
  rw [inv1024_coe, c1024_coe, Ideal.div_coe (by norm_num)]

/-- A sum over the channels, eight chunks of 128 added in order. -/
theorem sum_chunks (f : Fin 1024 → EReal) :
    (∑ l : Fin 128, f (Fin.ofNat 1024 (128 * 0 + l.val))) + (∑ l : Fin 128, f (Fin.ofNat 1024 (128 * 1 + l.val)))
      + (∑ l : Fin 128, f (Fin.ofNat 1024 (128 * 2 + l.val))) + (∑ l : Fin 128, f (Fin.ofNat 1024 (128 * 3 + l.val)))
      + (∑ l : Fin 128, f (Fin.ofNat 1024 (128 * 4 + l.val))) + (∑ l : Fin 128, f (Fin.ofNat 1024 (128 * 5 + l.val)))
      + (∑ l : Fin 128, f (Fin.ofNat 1024 (128 * 6 + l.val))) + (∑ l : Fin 128, f (Fin.ofNat 1024 (128 * 7 + l.val)))
      = ∑ d : Fin 1024, f d := by
  have e : (∑ d : Fin 1024, f d) = ∑ p : Fin 8 × Fin 128, f (Fin.ofNat 1024 (128 * p.1.val + p.2.val)) := by
    refine (Fintype.sum_equiv (finProdFinEquiv : Fin 8 × Fin 128 ≃ Fin 1024) _ _ fun p => congrArg f (Fin.ext ?_)).symm
    have h1 : p.1.val < 8 := p.1.isLt
    have h2 : p.2.val < 128 := p.2.isLt
    show (128 * p.1.val + p.2.val) % 1024 = p.2.val + 128 * p.1.val
    omega
  rw [e, Fintype.sum_prod_type, Fin.sum_univ_eight]
  rfl

end Cert.InpSpec
-- ==== Proof.Hand.InpRefConv.lean ====
/- The reference's convolution branch, stage by stage: the gated input behind thirty zero rows, the thirty-one shifted
   products and the bias, the layernorm and the two silus; and each stage's entries. -/
module

public import proofs.«01_k».proof.Proof.Hand.InpRefStages
public import proofs.«01_k».proof.Proof.Hand.InpConvSpec

@[expose] public section

set_option maxHeartbeats 1000000
set_option maxRecDepth 16384

noncomputable section

namespace Cert.InpRefIdeal.Rows

open Idealize.ShloMosaic Idealize.ShloMosaic.TcCoe Idealize.SL.Sem Cert.InpRefIdeal Cert.InpRefIdeal.Gen Cert.InpSpec

/-- The convolution's gated input. -/
def convU (x : FVec Ideal S32x2048x1024 .f32) (g : FVec Ideal S1x1024 .f32) (w : FVec Ideal S1x1024x9232 .f32) : FVec Ideal S32x2048x1024 .f32 :=
  mulf (section_ 4112 slices_S1024x9232_S1024x1024_0_4112 x g w) (sigmoid (section_ 5136 slices_S1024x9232_S1024x1024_0_5136 x g w))
theorem convU_at (x : FVec Ideal S32x2048x1024 .f32) (g : FVec Ideal S1x1024 .f32) (w : FVec Ideal S1x1024x9232 .f32) (b : Fin 32) (t : Fin 2048) (j : Fin 1024) :
    convU x g w (ix3 b t j) = convIn x g w b t j := by
  pointwise [convU]
  rw [sigmoid_at, section_at, section_at]
  rfl

/-- Thirty zero rows before it. -/
def convE (u : FVec Ideal S32x2048x1024 .f32) : FVec Ideal S32x2078x1024 .f32 :=
  concatenate S32x2078x1024 1 [⟨S32x30x1024, (broadcastInDim S32x30x1024 ![] bcast_S_S32x30x1024 (constant S_ .f32 0x00000000#32) : FVec Ideal S32x30x1024 .f32)⟩, ⟨S32x2048x1024, u⟩]
    concatenates_S32x30x1024_S32x2048x1024_S32x2078x1024_d1
theorem convE_lo (u : FVec Ideal S32x2048x1024 .f32) (b : Fin 32) (n : Fin 2078) (j : Fin 1024) (h : n.val < 30) :
    convE u (ix3 b n j) = 0 := by
  pointwise [convE]
  simp [h]
theorem convE_hi (u : FVec Ideal S32x2048x1024 .f32) (b : Fin 32) (n : Fin 2078) (j : Fin 1024) (h : 30 ≤ n.val) :
    convE u (ix3 b n j) = u (ix3 b ⟨n.val - 30, by omega⟩ j) := by
  pointwise [convE]
  simp [not_lt.mpr h]
theorem convE_at (x : FVec Ideal S32x2048x1024 .f32) (g : FVec Ideal S1x1024 .f32) (w : FVec Ideal S1x1024x9232 .f32) (b : Fin 32) (n : Fin 2078) (j : Fin 1024) :
    convE (convU x g w) (ix3 b n j) = past x g w b j n.val := by
  unfold past
  by_cases h : n.val < 30
  · rw [convE_lo _ b n j h, if_pos h]
  · rw [convE_hi _ b n j (not_lt.mp h), convU_at, if_neg h]
    congr 1
    apply Fin.ext
    show n.val - 30 = (n.val - 30) % 2048
    omega

/-- One tap's product. -/
def term (o : Nat) (h1 : S31x1024.Slices ![o, 0] S1x1024) (h2 : S32x2078x1024.Slices ![0, o, 0] S32x2048x1024)
    (v : FVec Ideal S1x31x1024 .f32) (e : FVec Ideal S32x2078x1024 .f32) : FVec Ideal S32x2048x1024 .f32 :=
  mulf (broadcastInDim S32x2048x1024 ![0, 1, 2] bcast_S1x1x1024_S32x2048x1024_0_1_2 (broadcastInDim S1x1x1024 ![2] bcast_S1024_S1x1x1024_2
      (shapeCast S1024 (extractStridedSlice S1x1024 ![o, 0] (shapeCast S31x1024 v shapeCasts_S1x31x1024_S31x1024 : FVec Ideal S31x1024 .f32) h1) shapeCasts_S1x1024_S1024)))
    (extractStridedSlice S32x2048x1024 ![0, o, 0] e h2)
theorem term_at (o : Nat) (h1 : S31x1024.Slices ![o, 0] S1x1024) (h2 : S32x2078x1024.Slices ![0, o, 0] S32x2048x1024)
    (v : FVec Ideal S1x31x1024 .f32) (x : FVec Ideal S32x2048x1024 .f32) (g : FVec Ideal S1x1024 .f32) (w : FVec Ideal S1x1024x9232 .f32)
    (b : Fin 32) (t : Fin 2048) (j : Fin 1024) (ho : o < 31) :
    term o h1 h2 v (convE (convU x g w)) (ix3 b t j) = v (ix3 0 (Fin.ofNat 31 o) j) * past x g w b j (t.val + o) := by
  pointwise [term]
  rw [convE_at]
  congr 2
  · congr 1
    apply Fin.ext
    show _ = o % 31
    simp
    omega
  · simp; omega

/-- The first eleven, added from zero. -/
def conv11 (v : FVec Ideal S1x31x1024 .f32) (e : FVec Ideal S32x2078x1024 .f32) : FVec Ideal S32x2048x1024 .f32 :=
  addf (addf (addf (addf (addf (addf (addf (addf (addf (addf (addf (broadcastInDim S32x2048x1024 ![] bcast_S_S32x2048x1024 (constant S_ .f32 0x00000000#32) : FVec Ideal S32x2048x1024 .f32) (term 0 slices_S31x1024_S1x1024_0_0 slices_S32x2078x1024_S32x2048x1024_0_0_0 v e)) (term 1 slices_S31x1024_S1x1024_1_0 slices_S32x2078x1024_S32x2048x1024_0_1_0 v e)) (term 2 slices_S31x1024_S1x1024_2_0 slices_S32x2078x1024_S32x2048x1024_0_2_0 v e)) (term 3 slices_S31x1024_S1x1024_3_0 slices_S32x2078x1024_S32x2048x1024_0_3_0 v e)) (term 4 slices_S31x1024_S1x1024_4_0 slices_S32x2078x1024_S32x2048x1024_0_4_0 v e)) (term 5 slices_S31x1024_S1x1024_5_0 slices_S32x2078x1024_S32x2048x1024_0_5_0 v e)) (term 6 slices_S31x1024_S1x1024_6_0 slices_S32x2078x1024_S32x2048x1024_0_6_0 v e)) (term 7 slices_S31x1024_S1x1024_7_0 slices_S32x2078x1024_S32x2048x1024_0_7_0 v e)) (term 8 slices_S31x1024_S1x1024_8_0 slices_S32x2078x1024_S32x2048x1024_0_8_0 v e)) (term 9 slices_S31x1024_S1x1024_9_0 slices_S32x2078x1024_S32x2048x1024_0_9_0 v e)) (term 10 slices_S31x1024_S1x1024_10_0 slices_S32x2078x1024_S32x2048x1024_0_10_0 v e)
/-- The first twenty-two. -/
def conv22 (v : FVec Ideal S1x31x1024 .f32) (e : FVec Ideal S32x2078x1024 .f32) : FVec Ideal S32x2048x1024 .f32 :=
  addf (addf (addf (addf (addf (addf (addf (addf (addf (addf (addf (conv11 v e) (term 11 slices_S31x1024_S1x1024_11_0 slices_S32x2078x1024_S32x2048x1024_0_11_0 v e)) (term 12 slices_S31x1024_S1x1024_12_0 slices_S32x2078x1024_S32x2048x1024_0_12_0 v e)) (term 13 slices_S31x1024_S1x1024_13_0 slices_S32x2078x1024_S32x2048x1024_0_13_0 v e)) (term 14 slices_S31x1024_S1x1024_14_0 slices_S32x2078x1024_S32x2048x1024_0_14_0 v e)) (term 15 slices_S31x1024_S1x1024_15_0 slices_S32x2078x1024_S32x2048x1024_0_15_0 v e)) (term 16 slices_S31x1024_S1x1024_16_0 slices_S32x2078x1024_S32x2048x1024_0_16_0 v e)) (term 17 slices_S31x1024_S1x1024_17_0 slices_S32x2078x1024_S32x2048x1024_0_17_0 v e)) (term 18 slices_S31x1024_S1x1024_18_0 slices_S32x2078x1024_S32x2048x1024_0_18_0 v e)) (term 19 slices_S31x1024_S1x1024_19_0 slices_S32x2078x1024_S32x2048x1024_0_19_0 v e)) (term 20 slices_S31x1024_S1x1024_20_0 slices_S32x2078x1024_S32x2048x1024_0_20_0 v e)) (term 21 slices_S31x1024_S1x1024_21_0 slices_S32x2078x1024_S32x2048x1024_0_21_0 v e)
/-- All thirty-one and the bias. -/
def conv (v : FVec Ideal S1x31x1024 .f32) (e : FVec Ideal S32x2078x1024 .f32) (bd : FVec Ideal S1x1024 .f32) : FVec Ideal S32x2048x1024 .f32 :=
  addf (addf (addf (addf (addf (addf (addf (addf (addf (addf (conv22 v e) (term 22 slices_S31x1024_S1x1024_22_0 slices_S32x2078x1024_S32x2048x1024_0_22_0 v e)) (term 23 slices_S31x1024_S1x1024_23_0 slices_S32x2078x1024_S32x2048x1024_0_23_0 v e)) (term 24 slices_S31x1024_S1x1024_24_0 slices_S32x2078x1024_S32x2048x1024_0_24_0 v e)) (term 25 slices_S31x1024_S1x1024_25_0 slices_S32x2078x1024_S32x2048x1024_0_25_0 v e)) (term 26 slices_S31x1024_S1x1024_26_0 slices_S32x2078x1024_S32x2048x1024_0_26_0 v e)) (term 27 slices_S31x1024_S1x1024_27_0 slices_S32x2078x1024_S32x2048x1024_0_27_0 v e)) (term 28 slices_S31x1024_S1x1024_28_0 slices_S32x2078x1024_S32x2048x1024_0_28_0 v e)) (term 29 slices_S31x1024_S1x1024_29_0 slices_S32x2078x1024_S32x2048x1024_0_29_0 v e)) (term 30 slices_S31x1024_S1x1024_30_0 slices_S32x2078x1024_S32x2048x1024_0_30_0 v e)) (broadcastInDim S32x2048x1024 ![0, 1, 2] bcast_S1x1x1024_S32x2048x1024_0_1_2 (broadcastInDim S1x1x1024 ![2] bcast_S1024_S1x1x1024_2
    (shapeCast S1024 bd shapeCasts_S1x1024_S1024)))

theorem conv11_at (v : FVec Ideal S1x31x1024 .f32) (x : FVec Ideal S32x2048x1024 .f32) (g : FVec Ideal S1x1024 .f32) (w : FVec Ideal S1x1024x9232 .f32) (b : Fin 32) (t : Fin 2048) (j : Fin 1024) :
    conv11 v (convE (convU x g w)) (ix3 b t j) = taps 0 (fun k => v (ix3 0 (Fin.ofNat 31 k) j) * past x g w b j (t.val + k)) 11 := by
  pointwise [conv11]
  simp (discharger := decide) only [term_at, taps, zero_add]
theorem conv22_at (v : FVec Ideal S1x31x1024 .f32) (x : FVec Ideal S32x2048x1024 .f32) (g : FVec Ideal S1x1024 .f32) (w : FVec Ideal S1x1024x9232 .f32) (b : Fin 32) (t : Fin 2048) (j : Fin 1024) :
    conv22 v (convE (convU x g w)) (ix3 b t j) = taps 0 (fun k => v (ix3 0 (Fin.ofNat 31 k) j) * past x g w b j (t.val + k)) 22 := by
  pointwise [conv22]
  rw [conv11_at]
  simp (discharger := decide) only [term_at, taps]
theorem conv_at (v : FVec Ideal S1x31x1024 .f32) (x : FVec Ideal S32x2048x1024 .f32) (g : FVec Ideal S1x1024 .f32) (w : FVec Ideal S1x1024x9232 .f32) (bd : FVec Ideal S1x1024 .f32) (b : Fin 32) (t : Fin 2048) (j : Fin 1024) :
    conv v (convE (convU x g w)) bd (ix3 b t j) = convAt x g w v bd b t j := by
  pointwise [conv]
  rw [conv22_at]
  unfold convAt
  rw [taps_last (bd (ix2 0 j))]
  simp (discharger := decide) only [term_at, taps]

/-- A row less its mean. -/
def centre (y : FVec Ideal S32x2048x1024 .f32) : FVec Ideal S32x2048x1024 .f32 :=
  subf y (broadcastInDim S32x2048x1024 ![0, 1, 2] bcast_S32x2048x1_S32x2048x1024_0_1_2 (Host.divf (broadcastInDim S32x2048x1 ![0, 1] bcast_S32x2048_S32x2048x1_0_1
    (Host.reduceAdd y (constant S_ .f32 0x00000000#32) reducesTo_S32x2048x1024_S32x2048_d2 h_S_)) (broadcastInDim S32x2048x1 ![] bcast_S_S32x2048x1 (constant S_ .f32 0x44800000#32))))
theorem centre_at (y : FVec Ideal S32x2048x1024 .f32) (b : Fin 32) (t : Fin 2048) (j : Fin 1024) :
    centre y (ix3 b t j) = y (ix3 b t j) - mean (fun d => y (ix3 b t d)) := by
  pointwise [centre]
  rfl

/-- The layernorm of a row, from its centred entries. -/
def scaled (z : FVec Ideal S32x2048x1024 .f32) (lg lb : FVec Ideal S1x1024 .f32) : FVec Ideal S32x2048x1024 .f32 :=
  addf (mulf (mulf z (broadcastInDim S32x2048x1024 ![0, 1, 2] bcast_S32x2048x1_S32x2048x1024_0_1_2
      (Host.rsqrt (addf (Host.divf (broadcastInDim S32x2048x1 ![0, 1] bcast_S32x2048_S32x2048x1_0_1
            (Host.reduceAdd (mulf z z) (constant S_ .f32 0x00000000#32) reducesTo_S32x2048x1024_S32x2048_d2 h_S_))
          (broadcastInDim S32x2048x1 ![] bcast_S_S32x2048x1 (constant S_ .f32 0x44800000#32)))
        (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 (shapeCast S1024 lg shapeCasts_S1x1024_S1024))))
    (broadcastInDim S32x2048x1024 ![0, 1, 2] bcast_S1x1x1024_S32x2048x1024_0_1_2 (broadcastInDim S1x1x1024 ![2] bcast_S1024_S1x1x1024_2 (shapeCast S1024 lb shapeCasts_S1x1024_S1024)))
theorem scaled_at (y : FVec Ideal S32x2048x1024 .f32) (lg lb : FVec Ideal S1x1024 .f32) (b : Fin 32) (t : Fin 2048) (j : Fin 1024) :
    scaled (centre y) lg lb (ix3 b t j) = layer (fun d => y (ix3 b t d)) (fun d => lg (ix2 0 d)) (fun d => lb (ix2 0 d)) j := by
  pointwise [scaled]
  simp only [centre_at]
  rfl

/-- The convolution branch's result, as rows. -/
def refCG (x : FVec Ideal S32x2048x1024 .f32) (g : FVec Ideal S1x1024 .f32) (w : FVec Ideal S1x1024x9232 .f32) (v : FVec Ideal S1x31x1024 .f32)
    (bd lg lb : FVec Ideal S1x1024 .f32) : FVec Ideal S65536x1024 .bf16 :=
  truncf .bf16 (shapeCast S65536x1024 (mulf (mulf (scaled (centre (conv v (convE (convU x g w)) bd)) lg lb) (sigmoid (scaled (centre (conv v (convE (convU x g w)) bd)) lg lb)))
      (mulf (section_ 6160 slices_S1024x9232_S1024x1024_0_6160 x g w) (sigmoid (section_ 6160 slices_S1024x9232_S1024x1024_0_6160 x g w))) : FVec Ideal S32x2048x1024 .f32)
    shapeCasts_S32x2048x1024_S65536x1024) bitsLt_bf16_f32
theorem refCG_at (x : FVec Ideal S32x2048x1024 .f32) (g : FVec Ideal S1x1024 .f32) (w : FVec Ideal S1x1024x9232 .f32) (v : FVec Ideal S1x31x1024 .f32)
    (bd lg lb : FVec Ideal S1x1024 .f32) (r : Fin 65536) (j : Fin 1024) :
    refCG x g w v bd lg lb (ix2 r j) = gateC x g w v bd lg lb (seqAt r) (timeAt r) j := by
  pointwise [refCG]
  simp only [sigmoid_at, section_at, scaled_at, conv_at]
  rfl

end Cert.InpRefIdeal.Rows
-- ==== Proof.Hand.InpBlocks.lean ====
/- What each of the claimed output blocks of the input projection holds after a point, as the body's payloads of the
   point's input blocks: the same payload at a sequence's first tile and at its later ones. -/
module

public import proofs.«01_k».proof.Proof.Hand.InpIdealData
public import Idealize.ShloMosaic.Lib.Pointwise
public import Idealize.ShloMosaic.Lib.Tactic

@[expose] public section

set_option maxHeartbeats 2000000
set_option maxRecDepth 16384

noncomputable section

namespace Cert.InpIdeal.Rows

open Idealize.ShloMosaic Idealize.ShloMosaic.TcCoe Idealize.SL.Sem Cert.InpIdeal Cert.InpIdeal.Gen

/-- The columns of the weights from `o` on, one section wide. -/
def cols (o : Nat) (h : o + 1024 ≤ 9344) (w : Vec Ideal S1024x9344 .bf16) : Vec Ideal S1024x1024 .bf16 :=
  fun j => w (ix2 (j 0) ⟨o + (j 1).val, by have : (j 1).val < 1024 := (j 1).isLt; omega⟩)

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

theorem ld_cols (o : Nat) (h : o + 1024 ≤ 9344) (w : Vec Ideal S1024x9344 .bf16) (inb) :
    View.ld (Val := Elt Ideal) w (Rect.unit ![0, o] S1024x1024.size inb) = cols o h w := by
  funext j
  refine View.ld_unit_apply_of w _ _ inb j _ fun a => ?_
  match a with
  | ⟨0, _⟩ => show (j 0).val = 0 + (j 0).val; omega
  | ⟨1, _⟩ => rfl

variable (m : (ℓ : Loc nD τ sig) → Buf (Elt Ideal) ℓ)

def hidB (c : Dev nD) (t : Fin cfg0.N) : FVec Ideal S256x1024 .bf16 := k0_pay7 (iblk m c 0 t) (iblk m c 1 t)
def wB (c : Dev nD) (t : Fin cfg0.N) (o : Nat) (h : o + 1024 ≤ 9344) : Vec Ideal S1024x1024 .bf16 := cols o h (iblk m c 2 t)

def colsF (w : Vec Ideal S1024x9344 .bf16) : Vec Ideal S1024x128 .bf16 :=
  fun j => w (ix2 (j 0) ⟨9216 + (j 1).val, by have : (j 1).val < 128 := (j 1).isLt; omega⟩)
theorem ld_colsF (w : Vec Ideal S1024x9344 .bf16) (inb) :
    View.ld (Val := Elt Ideal) w (Rect.unit ![0, 9216] S1024x128.size inb) = colsF w := by
  funext j
  refine View.ld_unit_apply_of w _ _ inb j _ fun a => ?_
  match a with
  | ⟨0, _⟩ => show (j 0).val = 0 + (j 0).val; omega
  | ⟨1, _⟩ => rfl
def wF (c : Dev nD) (t : Fin cfg0.N) : Vec Ideal S1024x128 .bf16 := colsF (iblk m c 2 t)

def out13 (c : Dev nD) (t : Fin cfg0.N) : Vec Ideal S256x1024 .bf16 :=
  k0_pay52 (k0_pay49 (hidB m c t) (wB m c t 0 (by decide))) (k0_pay50 (iblk m c 4 t)) (k0_pay51 (hidB m c t) (wB m c t 0 (by decide)) (iblk m c 6 t)) (iblk m c 7 t)
theorem A13 (c : Dev nD) (t : Fin cfg0.N) (h0 : t.val % 8 = 0) : Data.blkA_13 m c t h0 = out13 m c t := by
  unfold Data.blkA_13 Data.runA kernelRun0_A
  dsimp only
  sl_unfold_run_names
  rw [View.canon_unit_zero hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 0 + 1024 ≤ 9344)]
  rfl
theorem B13 (c : Dev nD) (t : Fin cfg0.N) (h0 : ¬t.val % 8 = 0) (s : Vec Ideal S8x288x128 .f32) : Data.blkB_13 m c t h0 s = out13 m c t := by
  unfold Data.blkB_13 Data.runB kernelRun0_B
  dsimp only
  sl_unfold_run_names
  rw [View.canon_unit_zero hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 0 + 1024 ≤ 9344)]
  rfl
theorem left13_eq (c : Dev nD) (t : Fin cfg0.N) : Data.left13 m c t = out13 m c t := by
  by_cases h0 : t.val % 8 = 0
  · rw [Data.left13_A m c t h0, A13]
  · rw [Data.left13_B m c t h0, B13]
def out14 (c : Dev nD) (t : Fin cfg0.N) : Vec Ideal S1x1024x256 .f32 :=
  k0_pay83 (k0_pay82 (hidB m c t) (wB m c t 1024 (by decide)) (iblk m c 5 t) (iblk m c 6 t) (iblk m c 7 t))
theorem A14 (c : Dev nD) (t : Fin cfg0.N) (h0 : t.val % 8 = 0) : Data.blkA_14 m c t h0 = out14 m c t := by
  unfold Data.blkA_14 Data.runA kernelRun0_A
  dsimp only
  sl_unfold_run_names
  rw [View.canon_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 1024 + 1024 ≤ 9344)]
  rfl
theorem B14 (c : Dev nD) (t : Fin cfg0.N) (h0 : ¬t.val % 8 = 0) (s : Vec Ideal S8x288x128 .f32) : Data.blkB_14 m c t h0 s = out14 m c t := by
  unfold Data.blkB_14 Data.runB kernelRun0_B
  dsimp only
  sl_unfold_run_names
  rw [View.canon_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 1024 + 1024 ≤ 9344)]
  rfl
theorem left14_eq (c : Dev nD) (t : Fin cfg0.N) : Data.left14 m c t = out14 m c t := by
  by_cases h0 : t.val % 8 = 0
  · rw [Data.left14_A m c t h0, A14]
  · rw [Data.left14_B m c t h0, B14]
def out15 (c : Dev nD) (t : Fin cfg0.N) : Vec Ideal S1x1024x256 .f32 :=
  k0_pay113 (hidB m c t) (wB m c t 2048 (by decide))
theorem A15 (c : Dev nD) (t : Fin cfg0.N) (h0 : t.val % 8 = 0) : Data.blkA_15 m c t h0 = out15 m c t := by
  unfold Data.blkA_15 Data.runA kernelRun0_A
  dsimp only
  sl_unfold_run_names
  rw [View.canon_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 2048 + 1024 ≤ 9344)]
  rfl
theorem B15 (c : Dev nD) (t : Fin cfg0.N) (h0 : ¬t.val % 8 = 0) (s : Vec Ideal S8x288x128 .f32) : Data.blkB_15 m c t h0 s = out15 m c t := by
  unfold Data.blkB_15 Data.runB kernelRun0_B
  dsimp only
  sl_unfold_run_names
  rw [View.canon_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 2048 + 1024 ≤ 9344)]
  rfl
theorem left15_eq (c : Dev nD) (t : Fin cfg0.N) : Data.left15 m c t = out15 m c t := by
  by_cases h0 : t.val % 8 = 0
  · rw [Data.left15_A m c t h0, A15]
  · rw [Data.left15_B m c t h0, B15]
def out16 (c : Dev nD) (t : Fin cfg0.N) : Vec Ideal S256x1024 .bf16 :=
  k0_pay84 (k0_pay81 (hidB m c t) (wB m c t 1024 (by decide)) (iblk m c 5 t) (iblk m c 6 t) (iblk m c 7 t))
theorem A16 (c : Dev nD) (t : Fin cfg0.N) (h0 : t.val % 8 = 0) : Data.blkA_16 m c t h0 = out16 m c t := by
  unfold Data.blkA_16 Data.runA kernelRun0_A
  dsimp only
  sl_unfold_run_names
  rw [View.canon_unit_zero hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 1024 + 1024 ≤ 9344)]
  rfl
theorem B16 (c : Dev nD) (t : Fin cfg0.N) (h0 : ¬t.val % 8 = 0) (s : Vec Ideal S8x288x128 .f32) : Data.blkB_16 m c t h0 s = out16 m c t := by
  unfold Data.blkB_16 Data.runB kernelRun0_B
  dsimp only
  sl_unfold_run_names
  rw [View.canon_unit_zero hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 1024 + 1024 ≤ 9344)]
  rfl
theorem left16_eq (c : Dev nD) (t : Fin cfg0.N) : Data.left16 m c t = out16 m c t := by
  by_cases h0 : t.val % 8 = 0
  · rw [Data.left16_A m c t h0, A16]
  · rw [Data.left16_B m c t h0, B16]
def out17 (c : Dev nD) (t : Fin cfg0.N) : Vec Ideal S1x1024x256 .bf16 :=
  k0_pay114 (hidB m c t) (wB m c t 2048 (by decide))
theorem A17 (c : Dev nD) (t : Fin cfg0.N) (h0 : t.val % 8 = 0) : Data.blkA_17 m c t h0 = out17 m c t := by
  unfold Data.blkA_17 Data.runA kernelRun0_A
  dsimp only
  sl_unfold_run_names
  rw [View.canon_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 2048 + 1024 ≤ 9344)]
  rfl
theorem B17 (c : Dev nD) (t : Fin cfg0.N) (h0 : ¬t.val % 8 = 0) (s : Vec Ideal S8x288x128 .f32) : Data.blkB_17 m c t h0 s = out17 m c t := by
  unfold Data.blkB_17 Data.runB kernelRun0_B
  dsimp only
  sl_unfold_run_names
  rw [View.canon_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 2048 + 1024 ≤ 9344)]
  rfl
theorem left17_eq (c : Dev nD) (t : Fin cfg0.N) : Data.left17 m c t = out17 m c t := by
  by_cases h0 : t.val % 8 = 0
  · rw [Data.left17_A m c t h0, A17]
  · rw [Data.left17_B m c t h0, B17]
def out18 (c : Dev nD) (t : Fin cfg0.N) : Vec Ideal S256x16 .f32 :=
  k0_pay145 (k0_pay142 (hidB m c t) (wF m c t) (iblk m c 3 t)) (k0_pay143 (hidB m c t) (wF m c t) (iblk m c 3 t))
theorem A18 (c : Dev nD) (t : Fin cfg0.N) (h0 : t.val % 8 = 0) : Data.blkA_18 m c t h0 = out18 m c t := by
  unfold Data.blkA_18 Data.runA kernelRun0_A
  dsimp only
  sl_unfold_run_names
  rw [View.canon_unit_zero hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_colsF]
  unfold out18 hidB wF
  rw [← ld_colsF _ inb_S1024x9344_S1024x128_0_9216]
theorem B18 (c : Dev nD) (t : Fin cfg0.N) (h0 : ¬t.val % 8 = 0) (s : Vec Ideal S8x288x128 .f32) : Data.blkB_18 m c t h0 s = out18 m c t := by
  unfold Data.blkB_18 Data.runB kernelRun0_B
  dsimp only
  sl_unfold_run_names
  rw [View.canon_unit_zero hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_colsF]
  unfold out18 hidB wF
  rw [← ld_colsF _ inb_S1024x9344_S1024x128_0_9216]
theorem left18_eq (c : Dev nD) (t : Fin cfg0.N) : Data.left18 m c t = out18 m c t := by
  by_cases h0 : t.val % 8 = 0
  · rw [Data.left18_A m c t h0, A18]
  · rw [Data.left18_B m c t h0, B18]
def out19 (c : Dev nD) (t : Fin cfg0.N) : Vec Ideal S1x16x256 .f32 :=
  k0_pay146 (k0_pay142 (hidB m c t) (wF m c t) (iblk m c 3 t)) (k0_pay143 (hidB m c t) (wF m c t) (iblk m c 3 t))
theorem A19 (c : Dev nD) (t : Fin cfg0.N) (h0 : t.val % 8 = 0) : Data.blkA_19 m c t h0 = out19 m c t := by
  unfold Data.blkA_19 Data.runA kernelRun0_A
  dsimp only
  sl_unfold_run_names
  rw [View.canon_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_colsF]
  unfold out19 hidB wF
  rw [← ld_colsF _ inb_S1024x9344_S1024x128_0_9216]
theorem B19 (c : Dev nD) (t : Fin cfg0.N) (h0 : ¬t.val % 8 = 0) (s : Vec Ideal S8x288x128 .f32) : Data.blkB_19 m c t h0 s = out19 m c t := by
  unfold Data.blkB_19 Data.runB kernelRun0_B
  dsimp only
  sl_unfold_run_names
  rw [View.canon_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_colsF]
  unfold out19 hidB wF
  rw [← ld_colsF _ inb_S1024x9344_S1024x128_0_9216]
theorem left19_eq (c : Dev nD) (t : Fin cfg0.N) : Data.left19 m c t = out19 m c t := by
  by_cases h0 : t.val % 8 = 0
  · rw [Data.left19_A m c t h0, A19]
  · rw [Data.left19_B m c t h0, B19]
def out20 (c : Dev nD) (t : Fin cfg0.N) : Vec Ideal S256x1024 .bf16 :=
  k0_pay147 (hidB m c t) (wB m c t 3072 (by decide))
theorem A20 (c : Dev nD) (t : Fin cfg0.N) (h0 : t.val % 8 = 0) : Data.blkA_20 m c t h0 = out20 m c t := by
  unfold Data.blkA_20 Data.runA kernelRun0_A
  dsimp only
  sl_unfold_run_names
  rw [View.canon_unit_zero hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 3072 + 1024 ≤ 9344)]
  rfl
theorem B20 (c : Dev nD) (t : Fin cfg0.N) (h0 : ¬t.val % 8 = 0) (s : Vec Ideal S8x288x128 .f32) : Data.blkB_20 m c t h0 s = out20 m c t := by
  unfold Data.blkB_20 Data.runB kernelRun0_B
  dsimp only
  sl_unfold_run_names
  rw [View.canon_unit_zero hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 3072 + 1024 ≤ 9344)]
  rfl
theorem left20_eq (c : Dev nD) (t : Fin cfg0.N) : Data.left20 m c t = out20 m c t := by
  by_cases h0 : t.val % 8 = 0
  · rw [Data.left20_A m c t h0, A20]
  · rw [Data.left20_B m c t h0, B20]
def out22 (c : Dev nD) (t : Fin cfg0.N) : Vec Ideal S1x32x1024 .f32 :=
  k0_pay9 (iblk m c 0 t) (iblk m c 1 t) (wB m c t 4096 (by decide)) (wB m c t 5120 (by decide))
theorem A22 (c : Dev nD) (t : Fin cfg0.N) (h0 : t.val % 8 = 0) : Data.blkA_22 m c t h0 = out22 m c t := by
  unfold Data.blkA_22 Data.runA kernelRun0_A
  dsimp only
  sl_unfold_run_names
  rw [View.canon_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 4096 + 1024 ≤ 9344), ld_cols _ (by decide : 5120 + 1024 ≤ 9344)]
  rfl
theorem B22 (c : Dev nD) (t : Fin cfg0.N) (h0 : ¬t.val % 8 = 0) (s : Vec Ideal S8x288x128 .f32) : Data.blkB_22 m c t h0 s = out22 m c t := by
  unfold Data.blkB_22 Data.runB kernelRun0_B
  dsimp only
  sl_unfold_run_names
  rw [View.canon_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 4096 + 1024 ≤ 9344), ld_cols _ (by decide : 5120 + 1024 ≤ 9344)]
  rfl
theorem left22_eq (c : Dev nD) (t : Fin cfg0.N) : Data.left22 m c t = out22 m c t := by
  by_cases h0 : t.val % 8 = 0
  · rw [Data.left22_A m c t h0, A22]
  · rw [Data.left22_B m c t h0, B22]
def out23 (c : Dev nD) (t : Fin cfg0.N) : Vec Ideal S256x1024 .bf16 :=
  k0_pay178 (k0_pay177 (hidB m c t) (wB m c t 7168 (by decide))) (Scalar.ofBits .f32 0x3F800000#32)
theorem A23 (c : Dev nD) (t : Fin cfg0.N) (h0 : t.val % 8 = 0) : Data.blkA_23 m c t h0 = out23 m c t := by
  unfold Data.blkA_23 Data.runA kernelRun0_A
  dsimp only
  sl_unfold_run_names
  rw [View.canon_unit_zero hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 7168 + 1024 ≤ 9344)]
  rfl
theorem B23 (c : Dev nD) (t : Fin cfg0.N) (h0 : ¬t.val % 8 = 0) (s : Vec Ideal S8x288x128 .f32) : Data.blkB_23 m c t h0 s = out23 m c t := by
  unfold Data.blkB_23 Data.runB kernelRun0_B
  dsimp only
  sl_unfold_run_names
  rw [View.canon_unit_zero hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 7168 + 1024 ≤ 9344)]
  rfl
theorem left23_eq (c : Dev nD) (t : Fin cfg0.N) : Data.left23 m c t = out23 m c t := by
  by_cases h0 : t.val % 8 = 0
  · rw [Data.left23_A m c t h0, A23]
  · rw [Data.left23_B m c t h0, B23]
def out24 (c : Dev nD) (t : Fin cfg0.N) : Vec Ideal S256x1024 .bf16 :=
  k0_pay206 (hidB m c t) (wB m c t 8192 (by decide))
theorem A24 (c : Dev nD) (t : Fin cfg0.N) (h0 : t.val % 8 = 0) : Data.blkA_24 m c t h0 = out24 m c t := by
  unfold Data.blkA_24 Data.runA kernelRun0_A
  dsimp only
  sl_unfold_run_names
  rw [View.canon_unit_zero hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 8192 + 1024 ≤ 9344)]
  rfl
theorem B24 (c : Dev nD) (t : Fin cfg0.N) (h0 : ¬t.val % 8 = 0) (s : Vec Ideal S8x288x128 .f32) : Data.blkB_24 m c t h0 s = out24 m c t := by
  unfold Data.blkB_24 Data.runB kernelRun0_B
  dsimp only
  sl_unfold_run_names
  rw [View.canon_unit_zero hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S256x1024) hz2,
    View.ld_unit_zero (S := S1x1024) hz2, View.ld_unit_zero (S := S1024x128) hz2, View.ld_unit_zero (S := S1x128) hz2, ld_cols _ (by decide : 8192 + 1024 ≤ 9344)]
  rfl
theorem left24_eq (c : Dev nD) (t : Fin cfg0.N) : Data.left24 m c t = out24 m c t := by
  by_cases h0 : t.val % 8 = 0
  · rw [Data.left24_A m c t h0, A24]
  · rw [Data.left24_B m c t h0, B24]

end Cert.InpIdeal.Rows
-- ==== Proof.Hand.InpConv.lean ====
/- The convolution's payloads, entry by entry: each half of a lane chunk sums the thirty-one taps onto the bias. -/
module

public import proofs.«01_k».proof.Proof.Gen.InpIdeal.Skeleton
public import Idealize.ShloMosaic.Lib.Pointwise

@[expose] public section

set_option maxHeartbeats 4000000
set_option maxRecDepth 16384

noncomputable section

namespace Cert.InpIdeal.Rows

open Idealize.ShloMosaic Idealize.ShloMosaic.TcCoe Idealize.SL.Sem Cert.InpIdeal Cert.InpIdeal.Gen

/-- `b` and the first `n` terms of `f`, added in order. -/
def tap (b : EReal) (f : ℕ → EReal) : ℕ → EReal
  | 0 => b
  | n + 1 => tap b f n + f n

theorem conv_0_0 (b : Vec Ideal S1x1x128 .f32) (w : ℕ → Vec Ideal S1x1x128 .f32) (e : ℕ → Vec Ideal S1x128x128 .f32) (a l : Fin 128) :
    k0_pay34 (k0_pay33 (k0_pay31 (k0_pay28 (k0_pay27 (k0_pay25 (k0_pay24 (k0_pay22 b (w 0) (e 0) (w 1) (e 1)) (k0_pay23 (w 2)) (e 2) (w 3) (e 3) (w 4) (e 4) (w 5) (e 5) (w 6) (e 6)) (w 7) (e 7) (w 8) (e 8) (w 9) (e 9) (w 10) (e 10)) (k0_pay26 (w 11)) (e 11) (w 12) (e 12) (w 13) (e 13) (w 14) (e 14) (w 15) (e 15)) (w 16) (e 16) (w 17) (e 17) (w 18) (e 18) (w 19) (e 19)) (k0_pay29 (e 20)) (k0_pay30 (w 20)) (w 21) (e 21) (w 22) (e 22) (w 23) (e 23) (w 24) (e 24)) (k0_pay32 (w 25)) (e 25) (w 26) (e 26) (w 27) (e 27) (w 28) (e 28) (w 29) (e 29)) (w 30) (e 30) (ix3 0 a l)
      = tap (b (ix3 0 0 l)) (fun j => w j (ix3 0 0 l) * e j (ix3 0 a l)) 31 := by
  pointwise [k0_pay22, k0_pay23, k0_pay24, k0_pay25, k0_pay26, k0_pay27, k0_pay28, k0_pay29, k0_pay30, k0_pay31, k0_pay32, k0_pay33, k0_pay34]
  rfl

theorem conv_0_128 (b : Vec Ideal S1x1x128 .f32) (w : ℕ → Vec Ideal S1x1x128 .f32) (e : ℕ → Vec Ideal S1x128x128 .f32) (a l : Fin 128) :
    k0_pay47 (k0_pay46 (k0_pay44 (k0_pay43 (k0_pay41 (k0_pay38 (k0_pay37 (k0_pay35 b (w 0) (e 0) (w 1) (e 1)) (k0_pay36 (w 2)) (e 2) (w 3) (e 3) (w 4) (e 4) (w 5) (e 5) (w 6) (e 6)) (w 7) (e 7) (w 8) (e 8) (w 9) (e 9) (w 10) (e 10)) (k0_pay39 (e 11)) (k0_pay40 (w 11)) (w 12) (e 12) (w 13) (e 13) (w 14) (e 14) (w 15) (e 15)) (k0_pay42 (w 16)) (e 16) (w 17) (e 17) (w 18) (e 18) (w 19) (e 19) (w 20) (e 20)) (w 21) (e 21) (w 22) (e 22) (w 23) (e 23) (w 24) (e 24)) (k0_pay45 (w 25)) (e 25) (w 26) (e 26) (w 27) (e 27) (w 28) (e 28) (w 29) (e 29)) (w 30) (e 30) (ix3 0 a l)
      = tap (b (ix3 0 0 l)) (fun j => w j (ix3 0 0 l) * e j (ix3 0 a l)) 31 := by
  pointwise [k0_pay35, k0_pay36, k0_pay37, k0_pay38, k0_pay39, k0_pay40, k0_pay41, k0_pay42, k0_pay43, k0_pay44, k0_pay45, k0_pay46, k0_pay47]
  rfl

theorem conv_1_0 (b : Vec Ideal S1x1x128 .f32) (w : ℕ → Vec Ideal S1x1x128 .f32) (e : ℕ → Vec Ideal S1x128x128 .f32) (a l : Fin 128) :
    k0_pay66 (k0_pay63 (k0_pay62 (k0_pay60 (k0_pay59 (k0_pay57 (k0_pay54 (k0_pay53 b (w 0) (e 0) (w 1) (e 1) (w 2) (e 2)) (w 3) (e 3) (w 4) (e 4) (w 5) (e 5) (w 6) (e 6)) (k0_pay55 (w 7)) (k0_pay56 (e 7)) (w 8) (e 8) (w 9) (e 9) (w 10) (e 10) (w 11) (e 11)) (k0_pay58 (w 12)) (e 12) (w 13) (e 13) (w 14) (e 14) (w 15) (e 15) (w 16) (e 16)) (w 17) (e 17) (w 18) (e 18) (w 19) (e 19) (w 20) (e 20)) (k0_pay61 (w 21)) (e 21) (w 22) (e 22) (w 23) (e 23) (w 24) (e 24) (w 25) (e 25)) (w 26) (e 26) (w 27) (e 27) (w 28) (e 28) (w 29) (e 29)) (k0_pay64 (e 30)) (k0_pay65 (w 30)) (ix3 0 a l)
      = tap (b (ix3 0 0 l)) (fun j => w j (ix3 0 0 l) * e j (ix3 0 a l)) 31 := by
  pointwise [k0_pay53, k0_pay54, k0_pay55, k0_pay56, k0_pay57, k0_pay58, k0_pay59, k0_pay60, k0_pay61, k0_pay62, k0_pay63, k0_pay64, k0_pay65, k0_pay66]
  rfl

theorem conv_1_128 (b : Vec Ideal S1x1x128 .f32) (w : ℕ → Vec Ideal S1x1x128 .f32) (e : ℕ → Vec Ideal S1x128x128 .f32) (a l : Fin 128) :
    k0_pay79 (k0_pay78 (k0_pay76 (k0_pay73 (k0_pay72 (k0_pay70 (k0_pay69 (k0_pay67 b (w 0) (e 0) (w 1) (e 1) (w 2) (e 2)) (k0_pay68 (w 3)) (e 3) (w 4) (e 4) (w 5) (e 5) (w 6) (e 6) (w 7) (e 7)) (w 8) (e 8) (w 9) (e 9) (w 10) (e 10) (w 11) (e 11)) (k0_pay71 (w 12)) (e 12) (w 13) (e 13) (w 14) (e 14) (w 15) (e 15) (w 16) (e 16)) (w 17) (e 17) (w 18) (e 18) (w 19) (e 19) (w 20) (e 20)) (k0_pay74 (e 21)) (k0_pay75 (w 21)) (w 22) (e 22) (w 23) (e 23) (w 24) (e 24) (w 25) (e 25)) (k0_pay77 (w 26)) (e 26) (w 27) (e 27) (w 28) (e 28) (w 29) (e 29) (w 30) (e 30)) (ix3 0 a l)
      = tap (b (ix3 0 0 l)) (fun j => w j (ix3 0 0 l) * e j (ix3 0 a l)) 31 := by
  pointwise [k0_pay67, k0_pay68, k0_pay69, k0_pay70, k0_pay71, k0_pay72, k0_pay73, k0_pay74, k0_pay75, k0_pay76, k0_pay77, k0_pay78, k0_pay79]
  rfl

theorem conv_2_0 (b : Vec Ideal S1x1x128 .f32) (w : ℕ → Vec Ideal S1x1x128 .f32) (e : ℕ → Vec Ideal S1x128x128 .f32) (a l : Fin 128) :
    k0_pay97 (k0_pay96 (k0_pay94 (k0_pay91 (k0_pay90 (k0_pay88 (k0_pay86 (k0_pay85 b (w 0) (e 0) (w 1) (e 1) (w 2) (e 2)) (w 3) (e 3) (w 4) (e 4) (w 5) (e 5) (w 6) (e 6)) (k0_pay87 (w 7) (e 7)) (w 8) (e 8) (w 9) (e 9) (w 10) (e 10) (w 11) (e 11)) (k0_pay89 (w 12)) (e 12) (w 13) (e 13) (w 14) (e 14) (w 15) (e 15) (w 16) (e 16)) (w 17) (e 17) (w 18) (e 18) (w 19) (e 19) (w 20) (e 20)) (k0_pay92 (w 21)) (k0_pay93 (e 21)) (w 22) (e 22) (w 23) (e 23) (w 24) (e 24) (w 25) (e 25)) (k0_pay95 (w 26)) (e 26) (w 27) (e 27) (w 28) (e 28) (w 29) (e 29) (w 30) (e 30)) (ix3 0 a l)
      = tap (b (ix3 0 0 l)) (fun j => w j (ix3 0 0 l) * e j (ix3 0 a l)) 31 := by
  pointwise [k0_pay85, k0_pay86, k0_pay87, k0_pay88, k0_pay89, k0_pay90, k0_pay91, k0_pay92, k0_pay93, k0_pay94, k0_pay95, k0_pay96, k0_pay97]
  rfl

theorem conv_2_128 (b : Vec Ideal S1x1x128 .f32) (w : ℕ → Vec Ideal S1x1x128 .f32) (e : ℕ → Vec Ideal S1x128x128 .f32) (a l : Fin 128) :
    k0_pay110 (k0_pay109 (k0_pay107 (k0_pay106 (k0_pay104 (k0_pay101 (k0_pay100 (k0_pay98 b (w 0) (e 0) (w 1) (e 1) (w 2) (e 2)) (k0_pay99 (w 3)) (e 3) (w 4) (e 4) (w 5) (e 5) (w 6) (e 6) (w 7) (e 7)) (w 8) (e 8) (w 9) (e 9) (w 10) (e 10) (w 11) (e 11)) (k0_pay102 (w 12)) (k0_pay103 (e 12)) (w 13) (e 13) (w 14) (e 14) (w 15) (e 15) (w 16) (e 16)) (k0_pay105 (w 17)) (e 17) (w 18) (e 18) (w 19) (e 19) (w 20) (e 20) (w 21) (e 21)) (w 22) (e 22) (w 23) (e 23) (w 24) (e 24) (w 25) (e 25)) (k0_pay108 (w 26)) (e 26) (w 27) (e 27) (w 28) (e 28) (w 29) (e 29) (w 30) (e 30)) (ix3 0 a l)
      = tap (b (ix3 0 0 l)) (fun j => w j (ix3 0 0 l) * e j (ix3 0 a l)) 31 := by
  pointwise [k0_pay100, k0_pay101, k0_pay102, k0_pay103, k0_pay104, k0_pay105, k0_pay106, k0_pay107, k0_pay108, k0_pay109, k0_pay110, k0_pay98, k0_pay99]
  rfl

theorem conv_3_0 (b : Vec Ideal S1x1x128 .f32) (w : ℕ → Vec Ideal S1x1x128 .f32) (e : ℕ → Vec Ideal S1x128x128 .f32) (a l : Fin 128) :
    k0_pay127 (k0_pay124 (k0_pay123 (k0_pay121 (k0_pay119 (k0_pay118 (k0_pay116 (k0_pay115 b (w 0) (e 0)) (w 1) (e 1) (w 2) (e 2) (w 3) (e 3) (w 4) (e 4)) (k0_pay117 (w 5)) (e 5) (w 6) (e 6) (w 7) (e 7) (w 8) (e 8) (w 9) (e 9)) (w 10) (e 10) (w 11) (e 11) (w 12) (e 12) (w 13) (e 13)) (k0_pay120 (w 14) (e 14)) (w 15) (e 15) (w 16) (e 16) (w 17) (e 17) (w 18) (e 18)) (k0_pay122 (w 19)) (e 19) (w 20) (e 20) (w 21) (e 21) (w 22) (e 22) (w 23) (e 23)) (w 24) (e 24) (w 25) (e 25) (w 26) (e 26) (w 27) (e 27)) (k0_pay125 (w 28)) (k0_pay126 (e 28)) (w 29) (e 29) (w 30) (e 30) (ix3 0 a l)
      = tap (b (ix3 0 0 l)) (fun j => w j (ix3 0 0 l) * e j (ix3 0 a l)) 31 := by
  pointwise [k0_pay115, k0_pay116, k0_pay117, k0_pay118, k0_pay119, k0_pay120, k0_pay121, k0_pay122, k0_pay123, k0_pay124, k0_pay125, k0_pay126, k0_pay127]
  rfl

theorem conv_3_128 (b : Vec Ideal S1x1x128 .f32) (w : ℕ → Vec Ideal S1x1x128 .f32) (e : ℕ → Vec Ideal S1x128x128 .f32) (a l : Fin 128) :
    k0_pay140 (k0_pay139 (k0_pay137 (k0_pay134 (k0_pay133 (k0_pay131 (k0_pay129 (k0_pay128 b (w 0) (e 0)) (w 1) (e 1) (w 2) (e 2) (w 3) (e 3) (w 4) (e 4)) (k0_pay130 (w 5) (e 5)) (w 6) (e 6) (w 7) (e 7) (w 8) (e 8) (w 9) (e 9)) (k0_pay132 (w 10)) (e 10) (w 11) (e 11) (w 12) (e 12) (w 13) (e 13) (w 14) (e 14)) (w 15) (e 15) (w 16) (e 16) (w 17) (e 17) (w 18) (e 18)) (k0_pay135 (w 19)) (k0_pay136 (e 19)) (w 20) (e 20) (w 21) (e 21) (w 22) (e 22) (w 23) (e 23)) (k0_pay138 (w 24)) (e 24) (w 25) (e 25) (w 26) (e 26) (w 27) (e 27) (w 28) (e 28)) (w 29) (e 29) (w 30) (e 30) (ix3 0 a l)
      = tap (b (ix3 0 0 l)) (fun j => w j (ix3 0 0 l) * e j (ix3 0 a l)) 31 := by
  pointwise [k0_pay128, k0_pay129, k0_pay130, k0_pay131, k0_pay132, k0_pay133, k0_pay134, k0_pay135, k0_pay136, k0_pay137, k0_pay138, k0_pay139, k0_pay140]
  rfl

theorem conv_4_0 (b : Vec Ideal S1x1x128 .f32) (w : ℕ → Vec Ideal S1x1x128 .f32) (e : ℕ → Vec Ideal S1x128x128 .f32) (a l : Fin 128) :
    k0_pay162 (k0_pay160 (k0_pay157 (k0_pay156 (k0_pay154 (k0_pay153 (k0_pay151 (k0_pay148 b) (k0_pay149 (w 0)) (k0_pay150 (e 0)) (w 1) (e 1) (w 2) (e 2) (w 3) (e 3) (w 4) (e 4)) (k0_pay152 (w 5)) (e 5) (w 6) (e 6) (w 7) (e 7) (w 8) (e 8) (w 9) (e 9)) (w 10) (e 10) (w 11) (e 11) (w 12) (e 12) (w 13) (e 13)) (k0_pay155 (w 14)) (e 14) (w 15) (e 15) (w 16) (e 16) (w 17) (e 17) (w 18) (e 18)) (w 19) (e 19) (w 20) (e 20) (w 21) (e 21) (w 22) (e 22)) (k0_pay158 (e 23)) (k0_pay159 (w 23)) (w 24) (e 24) (w 25) (e 25) (w 26) (e 26) (w 27) (e 27)) (k0_pay161 (w 28)) (e 28) (w 29) (e 29) (w 30) (e 30) (ix3 0 a l)
      = tap (b (ix3 0 0 l)) (fun j => w j (ix3 0 0 l) * e j (ix3 0 a l)) 31 := by
  pointwise [k0_pay148, k0_pay149, k0_pay150, k0_pay151, k0_pay152, k0_pay153, k0_pay154, k0_pay155, k0_pay156, k0_pay157, k0_pay158, k0_pay159, k0_pay160, k0_pay161, k0_pay162]
  rfl

theorem conv_4_128 (b : Vec Ideal S1x1x128 .f32) (w : ℕ → Vec Ideal S1x1x128 .f32) (e : ℕ → Vec Ideal S1x128x128 .f32) (a l : Fin 128) :
    k0_pay175 (k0_pay173 (k0_pay172 (k0_pay170 (k0_pay167 (k0_pay166 (k0_pay164 (k0_pay163 b (w 0) (e 0)) (w 1) (e 1) (w 2) (e 2) (w 3) (e 3) (w 4) (e 4)) (k0_pay165 (w 5)) (e 5) (w 6) (e 6) (w 7) (e 7) (w 8) (e 8) (w 9) (e 9)) (w 10) (e 10) (w 11) (e 11) (w 12) (e 12) (w 13) (e 13)) (k0_pay168 (e 14)) (k0_pay169 (w 14)) (w 15) (e 15) (w 16) (e 16) (w 17) (e 17) (w 18) (e 18)) (k0_pay171 (w 19)) (e 19) (w 20) (e 20) (w 21) (e 21) (w 22) (e 22) (w 23) (e 23)) (w 24) (e 24) (w 25) (e 25) (w 26) (e 26) (w 27) (e 27)) (k0_pay174 (w 28)) (e 28) (w 29) (e 29) (w 30) (e 30) (ix3 0 a l)
      = tap (b (ix3 0 0 l)) (fun j => w j (ix3 0 0 l) * e j (ix3 0 a l)) 31 := by
  pointwise [k0_pay163, k0_pay164, k0_pay165, k0_pay166, k0_pay167, k0_pay168, k0_pay169, k0_pay170, k0_pay171, k0_pay172, k0_pay173, k0_pay174, k0_pay175]
  rfl

theorem conv_5_0 (b : Vec Ideal S1x1x128 .f32) (w : ℕ → Vec Ideal S1x1x128 .f32) (e : ℕ → Vec Ideal S1x128x128 .f32) (a l : Fin 128) :
    k0_pay191 (k0_pay190 (k0_pay188 (k0_pay185 (k0_pay184 (k0_pay182 (k0_pay180 (k0_pay179 b (w 0) (e 0) (w 1) (e 1) (w 2) (e 2)) (w 3) (e 3) (w 4) (e 4) (w 5) (e 5) (w 6) (e 6)) (k0_pay181 (w 7) (e 7)) (w 8) (e 8) (w 9) (e 9) (w 10) (e 10) (w 11) (e 11)) (k0_pay183 (w 12)) (e 12) (w 13) (e 13) (w 14) (e 14) (w 15) (e 15) (w 16) (e 16)) (w 17) (e 17) (w 18) (e 18) (w 19) (e 19) (w 20) (e 20)) (k0_pay186 (w 21)) (k0_pay187 (e 21)) (w 22) (e 22) (w 23) (e 23) (w 24) (e 24) (w 25) (e 25)) (k0_pay189 (w 26)) (e 26) (w 27) (e 27) (w 28) (e 28) (w 29) (e 29) (w 30) (e 30)) (ix3 0 a l)
      = tap (b (ix3 0 0 l)) (fun j => w j (ix3 0 0 l) * e j (ix3 0 a l)) 31 := by
  pointwise [k0_pay179, k0_pay180, k0_pay181, k0_pay182, k0_pay183, k0_pay184, k0_pay185, k0_pay186, k0_pay187, k0_pay188, k0_pay189, k0_pay190, k0_pay191]
  rfl

theorem conv_5_128 (b : Vec Ideal S1x1x128 .f32) (w : ℕ → Vec Ideal S1x1x128 .f32) (e : ℕ → Vec Ideal S1x128x128 .f32) (a l : Fin 128) :
    k0_pay204 (k0_pay203 (k0_pay201 (k0_pay200 (k0_pay198 (k0_pay195 (k0_pay194 (k0_pay192 b (w 0) (e 0) (w 1) (e 1) (w 2) (e 2)) (k0_pay193 (w 3)) (e 3) (w 4) (e 4) (w 5) (e 5) (w 6) (e 6) (w 7) (e 7)) (w 8) (e 8) (w 9) (e 9) (w 10) (e 10) (w 11) (e 11)) (k0_pay196 (w 12)) (k0_pay197 (e 12)) (w 13) (e 13) (w 14) (e 14) (w 15) (e 15) (w 16) (e 16)) (k0_pay199 (w 17)) (e 17) (w 18) (e 18) (w 19) (e 19) (w 20) (e 20) (w 21) (e 21)) (w 22) (e 22) (w 23) (e 23) (w 24) (e 24) (w 25) (e 25)) (k0_pay202 (w 26)) (e 26) (w 27) (e 27) (w 28) (e 28) (w 29) (e 29) (w 30) (e 30)) (ix3 0 a l)
      = tap (b (ix3 0 0 l)) (fun j => w j (ix3 0 0 l) * e j (ix3 0 a l)) 31 := by
  pointwise [k0_pay192, k0_pay193, k0_pay194, k0_pay195, k0_pay196, k0_pay197, k0_pay198, k0_pay199, k0_pay200, k0_pay201, k0_pay202, k0_pay203, k0_pay204]
  rfl

theorem conv_6_0 (b : Vec Ideal S1x1x128 .f32) (w : ℕ → Vec Ideal S1x1x128 .f32) (e : ℕ → Vec Ideal S1x128x128 .f32) (a l : Fin 128) :
    k0_pay219 (k0_pay217 (k0_pay216 (k0_pay214 (k0_pay213 (k0_pay211 (k0_pay208 (k0_pay207 b (w 0) (e 0)) (w 1) (e 1) (w 2) (e 2) (w 3) (e 3) (w 4) (e 4)) (k0_pay209 (e 5)) (k0_pay210 (w 5)) (w 6) (e 6) (w 7) (e 7) (w 8) (e 8) (w 9) (e 9)) (k0_pay212 (w 10)) (e 10) (w 11) (e 11) (w 12) (e 12) (w 13) (e 13) (w 14) (e 14)) (w 15) (e 15) (w 16) (e 16) (w 17) (e 17) (w 18) (e 18)) (k0_pay215 (w 19)) (e 19) (w 20) (e 20) (w 21) (e 21) (w 22) (e 22) (w 23) (e 23)) (w 24) (e 24) (w 25) (e 25) (w 26) (e 26) (w 27) (e 27)) (k0_pay218 (w 28) (e 28)) (w 29) (e 29) (w 30) (e 30) (ix3 0 a l)
      = tap (b (ix3 0 0 l)) (fun j => w j (ix3 0 0 l) * e j (ix3 0 a l)) 31 := by
  pointwise [k0_pay207, k0_pay208, k0_pay209, k0_pay210, k0_pay211, k0_pay212, k0_pay213, k0_pay214, k0_pay215, k0_pay216, k0_pay217, k0_pay218, k0_pay219]
  rfl

theorem conv_6_128 (b : Vec Ideal S1x1x128 .f32) (w : ℕ → Vec Ideal S1x1x128 .f32) (e : ℕ → Vec Ideal S1x128x128 .f32) (a l : Fin 128) :
    k0_pay231 (k0_pay230 (k0_pay228 (k0_pay226 (k0_pay225 (k0_pay223 (k0_pay222 (k0_pay220 b (w 0) (e 0)) (k0_pay221 (w 1)) (e 1) (w 2) (e 2) (w 3) (e 3) (w 4) (e 4) (w 5) (e 5)) (w 6) (e 6) (w 7) (e 7) (w 8) (e 8) (w 9) (e 9)) (k0_pay224 (w 10)) (e 10) (w 11) (e 11) (w 12) (e 12) (w 13) (e 13) (w 14) (e 14)) (w 15) (e 15) (w 16) (e 16) (w 17) (e 17) (w 18) (e 18)) (k0_pay227 (w 19) (e 19)) (w 20) (e 20) (w 21) (e 21) (w 22) (e 22) (w 23) (e 23)) (k0_pay229 (w 24)) (e 24) (w 25) (e 25) (w 26) (e 26) (w 27) (e 27) (w 28) (e 28)) (w 29) (e 29) (w 30) (e 30) (ix3 0 a l)
      = tap (b (ix3 0 0 l)) (fun j => w j (ix3 0 0 l) * e j (ix3 0 a l)) 31 := by
  pointwise [k0_pay220, k0_pay221, k0_pay222, k0_pay223, k0_pay224, k0_pay225, k0_pay226, k0_pay227, k0_pay228, k0_pay229, k0_pay230, k0_pay231]
  rfl

theorem conv_7_0 (b : Vec Ideal S1x1x128 .f32) (w : ℕ → Vec Ideal S1x1x128 .f32) (e : ℕ → Vec Ideal S1x128x128 .f32) (a l : Fin 128) :
    k0_pay243 (k0_pay242 (k0_pay240 (k0_pay238 (k0_pay237 (k0_pay235 (k0_pay234 b (w 0) (e 0) (w 1) (e 1) (w 2) (e 2) (w 3) (e 3)) (w 4) (e 4) (w 5) (e 5) (w 6) (e 6) (w 7) (e 7)) (k0_pay236 (w 8)) (e 8) (w 9) (e 9) (w 10) (e 10) (w 11) (e 11) (w 12) (e 12)) (w 13) (e 13) (w 14) (e 14) (w 15) (e 15) (w 16) (e 16)) (k0_pay239 (w 17) (e 17)) (w 18) (e 18) (w 19) (e 19) (w 20) (e 20) (w 21) (e 21)) (k0_pay241 (w 22)) (e 22) (w 23) (e 23) (w 24) (e 24) (w 25) (e 25) (w 26) (e 26)) (w 27) (e 27) (w 28) (e 28) (w 29) (e 29) (w 30) (e 30) (ix3 0 a l)
      = tap (b (ix3 0 0 l)) (fun j => w j (ix3 0 0 l) * e j (ix3 0 a l)) 31 := by
  pointwise [k0_pay234, k0_pay235, k0_pay236, k0_pay237, k0_pay238, k0_pay239, k0_pay240, k0_pay241, k0_pay242, k0_pay243]
  rfl

theorem conv_7_128 (b : Vec Ideal S1x1x128 .f32) (w : ℕ → Vec Ideal S1x1x128 .f32) (e : ℕ → Vec Ideal S1x128x128 .f32) (a l : Fin 128) :
    k0_pay255 (k0_pay253 (k0_pay250 (k0_pay249 (k0_pay247 (k0_pay245 (k0_pay244 b (w 0) (e 0) (w 1) (e 1) (w 2) (e 2) (w 3) (e 3)) (w 4) (e 4) (w 5) (e 5) (w 6) (e 6) (w 7) (e 7)) (k0_pay246 (w 8) (e 8)) (w 9) (e 9) (w 10) (e 10) (w 11) (e 11) (w 12) (e 12)) (k0_pay248 (w 13)) (e 13) (w 14) (e 14) (w 15) (e 15) (w 16) (e 16) (w 17) (e 17)) (w 18) (e 18) (w 19) (e 19) (w 20) (e 20) (w 21) (e 21)) (k0_pay251 (w 22)) (k0_pay252 (e 22)) (w 23) (e 23) (w 24) (e 24) (w 25) (e 25) (w 26) (e 26)) (k0_pay254 (w 27)) (e 27) (w 28) (e 28) (w 29) (e 29) (w 30) (e 30) (ix3 0 a l)
      = tap (b (ix3 0 0 l)) (fun j => w j (ix3 0 0 l) * e j (ix3 0 a l)) 31 := by
  pointwise [k0_pay244, k0_pay245, k0_pay246, k0_pay247, k0_pay248, k0_pay249, k0_pay250, k0_pay251, k0_pay252, k0_pay253, k0_pay254, k0_pay255]
  rfl

end Cert.InpIdeal.Rows
-- ==== Proof.Hand.InpEntry.lean ====
/- What the input projection's host lines hand to the kernel, entry by entry: the rearranged weights, the padded forget
   bias, the tiled gains and the 0/1 matrices that sum and spread over heads; and where each point's blocks lie. -/
module

public import proofs.«01_k».proof.Proof.Gen.InpIdeal.Frame.Runs
public import Idealize.ShloMosaic.Lib.Pointwise
public import Idealize.ShloMosaic.Lib.Tactic

@[expose] public section

set_option maxHeartbeats 1000000
set_option maxRecDepth 16384

noncomputable section

namespace Cert.InpIdeal.Rows

open Idealize.ShloMosaic Idealize.ShloMosaic.TcCoe Idealize.SL.Sem Cert.InpIdeal Cert.InpIdeal.Gen

/-! ## The host lines over their arguments -/

def gainRow (g : Vec Ideal S1x1024 .f32) : Vec Ideal S1x1024 .f32 :=
  shapeCast S1x1024 (shapeCast S1024 g shapeCasts_S1x1024_S1024) shapeCasts_S1024_S1x1024

def biasRow (b : Vec Ideal S1x16 .f32) : Vec Ideal S1x128 .f32 :=
  shapeCast S1x128 (pad S128 ![0] ![112] ![0] (shapeCast S16 b shapeCasts_S1x16_S16 : Vec Ideal S16 .f32)
    (sitofp .f32 (constantI S_ 32 0#32) : FVec Ideal S_ .f32) pads_S16_S128_01120 h_S_) shapeCasts_S128_S1x128

def headRow (a : Vec Ideal S1x64 .f32) : Vec Ideal S1024 .f32 :=
  shapeCast S1024 (broadcastInDim S16x64 ![0, 1] bcast_S1x64_S16x64_0_1
    (shapeCast S1x64 (shapeCast S64 a shapeCasts_S1x64_S64) shapeCasts_S64_S1x64 : Vec Ideal S1x64 .f32)) shapeCasts_S16x64_S1024

def queryRow (a : Vec Ideal S1x64 .f32) : Vec Ideal S1x1024 .f32 :=
  shapeCast S1x1024 (mulf (headRow a) (broadcastInDim S1024 ![] bcast_S_S1024 (constant S_ .f32 0x3E38AA3B#32)) : FVec Ideal S1024 .f32)
    shapeCasts_S1024_S1x1024

def keyRow (a : Vec Ideal S1x64 .f32) : Vec Ideal S1x1024 .f32 := shapeCast S1x1024 (headRow a) shapeCasts_S1024_S1x1024

def headOf : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

def sumMat : Vec Ideal S1024x128 .bf16 :=
  (uitofp .bf16 (cmpi .eq (broadcastInDim S1024x128 ![0, 1] bcast_S1024x1_S1024x128_0_1 (broadcastInDim S1024x1 ![0] bcast_S1024_S1024x1_0 headOf))
    (broadcastInDim S1024x128 ![0, 1] bcast_S1x128_S1024x128_0_1 (broadcastInDim S1x128 ![1] bcast_S128_S1x128_1 (iotaInDim S128 32 0)))) : FVec Ideal S1024x128 .bf16)

def sumMatT : Vec Ideal S128x1024 .bf16 := transpose S128x1024 [1, 0] sumMat transposes_S1024x128_S128x1024_1_0

def spreadMat : Vec Ideal S256x1024 .bf16 :=
  concatenate S256x1024 0 [⟨S128x1024, sumMatT⟩, ⟨S128x1024, sumMatT⟩] concatenates_S128x1024_S128x1024_S256x1024_d0

def flatW (w : Vec Ideal S1x1024x9232 .f32) : Vec Ideal S1024x9232 .f32 := shapeCast S1024x9232 w shapeCasts_S1x1024x9232_S1024x9232

def allW (w : Vec Ideal S1x1024x9232 .f32) : Vec Ideal S1024x9344 .bf16 :=
  truncf .bf16 (concatenate S1024x9344 1
    [⟨S1024x3072, (extractStridedSlice S1024x3072 ![0, 0] (flatW w) slices_S1024x9232_S1024x3072_0_0 : Vec Ideal S1024x3072 .f32)⟩,
     ⟨S1024x6144, (extractStridedSlice S1024x6144 ![0, 3088] (flatW w) slices_S1024x9232_S1024x6144_0_3088 : Vec Ideal S1024x6144 .f32)⟩,
     ⟨S1024x128, (pad S1024x128 ![0, 0] ![0, 112] ![0, 0]
        (extractStridedSlice S1024x16 ![0, 3072] (flatW w) slices_S1024x9232_S1024x16_0_3072 : Vec Ideal S1024x16 .f32)
        (sitofp .f32 (constantI S_ 32 0#32) : FVec Ideal S_ .f32) pads_S1024x16_S1024x128_000_01120 h_S_ : Vec Ideal S1024x128 .f32)⟩]
    concatenates_S1024x3072_S1024x6144_S1024x128_S1024x9344_d1 : FVec Ideal S1024x9344 .f32) bitsLt_bf16_f32

/-! ## Their entries -/

theorem gainRow_at (g : Vec Ideal S1x1024 .f32) (j : Fin 1024) : gainRow g (ix2 0 j) = g (ix2 0 j) := by
  pointwise [gainRow]
theorem biasRow_at (b : Vec Ideal S1x16 .f32) (j : Fin 128) (h : j.val < 16) : biasRow b (ix2 0 j) = b (ix2 0 ⟨j.val, h⟩) := by
  pointwise [biasRow]
  rw [dif_pos h]
theorem queryRow_at (a : Vec Ideal S1x64 .f32) (j : Fin 1024) :
    queryRow a (ix2 0 j) = a (ix2 0 ⟨j.val % 64, Nat.mod_lt _ (by decide)⟩) * Ideal.ofBits .f32 0x3E38AA3B#32 := by
  pointwise [queryRow, headRow]
theorem keyRow_at (a : Vec Ideal S1x64 .f32) (j : Fin 1024) :
    keyRow a (ix2 0 j) = a (ix2 0 ⟨j.val % 64, Nat.mod_lt _ (by decide)⟩) := by
  pointwise [keyRow, headRow]
theorem headOf_at : ∀ k : Fin 1024, headOf (ix1 k) = BitVec.ofNat 32 (k.val / 64) := by decide +kernel
theorem sumMat_at (k : Fin 1024) (l : Fin 128) : sumMat (ix2 k l) = if k.val / 64 = l.val then 1 else 0 := by
  pointwise [sumMat]
  rw [headOf_at]
  have hk : k.val / 64 < 16 := by omega
  by_cases h : k.val / 64 = l.val
  · rw [if_pos h, h]
    show (((IntOp.cmpi .eq (BitVec.ofNat 32 l.val) (BitVec.ofNat 32 l.val)).toNat : ℝ) : EReal) = 1
    simp [IntOp.cmpi]
  · have hne : BitVec.ofNat 32 (k.val / 64) ≠ BitVec.ofNat 32 l.val := by
      intro e
      have e' := congrArg BitVec.toNat e
      simp only [BitVec.toNat_ofNat] at e'
      omega
    rw [if_neg h]
    show (((IntOp.cmpi .eq (BitVec.ofNat 32 (k.val / 64)) (BitVec.ofNat 32 l.val)).toNat : ℝ) : EReal) = 0
    simp [IntOp.cmpi, hne]
theorem spreadMat_lo (l : Fin 128) (j : Fin 1024) : spreadMat (ix2 ⟨l.val, by omega⟩ j) = sumMat (ix2 j l) := by
  pointwise [spreadMat, sumMatT]
theorem spreadMat_hi (l : Fin 128) (j : Fin 1024) : spreadMat (ix2 ⟨128 + l.val, by omega⟩ j) = sumMat (ix2 j l) := by
  pointwise [spreadMat, sumMatT]
theorem allW_low (w : Vec Ideal S1x1024x9232 .f32) (k : Fin 1024) (j : Fin 9344) (h : j.val < 3072) :
    allW w (ix2 k j) = w (ix3 0 k ⟨j.val, by omega⟩) := by
  pointwise [allW, flatW]
  rw [dif_pos h]
theorem allW_mid (w : Vec Ideal S1x1024x9232 .f32) (k : Fin 1024) (j : Fin 9344) (h : 3072 ≤ j.val) (h' : j.val < 9216) :
    allW w (ix2 k j) = w (ix3 0 k ⟨j.val + 16, by omega⟩) := by
  pointwise [allW, flatW]
  rw [dif_neg (by omega), dif_pos (by omega)]
  congr 2; apply Fin.ext; show 3088 + (j.val - 3072) = j.val + 16; omega
theorem allW_gate (w : Vec Ideal S1x1024x9232 .f32) (k : Fin 1024) (j : Fin 9344) (h : 9216 ≤ j.val) (h' : j.val < 9232) :
    allW w (ix2 k j) = w (ix3 0 k ⟨j.val - 6144, by omega⟩) := by
  pointwise [allW, flatW]
  rw [dif_neg (by omega), dif_neg (by omega), dif_pos (by omega)]
  exact congrArg (fun q => w (ix3 0 k q)) (Fin.ext (by show 3072 + (j.val - 3072 - 6144) = j.val - 6144; omega))

/-! ## What the kernel finds in its arrays -/

variable (m : (ℓ : Loc nD τ sig) → Buf (Elt Ideal) ℓ)

theorem cat3 {a a' : Vec Ideal S1024x3072 .f32} {b b' : Vec Ideal S1024x6144 .f32} {d d' : Vec Ideal S1024x128 .f32}
    (ha : a = a') (hb : b = b') (hd : d = d') :
    concatenate S1024x9344 1 [⟨S1024x3072, a⟩, ⟨S1024x6144, b⟩, ⟨S1024x128, d⟩] concatenates_S1024x3072_S1024x6144_S1024x128_S1024x9344_d1
      = concatenate S1024x9344 1 [⟨S1024x3072, a'⟩, ⟨S1024x6144, b'⟩, ⟨S1024x128, d'⟩] concatenates_S1024x3072_S1024x6144_S1024x128_S1024x9344_d1 := by
  rw [ha, hb, hd]
theorem cat2 {a a' b b' : Vec Ideal S128x1024 .bf16} (ha : a = a') (hb : b = b') :
    concatenate S256x1024 0 [⟨S128x1024, a⟩, ⟨S128x1024, b⟩] concatenates_S128x1024_S128x1024_S256x1024_d0
      = concatenate S256x1024 0 [⟨S128x1024, a'⟩, ⟨S128x1024, b'⟩] concatenates_S128x1024_S128x1024_S256x1024_d0 := by
  rw [ha, hb]

theorem entry_x (c : Dev nD) : V m c main_v53 = shapeCast S65536x1024 (m (c.tc.loc main_arg0)) shapeCasts_S32x2048x1024_S65536x1024 := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  rfl
theorem entry_g (c : Dev nD) : V m c main_v28 = gainRow (m (c.tc.loc main_arg1)) := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  rfl
theorem entry_b (c : Dev nD) : V m c main_v30 = biasRow (m (c.tc.loc main_arg3)) := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  rfl
theorem entry_qg (c : Dev nD) : V m c main_v36 = queryRow (m (c.tc.loc main_arg4)) := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  rfl
theorem entry_kg (c : Dev nD) : V m c main_v40 = keyRow (m (c.tc.loc main_arg5)) := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  rfl
theorem entry_e (c : Dev nD) : V m c main_v24 = sumMat := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  rfl
theorem entry_et (c : Dev nD) : V m c main_v27 = spreadMat := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  refine cat2 ?_ ?_
  · first | rfl | (after_results_simp; rfl)
  · first | rfl | (after_results_simp; rfl)
theorem entry_w (c : Dev nD) : V m c main_v15 = allW (m (c.tc.loc main_arg2)) := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  refine congrArg (fun v : FVec Ideal S1024x9344 .f32 => (truncf .bf16 v bitsLt_bf16_f32 : FVec Ideal S1024x9344 .bf16)) (cat3 ?_ ?_ ?_)
  · (try simp only [Matrix.cons_val_zero, Matrix.cons_val_one, Matrix.cons_val]); after_results_simp; rfl
  · (try simp only [Matrix.cons_val_zero, Matrix.cons_val_one, Matrix.cons_val]); after_results_simp; rfl
  · (try simp only [Matrix.cons_val_zero, Matrix.cons_val_one, Matrix.cons_val]); after_results_simp; rfl
theorem map0 : ∀ t : Fin cfg0.N, win0_0.index t 0 = t.val ∧ win0_0.index t 1 = 0 :=
  (by decide +kernel : ∀ t : Fin grid0.N, win0_0.index t 0 = t.val ∧ win0_0.index t 1 = 0)
theorem map13 : ∀ t : Fin cfg0.N, win0_13.index t 0 = t.val ∧ win0_13.index t 1 = 0 :=
  (by decide +kernel : ∀ t : Fin grid0.N, win0_13.index t 0 = t.val ∧ win0_13.index t 1 = 0)
theorem map16 : ∀ t : Fin cfg0.N, win0_16.index t 0 = t.val ∧ win0_16.index t 1 = 0 :=
  (by decide +kernel : ∀ t : Fin grid0.N, win0_16.index t 0 = t.val ∧ win0_16.index t 1 = 0)
theorem map18 : ∀ t : Fin cfg0.N, win0_18.index t 0 = t.val ∧ win0_18.index t 1 = 0 :=
  (by decide +kernel : ∀ t : Fin grid0.N, win0_18.index t 0 = t.val ∧ win0_18.index t 1 = 0)
theorem map20 : ∀ t : Fin cfg0.N, win0_20.index t 0 = t.val ∧ win0_20.index t 1 = 0 :=
  (by decide +kernel : ∀ t : Fin grid0.N, win0_20.index t 0 = t.val ∧ win0_20.index t 1 = 0)
theorem map23 : ∀ t : Fin cfg0.N, win0_23.index t 0 = t.val ∧ win0_23.index t 1 = 0 :=
  (by decide +kernel : ∀ t : Fin grid0.N, win0_23.index t 0 = t.val ∧ win0_23.index t 1 = 0)
theorem map24 : ∀ t : Fin cfg0.N, win0_24.index t 0 = t.val ∧ win0_24.index t 1 = 0 :=
  (by decide +kernel : ∀ t : Fin grid0.N, win0_24.index t 0 = t.val ∧ win0_24.index t 1 = 0)
theorem map14 : ∀ t : Fin cfg0.N, win0_14.index t 0 = t.val / 8 ∧ win0_14.index t 1 = 0 ∧ win0_14.index t 2 = t.val % 8 :=
  (by decide +kernel : ∀ t : Fin grid0.N, win0_14.index t 0 = t.val / 8 ∧ win0_14.index t 1 = 0 ∧ win0_14.index t 2 = t.val % 8)
theorem map15 : ∀ t : Fin cfg0.N, win0_15.index t 0 = t.val / 8 ∧ win0_15.index t 1 = 0 ∧ win0_15.index t 2 = t.val % 8 :=
  (by decide +kernel : ∀ t : Fin grid0.N, win0_15.index t 0 = t.val / 8 ∧ win0_15.index t 1 = 0 ∧ win0_15.index t 2 = t.val % 8)
theorem map17 : ∀ t : Fin cfg0.N, win0_17.index t 0 = t.val / 8 ∧ win0_17.index t 1 = 0 ∧ win0_17.index t 2 = t.val % 8 :=
  (by decide +kernel : ∀ t : Fin grid0.N, win0_17.index t 0 = t.val / 8 ∧ win0_17.index t 1 = 0 ∧ win0_17.index t 2 = t.val % 8)
theorem map19 : ∀ t : Fin cfg0.N, win0_19.index t 0 = t.val / 8 ∧ win0_19.index t 1 = 0 ∧ win0_19.index t 2 = t.val % 8 :=
  (by decide +kernel : ∀ t : Fin grid0.N, win0_19.index t 0 = t.val / 8 ∧ win0_19.index t 1 = 0 ∧ win0_19.index t 2 = t.val % 8)
theorem map22 : ∀ t : Fin cfg0.N, win0_22.index t 0 = t.val / 8 ∧ win0_22.index t 1 = 0 ∧ win0_22.index t 2 = 0 :=
  (by decide +kernel : ∀ t : Fin grid0.N, win0_22.index t 0 = t.val / 8 ∧ win0_22.index t 1 = 0 ∧ win0_22.index t 2 = 0)
theorem map1 : ∀ t : Fin cfg0.N, win0_1.index t 0 = 0 ∧ win0_1.index t 1 = 0 :=
  (by decide +kernel : ∀ t : Fin grid0.N, win0_1.index t 0 = 0 ∧ win0_1.index t 1 = 0)
theorem map2 : ∀ t : Fin cfg0.N, win0_2.index t 0 = 0 ∧ win0_2.index t 1 = 0 :=
  (by decide +kernel : ∀ t : Fin grid0.N, win0_2.index t 0 = 0 ∧ win0_2.index t 1 = 0)
theorem map3 : ∀ t : Fin cfg0.N, win0_3.index t 0 = 0 ∧ win0_3.index t 1 = 0 :=
  (by decide +kernel : ∀ t : Fin grid0.N, win0_3.index t 0 = 0 ∧ win0_3.index t 1 = 0)
theorem map4 : ∀ t : Fin cfg0.N, win0_4.index t 0 = 0 ∧ win0_4.index t 1 = 0 :=
  (by decide +kernel : ∀ t : Fin grid0.N, win0_4.index t 0 = 0 ∧ win0_4.index t 1 = 0)
theorem map5 : ∀ t : Fin cfg0.N, win0_5.index t 0 = 0 ∧ win0_5.index t 1 = 0 :=
  (by decide +kernel : ∀ t : Fin grid0.N, win0_5.index t 0 = 0 ∧ win0_5.index t 1 = 0)
theorem map6 : ∀ t : Fin cfg0.N, win0_6.index t 0 = 0 ∧ win0_6.index t 1 = 0 :=
  (by decide +kernel : ∀ t : Fin grid0.N, win0_6.index t 0 = 0 ∧ win0_6.index t 1 = 0)
theorem map7 : ∀ t : Fin cfg0.N, win0_7.index t 0 = 0 ∧ win0_7.index t 1 = 0 :=
  (by decide +kernel : ∀ t : Fin grid0.N, win0_7.index t 0 = 0 ∧ win0_7.index t 1 = 0)

theorem lt256 (t : Fin cfg0.N) : t.val < 256 := by have := t.isLt; have h : cfg0.N = 256 := N_0; omega

/-- Row `r` of point `t`'s block is row `256 t + r` of the flattened array: row `256 (t % 8) + r` of sequence `t / 8`. -/
abbrev row (t : Fin cfg0.N) (r : Fin 256) : Fin 65536 := ⟨256 * t.val + r.val, by have := lt256 t; omega⟩
abbrev seqOf (t : Fin cfg0.N) : Fin 32 := ⟨t.val / 8, by have := lt256 t; omega⟩
abbrev timeOf (t : Fin cfg0.N) (r : Fin 256) : Fin 2048 := ⟨256 * (t.val % 8) + r.val, by omega⟩

theorem flat_at (x : Vec Ideal S32x2048x1024 .f32) (t : Fin cfg0.N) (r : Fin 256) (k : Fin 1024) :
    (shapeCast S65536x1024 x shapeCasts_S32x2048x1024_S65536x1024 : Vec Ideal S65536x1024 .f32) (ix2 (row t r) k)
      = x (ix3 (seqOf t) (timeOf t r) k) := by
  have h := lt256 t
  pointwise []
  have e0 : (⟨(256 * t.val + r.val) / 2048, by omega⟩ : Fin 32) = seqOf t := Fin.ext (by show (256 * t.val + r.val) / 2048 = t.val / 8; omega)
  have e1 : (⟨(256 * t.val + r.val) % 2048, by omega⟩ : Fin 2048) = timeOf t r :=
    Fin.ext (by show (256 * t.val + r.val) % 2048 = 256 * (t.val % 8) + r.val; omega)
  rw [e0, e1]

theorem blk0 (c : Dev nD) (t : Fin cfg0.N) (r : Fin 256) (k : Fin 1024) :
    (iblk m c 0 t : Vec Ideal S256x1024 .f32) (ix2 r k) = m (c.tc.loc main_arg0) (ix3 (seqOf t) (timeOf t r) k) := by
  have h := map0 t
  refine Eq.trans ?_ (flat_at _ t r k)
  rw [← entry_x]
  unfold iblk
  rw [View.read_apply]
  show V m c main_v53 _ = V m c main_v53 _
  congr 1; funext a; apply Fin.ext
  match a with
  | ⟨0, _⟩ => show win0_0.index t 0 * 256 + 1 * r.val = 256 * t.val + r.val; rw [h.1]; omega
  | ⟨1, _⟩ => show win0_0.index t 1 * 1024 + 1 * k.val = k.val; rw [h.2]; omega
theorem blk1 (c : Dev nD) (t : Fin cfg0.N) : (iblk m c 1 t : Vec Ideal S1x1024 .f32) = gainRow (m (c.tc.loc main_arg1)) := by
  have h := map1 t
  rw [← entry_g]
  funext (j : S1x1024.Idx)
  unfold iblk
  rw [View.read_apply]
  show V m c main_v28 _ = V m c main_v28 _
  congr 1; funext a; apply Fin.ext
  match a with
  | ⟨0, _⟩ => show win0_1.index t 0 * 1 + 1 * (j 0).val = (j 0).val; rw [h.1]; omega
  | ⟨1, _⟩ => show win0_1.index t 1 * 1024 + 1 * (j 1).val = (j 1).val; rw [h.2]; omega
theorem blk2 (c : Dev nD) (t : Fin cfg0.N) : (iblk m c 2 t : Vec Ideal S1024x9344 .bf16) = allW (m (c.tc.loc main_arg2)) := by
  have h := map2 t
  rw [← entry_w]
  funext (j : S1024x9344.Idx)
  unfold iblk
  rw [View.read_apply]
  show V m c main_v15 _ = V m c main_v15 _
  congr 1; funext a; apply Fin.ext
  match a with
  | ⟨0, _⟩ => show win0_2.index t 0 * 1024 + 1 * (j 0).val = (j 0).val; rw [h.1]; omega
  | ⟨1, _⟩ => show win0_2.index t 1 * 9344 + 1 * (j 1).val = (j 1).val; rw [h.2]; omega
theorem blk3 (c : Dev nD) (t : Fin cfg0.N) : (iblk m c 3 t : Vec Ideal S1x128 .f32) = biasRow (m (c.tc.loc main_arg3)) := by
  have h := map3 t
  rw [← entry_b]
  funext (j : S1x128.Idx)
  unfold iblk
  rw [View.read_apply]
  show V m c main_v30 _ = V m c main_v30 _
  congr 1; funext a; apply Fin.ext
  match a with
  | ⟨0, _⟩ => show win0_3.index t 0 * 1 + 1 * (j 0).val = (j 0).val; rw [h.1]; omega
  | ⟨1, _⟩ => show win0_3.index t 1 * 128 + 1 * (j 1).val = (j 1).val; rw [h.2]; omega
theorem blk4 (c : Dev nD) (t : Fin cfg0.N) : (iblk m c 4 t : Vec Ideal S1x1024 .f32) = queryRow (m (c.tc.loc main_arg4)) := by
  have h := map4 t
  rw [← entry_qg]
  funext (j : S1x1024.Idx)
  unfold iblk
  rw [View.read_apply]
  show V m c main_v36 _ = V m c main_v36 _
  congr 1; funext a; apply Fin.ext
  match a with
  | ⟨0, _⟩ => show win0_4.index t 0 * 1 + 1 * (j 0).val = (j 0).val; rw [h.1]; omega
  | ⟨1, _⟩ => show win0_4.index t 1 * 1024 + 1 * (j 1).val = (j 1).val; rw [h.2]; omega
theorem blk5 (c : Dev nD) (t : Fin cfg0.N) : (iblk m c 5 t : Vec Ideal S1x1024 .f32) = keyRow (m (c.tc.loc main_arg5)) := by
  have h := map5 t
  rw [← entry_kg]
  funext (j : S1x1024.Idx)
  unfold iblk
  rw [View.read_apply]
  show V m c main_v40 _ = V m c main_v40 _
  congr 1; funext a; apply Fin.ext
  match a with
  | ⟨0, _⟩ => show win0_5.index t 0 * 1 + 1 * (j 0).val = (j 0).val; rw [h.1]; omega
  | ⟨1, _⟩ => show win0_5.index t 1 * 1024 + 1 * (j 1).val = (j 1).val; rw [h.2]; omega
theorem blk6 (c : Dev nD) (t : Fin cfg0.N) : (iblk m c 6 t : Vec Ideal S1024x128 .bf16) = sumMat := by
  have h := map6 t
  rw [← entry_e]
  funext (j : S1024x128.Idx)
  unfold iblk
  rw [View.read_apply]
  show V m c main_v24 _ = V m c main_v24 _
  congr 1; funext a; apply Fin.ext
  match a with
  | ⟨0, _⟩ => show win0_6.index t 0 * 1024 + 1 * (j 0).val = (j 0).val; rw [h.1]; omega
  | ⟨1, _⟩ => show win0_6.index t 1 * 128 + 1 * (j 1).val = (j 1).val; rw [h.2]; omega
theorem blk7 (c : Dev nD) (t : Fin cfg0.N) : (iblk m c 7 t : Vec Ideal S256x1024 .bf16) = spreadMat := by
  have h := map7 t
  rw [← entry_et]
  funext (j : S256x1024.Idx)
  unfold iblk
  rw [View.read_apply]
  show V m c main_v27 _ = V m c main_v27 _
  congr 1; funext a; apply Fin.ext
  match a with
  | ⟨0, _⟩ => show win0_7.index t 0 * 256 + 1 * (j 0).val = (j 0).val; rw [h.1]; omega
  | ⟨1, _⟩ => show win0_7.index t 1 * 1024 + 1 * (j 1).val = (j 1).val; rw [h.2]; omega

end Cert.InpIdeal.Rows
-- ==== Proof.Hand.InpPay.lean ====
/- The body's payloads of one block, entry by entry, as the mixer's formulas. -/
module

public import proofs.«01_k».proof.Proof.Hand.InpEntry
public import proofs.«01_k».proof.Proof.Hand.InpSpec
public import proofs.«01_k».proof.Proof.Gen.InpIdeal.Skeleton
public import Idealize.ShloMosaic.Lib.Pointwise

@[expose] public section

set_option maxHeartbeats 1000000
set_option maxRecDepth 16384

noncomputable section

namespace Cert.InpIdeal.Rows

open Idealize.ShloMosaic Idealize.ShloMosaic.TcCoe Idealize.SL.Sem Cert.InpIdeal Cert.InpIdeal.Gen Cert.InpSpec

theorem pay_hid (x : Vec Ideal S256x1024 .f32) (g : Vec Ideal S1x1024 .f32) (r : Fin 256) (j : Fin 1024) :
    (k0_pay7 x g : FVec Ideal S256x1024 .bf16) (ix2 r j) = hid (fun d => x (ix2 r d)) (fun d => g (ix2 0 d)) j := by
  pointwise [k0_pay7]
  rfl

theorem pay_q (h : FVec Ideal S256x1024 .bf16) (w : Vec Ideal S1024x1024 .bf16) (a : Vec Ideal S1x1024 .f32) (r : Fin 256) (j : Fin 1024) :
    k0_pay52 (k0_pay49 h w) (k0_pay50 a) (k0_pay51 h w sumMat) spreadMat (ix2 r j)
      = normed (fun k => ∑ d : Fin 1024, h (ix2 r d) * w (ix2 d k)) j * a (ix2 0 j) := by
  pointwise [k0_pay52, k0_pay50, k0_pay51, k0_pay49]
  simp only [spreadMat_lo, spreadMat_hi, sumMat_at]
  exact congrArg (· * a (ix2 0 j)) (spread (fun k => ∑ d : Fin 1024, h (ix2 r d) * w (ix2 d k)) j)

theorem pay_k (h : FVec Ideal S256x1024 .bf16) (w : Vec Ideal S1024x1024 .bf16) (a : Vec Ideal S1x1024 .f32) (r : Fin 256) (j : Fin 1024) :
    k0_pay84 (k0_pay81 h w a sumMat spreadMat) (ix2 r j)
      = normed (fun k => ∑ d : Fin 1024, h (ix2 r d) * w (ix2 d k)) j * a (ix2 0 j) := by
  pointwise [k0_pay84, k0_pay81]
  simp only [spreadMat_lo, spreadMat_hi, sumMat_at]
  exact congrArg (· * a (ix2 0 j)) (spread (fun k => ∑ d : Fin 1024, h (ix2 r d) * w (ix2 d k)) j)

theorem pay_kt (h : FVec Ideal S256x1024 .bf16) (w : Vec Ideal S1024x1024 .bf16) (a : Vec Ideal S1x1024 .f32) (j : Fin 1024) (r : Fin 256) :
    k0_pay83 (k0_pay82 h w a sumMat spreadMat) (ix3 0 j r)
      = normed (fun k => ∑ d : Fin 1024, h (ix2 r d) * w (ix2 d k)) j * a (ix2 0 j) := by
  pointwise [k0_pay83, k0_pay82, k0_pay81]
  simp only [spreadMat_lo, spreadMat_hi, sumMat_at]
  exact congrArg (· * a (ix2 0 j)) (spread (fun k => ∑ d : Fin 1024, h (ix2 r d) * w (ix2 d k)) j)

theorem pay_v (h : FVec Ideal S256x1024 .bf16) (w : Vec Ideal S1024x1024 .bf16) (j : Fin 1024) (r : Fin 256) :
    k0_pay113 h w (ix3 0 j r) = ∑ d : Fin 1024, h (ix2 r d) * w (ix2 d j) := by
  pointwise [k0_pay113, k0_pay112]
theorem pay_vb (h : FVec Ideal S256x1024 .bf16) (w : Vec Ideal S1024x1024 .bf16) (j : Fin 1024) (r : Fin 256) :
    k0_pay114 h w (ix3 0 j r) = ∑ d : Fin 1024, h (ix2 r d) * w (ix2 d j) := by
  pointwise [k0_pay114, k0_pay112]

theorem pay_f (h : FVec Ideal S256x1024 .bf16) (w : Vec Ideal S1024x128 .bf16) (b : Vec Ideal S1x128 .f32) (r : Fin 256) (j : Fin 16) :
    k0_pay145 (k0_pay142 h w b) (k0_pay143 h w b) (ix2 r j)
      = logSig (∑ d : Fin 1024, h (ix2 r d) * w (ix2 d ⟨j.val, by omega⟩) + b (ix2 0 ⟨j.val, by omega⟩)) := by
  pointwise [k0_pay145, k0_pay142, k0_pay143, k0_pay144]
  rw [zero_sub']
  exact logSig_min _
theorem pay_ft (h : FVec Ideal S256x1024 .bf16) (w : Vec Ideal S1024x128 .bf16) (b : Vec Ideal S1x128 .f32) (j : Fin 16) (r : Fin 256) :
    k0_pay146 (k0_pay142 h w b) (k0_pay143 h w b) (ix3 0 j r)
      = logSig (∑ d : Fin 1024, h (ix2 r d) * w (ix2 d ⟨j.val, by omega⟩) + b (ix2 0 ⟨j.val, by omega⟩)) := by
  pointwise [k0_pay146, k0_pay142, k0_pay143, k0_pay144]
  rw [zero_sub']
  exact logSig_min _

theorem pay_ga (h : FVec Ideal S256x1024 .bf16) (w : Vec Ideal S1024x1024 .bf16) (r : Fin 256) (j : Fin 1024) :
    k0_pay147 h w (ix2 r j) = (∑ d : Fin 1024, h (ix2 r d) * w (ix2 d j)) * sigm (∑ d : Fin 1024, h (ix2 r d) * w (ix2 d j)) := by
  pointwise [k0_pay147]
  rw [zero_sub']; rfl
theorem pay_ma (h : FVec Ideal S256x1024 .bf16) (w : Vec Ideal S1024x1024 .bf16) (r : Fin 256) (j : Fin 1024) :
    k0_pay178 (k0_pay177 h w) (Scalar.ofBits .f32 0x3F800000#32) (ix2 r j) = sigm (∑ d : Fin 1024, h (ix2 r d) * w (ix2 d j)) := by
  pointwise [k0_pay178, k0_pay177]
  rw [zero_sub']; rfl
theorem pay_mb (h : FVec Ideal S256x1024 .bf16) (w : Vec Ideal S1024x1024 .bf16) (r : Fin 256) (j : Fin 1024) :
    k0_pay206 h w (ix2 r j) = sigm (∑ d : Fin 1024, h (ix2 r d) * w (ix2 d j)) := by
  pointwise [k0_pay206]
  rw [zero_sub']; rfl

theorem pay_u (x : Vec Ideal S256x1024 .f32) (g : Vec Ideal S1x1024 .f32) (a b : Vec Ideal S1024x1024 .bf16) (r : Fin 32) (j : Fin 1024) :
    k0_pay9 x g a b (ix3 0 r j)
      = (∑ d : Fin 1024, hid (fun d => x (ix2 ⟨224 + r.val, by omega⟩ d)) (fun d => g (ix2 0 d)) d * a (ix2 d j))
        * sigm (∑ d : Fin 1024, hid (fun d => x (ix2 ⟨224 + r.val, by omega⟩ d)) (fun d => g (ix2 0 d)) d * b (ix2 d j)) := by
  pointwise [k0_pay9, k0_pay8]
  rw [zero_sub']
  simp only [pay_hid]
  rfl

end Cert.InpIdeal.Rows
-- ==== Proof.Hand.InpNorm.lean ====
/- The payloads that normalise the convolution over its channels and gate it, entry by entry. -/
module

public import proofs.«01_k».proof.Proof.Hand.InpConv
public import proofs.«01_k».proof.Proof.Hand.InpPay

@[expose] public section

set_option maxHeartbeats 4000000
set_option maxRecDepth 16384

noncomputable section

namespace Cert.InpIdeal.Rows

open Idealize.ShloMosaic Idealize.ShloMosaic.TcCoe Idealize.SL.Sem Cert.InpIdeal Cert.InpIdeal.Gen Cert.InpSpec

/-- The constant the sums are multiplied with. -/
def inv1024 : EReal := Ideal.ofBits .f32 0x3A800000#32
/-- Eight chunks' sums, added in order. -/
def add8 (f : ℕ → EReal) : EReal := f 0 + f 1 + f 2 + f 3 + f 4 + f 5 + f 6 + f 7
/-- The mean of a row given as eight chunks of lanes. -/
def chMean (Y : ℕ → Fin 128 → EReal) : EReal := add8 (fun c => ∑ l : Fin 128, Y c l) * inv1024
/-- The factor that normalises such a row. -/
def chRs (Y : ℕ → Fin 128 → EReal) : EReal :=
  Ideal.rsqrt (add8 (fun c => ∑ l : Fin 128, (Y c l - chMean Y) * (Y c l - chMean Y)) * inv1024 + eps)
/-- The normalised entry. -/
def chNorm (Y : ℕ → Fin 128 → EReal) (c : ℕ) (l : Fin 128) (g b : EReal) : EReal := (Y c l - chMean Y) * chRs Y * g + b

theorem pay_mu (X : ℕ → Vec Ideal S1x256x128 .f32) (r : Fin 256) :
    k0_pay260 (k0_pay258 (X 0) (X 1) (X 2) (X 3) (X 4)) (k0_pay259 (X 5)) (X 6) (X 7) (ix2 r 0) = chMean (fun c l => X c (ix3 0 r l)) := by
  pointwise [k0_pay258, k0_pay259, k0_pay260]
  rfl

theorem pay_rs (X : ℕ → Vec Ideal S1x256x128 .f32) (r : Fin 256) :
    k0_pay265 (k0_pay263 (k0_pay260 (k0_pay258 (X 0) (X 1) (X 2) (X 3) (X 4)) (k0_pay259 (X 5)) (X 6) (X 7)) (k0_pay261 (k0_pay258 (X 0) (X 1) (X 2) (X 3) (X 4)) (k0_pay259 (X 5)) (X 6) (X 7) (X 0) (X 1)) (k0_pay262 (k0_pay258 (X 0) (X 1) (X 2) (X 3) (X 4)) (k0_pay259 (X 5)) (X 6) (X 7) (X 2)) (X 3) (X 4) (X 5) (X 6)) (k0_pay264 (k0_pay260 (k0_pay258 (X 0) (X 1) (X 2) (X 3) (X 4)) (k0_pay259 (X 5)) (X 6) (X 7)) (X 7)) (ix2 r 0) = chRs (fun c l => X c (ix3 0 r l)) := by
  pointwise [k0_pay261, k0_pay262, k0_pay263, k0_pay264, k0_pay265]
  simp only [pay_mu]
  rfl

theorem pay_sgb (h : FVec Ideal S256x1024 .bf16) (w : Vec Ideal S1024x1024 .bf16) (r : Fin 256) (j : Fin 1024) :
    k0_pay233 h w (ix2 r j) = (∑ d : Fin 1024, h (ix2 r d) * w (ix2 d j)) * sigm (∑ d : Fin 1024, h (ix2 r d) * w (ix2 d j)) := by
  pointwise [k0_pay233]
  rw [zero_sub']; rfl

theorem pay_uu (x : Vec Ideal S256x1024 .f32) (g : Vec Ideal S1x1024 .f32) (a b : Vec Ideal S1024x1024 .bf16) (r : Fin 256) (j : Fin 1024) :
    k0_pay8 x g a b (ix2 r j)
      = (∑ d : Fin 1024, hid (fun d => x (ix2 r d)) (fun d => g (ix2 0 d)) d * a (ix2 d j))
        * sigm (∑ d : Fin 1024, hid (fun d => x (ix2 r d)) (fun d => g (ix2 0 d)) d * b (ix2 d j)) := by
  pointwise [k0_pay8]
  rw [zero_sub']
  simp only [pay_hid]
  rfl

theorem pay_cg_0 (s : FVec Ideal S256x1024 .f32) (X : ℕ → Vec Ideal S1x256x128 .f32) (g b : Vec Ideal S1x128 .f32) (r : Fin 256) (l : Fin 128) :
    k0_pay266 s (k0_pay260 (k0_pay258 (X 0) (X 1) (X 2) (X 3) (X 4)) (k0_pay259 (X 5)) (X 6) (X 7)) (k0_pay263 (k0_pay260 (k0_pay258 (X 0) (X 1) (X 2) (X 3) (X 4)) (k0_pay259 (X 5)) (X 6) (X 7)) (k0_pay261 (k0_pay258 (X 0) (X 1) (X 2) (X 3) (X 4)) (k0_pay259 (X 5)) (X 6) (X 7) (X 0) (X 1)) (k0_pay262 (k0_pay258 (X 0) (X 1) (X 2) (X 3) (X 4)) (k0_pay259 (X 5)) (X 6) (X 7) (X 2)) (X 3) (X 4) (X 5) (X 6)) (k0_pay264 (k0_pay260 (k0_pay258 (X 0) (X 1) (X 2) (X 3) (X 4)) (k0_pay259 (X 5)) (X 6) (X 7)) (X 7)) (X 0) g b (ix2 r l)
      = (chNorm (fun c l => X c (ix3 0 r l)) 0 l (g (ix2 0 l)) (b (ix2 0 l))
          * sigm (chNorm (fun c l => X c (ix3 0 r l)) 0 l (g (ix2 0 l)) (b (ix2 0 l))))
        * s (ix2 r ⟨0 + l.val, by omega⟩) := by
  pointwise [k0_pay266]
  simp only [pay_mu, pay_rs, zero_sub']
  rfl

theorem pay_cg_1 (s : FVec Ideal S256x1024 .f32) (X : ℕ → Vec Ideal S1x256x128 .f32) (g b : Vec Ideal S1x128 .f32) (r : Fin 256) (l : Fin 128) :
    k0_pay269 s (k0_pay267 (k0_pay260 (k0_pay258 (X 0) (X 1) (X 2) (X 3) (X 4)) (k0_pay259 (X 5)) (X 6) (X 7)) (k0_pay263 (k0_pay260 (k0_pay258 (X 0) (X 1) (X 2) (X 3) (X 4)) (k0_pay259 (X 5)) (X 6) (X 7)) (k0_pay261 (k0_pay258 (X 0) (X 1) (X 2) (X 3) (X 4)) (k0_pay259 (X 5)) (X 6) (X 7) (X 0) (X 1)) (k0_pay262 (k0_pay258 (X 0) (X 1) (X 2) (X 3) (X 4)) (k0_pay259 (X 5)) (X 6) (X 7) (X 2)) (X 3) (X 4) (X 5) (X 6)) (k0_pay264 (k0_pay260 (k0_pay258 (X 0) (X 1) (X 2) (X 3) (X 4)) (k0_pay259 (X 5)) (X 6) (X 7)) (X 7)) (X 1)) (k0_pay268 g) b (ix2 r l)
      = (chNorm (fun c l => X c (ix3 0 r l)) 1 l (g (ix2 0 l)) (b (ix2 0 l))
          * sigm (chNorm (fun c l => X c (ix3 0 r l)) 1 l (g (ix2 0 l)) (b (ix2 0 l))))
        * s (ix2 r ⟨128 + l.val, by omega⟩) := by
  pointwise [k0_pay267, k0_pay268, k0_pay269]
  simp only [pay_mu, pay_rs, zero_sub']
  rfl

theorem pay_cg_2 (s : FVec Ideal S256x1024 .f32) (X : ℕ → Vec Ideal S1x256x128 .f32) (g b : Vec Ideal S1x128 .f32) (r : Fin 256) (l : Fin 128) :
    k0_pay271 (k0_pay270 s (k0_pay260 (k0_pay258 (X 0) (X 1) (X 2) (X 3) (X 4)) (k0_pay259 (X 5)) (X 6) (X 7)) (k0_pay265 (k0_pay263 (k0_pay260 (k0_pay258 (X 0) (X 1) (X 2) (X 3) (X 4)) (k0_pay259 (X 5)) (X 6) (X 7)) (k0_pay261 (k0_pay258 (X 0) (X 1) (X 2) (X 3) (X 4)) (k0_pay259 (X 5)) (X 6) (X 7) (X 0) (X 1)) (k0_pay262 (k0_pay258 (X 0) (X 1) (X 2) (X 3) (X 4)) (k0_pay259 (X 5)) (X 6) (X 7) (X 2)) (X 3) (X 4) (X 5) (X 6)) (k0_pay264 (k0_pay260 (k0_pay258 (X 0) (X 1) (X 2) (X 3) (X 4)) (k0_pay259 (X 5)) (X 6) (X 7)) (X 7))) (X 2) g b) (ix2 r l)
      = (chNorm (fun c l => X c (ix3 0 r l)) 2 l (g (ix2 0 l)) (b (ix2 0 l))
          * sigm (chNorm (fun c l => X c (ix3 0 r l)) 2 l (g (ix2 0 l)) (b (ix2 0 l))))
        * s (ix2 r ⟨256 + l.val, by omega⟩) := by
  pointwise [k0_pay270, k0_pay271]
  simp only [pay_mu, pay_rs, zero_sub']
  rfl

theorem pay_cg_3 (s : FVec Ideal S256x1024 .f32) (X : ℕ → Vec Ideal S1x256x128 .f32) (g b : Vec Ideal S1x128 .f32) (r : Fin 256) (l : Fin 128) :
    k0_pay272 s (k0_pay260 (k0_pay258 (X 0) (X 1) (X 2) (X 3) (X 4)) (k0_pay259 (X 5)) (X 6) (X 7)) (k0_pay265 (k0_pay263 (k0_pay260 (k0_pay258 (X 0) (X 1) (X 2) (X 3) (X 4)) (k0_pay259 (X 5)) (X 6) (X 7)) (k0_pay261 (k0_pay258 (X 0) (X 1) (X 2) (X 3) (X 4)) (k0_pay259 (X 5)) (X 6) (X 7) (X 0) (X 1)) (k0_pay262 (k0_pay258 (X 0) (X 1) (X 2) (X 3) (X 4)) (k0_pay259 (X 5)) (X 6) (X 7) (X 2)) (X 3) (X 4) (X 5) (X 6)) (k0_pay264 (k0_pay260 (k0_pay258 (X 0) (X 1) (X 2) (X 3) (X 4)) (k0_pay259 (X 5)) (X 6) (X 7)) (X 7))) (X 3) g b (ix2 r l)
      = (chNorm (fun c l => X c (ix3 0 r l)) 3 l (g (ix2 0 l)) (b (ix2 0 l))
          * sigm (chNorm (fun c l => X c (ix3 0 r l)) 3 l (g (ix2 0 l)) (b (ix2 0 l))))
        * s (ix2 r ⟨384 + l.val, by omega⟩) := by
  pointwise [k0_pay272]
  simp only [pay_mu, pay_rs, zero_sub']
  rfl

theorem pay_cg_4 (s : FVec Ideal S256x1024 .f32) (X : ℕ → Vec Ideal S1x256x128 .f32) (g b : Vec Ideal S1x128 .f32) (r : Fin 256) (l : Fin 128) :
    k0_pay274 s (k0_pay273 (k0_pay260 (k0_pay258 (X 0) (X 1) (X 2) (X 3) (X 4)) (k0_pay259 (X 5)) (X 6) (X 7)) (k0_pay265 (k0_pay263 (k0_pay260 (k0_pay258 (X 0) (X 1) (X 2) (X 3) (X 4)) (k0_pay259 (X 5)) (X 6) (X 7)) (k0_pay261 (k0_pay258 (X 0) (X 1) (X 2) (X 3) (X 4)) (k0_pay259 (X 5)) (X 6) (X 7) (X 0) (X 1)) (k0_pay262 (k0_pay258 (X 0) (X 1) (X 2) (X 3) (X 4)) (k0_pay259 (X 5)) (X 6) (X 7) (X 2)) (X 3) (X 4) (X 5) (X 6)) (k0_pay264 (k0_pay260 (k0_pay258 (X 0) (X 1) (X 2) (X 3) (X 4)) (k0_pay259 (X 5)) (X 6) (X 7)) (X 7))) (X 4) g) b (ix2 r l)
      = (chNorm (fun c l => X c (ix3 0 r l)) 4 l (g (ix2 0 l)) (b (ix2 0 l))
          * sigm (chNorm (fun c l => X c (ix3 0 r l)) 4 l (g (ix2 0 l)) (b (ix2 0 l))))
        * s (ix2 r ⟨512 + l.val, by omega⟩) := by
  pointwise [k0_pay273, k0_pay274]
  simp only [pay_mu, pay_rs, zero_sub']
  rfl

theorem pay_cg_5 (s : FVec Ideal S256x1024 .f32) (X : ℕ → Vec Ideal S1x256x128 .f32) (g b : Vec Ideal S1x128 .f32) (r : Fin 256) (l : Fin 128) :
    k0_pay275 s (k0_pay260 (k0_pay258 (X 0) (X 1) (X 2) (X 3) (X 4)) (k0_pay259 (X 5)) (X 6) (X 7)) (k0_pay265 (k0_pay263 (k0_pay260 (k0_pay258 (X 0) (X 1) (X 2) (X 3) (X 4)) (k0_pay259 (X 5)) (X 6) (X 7)) (k0_pay261 (k0_pay258 (X 0) (X 1) (X 2) (X 3) (X 4)) (k0_pay259 (X 5)) (X 6) (X 7) (X 0) (X 1)) (k0_pay262 (k0_pay258 (X 0) (X 1) (X 2) (X 3) (X 4)) (k0_pay259 (X 5)) (X 6) (X 7) (X 2)) (X 3) (X 4) (X 5) (X 6)) (k0_pay264 (k0_pay260 (k0_pay258 (X 0) (X 1) (X 2) (X 3) (X 4)) (k0_pay259 (X 5)) (X 6) (X 7)) (X 7))) (X 5) g b (ix2 r l)
      = (chNorm (fun c l => X c (ix3 0 r l)) 5 l (g (ix2 0 l)) (b (ix2 0 l))
          * sigm (chNorm (fun c l => X c (ix3 0 r l)) 5 l (g (ix2 0 l)) (b (ix2 0 l))))
        * s (ix2 r ⟨640 + l.val, by omega⟩) := by
  pointwise [k0_pay275]
  simp only [pay_mu, pay_rs, zero_sub']
  rfl

theorem pay_cg_6 (s : FVec Ideal S256x1024 .f32) (X : ℕ → Vec Ideal S1x256x128 .f32) (g b : Vec Ideal S1x128 .f32) (r : Fin 256) (l : Fin 128) :
    k0_pay276 s (k0_pay260 (k0_pay258 (X 0) (X 1) (X 2) (X 3) (X 4)) (k0_pay259 (X 5)) (X 6) (X 7)) (k0_pay265 (k0_pay263 (k0_pay260 (k0_pay258 (X 0) (X 1) (X 2) (X 3) (X 4)) (k0_pay259 (X 5)) (X 6) (X 7)) (k0_pay261 (k0_pay258 (X 0) (X 1) (X 2) (X 3) (X 4)) (k0_pay259 (X 5)) (X 6) (X 7) (X 0) (X 1)) (k0_pay262 (k0_pay258 (X 0) (X 1) (X 2) (X 3) (X 4)) (k0_pay259 (X 5)) (X 6) (X 7) (X 2)) (X 3) (X 4) (X 5) (X 6)) (k0_pay264 (k0_pay260 (k0_pay258 (X 0) (X 1) (X 2) (X 3) (X 4)) (k0_pay259 (X 5)) (X 6) (X 7)) (X 7))) (X 6) g b (ix2 r l)
      = (chNorm (fun c l => X c (ix3 0 r l)) 6 l (g (ix2 0 l)) (b (ix2 0 l))
          * sigm (chNorm (fun c l => X c (ix3 0 r l)) 6 l (g (ix2 0 l)) (b (ix2 0 l))))
        * s (ix2 r ⟨768 + l.val, by omega⟩) := by
  pointwise [k0_pay276]
  simp only [pay_mu, pay_rs, zero_sub']
  rfl

theorem pay_cg_7 (s : FVec Ideal S256x1024 .f32) (X : ℕ → Vec Ideal S1x256x128 .f32) (g b : Vec Ideal S1x128 .f32) (r : Fin 256) (l : Fin 128) :
    k0_pay1 s (k0_pay277 (k0_pay260 (k0_pay258 (X 0) (X 1) (X 2) (X 3) (X 4)) (k0_pay259 (X 5)) (X 6) (X 7)) (k0_pay265 (k0_pay263 (k0_pay260 (k0_pay258 (X 0) (X 1) (X 2) (X 3) (X 4)) (k0_pay259 (X 5)) (X 6) (X 7)) (k0_pay261 (k0_pay258 (X 0) (X 1) (X 2) (X 3) (X 4)) (k0_pay259 (X 5)) (X 6) (X 7) (X 0) (X 1)) (k0_pay262 (k0_pay258 (X 0) (X 1) (X 2) (X 3) (X 4)) (k0_pay259 (X 5)) (X 6) (X 7) (X 2)) (X 3) (X 4) (X 5) (X 6)) (k0_pay264 (k0_pay260 (k0_pay258 (X 0) (X 1) (X 2) (X 3) (X 4)) (k0_pay259 (X 5)) (X 6) (X 7)) (X 7))) (X 7) g) (k0_pay278 b) (ix2 r l)
      = (chNorm (fun c l => X c (ix3 0 r l)) 7 l (g (ix2 0 l)) (b (ix2 0 l))
          * sigm (chNorm (fun c l => X c (ix3 0 r l)) 7 l (g (ix2 0 l)) (b (ix2 0 l))))
        * s (ix2 r ⟨896 + l.val, by omega⟩) := by
  pointwise [k0_pay1, k0_pay277, k0_pay278]
  simp only [pay_mu, pay_rs, zero_sub']
  rfl

end Cert.InpIdeal.Rows
-- ==== Proof.Hand.InpHalo.lean ====
/- Piecewise contents of the convolution's two buffers: the halo buffer, each of whose loads reads the previous rows and the
   tile's rows as one array, and the buffer of the convolved tile. -/
module

public import proofs.«01_k».proof.Proof.Hand.InpBlocks
public import proofs.«01_k».proof.Proof.Hand.InpNorm

@[expose] public section

set_option maxHeartbeats 2000000
set_option maxRecDepth 16384

noncomputable section

namespace Cert.InpIdeal.Rows

open Idealize.ShloMosaic Idealize.ShloMosaic.TcCoe Idealize.SL.Sem Cert.InpIdeal Cert.InpIdeal.Gen Cert.InpSpec

/-- Where `Q` holds, each piece of the list stores a block of `G`. -/
def Blocks {s : Shape} {e : EltTy} (Q : s.Idx → Prop) (G : s.Idx → Elt Ideal e) (L : List (View.Piece (Elt Ideal) s e)) : Prop :=
  ∀ p ∈ L, ∀ x, Q (p.1.emb x) → p.2 x = G (p.1.emb x)

section Pieces
variable {s : Shape} {e : EltTy} {Q : s.Idx → Prop} {G : s.Idx → Elt Ideal e}

theorem blocks_nil : Blocks Q G ([] : List (View.Piece (Elt Ideal) s e)) := fun _ h => absurd h List.not_mem_nil
theorem blocks_cons {r : Rect s} {w : r.shape.Idx → Elt Ideal e} {L : List (View.Piece (Elt Ideal) s e)}
    (h : ∀ x, Q (r.emb x) → w x = G (r.emb x)) (hL : Blocks Q G L) : Blocks Q G (⟨r, w⟩ :: L) := by
  intro p hp
  rcases List.mem_cons.mp hp with rfl | hp
  · exact h
  · exact hL p hp
theorem blocks_mono {Q' : s.Idx → Prop} {L : List (View.Piece (Elt Ideal) s e)} (h : ∀ y, Q' y → Q y) (hL : Blocks Q G L) : Blocks Q' G L :=
  fun p hp x hx => hL p hp x (h _ hx)

theorem reads_blocks {sg : RefSig} {κ : Kind} {sp : Space} (v : View sg κ sp s e) (f : v.ty.Contents (Elt Ideal)) (y : s.Idx) (hy : Q y)
    (hf : v.read (Elt Ideal) f y = G y) : ∀ L : List (View.Piece (Elt Ideal) s e), Blocks Q G L → v.read (Elt Ideal) (v.writes (Elt Ideal) f L) y = G y
  | [], _ => by rw [View.writes_nil]; exact hf
  | p :: L, h => by
    by_cases hm : y ∈ p.1.set
    · obtain ⟨r, w⟩ := p
      obtain ⟨x, rfl⟩ : ∃ x, r.emb x = y := r.exists_idx_of_mem hm
      rw [View.read_writes_cons_emb]
      exact h _ List.mem_cons_self x hy
    · have hm' : y ∉ Finset.univ.map p.1.emb := by rwa [Rect.map_emb_univ]
      rw [View.writes_cons, View.read_slice_write_of_not_mem p.1 _ _ _ hm']
      exact reads_blocks v f y hy hf L fun q hq => h q (List.mem_cons_of_mem _ hq)

theorem canon_blocks (y : s.Idx) (hy : Q y) : ∀ L : List (View.Piece (Elt Ideal) s e), Blocks Q G L → (∃ p ∈ L, y ∈ p.1.set) →
    View.canon L y = G y
  | [], _, h => by obtain ⟨_, hm, _⟩ := h; exact absurd hm List.not_mem_nil
  | p :: L, h, hc => by
    by_cases hm : y ∈ p.1.set
    · obtain ⟨r, w⟩ := p
      obtain ⟨x, rfl⟩ : ∃ x, r.emb x = y := r.exists_idx_of_mem hm
      rw [View.canon_cons_emb]
      exact h _ List.mem_cons_self x hy
    · rw [View.canon_cons_of_not_mem p L hm]
      refine canon_blocks y hy L (fun q hq => h q (List.mem_cons_of_mem _ hq)) ?_
      obtain ⟨q, hq, hyq⟩ := hc
      rcases List.mem_cons.mp hq with rfl | hq
      · exact absurd hyq hm
      · exact ⟨q, hq, hyq⟩

theorem cov_here {y : s.Idx} {r : Rect s} {w : r.shape.Idx → Elt Ideal e} {L : List (View.Piece (Elt Ideal) s e)} (h : y ∈ r.set) :
    ∃ p ∈ (⟨r, w⟩ :: L : List (View.Piece (Elt Ideal) s e)), y ∈ p.1.set := ⟨_, List.mem_cons_self, h⟩
theorem cov_there {y : s.Idx} {q : View.Piece (Elt Ideal) s e} {L : List (View.Piece (Elt Ideal) s e)} :
    (∃ p ∈ L, y ∈ p.1.set) → ∃ p ∈ q :: L, y ∈ p.1.set := fun ⟨p, hp, h⟩ => ⟨p, List.mem_cons_of_mem _ hp, h⟩
end Pieces

/-- An array of eight lane chunks, read at numbers. -/
def at3 {n : ℕ} [NeZero n] (G : (⟨3, ![8, n, 128]⟩ : Shape).Idx → EReal) (c r l : ℕ) : EReal :=
  G (ix3 (Fin.ofNat 8 c) (Fin.ofNat n r) (Fin.ofNat 128 l))
theorem at3_eq {n : ℕ} [NeZero n] (G : (⟨3, ![8, n, 128]⟩ : Shape).Idx → EReal) (y : (⟨3, ![8, n, 128]⟩ : Shape).Idx) (c r l : ℕ)
    (h0 : (y 0).val = c) (h1 : (y 1).val = r) (h2 : (y 2).val = l) : G y = at3 G c r l := by
  refine congrArg G (funext fun a => Fin.ext ?_)
  have b0 : (y 0).val < 8 := (y 0).isLt
  have b1 : (y 1).val < n := (y 1).isLt
  have b2 : (y 2).val < 128 := (y 2).isLt
  match a with
  | ⟨0, _⟩ => show (y 0).val = c % 8; omega
  | ⟨1, _⟩ => show (y 1).val = r % n; rw [← h1, Nat.mod_eq_of_lt b1]
  | ⟨2, _⟩ => show (y 2).val = l % 128; omega

/-- The rows the tile's convolution reads: the rows carried in front, then the tile's. -/
def ext (P : Vec Ideal S8x288x128 .f32) (U : FVec Ideal S256x1024 .f32) : Vec Ideal S8x288x128 .f32 :=
  fun y => if (y 1).val < 32 then P y
    else U (ix2 (Fin.ofNat 256 ((y 1).val - 32)) (Fin.ofNat 1024 (128 * (y 0).val + (y 2).val)))
theorem ext_hi (P : Vec Ideal S8x288x128 .f32) (U : FVec Ideal S256x1024 .f32) (y : S8x288x128.Idx) (r : Fin 256) (j : Fin 1024)
    (h1 : (y 1).val = 32 + r.val) (hj : j.val = 128 * (y 0).val + (y 2).val) : ext P U y = U (ix2 r j) := by
  unfold ext
  rw [if_neg (by omega)]
  congr 2
  · exact Fin.ext (by show ((y 1).val - 32) % 256 = r.val; omega)
  · exact Fin.ext (by show (128 * (y 0).val + (y 2).val) % 1024 = j.val; omega)
theorem ext_lo (P : Vec Ideal S8x288x128 .f32) (U : FVec Ideal S256x1024 .f32) (y : S8x288x128.Idx) (h : (y 1).val < 32) :
    ext P U y = P y := if_pos h

/-- A sequence's state as the rows carried in front of its first tile. -/
def fresh (x : Vec Ideal S1x32x1024 .f32) : Vec Ideal S8x288x128 .f32 :=
  fun y => x (ix3 0 (Fin.ofNat 32 (y 1).val) (Fin.ofNat 1024 (128 * (y 0).val + (y 2).val)))

/-- Rows of one lane chunk, as a load of 128 of them finds them. -/
def ev (G : Vec Ideal S8x288x128 .f32) (c r : ℕ) : Vec Ideal S1x128x128 .f32 := fun i => at3 G c (r + (i 1).val) (i 2).val
def ev32 (G : Vec Ideal S8x288x128 .f32) (c r : ℕ) : Vec Ideal S1x32x128 .f32 := fun i => at3 G c (r + (i 1).val) (i 2).val
def wv (x : Vec Ideal S8x32x128 .f32) (c j : ℕ) : Vec Ideal S1x1x128 .f32 := fun i => at3 x c j (i 2).val
def bv (x : Vec Ideal S8x1x128 .f32) (c : ℕ) : Vec Ideal S1x1x128 .f32 := fun i => at3 x c 0 (i 2).val
def xv (V : Vec Ideal S8x256x128 .f32) (c : ℕ) : Vec Ideal S1x256x128 .f32 := fun i => at3 V c (i 1).val (i 2).val
def gv (x : Vec Ideal S1x1024 .f32) (o : ℕ) : Vec Ideal S1x128 .f32 := fun i => x (ix2 0 (Fin.ofNat 1024 (o + (i 1).val)))

theorem wv_ld (x : Vec Ideal S8x32x128 .f32) (c j : ℕ) (inb) :
    View.ld (Val := Elt Ideal) x (Rect.unit (s := S8x32x128) ![c, j, 0] S1x1x128.size inb) = wv x c j := by
  funext i
  have h0 : (i 0).val < 1 := (i 0).isLt
  have h1 : (i 1).val < 1 := (i 1).isLt
  exact at3_eq x _ _ _ _ (by show c + 1 * (i 0).val = c; omega) (by show j + 1 * (i 1).val = j; omega) (by show 0 + 1 * (i 2).val = _; omega)
theorem bv_ld (x : Vec Ideal S8x1x128 .f32) (c : ℕ) (inb) :
    View.ld (Val := Elt Ideal) x (Rect.unit (s := S8x1x128) ![c, 0, 0] S1x1x128.size inb) = bv x c := by
  funext i
  have h0 : (i 0).val < 1 := (i 0).isLt
  have h1 : (i 1).val < 1 := (i 1).isLt
  exact at3_eq x _ _ _ _ (by show c + 1 * (i 0).val = c; omega) (by show 0 + 1 * (i 1).val = 0; omega) (by show 0 + 1 * (i 2).val = _; omega)
theorem gv_ld (x : Vec Ideal S1x1024 .f32) (o : ℕ) (inb) :
    View.ld (Val := Elt Ideal) x (Rect.unit (s := S1x1024) ![0, o] S1x128.size inb) = gv x o := by
  funext i
  have h0 : (i 0).val < 1 := (i 0).isLt
  have h1 : (i 1).val < 128 := (i 1).isLt
  have hb : o + 128 ≤ 1024 := inb 1
  refine congrArg x (funext fun a => Fin.ext ?_)
  match a with
  | ⟨0, _⟩ => show 0 + 1 * (i 0).val = 0; omega
  | ⟨1, _⟩ => show o + 1 * (i 1).val = (o + (i 1).val) % 1024; omega

section Loads
variable (v : View sig .tc .vmem S8x288x128 .f32) (G : Vec Ideal S8x288x128 .f32) (L : List (View.Piece (Elt Ideal) S8x288x128 .f32))

theorem ev_over (f : v.ty.Contents (Elt Ideal)) (k : ℕ) (hL : Blocks (fun y => k ≤ (y 0).val) G L)
    (hf : ∀ y : S8x288x128.Idx, v.read (Elt Ideal) f y = G y ∨ ∃ p ∈ L, y ∈ p.1.set) (r : ℕ) (inb) :
    View.readAt (Elt Ideal) v (Rect.unit (s := S8x288x128) ![k, r, 0] S1x128x128.size inb).toLoadRect (v.writes (Elt Ideal) f L) = ev G k r := by
  funext i
  have h0 : (i 0).val < 1 := (i 0).isLt
  refine Eq.trans ?_ (at3_eq G ((Rect.unit (s := S8x288x128) ![k, r, 0] S1x128x128.size inb).toLoadRect.idx i) _ _ _
    (by show k + 1 * (i 0).val = k; omega) (by show r + 1 * (i 1).val = _; omega) (by show 0 + 1 * (i 2).val = _; omega))
  have hk : k ≤ (((Rect.unit (s := S8x288x128) ![k, r, 0] S1x128x128.size inb).toLoadRect.idx i) 0).val := by
    show k ≤ k + 1 * (i 0).val; omega
  rcases hf ((Rect.unit (s := S8x288x128) ![k, r, 0] S1x128x128.size inb).toLoadRect.idx i) with h | h
  · exact reads_blocks v f _ hk h L hL
  · exact (View.read_writes_apply_eq_canon v f _ L h).trans (canon_blocks _ hk L hL h)

theorem ev_cov (k m : ℕ) (hL : Blocks (fun y => k ≤ (y 0).val) G L)
    (hc : ∀ y : S8x288x128.Idx, (y 0).val = k → m ≤ (y 1).val → ∃ p ∈ L, y ∈ p.1.set) (r : ℕ) (hr : m ≤ r) (inb) :
    v.readCov L (Rect.unit (s := S8x288x128) ![k, r, 0] S1x128x128.size inb).toLoadRect = ev G k r := by
  rw [View.readCov_eq_canon']
  funext i
  have h0 : (i 0).val < 1 := (i 0).isLt
  refine Eq.trans ?_ (at3_eq G ((Rect.unit (s := S8x288x128) ![k, r, 0] S1x128x128.size inb).toLoadRect.idx i) _ _ _
    (by show k + 1 * (i 0).val = k; omega) (by show r + 1 * (i 1).val = _; omega) (by show 0 + 1 * (i 2).val = _; omega))
  refine canon_blocks (Q := fun y => k ≤ (y 0).val) _ ?_ L hL (hc _ ?_ ?_)
  · show k ≤ k + 1 * (i 0).val; omega
  · show k + 1 * (i 0).val = k; omega
  · show m ≤ r + 1 * (i 1).val; omega

theorem ev32_cov (k m : ℕ) (hL : Blocks (fun y => k ≤ (y 0).val) G L)
    (hc : ∀ y : S8x288x128.Idx, (y 0).val = k → m ≤ (y 1).val → ∃ p ∈ L, y ∈ p.1.set) (r : ℕ) (hr : m ≤ r) (inb) :
    v.readCov L (Rect.unit (s := S8x288x128) ![k, r, 0] S1x32x128.size inb).toLoadRect = ev32 G k r := by
  rw [View.readCov_eq_canon']
  funext i
  have h0 : (i 0).val < 1 := (i 0).isLt
  refine Eq.trans ?_ (at3_eq G ((Rect.unit (s := S8x288x128) ![k, r, 0] S1x32x128.size inb).toLoadRect.idx i) _ _ _
    (by show k + 1 * (i 0).val = k; omega) (by show r + 1 * (i 1).val = _; omega) (by show 0 + 1 * (i 2).val = _; omega))
  refine canon_blocks (Q := fun y => k ≤ (y 0).val) _ ?_ L hL (hc _ ?_ ?_)
  · show k ≤ k + 1 * (i 0).val; omega
  · show k + 1 * (i 0).val = k; omega
  · show m ≤ r + 1 * (i 1).val; omega

/-- A chunk's rows moved to the front touch no later chunk. -/
theorem blocks_move (k : ℕ) (inb) (w) (hL : Blocks (fun y => k ≤ (y 0).val) G L) :
    Blocks (fun y => k + 1 ≤ (y 0).val) G (⟨Rect.unit (s := S8x288x128) ![k, 0, 0] S1x32x128.size inb, w⟩ :: L) := by
  refine blocks_cons (fun x hx => ?_) (blocks_mono (fun y hy => Nat.le_of_succ_le hy) hL)
  have h0 : (x 0).val < 1 := (x 0).isLt
  have : k + 1 ≤ k + 1 * (x 0).val := hx
  omega

/-- After the moves of the chunks below `k`, their first 32 rows are the rows 256 on. -/
theorem moved_step (k : ℕ) (inb) (w : Vec Ideal S1x32x128 .f32) (hw : w = ev32 G k 256)
    (hL : ∀ y : S8x288x128.Idx, (y 0).val < k → (y 1).val < 32 → View.canon L y = at3 G (y 0).val (256 + (y 1).val) (y 2).val)
    (y : S8x288x128.Idx) (h0 : (y 0).val < k + 1) (h1 : (y 1).val < 32) :
    View.canon (⟨Rect.unit (s := S8x288x128) ![k, 0, 0] S1x32x128.size inb, w⟩ :: L) y = at3 G (y 0).val (256 + (y 1).val) (y 2).val := by
  by_cases hk : (y 0).val = k
  · have e : (Rect.unit (s := S8x288x128) ![k, 0, 0] S1x32x128.size inb).emb (ix3 0 ⟨(y 1).val, h1⟩ (y 2)) = y := by
      funext a
      refine Fin.ext ?_
      match a with
      | ⟨0, _⟩ => show k + 1 * 0 = (y 0).val; omega
      | ⟨1, _⟩ => show 0 + 1 * (y 1).val = (y 1).val; omega
      | ⟨2, _⟩ => show 0 + 1 * (y 2).val = (y 2).val; omega
    refine (congrArg (View.canon _) e.symm).trans ((View.canon_cons_emb _ _ _ _).trans ?_)
    rw [hw, hk]
    rfl
  · rw [View.canon_cons_of_not_mem]
    · exact hL y (by omega) h1
    · intro hm
      have hm' : y ∈ (Rect.unit (s := S8x288x128) ![k, 0, 0] S1x32x128.size inb).set := hm
      rw [Rect.mem_set_unit] at hm'
      have h2 : k ≤ (y 0).val := (hm' 0).1
      omega
end Loads

theorem mem_chunk {n o d : ℕ} (c : ℕ) (inb) (y : (⟨3, ![8, n, 128]⟩ : Shape).Idx) (h0 : (y 0).val = c) (h1 : o ≤ (y 1).val) (h2 : (y 1).val < o + d) :
    y ∈ (Rect.unit (s := ⟨3, ![8, n, 128]⟩) ![c, o, 0] ![1, d, 128] inb).set := by
  rw [Rect.mem_set_unit]
  intro a
  have b2 : (y 2).val < 128 := (y 2).isLt
  match a with
  | ⟨0, _⟩ => exact ⟨by show c ≤ (y 0).val; omega, by show (y 0).val < c + 1; omega⟩
  | ⟨1, _⟩ => exact ⟨h1, h2⟩
  | ⟨2, _⟩ => exact ⟨Nat.zero_le _, by show (y 2).val < 0 + 128; omega⟩

theorem ix3_zero {n : ℕ} (x : (⟨3, ![1, n, 128]⟩ : Shape).Idx) : x = ix3 0 (x 1) (x 2) := by
  funext a
  match a with
  | ⟨0, _⟩ => exact Fin.ext (by have b0 : (x 0).val < 1 := (x 0).isLt; show (x 0).val = 0; omega)
  | ⟨1, _⟩ => rfl
  | ⟨2, _⟩ => rfl

theorem cut_u_0 (U : FVec Ideal S256x1024 .f32) (hs hc) (a : Fin 256) (l : Fin 128) :
    shapeCast S1x256x128 (extractStridedSlice S256x128 ![0, 0] U hs) hc (ix3 0 a l) = U (ix2 a ⟨0 + l.val, by omega⟩) := by
  pointwise []

theorem cut_s_0 (x8 : Vec Ideal S1x32x1024 .f32) (inb' h1 h2) (a : Fin 32) (l : Fin 128) :
    shapeCast S1x32x128 (shapeCast S32x128 (View.ld (Val := Elt Ideal) x8 (Rect.unit (s := S1x32x1024) ![0, 0, 0] S1x32x128.size inb')) h1) h2 (ix3 0 a l)
      = x8 (ix3 0 a ⟨0 + l.val, by omega⟩) := by
  pointwise []

theorem blk_u_0 (P : Vec Ideal S8x288x128 .f32) (U : FVec Ideal S256x1024 .f32) (inb hs hc) (x : S1x256x128.Idx) :
    shapeCast S1x256x128 (extractStridedSlice S256x128 ![0, 0] U hs) hc x
      = ext P U ((Rect.unit (s := S8x288x128) ![0, 32, 0] S1x256x128.size inb).emb x) := by
  have b0 : (x 0).val < 1 := (x 0).isLt
  refine (congrArg _ (ix3_zero x)).trans ((cut_u_0 U hs hc (x 1) (x 2)).trans (ext_hi P U _ (x 1) _ ?_ ?_).symm)
  · show 32 + 1 * (x 1).val = 32 + (x 1).val; omega
  · show 0 + (x 2).val = 128 * (0 + 1 * (x 0).val) + (0 + 1 * (x 2).val); omega

theorem blk_s_0 (x8 : Vec Ideal S1x32x1024 .f32) (U : FVec Ideal S256x1024 .f32) (inb inb' h1 h2) (x : S1x32x128.Idx) :
    shapeCast S1x32x128 (shapeCast S32x128 (View.ld (Val := Elt Ideal) x8 (Rect.unit (s := S1x32x1024) ![0, 0, 0] S1x32x128.size inb')) h1) h2 x
      = ext (fresh x8) U ((Rect.unit (s := S8x288x128) ![0, 0, 0] S1x32x128.size inb).emb x) := by
  have b0 : (x 0).val < 1 := (x 0).isLt
  have b1 : (x 1).val < 32 := (x 1).isLt
  have b2 : (x 2).val < 128 := (x 2).isLt
  refine (congrArg _ (ix3_zero x)).trans ((cut_s_0 x8 inb' h1 h2 (x 1) (x 2)).trans ?_)
  rw [ext_lo _ _ _ (by show 0 + 1 * (x 1).val < 32; omega)]
  unfold fresh
  congr 2
  · exact Fin.ext (by show (x 1).val = (0 + 1 * (x 1).val) % 32; omega)
  · exact Fin.ext (by show 0 + (x 2).val = (128 * (0 + 1 * (x 0).val) + (0 + 1 * (x 2).val)) % 1024; omega)

theorem cut_u_1 (U : FVec Ideal S256x1024 .f32) (hs hc) (a : Fin 256) (l : Fin 128) :
    shapeCast S1x256x128 (extractStridedSlice S256x128 ![0, 128] U hs) hc (ix3 0 a l) = U (ix2 a ⟨128 + l.val, by omega⟩) := by
  pointwise []

theorem cut_s_1 (x8 : Vec Ideal S1x32x1024 .f32) (inb' h1 h2) (a : Fin 32) (l : Fin 128) :
    shapeCast S1x32x128 (shapeCast S32x128 (View.ld (Val := Elt Ideal) x8 (Rect.unit (s := S1x32x1024) ![0, 0, 128] S1x32x128.size inb')) h1) h2 (ix3 0 a l)
      = x8 (ix3 0 a ⟨128 + l.val, by omega⟩) := by
  pointwise []

theorem blk_u_1 (P : Vec Ideal S8x288x128 .f32) (U : FVec Ideal S256x1024 .f32) (inb hs hc) (x : S1x256x128.Idx) :
    shapeCast S1x256x128 (extractStridedSlice S256x128 ![0, 128] U hs) hc x
      = ext P U ((Rect.unit (s := S8x288x128) ![1, 32, 0] S1x256x128.size inb).emb x) := by
  have b0 : (x 0).val < 1 := (x 0).isLt
  refine (congrArg _ (ix3_zero x)).trans ((cut_u_1 U hs hc (x 1) (x 2)).trans (ext_hi P U _ (x 1) _ ?_ ?_).symm)
  · show 32 + 1 * (x 1).val = 32 + (x 1).val; omega
  · show 128 + (x 2).val = 128 * (1 + 1 * (x 0).val) + (0 + 1 * (x 2).val); omega

theorem blk_s_1 (x8 : Vec Ideal S1x32x1024 .f32) (U : FVec Ideal S256x1024 .f32) (inb inb' h1 h2) (x : S1x32x128.Idx) :
    shapeCast S1x32x128 (shapeCast S32x128 (View.ld (Val := Elt Ideal) x8 (Rect.unit (s := S1x32x1024) ![0, 0, 128] S1x32x128.size inb')) h1) h2 x
      = ext (fresh x8) U ((Rect.unit (s := S8x288x128) ![1, 0, 0] S1x32x128.size inb).emb x) := by
  have b0 : (x 0).val < 1 := (x 0).isLt
  have b1 : (x 1).val < 32 := (x 1).isLt
  have b2 : (x 2).val < 128 := (x 2).isLt
  refine (congrArg _ (ix3_zero x)).trans ((cut_s_1 x8 inb' h1 h2 (x 1) (x 2)).trans ?_)
  rw [ext_lo _ _ _ (by show 0 + 1 * (x 1).val < 32; omega)]
  unfold fresh
  congr 2
  · exact Fin.ext (by show (x 1).val = (0 + 1 * (x 1).val) % 32; omega)
  · exact Fin.ext (by show 128 + (x 2).val = (128 * (1 + 1 * (x 0).val) + (0 + 1 * (x 2).val)) % 1024; omega)

theorem cut_u_2 (U : FVec Ideal S256x1024 .f32) (hs hc) (a : Fin 256) (l : Fin 128) :
    shapeCast S1x256x128 (extractStridedSlice S256x128 ![0, 256] U hs) hc (ix3 0 a l) = U (ix2 a ⟨256 + l.val, by omega⟩) := by
  pointwise []

theorem cut_s_2 (x8 : Vec Ideal S1x32x1024 .f32) (inb' h1 h2) (a : Fin 32) (l : Fin 128) :
    shapeCast S1x32x128 (shapeCast S32x128 (View.ld (Val := Elt Ideal) x8 (Rect.unit (s := S1x32x1024) ![0, 0, 256] S1x32x128.size inb')) h1) h2 (ix3 0 a l)
      = x8 (ix3 0 a ⟨256 + l.val, by omega⟩) := by
  pointwise []

theorem blk_u_2 (P : Vec Ideal S8x288x128 .f32) (U : FVec Ideal S256x1024 .f32) (inb hs hc) (x : S1x256x128.Idx) :
    shapeCast S1x256x128 (extractStridedSlice S256x128 ![0, 256] U hs) hc x
      = ext P U ((Rect.unit (s := S8x288x128) ![2, 32, 0] S1x256x128.size inb).emb x) := by
  have b0 : (x 0).val < 1 := (x 0).isLt
  refine (congrArg _ (ix3_zero x)).trans ((cut_u_2 U hs hc (x 1) (x 2)).trans (ext_hi P U _ (x 1) _ ?_ ?_).symm)
  · show 32 + 1 * (x 1).val = 32 + (x 1).val; omega
  · show 256 + (x 2).val = 128 * (2 + 1 * (x 0).val) + (0 + 1 * (x 2).val); omega

theorem blk_s_2 (x8 : Vec Ideal S1x32x1024 .f32) (U : FVec Ideal S256x1024 .f32) (inb inb' h1 h2) (x : S1x32x128.Idx) :
    shapeCast S1x32x128 (shapeCast S32x128 (View.ld (Val := Elt Ideal) x8 (Rect.unit (s := S1x32x1024) ![0, 0, 256] S1x32x128.size inb')) h1) h2 x
      = ext (fresh x8) U ((Rect.unit (s := S8x288x128) ![2, 0, 0] S1x32x128.size inb).emb x) := by
  have b0 : (x 0).val < 1 := (x 0).isLt
  have b1 : (x 1).val < 32 := (x 1).isLt
  have b2 : (x 2).val < 128 := (x 2).isLt
  refine (congrArg _ (ix3_zero x)).trans ((cut_s_2 x8 inb' h1 h2 (x 1) (x 2)).trans ?_)
  rw [ext_lo _ _ _ (by show 0 + 1 * (x 1).val < 32; omega)]
  unfold fresh
  congr 2
  · exact Fin.ext (by show (x 1).val = (0 + 1 * (x 1).val) % 32; omega)
  · exact Fin.ext (by show 256 + (x 2).val = (128 * (2 + 1 * (x 0).val) + (0 + 1 * (x 2).val)) % 1024; omega)

theorem cut_u_3 (U : FVec Ideal S256x1024 .f32) (hs hc) (a : Fin 256) (l : Fin 128) :
    shapeCast S1x256x128 (extractStridedSlice S256x128 ![0, 384] U hs) hc (ix3 0 a l) = U (ix2 a ⟨384 + l.val, by omega⟩) := by
  pointwise []

theorem cut_s_3 (x8 : Vec Ideal S1x32x1024 .f32) (inb' h1 h2) (a : Fin 32) (l : Fin 128) :
    shapeCast S1x32x128 (shapeCast S32x128 (View.ld (Val := Elt Ideal) x8 (Rect.unit (s := S1x32x1024) ![0, 0, 384] S1x32x128.size inb')) h1) h2 (ix3 0 a l)
      = x8 (ix3 0 a ⟨384 + l.val, by omega⟩) := by
  pointwise []

theorem blk_u_3 (P : Vec Ideal S8x288x128 .f32) (U : FVec Ideal S256x1024 .f32) (inb hs hc) (x : S1x256x128.Idx) :
    shapeCast S1x256x128 (extractStridedSlice S256x128 ![0, 384] U hs) hc x
      = ext P U ((Rect.unit (s := S8x288x128) ![3, 32, 0] S1x256x128.size inb).emb x) := by
  have b0 : (x 0).val < 1 := (x 0).isLt
  refine (congrArg _ (ix3_zero x)).trans ((cut_u_3 U hs hc (x 1) (x 2)).trans (ext_hi P U _ (x 1) _ ?_ ?_).symm)
  · show 32 + 1 * (x 1).val = 32 + (x 1).val; omega
  · show 384 + (x 2).val = 128 * (3 + 1 * (x 0).val) + (0 + 1 * (x 2).val); omega

theorem blk_s_3 (x8 : Vec Ideal S1x32x1024 .f32) (U : FVec Ideal S256x1024 .f32) (inb inb' h1 h2) (x : S1x32x128.Idx) :
    shapeCast S1x32x128 (shapeCast S32x128 (View.ld (Val := Elt Ideal) x8 (Rect.unit (s := S1x32x1024) ![0, 0, 384] S1x32x128.size inb')) h1) h2 x
      = ext (fresh x8) U ((Rect.unit (s := S8x288x128) ![3, 0, 0] S1x32x128.size inb).emb x) := by
  have b0 : (x 0).val < 1 := (x 0).isLt
  have b1 : (x 1).val < 32 := (x 1).isLt
  have b2 : (x 2).val < 128 := (x 2).isLt
  refine (congrArg _ (ix3_zero x)).trans ((cut_s_3 x8 inb' h1 h2 (x 1) (x 2)).trans ?_)
  rw [ext_lo _ _ _ (by show 0 + 1 * (x 1).val < 32; omega)]
  unfold fresh
  congr 2
  · exact Fin.ext (by show (x 1).val = (0 + 1 * (x 1).val) % 32; omega)
  · exact Fin.ext (by show 384 + (x 2).val = (128 * (3 + 1 * (x 0).val) + (0 + 1 * (x 2).val)) % 1024; omega)

theorem cut_u_4 (U : FVec Ideal S256x1024 .f32) (hs hc) (a : Fin 256) (l : Fin 128) :
    shapeCast S1x256x128 (extractStridedSlice S256x128 ![0, 512] U hs) hc (ix3 0 a l) = U (ix2 a ⟨512 + l.val, by omega⟩) := by
  pointwise []

theorem cut_s_4 (x8 : Vec Ideal S1x32x1024 .f32) (inb' h1 h2) (a : Fin 32) (l : Fin 128) :
    shapeCast S1x32x128 (shapeCast S32x128 (View.ld (Val := Elt Ideal) x8 (Rect.unit (s := S1x32x1024) ![0, 0, 512] S1x32x128.size inb')) h1) h2 (ix3 0 a l)
      = x8 (ix3 0 a ⟨512 + l.val, by omega⟩) := by
  pointwise []

theorem blk_u_4 (P : Vec Ideal S8x288x128 .f32) (U : FVec Ideal S256x1024 .f32) (inb hs hc) (x : S1x256x128.Idx) :
    shapeCast S1x256x128 (extractStridedSlice S256x128 ![0, 512] U hs) hc x
      = ext P U ((Rect.unit (s := S8x288x128) ![4, 32, 0] S1x256x128.size inb).emb x) := by
  have b0 : (x 0).val < 1 := (x 0).isLt
  refine (congrArg _ (ix3_zero x)).trans ((cut_u_4 U hs hc (x 1) (x 2)).trans (ext_hi P U _ (x 1) _ ?_ ?_).symm)
  · show 32 + 1 * (x 1).val = 32 + (x 1).val; omega
  · show 512 + (x 2).val = 128 * (4 + 1 * (x 0).val) + (0 + 1 * (x 2).val); omega

theorem blk_s_4 (x8 : Vec Ideal S1x32x1024 .f32) (U : FVec Ideal S256x1024 .f32) (inb inb' h1 h2) (x : S1x32x128.Idx) :
    shapeCast S1x32x128 (shapeCast S32x128 (View.ld (Val := Elt Ideal) x8 (Rect.unit (s := S1x32x1024) ![0, 0, 512] S1x32x128.size inb')) h1) h2 x
      = ext (fresh x8) U ((Rect.unit (s := S8x288x128) ![4, 0, 0] S1x32x128.size inb).emb x) := by
  have b0 : (x 0).val < 1 := (x 0).isLt
  have b1 : (x 1).val < 32 := (x 1).isLt
  have b2 : (x 2).val < 128 := (x 2).isLt
  refine (congrArg _ (ix3_zero x)).trans ((cut_s_4 x8 inb' h1 h2 (x 1) (x 2)).trans ?_)
  rw [ext_lo _ _ _ (by show 0 + 1 * (x 1).val < 32; omega)]
  unfold fresh
  congr 2
  · exact Fin.ext (by show (x 1).val = (0 + 1 * (x 1).val) % 32; omega)
  · exact Fin.ext (by show 512 + (x 2).val = (128 * (4 + 1 * (x 0).val) + (0 + 1 * (x 2).val)) % 1024; omega)

theorem cut_u_5 (U : FVec Ideal S256x1024 .f32) (hs hc) (a : Fin 256) (l : Fin 128) :
    shapeCast S1x256x128 (extractStridedSlice S256x128 ![0, 640] U hs) hc (ix3 0 a l) = U (ix2 a ⟨640 + l.val, by omega⟩) := by
  pointwise []

theorem cut_s_5 (x8 : Vec Ideal S1x32x1024 .f32) (inb' h1 h2) (a : Fin 32) (l : Fin 128) :
    shapeCast S1x32x128 (shapeCast S32x128 (View.ld (Val := Elt Ideal) x8 (Rect.unit (s := S1x32x1024) ![0, 0, 640] S1x32x128.size inb')) h1) h2 (ix3 0 a l)
      = x8 (ix3 0 a ⟨640 + l.val, by omega⟩) := by
  pointwise []

theorem blk_u_5 (P : Vec Ideal S8x288x128 .f32) (U : FVec Ideal S256x1024 .f32) (inb hs hc) (x : S1x256x128.Idx) :
    shapeCast S1x256x128 (extractStridedSlice S256x128 ![0, 640] U hs) hc x
      = ext P U ((Rect.unit (s := S8x288x128) ![5, 32, 0] S1x256x128.size inb).emb x) := by
  have b0 : (x 0).val < 1 := (x 0).isLt
  refine (congrArg _ (ix3_zero x)).trans ((cut_u_5 U hs hc (x 1) (x 2)).trans (ext_hi P U _ (x 1) _ ?_ ?_).symm)
  · show 32 + 1 * (x 1).val = 32 + (x 1).val; omega
  · show 640 + (x 2).val = 128 * (5 + 1 * (x 0).val) + (0 + 1 * (x 2).val); omega

theorem blk_s_5 (x8 : Vec Ideal S1x32x1024 .f32) (U : FVec Ideal S256x1024 .f32) (inb inb' h1 h2) (x : S1x32x128.Idx) :
    shapeCast S1x32x128 (shapeCast S32x128 (View.ld (Val := Elt Ideal) x8 (Rect.unit (s := S1x32x1024) ![0, 0, 640] S1x32x128.size inb')) h1) h2 x
      = ext (fresh x8) U ((Rect.unit (s := S8x288x128) ![5, 0, 0] S1x32x128.size inb).emb x) := by
  have b0 : (x 0).val < 1 := (x 0).isLt
  have b1 : (x 1).val < 32 := (x 1).isLt
  have b2 : (x 2).val < 128 := (x 2).isLt
  refine (congrArg _ (ix3_zero x)).trans ((cut_s_5 x8 inb' h1 h2 (x 1) (x 2)).trans ?_)
  rw [ext_lo _ _ _ (by show 0 + 1 * (x 1).val < 32; omega)]
  unfold fresh
  congr 2
  · exact Fin.ext (by show (x 1).val = (0 + 1 * (x 1).val) % 32; omega)
  · exact Fin.ext (by show 640 + (x 2).val = (128 * (5 + 1 * (x 0).val) + (0 + 1 * (x 2).val)) % 1024; omega)

theorem cut_u_6 (U : FVec Ideal S256x1024 .f32) (hs hc) (a : Fin 256) (l : Fin 128) :
    shapeCast S1x256x128 (extractStridedSlice S256x128 ![0, 768] U hs) hc (ix3 0 a l) = U (ix2 a ⟨768 + l.val, by omega⟩) := by
  pointwise []

theorem cut_s_6 (x8 : Vec Ideal S1x32x1024 .f32) (inb' h1 h2) (a : Fin 32) (l : Fin 128) :
    shapeCast S1x32x128 (shapeCast S32x128 (View.ld (Val := Elt Ideal) x8 (Rect.unit (s := S1x32x1024) ![0, 0, 768] S1x32x128.size inb')) h1) h2 (ix3 0 a l)
      = x8 (ix3 0 a ⟨768 + l.val, by omega⟩) := by
  pointwise []

theorem blk_u_6 (P : Vec Ideal S8x288x128 .f32) (U : FVec Ideal S256x1024 .f32) (inb hs hc) (x : S1x256x128.Idx) :
    shapeCast S1x256x128 (extractStridedSlice S256x128 ![0, 768] U hs) hc x
      = ext P U ((Rect.unit (s := S8x288x128) ![6, 32, 0] S1x256x128.size inb).emb x) := by
  have b0 : (x 0).val < 1 := (x 0).isLt
  refine (congrArg _ (ix3_zero x)).trans ((cut_u_6 U hs hc (x 1) (x 2)).trans (ext_hi P U _ (x 1) _ ?_ ?_).symm)
  · show 32 + 1 * (x 1).val = 32 + (x 1).val; omega
  · show 768 + (x 2).val = 128 * (6 + 1 * (x 0).val) + (0 + 1 * (x 2).val); omega

theorem blk_s_6 (x8 : Vec Ideal S1x32x1024 .f32) (U : FVec Ideal S256x1024 .f32) (inb inb' h1 h2) (x : S1x32x128.Idx) :
    shapeCast S1x32x128 (shapeCast S32x128 (View.ld (Val := Elt Ideal) x8 (Rect.unit (s := S1x32x1024) ![0, 0, 768] S1x32x128.size inb')) h1) h2 x
      = ext (fresh x8) U ((Rect.unit (s := S8x288x128) ![6, 0, 0] S1x32x128.size inb).emb x) := by
  have b0 : (x 0).val < 1 := (x 0).isLt
  have b1 : (x 1).val < 32 := (x 1).isLt
  have b2 : (x 2).val < 128 := (x 2).isLt
  refine (congrArg _ (ix3_zero x)).trans ((cut_s_6 x8 inb' h1 h2 (x 1) (x 2)).trans ?_)
  rw [ext_lo _ _ _ (by show 0 + 1 * (x 1).val < 32; omega)]
  unfold fresh
  congr 2
  · exact Fin.ext (by show (x 1).val = (0 + 1 * (x 1).val) % 32; omega)
  · exact Fin.ext (by show 768 + (x 2).val = (128 * (6 + 1 * (x 0).val) + (0 + 1 * (x 2).val)) % 1024; omega)

theorem cut_u_7 (U : FVec Ideal S256x1024 .f32) (hs hc) (a : Fin 256) (l : Fin 128) :
    shapeCast S1x256x128 (extractStridedSlice S256x128 ![0, 896] U hs) hc (ix3 0 a l) = U (ix2 a ⟨896 + l.val, by omega⟩) := by
  pointwise []

theorem cut_s_7 (x8 : Vec Ideal S1x32x1024 .f32) (inb' h1 h2) (a : Fin 32) (l : Fin 128) :
    shapeCast S1x32x128 (shapeCast S32x128 (View.ld (Val := Elt Ideal) x8 (Rect.unit (s := S1x32x1024) ![0, 0, 896] S1x32x128.size inb')) h1) h2 (ix3 0 a l)
      = x8 (ix3 0 a ⟨896 + l.val, by omega⟩) := by
  pointwise []

theorem blk_u_7 (P : Vec Ideal S8x288x128 .f32) (U : FVec Ideal S256x1024 .f32) (inb hs hc) (x : S1x256x128.Idx) :
    shapeCast S1x256x128 (extractStridedSlice S256x128 ![0, 896] U hs) hc x
      = ext P U ((Rect.unit (s := S8x288x128) ![7, 32, 0] S1x256x128.size inb).emb x) := by
  have b0 : (x 0).val < 1 := (x 0).isLt
  refine (congrArg _ (ix3_zero x)).trans ((cut_u_7 U hs hc (x 1) (x 2)).trans (ext_hi P U _ (x 1) _ ?_ ?_).symm)
  · show 32 + 1 * (x 1).val = 32 + (x 1).val; omega
  · show 896 + (x 2).val = 128 * (7 + 1 * (x 0).val) + (0 + 1 * (x 2).val); omega

theorem blk_s_7 (x8 : Vec Ideal S1x32x1024 .f32) (U : FVec Ideal S256x1024 .f32) (inb inb' h1 h2) (x : S1x32x128.Idx) :
    shapeCast S1x32x128 (shapeCast S32x128 (View.ld (Val := Elt Ideal) x8 (Rect.unit (s := S1x32x1024) ![0, 0, 896] S1x32x128.size inb')) h1) h2 x
      = ext (fresh x8) U ((Rect.unit (s := S8x288x128) ![7, 0, 0] S1x32x128.size inb).emb x) := by
  have b0 : (x 0).val < 1 := (x 0).isLt
  have b1 : (x 1).val < 32 := (x 1).isLt
  have b2 : (x 2).val < 128 := (x 2).isLt
  refine (congrArg _ (ix3_zero x)).trans ((cut_s_7 x8 inb' h1 h2 (x 1) (x 2)).trans ?_)
  rw [ext_lo _ _ _ (by show 0 + 1 * (x 1).val < 32; omega)]
  unfold fresh
  congr 2
  · exact Fin.ext (by show (x 1).val = (0 + 1 * (x 1).val) % 32; omega)
  · exact Fin.ext (by show 896 + (x 2).val = (128 * (7 + 1 * (x 0).val) + (0 + 1 * (x 2).val)) % 1024; omega)

theorem round32 (w : Vec Ideal S1x32x128 .f32) (h1 h2) : shapeCast S1x32x128 (shapeCast S32x128 w h1) h2 = w := by
  funext x
  rw [ix3_zero x]
  generalize x 1 = a
  generalize x 2 = l
  revert a l
  intro (a : Fin 32) (l : Fin 128)
  pointwise []

/-- The convolved tile: at each lane the bias, then the 31 taps in order. -/
def CV (G : Vec Ideal S8x288x128 .f32) (x9 : Vec Ideal S8x32x128 .f32) (x10 : Vec Ideal S8x1x128 .f32) : Vec Ideal S8x256x128 .f32 :=
  fun y => tap (at3 x10 (y 0).val 0 (y 2).val) (fun j => at3 x9 (y 0).val j (y 2).val * at3 G (y 0).val ((y 1).val + 2 + j) (y 2).val) 31
theorem cv_eq (G : Vec Ideal S8x288x128 .f32) (x9 : Vec Ideal S8x32x128 .f32) (x10 : Vec Ideal S8x1x128 .f32) (c h : ℕ) (a l : Fin 128)
    (y : S8x256x128.Idx) (h0 : (y 0).val = c) (h1 : (y 1).val = h + a.val) (h2 : (y 2).val = l.val) :
    tap (bv x10 c (ix3 0 0 l)) (fun j => wv x9 c j (ix3 0 0 l) * ev G c (h + 2 + j) (ix3 0 a l)) 31 = CV G x9 x10 y := by
  unfold CV
  rw [h0, h1, h2]
  show tap (at3 x10 c 0 l.val) (fun j => at3 x9 c j l.val * at3 G c (h + 2 + j + a.val) l.val) 31 = _
  refine congrArg (fun f => tap (at3 x10 c 0 l.val) f 31) (funext fun j => ?_)
  rw [show h + 2 + j + a.val = h + a.val + 2 + j by omega]
theorem chunk_coords (c h : ℕ) (inb) (x : S1x128x128.Idx) :
    (((Rect.unit (s := S8x256x128) ![c, h, 0] S1x128x128.size inb).emb x) 0).val = c
    ∧ (((Rect.unit (s := S8x256x128) ![c, h, 0] S1x128x128.size inb).emb x) 1).val = h + (x 1).val
    ∧ (((Rect.unit (s := S8x256x128) ![c, h, 0] S1x128x128.size inb).emb x) 2).val = (x 2).val := by
  have h0 : (x 0).val < 1 := (x 0).isLt
  exact ⟨by show c + 1 * (x 0).val = c; omega, by show h + 1 * (x 1).val = _; omega, by show 0 + 1 * (x 2).val = _; omega⟩
theorem xv_cov (v : View sig .tc .vmem S8x256x128 .f32) (V : Vec Ideal S8x256x128 .f32) (L : List (View.Piece (Elt Ideal) S8x256x128 .f32))
    (hL : Blocks (fun _ => True) V L) (hc : ∀ y : S8x256x128.Idx, ∃ p ∈ L, y ∈ p.1.set) (k : ℕ) (inb) :
    v.readCov L (Rect.unit (s := S8x256x128) ![k, 0, 0] S1x256x128.size inb).toLoadRect = xv V k := by
  rw [View.readCov_eq_canon']
  funext i
  have h0 : (i 0).val < 1 := (i 0).isLt
  refine Eq.trans (canon_blocks (Q := fun _ => True) _ trivial L hL (hc _)) (at3_eq V _ _ _ _ ?_ ?_ ?_)
  · show k + 1 * (i 0).val = k; omega
  · show 0 + 1 * (i 1).val = _; omega
  · show 0 + 1 * (i 2).val = _; omega

end Cert.InpIdeal.Rows
-- ==== Proof.Hand.InpConvA.lean ====
/- The convolution's buffers at a sequence's first tile: what their loads read, and the convolved tile. -/
module

public import proofs.«01_k».proof.Proof.Hand.InpHalo

@[expose] public section

set_option maxHeartbeats 8000000
set_option maxRecDepth 16384

noncomputable section

namespace Cert.InpIdeal.Rows

open Idealize.ShloMosaic Idealize.ShloMosaic.TcCoe Idealize.SL.Sem Cert.InpIdeal Cert.InpIdeal.Gen Cert.InpSpec

variable {c : Dev nD} {arg1 : Memref sig .tc .vmem S256x1024 .f32} {harg1 : arg1.IsWhole} {arg2 : Memref sig .tc .vmem S1x1024 .f32} {harg2 : arg2.IsWhole} {arg3 : Memref sig .tc .vmem S1024x9344 .bf16} {harg3 : arg3.IsWhole} {arg9 : Memref sig .tc .vmem S1x32x1024 .f32} {harg9 : arg9.IsWhole} {arg10 : Memref sig .tc .vmem S8x32x128 .f32} {harg10 : arg10.IsWhole} {arg11 : Memref sig .tc .vmem S8x1x128 .f32} {harg11 : arg11.IsWhole} {arg12 : Memref sig .tc .vmem S1x1024 .f32} {harg12 : arg12.IsWhole} {arg13 : Memref sig .tc .vmem S1x1024 .f32} {harg13 : arg13.IsWhole} {arg26 : Memref sig .tc .vmem S8x288x128 .f32} {arg27 : Memref sig .tc .vmem S8x256x128 .f32} {x0 : Vec Ideal S256x1024 .f32} {x1 : Vec Ideal S1x1024 .f32} {x2 : Vec Ideal S1024x9344 .bf16} {x8 : Vec Ideal S1x32x1024 .f32} {x9 : Vec Ideal S8x32x128 .f32} {x10 : Vec Ideal S8x1x128 .f32} {x11 : Vec Ideal S1x1024 .f32} {x12 : Vec Ideal S1x1024 .f32}

theorem blocksA_0 : Blocks (fun y => 0 ≤ (y 0).val) (ext (fresh x8) (kernelRun0_A.sl.r_1 c arg1 harg1 arg2 harg2 arg3 harg3 x0 x1 x2)) (kernelRun0_A.sl.HS0_16 c arg1 harg1 arg2 harg2 arg3 harg3 arg9 harg9 x0 x1 x2 x8) := by
  unfold kernelRun0_A.sl.HS0_16
  refine blocks_cons (fun x _ => ?_) ?_
  · exact blk_u_7 (fresh x8) (kernelRun0_A.sl.r_1 c arg1 harg1 arg2 harg2 arg3 harg3 x0 x1 x2) _ (by decide) (by decide) x
  refine blocks_cons (fun x _ => ?_) ?_
  · exact blk_u_6 (fresh x8) (kernelRun0_A.sl.r_1 c arg1 harg1 arg2 harg2 arg3 harg3 x0 x1 x2) _ (by decide) (by decide) x
  refine blocks_cons (fun x _ => ?_) ?_
  · exact blk_u_5 (fresh x8) (kernelRun0_A.sl.r_1 c arg1 harg1 arg2 harg2 arg3 harg3 x0 x1 x2) _ (by decide) (by decide) x
  refine blocks_cons (fun x _ => ?_) ?_
  · exact blk_u_4 (fresh x8) (kernelRun0_A.sl.r_1 c arg1 harg1 arg2 harg2 arg3 harg3 x0 x1 x2) _ (by decide) (by decide) x
  refine blocks_cons (fun x _ => ?_) ?_
  · exact blk_u_3 (fresh x8) (kernelRun0_A.sl.r_1 c arg1 harg1 arg2 harg2 arg3 harg3 x0 x1 x2) _ (by decide) (by decide) x
  refine blocks_cons (fun x _ => ?_) ?_
  · exact blk_u_2 (fresh x8) (kernelRun0_A.sl.r_1 c arg1 harg1 arg2 harg2 arg3 harg3 x0 x1 x2) _ (by decide) (by decide) x
  refine blocks_cons (fun x _ => ?_) ?_
  · exact blk_u_1 (fresh x8) (kernelRun0_A.sl.r_1 c arg1 harg1 arg2 harg2 arg3 harg3 x0 x1 x2) _ (by decide) (by decide) x
  refine blocks_cons (fun x _ => ?_) ?_
  · exact blk_u_0 (fresh x8) (kernelRun0_A.sl.r_1 c arg1 harg1 arg2 harg2 arg3 harg3 x0 x1 x2) _ (by decide) (by decide) x
  refine blocks_cons (fun x _ => ?_) ?_
  · simp only [kernelRun0_A.sl.v4206, kernelRun0_A.sl.v4203, View.readAt_eq_ld, harg9.read_unread]
    exact blk_s_7 x8 (kernelRun0_A.sl.r_1 c arg1 harg1 arg2 harg2 arg3 harg3 x0 x1 x2) _ _ _ _ x
  refine blocks_cons (fun x _ => ?_) ?_
  · simp only [kernelRun0_A.sl.v4201, kernelRun0_A.sl.v4198, View.readAt_eq_ld, harg9.read_unread]
    exact blk_s_6 x8 (kernelRun0_A.sl.r_1 c arg1 harg1 arg2 harg2 arg3 harg3 x0 x1 x2) _ _ _ _ x
  refine blocks_cons (fun x _ => ?_) ?_
  · simp only [kernelRun0_A.sl.v4196, kernelRun0_A.sl.v4193, View.readAt_eq_ld, harg9.read_unread]
    exact blk_s_5 x8 (kernelRun0_A.sl.r_1 c arg1 harg1 arg2 harg2 arg3 harg3 x0 x1 x2) _ _ _ _ x
  refine blocks_cons (fun x _ => ?_) ?_
  · simp only [kernelRun0_A.sl.v4191, kernelRun0_A.sl.v4188, View.readAt_eq_ld, harg9.read_unread]
    exact blk_s_4 x8 (kernelRun0_A.sl.r_1 c arg1 harg1 arg2 harg2 arg3 harg3 x0 x1 x2) _ _ _ _ x
  refine blocks_cons (fun x _ => ?_) ?_
  · simp only [kernelRun0_A.sl.v4186, kernelRun0_A.sl.v4183, View.readAt_eq_ld, harg9.read_unread]
    exact blk_s_3 x8 (kernelRun0_A.sl.r_1 c arg1 harg1 arg2 harg2 arg3 harg3 x0 x1 x2) _ _ _ _ x
  refine blocks_cons (fun x _ => ?_) ?_
  · simp only [kernelRun0_A.sl.v4181, kernelRun0_A.sl.v4178, View.readAt_eq_ld, harg9.read_unread]
    exact blk_s_2 x8 (kernelRun0_A.sl.r_1 c arg1 harg1 arg2 harg2 arg3 harg3 x0 x1 x2) _ _ _ _ x
  refine blocks_cons (fun x _ => ?_) ?_
  · simp only [kernelRun0_A.sl.v4176, kernelRun0_A.sl.v4173, View.readAt_eq_ld, harg9.read_unread]
    exact blk_s_1 x8 (kernelRun0_A.sl.r_1 c arg1 harg1 arg2 harg2 arg3 harg3 x0 x1 x2) _ _ _ _ x
  refine blocks_cons (fun x _ => ?_) ?_
  · simp only [kernelRun0_A.sl.v4171, kernelRun0_A.sl.v4168, View.readAt_eq_ld, harg9.read_unread]
    exact blk_s_0 x8 (kernelRun0_A.sl.r_1 c arg1 harg1 arg2 harg2 arg3 harg3 x0 x1 x2) _ _ _ _ x
  exact blocks_nil

theorem blocksA_1 : Blocks (fun y => 1 ≤ (y 0).val) (ext (fresh x8) (kernelRun0_A.sl.r_1 c arg1 harg1 arg2 harg2 arg3 harg3 x0 x1 x2)) (kernelRun0_A.sl.HS0_17 c arg1 harg1 arg2 harg2 arg3 harg3 arg9 harg9 arg26 x0 x1 x2 x8) := by
  unfold kernelRun0_A.sl.HS0_17
  exact blocks_move _ _ 0 _ _ blocksA_0

theorem blocksA_2 : Blocks (fun y => 2 ≤ (y 0).val) (ext (fresh x8) (kernelRun0_A.sl.r_1 c arg1 harg1 arg2 harg2 arg3 harg3 x0 x1 x2)) (kernelRun0_A.sl.HS0_18 c arg1 harg1 arg2 harg2 arg3 harg3 arg9 harg9 arg26 x0 x1 x2 x8) := by
  unfold kernelRun0_A.sl.HS0_18
  exact blocks_move _ _ 1 _ _ blocksA_1

theorem blocksA_3 : Blocks (fun y => 3 ≤ (y 0).val) (ext (fresh x8) (kernelRun0_A.sl.r_1 c arg1 harg1 arg2 harg2 arg3 harg3 x0 x1 x2)) (kernelRun0_A.sl.HS0_19 c arg1 harg1 arg2 harg2 arg3 harg3 arg9 harg9 arg26 x0 x1 x2 x8) := by
  unfold kernelRun0_A.sl.HS0_19
  exact blocks_move _ _ 2 _ _ blocksA_2

theorem blocksA_4 : Blocks (fun y => 4 ≤ (y 0).val) (ext (fresh x8) (kernelRun0_A.sl.r_1 c arg1 harg1 arg2 harg2 arg3 harg3 x0 x1 x2)) (kernelRun0_A.sl.HS0_20 c arg1 harg1 arg2 harg2 arg3 harg3 arg9 harg9 arg26 x0 x1 x2 x8) := by
  unfold kernelRun0_A.sl.HS0_20
  exact blocks_move _ _ 3 _ _ blocksA_3

theorem blocksA_5 : Blocks (fun y => 5 ≤ (y 0).val) (ext (fresh x8) (kernelRun0_A.sl.r_1 c arg1 harg1 arg2 harg2 arg3 harg3 x0 x1 x2)) (kernelRun0_A.sl.HS0_21 c arg1 harg1 arg2 harg2 arg3 harg3 arg9 harg9 arg26 x0 x1 x2 x8) := by
  unfold kernelRun0_A.sl.HS0_21
  exact blocks_move _ _ 4 _ _ blocksA_4

theorem blocksA_6 : Blocks (fun y => 6 ≤ (y 0).val) (ext (fresh x8) (kernelRun0_A.sl.r_1 c arg1 harg1 arg2 harg2 arg3 harg3 x0 x1 x2)) (kernelRun0_A.sl.HS0_22 c arg1 harg1 arg2 harg2 arg3 harg3 arg9 harg9 arg26 x0 x1 x2 x8) := by
  unfold kernelRun0_A.sl.HS0_22
  exact blocks_move _ _ 5 _ _ blocksA_5

theorem blocksA_7 : Blocks (fun y => 7 ≤ (y 0).val) (ext (fresh x8) (kernelRun0_A.sl.r_1 c arg1 harg1 arg2 harg2 arg3 harg3 x0 x1 x2)) (kernelRun0_A.sl.HS0_23 c arg1 harg1 arg2 harg2 arg3 harg3 arg9 harg9 arg26 x0 x1 x2 x8) := by
  unfold kernelRun0_A.sl.HS0_23
  exact blocks_move _ _ 6 _ _ blocksA_6

theorem covA_0 (y : S8x288x128.Idx) (hm : 0 ≤ (y 1).val) : ∃ p ∈ (kernelRun0_A.sl.HS0_16 c arg1 harg1 arg2 harg2 arg3 harg3 arg9 harg9 x0 x1 x2 x8), y ∈ p.1.set := by
  have b0 : (y 0).val < 8 := (y 0).isLt
  have b1 : (y 1).val < 288 := (y 1).isLt
  unfold kernelRun0_A.sl.HS0_16
  have hc : (y 0).val = 0 ∨ (y 0).val = 1 ∨ (y 0).val = 2 ∨ (y 0).val = 3 ∨ (y 0).val = 4 ∨ (y 0).val = 5 ∨ (y 0).val = 6 ∨ (y 0).val = 7 := by omega
  rcases Nat.lt_or_ge (y 1).val 32 with hl | hl
  · rcases hc with h | h | h | h | h | h | h | h
    · exact (cov_there (cov_there (cov_there (cov_there (cov_there (cov_there (cov_there (cov_there (cov_there (cov_there (cov_there (cov_there (cov_there (cov_there (cov_there (cov_here (mem_chunk (o := 0) (d := 32) 0 _ y h (by omega) (by omega))))))))))))))))))
    · exact (cov_there (cov_there (cov_there (cov_there (cov_there (cov_there (cov_there (cov_there (cov_there (cov_there (cov_there (cov_there (cov_there (cov_there (cov_here (mem_chunk (o := 0) (d := 32) 1 _ y h (by omega) (by omega)))))))))))))))))
    · exact (cov_there (cov_there (cov_there (cov_there (cov_there (cov_there (cov_there (cov_there (cov_there (cov_there (cov_there (cov_there (cov_there (cov_here (mem_chunk (o := 0) (d := 32) 2 _ y h (by omega) (by omega))))))))))))))))
    · exact (cov_there (cov_there (cov_there (cov_there (cov_there (cov_there (cov_there (cov_there (cov_there (cov_there (cov_there (cov_there (cov_here (mem_chunk (o := 0) (d := 32) 3 _ y h (by omega) (by omega)))))))))))))))
    · exact (cov_there (cov_there (cov_there (cov_there (cov_there (cov_there (cov_there (cov_there (cov_there (cov_there (cov_there (cov_here (mem_chunk (o := 0) (d := 32) 4 _ y h (by omega) (by omega))))))))))))))
    · exact (cov_there (cov_there (cov_there (cov_there (cov_there (cov_there (cov_there (cov_there (cov_there (cov_there (cov_here (mem_chunk (o := 0) (d := 32) 5 _ y h (by omega) (by omega)))))))))))))
    · exact (cov_there (cov_there (cov_there (cov_there (cov_there (cov_there (cov_there (cov_there (cov_there (cov_here (mem_chunk (o := 0) (d := 32) 6 _ y h (by omega) (by omega))))))))))))
    · exact (cov_there (cov_there (cov_there (cov_there (cov_there (cov_there (cov_there (cov_there (cov_here (mem_chunk (o := 0) (d := 32) 7 _ y h (by omega) (by omega)))))))))))
  · rcases hc with h | h | h | h | h | h | h | h
    · exact (cov_there (cov_there (cov_there (cov_there (cov_there (cov_there (cov_there (cov_here (mem_chunk (o := 32) (d := 256) 0 _ y h (by omega) (by omega))))))))))
    · exact (cov_there (cov_there (cov_there (cov_there (cov_there (cov_there (cov_here (mem_chunk (o := 32) (d := 256) 1 _ y h (by omega) (by omega)))))))))
    · exact (cov_there (cov_there (cov_there (cov_there (cov_there (cov_here (mem_chunk (o := 32) (d := 256) 2 _ y h (by omega) (by omega))))))))
    · exact (cov_there (cov_there (cov_there (cov_there (cov_here (mem_chunk (o := 32) (d := 256) 3 _ y h (by omega) (by omega)))))))
    · exact (cov_there (cov_there (cov_there (cov_here (mem_chunk (o := 32) (d := 256) 4 _ y h (by omega) (by omega))))))
    · exact (cov_there (cov_there (cov_here (mem_chunk (o := 32) (d := 256) 5 _ y h (by omega) (by omega)))))
    · exact (cov_there (cov_here (mem_chunk (o := 32) (d := 256) 6 _ y h (by omega) (by omega))))
    · exact (cov_here (mem_chunk (o := 32) (d := 256) 7 _ y h (by omega) (by omega)))

theorem covA_1 (y : S8x288x128.Idx) (hm : 0 ≤ (y 1).val) : ∃ p ∈ (kernelRun0_A.sl.HS0_17 c arg1 harg1 arg2 harg2 arg3 harg3 arg9 harg9 arg26 x0 x1 x2 x8), y ∈ p.1.set := by
  unfold kernelRun0_A.sl.HS0_17
  exact cov_there (covA_0 y hm)
theorem covA_2 (y : S8x288x128.Idx) (hm : 0 ≤ (y 1).val) : ∃ p ∈ (kernelRun0_A.sl.HS0_18 c arg1 harg1 arg2 harg2 arg3 harg3 arg9 harg9 arg26 x0 x1 x2 x8), y ∈ p.1.set := by
  unfold kernelRun0_A.sl.HS0_18
  exact cov_there (covA_1 y hm)
theorem covA_3 (y : S8x288x128.Idx) (hm : 0 ≤ (y 1).val) : ∃ p ∈ (kernelRun0_A.sl.HS0_19 c arg1 harg1 arg2 harg2 arg3 harg3 arg9 harg9 arg26 x0 x1 x2 x8), y ∈ p.1.set := by
  unfold kernelRun0_A.sl.HS0_19
  exact cov_there (covA_2 y hm)
theorem covA_4 (y : S8x288x128.Idx) (hm : 0 ≤ (y 1).val) : ∃ p ∈ (kernelRun0_A.sl.HS0_20 c arg1 harg1 arg2 harg2 arg3 harg3 arg9 harg9 arg26 x0 x1 x2 x8), y ∈ p.1.set := by
  unfold kernelRun0_A.sl.HS0_20
  exact cov_there (covA_3 y hm)
theorem covA_5 (y : S8x288x128.Idx) (hm : 0 ≤ (y 1).val) : ∃ p ∈ (kernelRun0_A.sl.HS0_21 c arg1 harg1 arg2 harg2 arg3 harg3 arg9 harg9 arg26 x0 x1 x2 x8), y ∈ p.1.set := by
  unfold kernelRun0_A.sl.HS0_21
  exact cov_there (covA_4 y hm)
theorem covA_6 (y : S8x288x128.Idx) (hm : 0 ≤ (y 1).val) : ∃ p ∈ (kernelRun0_A.sl.HS0_22 c arg1 harg1 arg2 harg2 arg3 harg3 arg9 harg9 arg26 x0 x1 x2 x8), y ∈ p.1.set := by
  unfold kernelRun0_A.sl.HS0_22
  exact cov_there (covA_5 y hm)
theorem covA_7 (y : S8x288x128.Idx) (hm : 0 ≤ (y 1).val) : ∃ p ∈ (kernelRun0_A.sl.HS0_23 c arg1 harg1 arg2 harg2 arg3 harg3 arg9 harg9 arg26 x0 x1 x2 x8), y ∈ p.1.set := by
  unfold kernelRun0_A.sl.HS0_23
  exact cov_there (covA_6 y hm)

theorem ecA_0 (r : ℕ) (hr : 0 ≤ r) (inb) :
    arg26.view.readCov (kernelRun0_A.sl.HS0_16 c arg1 harg1 arg2 harg2 arg3 harg3 arg9 harg9 x0 x1 x2 x8) (Rect.unit (s := S8x288x128) ![0, r, 0] ![1, 128, 128] inb).toLoadRect = ev (ext (fresh x8) (kernelRun0_A.sl.r_1 c arg1 harg1 arg2 harg2 arg3 harg3 x0 x1 x2)) 0 r :=
  ev_cov _ _ _ 0 0 blocksA_0 (fun y _ h => covA_0 y h) r hr inb
theorem emA_0 (r : ℕ) (hr : 0 ≤ r) (inb) :
    arg26.view.readCov (kernelRun0_A.sl.HS0_16 c arg1 harg1 arg2 harg2 arg3 harg3 arg9 harg9 x0 x1 x2 x8) (Rect.unit (s := S8x288x128) ![0, r, 0] S1x32x128.size inb).toLoadRect = ev32 (ext (fresh x8) (kernelRun0_A.sl.r_1 c arg1 harg1 arg2 harg2 arg3 harg3 x0 x1 x2)) 0 r :=
  ev32_cov _ _ _ 0 0 blocksA_0 (fun y _ h => covA_0 y h) r hr inb
theorem ecA_1 (r : ℕ) (hr : 0 ≤ r) (inb) :
    arg26.view.readCov (kernelRun0_A.sl.HS0_17 c arg1 harg1 arg2 harg2 arg3 harg3 arg9 harg9 arg26 x0 x1 x2 x8) (Rect.unit (s := S8x288x128) ![1, r, 0] ![1, 128, 128] inb).toLoadRect = ev (ext (fresh x8) (kernelRun0_A.sl.r_1 c arg1 harg1 arg2 harg2 arg3 harg3 x0 x1 x2)) 1 r :=
  ev_cov _ _ _ 1 0 blocksA_1 (fun y _ h => covA_1 y h) r hr inb
theorem emA_1 (r : ℕ) (hr : 0 ≤ r) (inb) :
    arg26.view.readCov (kernelRun0_A.sl.HS0_17 c arg1 harg1 arg2 harg2 arg3 harg3 arg9 harg9 arg26 x0 x1 x2 x8) (Rect.unit (s := S8x288x128) ![1, r, 0] S1x32x128.size inb).toLoadRect = ev32 (ext (fresh x8) (kernelRun0_A.sl.r_1 c arg1 harg1 arg2 harg2 arg3 harg3 x0 x1 x2)) 1 r :=
  ev32_cov _ _ _ 1 0 blocksA_1 (fun y _ h => covA_1 y h) r hr inb
theorem ecA_2 (r : ℕ) (hr : 0 ≤ r) (inb) :
    arg26.view.readCov (kernelRun0_A.sl.HS0_18 c arg1 harg1 arg2 harg2 arg3 harg3 arg9 harg9 arg26 x0 x1 x2 x8) (Rect.unit (s := S8x288x128) ![2, r, 0] ![1, 128, 128] inb).toLoadRect = ev (ext (fresh x8) (kernelRun0_A.sl.r_1 c arg1 harg1 arg2 harg2 arg3 harg3 x0 x1 x2)) 2 r :=
  ev_cov _ _ _ 2 0 blocksA_2 (fun y _ h => covA_2 y h) r hr inb
theorem emA_2 (r : ℕ) (hr : 0 ≤ r) (inb) :
    arg26.view.readCov (kernelRun0_A.sl.HS0_18 c arg1 harg1 arg2 harg2 arg3 harg3 arg9 harg9 arg26 x0 x1 x2 x8) (Rect.unit (s := S8x288x128) ![2, r, 0] S1x32x128.size inb).toLoadRect = ev32 (ext (fresh x8) (kernelRun0_A.sl.r_1 c arg1 harg1 arg2 harg2 arg3 harg3 x0 x1 x2)) 2 r :=
  ev32_cov _ _ _ 2 0 blocksA_2 (fun y _ h => covA_2 y h) r hr inb
theorem ecA_3 (r : ℕ) (hr : 0 ≤ r) (inb) :
    arg26.view.readCov (kernelRun0_A.sl.HS0_19 c arg1 harg1 arg2 harg2 arg3 harg3 arg9 harg9 arg26 x0 x1 x2 x8) (Rect.unit (s := S8x288x128) ![3, r, 0] ![1, 128, 128] inb).toLoadRect = ev (ext (fresh x8) (kernelRun0_A.sl.r_1 c arg1 harg1 arg2 harg2 arg3 harg3 x0 x1 x2)) 3 r :=
  ev_cov _ _ _ 3 0 blocksA_3 (fun y _ h => covA_3 y h) r hr inb
theorem emA_3 (r : ℕ) (hr : 0 ≤ r) (inb) :
    arg26.view.readCov (kernelRun0_A.sl.HS0_19 c arg1 harg1 arg2 harg2 arg3 harg3 arg9 harg9 arg26 x0 x1 x2 x8) (Rect.unit (s := S8x288x128) ![3, r, 0] S1x32x128.size inb).toLoadRect = ev32 (ext (fresh x8) (kernelRun0_A.sl.r_1 c arg1 harg1 arg2 harg2 arg3 harg3 x0 x1 x2)) 3 r :=
  ev32_cov _ _ _ 3 0 blocksA_3 (fun y _ h => covA_3 y h) r hr inb
theorem ecA_4 (r : ℕ) (hr : 0 ≤ r) (inb) :
    arg26.view.readCov (kernelRun0_A.sl.HS0_20 c arg1 harg1 arg2 harg2 arg3 harg3 arg9 harg9 arg26 x0 x1 x2 x8) (Rect.unit (s := S8x288x128) ![4, r, 0] ![1, 128, 128] inb).toLoadRect = ev (ext (fresh x8) (kernelRun0_A.sl.r_1 c arg1 harg1 arg2 harg2 arg3 harg3 x0 x1 x2)) 4 r :=
  ev_cov _ _ _ 4 0 blocksA_4 (fun y _ h => covA_4 y h) r hr inb
theorem emA_4 (r : ℕ) (hr : 0 ≤ r) (inb) :
    arg26.view.readCov (kernelRun0_A.sl.HS0_20 c arg1 harg1 arg2 harg2 arg3 harg3 arg9 harg9 arg26 x0 x1 x2 x8) (Rect.unit (s := S8x288x128) ![4, r, 0] S1x32x128.size inb).toLoadRect = ev32 (ext (fresh x8) (kernelRun0_A.sl.r_1 c arg1 harg1 arg2 harg2 arg3 harg3 x0 x1 x2)) 4 r :=
  ev32_cov _ _ _ 4 0 blocksA_4 (fun y _ h => covA_4 y h) r hr inb
theorem ecA_5 (r : ℕ) (hr : 0 ≤ r) (inb) :
    arg26.view.readCov (kernelRun0_A.sl.HS0_21 c arg1 harg1 arg2 harg2 arg3 harg3 arg9 harg9 arg26 x0 x1 x2 x8) (Rect.unit (s := S8x288x128) ![5, r, 0] ![1, 128, 128] inb).toLoadRect = ev (ext (fresh x8) (kernelRun0_A.sl.r_1 c arg1 harg1 arg2 harg2 arg3 harg3 x0 x1 x2)) 5 r :=
  ev_cov _ _ _ 5 0 blocksA_5 (fun y _ h => covA_5 y h) r hr inb
theorem emA_5 (r : ℕ) (hr : 0 ≤ r) (inb) :
    arg26.view.readCov (kernelRun0_A.sl.HS0_21 c arg1 harg1 arg2 harg2 arg3 harg3 arg9 harg9 arg26 x0 x1 x2 x8) (Rect.unit (s := S8x288x128) ![5, r, 0] S1x32x128.size inb).toLoadRect = ev32 (ext (fresh x8) (kernelRun0_A.sl.r_1 c arg1 harg1 arg2 harg2 arg3 harg3 x0 x1 x2)) 5 r :=
  ev32_cov _ _ _ 5 0 blocksA_5 (fun y _ h => covA_5 y h) r hr inb
theorem ecA_6 (r : ℕ) (hr : 0 ≤ r) (inb) :
    arg26.view.readCov (kernelRun0_A.sl.HS0_22 c arg1 harg1 arg2 harg2 arg3 harg3 arg9 harg9 arg26 x0 x1 x2 x8) (Rect.unit (s := S8x288x128) ![6, r, 0] ![1, 128, 128] inb).toLoadRect = ev (ext (fresh x8) (kernelRun0_A.sl.r_1 c arg1 harg1 arg2 harg2 arg3 harg3 x0 x1 x2)) 6 r :=
  ev_cov _ _ _ 6 0 blocksA_6 (fun y _ h => covA_6 y h) r hr inb
theorem emA_6 (r : ℕ) (hr : 0 ≤ r) (inb) :
    arg26.view.readCov (kernelRun0_A.sl.HS0_22 c arg1 harg1 arg2 harg2 arg3 harg3 arg9 harg9 arg26 x0 x1 x2 x8) (Rect.unit (s := S8x288x128) ![6, r, 0] S1x32x128.size inb).toLoadRect = ev32 (ext (fresh x8) (kernelRun0_A.sl.r_1 c arg1 harg1 arg2 harg2 arg3 harg3 x0 x1 x2)) 6 r :=
  ev32_cov _ _ _ 6 0 blocksA_6 (fun y _ h => covA_6 y h) r hr inb
theorem ecA_7 (r : ℕ) (hr : 0 ≤ r) (inb) :
    arg26.view.readCov (kernelRun0_A.sl.HS0_23 c arg1 harg1 arg2 harg2 arg3 harg3 arg9 harg9 arg26 x0 x1 x2 x8) (Rect.unit (s := S8x288x128) ![7, r, 0] ![1, 128, 128] inb).toLoadRect = ev (ext (fresh x8) (kernelRun0_A.sl.r_1 c arg1 harg1 arg2 harg2 arg3 harg3 x0 x1 x2)) 7 r :=
  ev_cov _ _ _ 7 0 blocksA_7 (fun y _ h => covA_7 y h) r hr inb
theorem emA_7 (r : ℕ) (hr : 0 ≤ r) (inb) :
    arg26.view.readCov (kernelRun0_A.sl.HS0_23 c arg1 harg1 arg2 harg2 arg3 harg3 arg9 harg9 arg26 x0 x1 x2 x8) (Rect.unit (s := S8x288x128) ![7, r, 0] S1x32x128.size inb).toLoadRect = ev32 (ext (fresh x8) (kernelRun0_A.sl.r_1 c arg1 harg1 arg2 harg2 arg3 harg3 x0 x1 x2)) 7 r :=
  ev32_cov _ _ _ 7 0 blocksA_7 (fun y _ h => covA_7 y h) r hr inb

theorem movedA_0 (y : S8x288x128.Idx) (h0 : (y 0).val < 0) (h1 : (y 1).val < 32) :
    View.canon (kernelRun0_A.sl.HS0_16 c arg1 harg1 arg2 harg2 arg3 harg3 arg9 harg9 x0 x1 x2 x8) y = at3 (ext (fresh x8) (kernelRun0_A.sl.r_1 c arg1 harg1 arg2 harg2 arg3 harg3 x0 x1 x2)) (y 0).val (256 + (y 1).val) (y 2).val := absurd h0 (Nat.not_lt_zero _)
theorem movedA_1 (y : S8x288x128.Idx) (h0 : (y 0).val < 1) (h1 : (y 1).val < 32) :
    View.canon (kernelRun0_A.sl.HS0_17 c arg1 harg1 arg2 harg2 arg3 harg3 arg9 harg9 arg26 x0 x1 x2 x8) y = at3 (ext (fresh x8) (kernelRun0_A.sl.r_1 c arg1 harg1 arg2 harg2 arg3 harg3 x0 x1 x2)) (y 0).val (256 + (y 1).val) (y 2).val := by
  unfold kernelRun0_A.sl.HS0_17
  refine moved_step (ext (fresh x8) (kernelRun0_A.sl.r_1 c arg1 harg1 arg2 harg2 arg3 harg3 x0 x1 x2)) _ 0 _ _ ?_ movedA_0 y h0 h1
  unfold k0_pay48 kernelRun0_A.sl.v528
  rw [emA_0 256 (by decide)]
  exact round32 (ev32 (ext (fresh x8) (kernelRun0_A.sl.r_1 c arg1 harg1 arg2 harg2 arg3 harg3 x0 x1 x2)) 0 256) (by decide) (by decide)
theorem movedA_2 (y : S8x288x128.Idx) (h0 : (y 0).val < 2) (h1 : (y 1).val < 32) :
    View.canon (kernelRun0_A.sl.HS0_18 c arg1 harg1 arg2 harg2 arg3 harg3 arg9 harg9 arg26 x0 x1 x2 x8) y = at3 (ext (fresh x8) (kernelRun0_A.sl.r_1 c arg1 harg1 arg2 harg2 arg3 harg3 x0 x1 x2)) (y 0).val (256 + (y 1).val) (y 2).val := by
  unfold kernelRun0_A.sl.HS0_18
  refine moved_step (ext (fresh x8) (kernelRun0_A.sl.r_1 c arg1 harg1 arg2 harg2 arg3 harg3 x0 x1 x2)) _ 1 _ _ ?_ movedA_1 y h0 h1
  unfold k0_pay80 kernelRun0_A.sl.v1009
  rw [emA_1 256 (by decide)]
  exact round32 (ev32 (ext (fresh x8) (kernelRun0_A.sl.r_1 c arg1 harg1 arg2 harg2 arg3 harg3 x0 x1 x2)) 1 256) (by decide) (by decide)
theorem movedA_3 (y : S8x288x128.Idx) (h0 : (y 0).val < 3) (h1 : (y 1).val < 32) :
    View.canon (kernelRun0_A.sl.HS0_19 c arg1 harg1 arg2 harg2 arg3 harg3 arg9 harg9 arg26 x0 x1 x2 x8) y = at3 (ext (fresh x8) (kernelRun0_A.sl.r_1 c arg1 harg1 arg2 harg2 arg3 harg3 x0 x1 x2)) (y 0).val (256 + (y 1).val) (y 2).val := by
  unfold kernelRun0_A.sl.HS0_19
  refine moved_step (ext (fresh x8) (kernelRun0_A.sl.r_1 c arg1 harg1 arg2 harg2 arg3 harg3 x0 x1 x2)) _ 2 _ _ ?_ movedA_2 y h0 h1
  unfold k0_pay111 kernelRun0_A.sl.v1494
  rw [emA_2 256 (by decide)]
  exact round32 (ev32 (ext (fresh x8) (kernelRun0_A.sl.r_1 c arg1 harg1 arg2 harg2 arg3 harg3 x0 x1 x2)) 2 256) (by decide) (by decide)
theorem movedA_4 (y : S8x288x128.Idx) (h0 : (y 0).val < 4) (h1 : (y 1).val < 32) :
    View.canon (kernelRun0_A.sl.HS0_20 c arg1 harg1 arg2 harg2 arg3 harg3 arg9 harg9 arg26 x0 x1 x2 x8) y = at3 (ext (fresh x8) (kernelRun0_A.sl.r_1 c arg1 harg1 arg2 harg2 arg3 harg3 x0 x1 x2)) (y 0).val (256 + (y 1).val) (y 2).val := by
  unfold kernelRun0_A.sl.HS0_20
  refine moved_step (ext (fresh x8) (kernelRun0_A.sl.r_1 c arg1 harg1 arg2 harg2 arg3 harg3 x0 x1 x2)) _ 3 _ _ ?_ movedA_3 y h0 h1
  unfold k0_pay141 kernelRun0_A.sl.v1959
  rw [emA_3 256 (by decide)]
  exact round32 (ev32 (ext (fresh x8) (kernelRun0_A.sl.r_1 c arg1 harg1 arg2 harg2 arg3 harg3 x0 x1 x2)) 3 256) (by decide) (by decide)
theorem movedA_5 (y : S8x288x128.Idx) (h0 : (y 0).val < 5) (h1 : (y 1).val < 32) :
    View.canon (kernelRun0_A.sl.HS0_21 c arg1 harg1 arg2 harg2 arg3 harg3 arg9 harg9 arg26 x0 x1 x2 x8) y = at3 (ext (fresh x8) (kernelRun0_A.sl.r_1 c arg1 harg1 arg2 harg2 arg3 harg3 x0 x1 x2)) (y 0).val (256 + (y 1).val) (y 2).val := by
  unfold kernelRun0_A.sl.HS0_21
  refine moved_step (ext (fresh x8) (kernelRun0_A.sl.r_1 c arg1 harg1 arg2 harg2 arg3 harg3 x0 x1 x2)) _ 4 _ _ ?_ movedA_4 y h0 h1
  unfold k0_pay176 kernelRun0_A.sl.v2447
  rw [emA_4 256 (by decide)]
  exact round32 (ev32 (ext (fresh x8) (kernelRun0_A.sl.r_1 c arg1 harg1 arg2 harg2 arg3 harg3 x0 x1 x2)) 4 256) (by decide) (by decide)
theorem movedA_6 (y : S8x288x128.Idx) (h0 : (y 0).val < 6) (h1 : (y 1).val < 32) :
    View.canon (kernelRun0_A.sl.HS0_22 c arg1 harg1 arg2 harg2 arg3 harg3 arg9 harg9 arg26 x0 x1 x2 x8) y = at3 (ext (fresh x8) (kernelRun0_A.sl.r_1 c arg1 harg1 arg2 harg2 arg3 harg3 x0 x1 x2)) (y 0).val (256 + (y 1).val) (y 2).val := by
  unfold kernelRun0_A.sl.HS0_22
  refine moved_step (ext (fresh x8) (kernelRun0_A.sl.r_1 c arg1 harg1 arg2 harg2 arg3 harg3 x0 x1 x2)) _ 5 _ _ ?_ movedA_5 y h0 h1
  unfold k0_pay205 kernelRun0_A.sl.v2912
  rw [emA_5 256 (by decide)]
  exact round32 (ev32 (ext (fresh x8) (kernelRun0_A.sl.r_1 c arg1 harg1 arg2 harg2 arg3 harg3 x0 x1 x2)) 5 256) (by decide) (by decide)
theorem movedA_7 (y : S8x288x128.Idx) (h0 : (y 0).val < 7) (h1 : (y 1).val < 32) :
    View.canon (kernelRun0_A.sl.HS0_23 c arg1 harg1 arg2 harg2 arg3 harg3 arg9 harg9 arg26 x0 x1 x2 x8) y = at3 (ext (fresh x8) (kernelRun0_A.sl.r_1 c arg1 harg1 arg2 harg2 arg3 harg3 x0 x1 x2)) (y 0).val (256 + (y 1).val) (y 2).val := by
  unfold kernelRun0_A.sl.HS0_23
  refine moved_step (ext (fresh x8) (kernelRun0_A.sl.r_1 c arg1 harg1 arg2 harg2 arg3 harg3 x0 x1 x2)) _ 6 _ _ ?_ movedA_6 y h0 h1
  unfold k0_pay232 kernelRun0_A.sl.v3377
  rw [emA_6 256 (by decide)]
  exact round32 (ev32 (ext (fresh x8) (kernelRun0_A.sl.r_1 c arg1 harg1 arg2 harg2 arg3 harg3 x0 x1 x2)) 6 256) (by decide) (by decide)
theorem movedA_8 (y : S8x288x128.Idx) (h1 : (y 1).val < 32) :
    View.canon (⟨Rect.unit (s := S8x288x128) ![7, 0, 0] S1x32x128.size inb_S8x288x128_S1x32x128_7_0_0,
    k0_pay257 (kernelRun0_A.sl.r_210 c arg1 harg1 arg2 harg2 arg3 harg3 arg9 harg9 arg26 x0 x1 x2 x8)⟩ ::
  kernelRun0_A.sl.HS0_23 c arg1 harg1 arg2 harg2 arg3 harg3 arg9 harg9 arg26 x0 x1 x2 x8) y = at3 (ext (fresh x8) (kernelRun0_A.sl.r_1 c arg1 harg1 arg2 harg2 arg3 harg3 x0 x1 x2)) (y 0).val (256 + (y 1).val) (y 2).val := by
  have h0 : (y 0).val < 8 := (y 0).isLt
  refine moved_step (ext (fresh x8) (kernelRun0_A.sl.r_1 c arg1 harg1 arg2 harg2 arg3 harg3 x0 x1 x2)) _ 7 _ _ ?_ movedA_7 y h0 h1
  unfold k0_pay257 kernelRun0_A.sl.r_210 kernelRun0_A.sl.v3841 k0_pay256
  rw [emA_7 256 (by decide)]
  exact round32 (ev32 (ext (fresh x8) (kernelRun0_A.sl.r_1 c arg1 harg1 arg2 harg2 arg3 harg3 x0 x1 x2)) 7 256) (by decide) (by decide)

theorem wvA (k j : ℕ) (inb) : View.readAt (Elt Ideal) arg10.view (Rect.unit (s := S8x32x128) ![k, j, 0] ![1, 1, 128] inb).toLoadRect (harg10.unread x9) = wv x9 k j := by
  rw [View.readAt_eq_ld, harg10.read_unread, wv_ld]
theorem bvA (k : ℕ) (inb) : View.readAt (Elt Ideal) arg11.view (Rect.unit (s := S8x1x128) ![k, 0, 0] ![1, 1, 128] inb).toLoadRect (harg11.unread x10) = bv x10 k := by
  rw [View.readAt_eq_ld, harg11.read_unread, bv_ld]

theorem convA : Blocks (fun _ => True) (CV (ext (fresh x8) (kernelRun0_A.sl.r_1 c arg1 harg1 arg2 harg2 arg3 harg3 x0 x1 x2)) x9 x10) (kernelRun0_A.sl.HS1_16 c arg1 harg1 arg2 harg2 arg3 harg3 arg9 harg9 arg10 harg10 arg11 harg11 arg26 x0 x1 x2 x8 x9 x10) := by
  unfold kernelRun0_A.sl.HS1_16
  refine blocks_cons (fun x _ => ?_) ?_
  · refine (congrArg _ (ix3_zero x)).trans ?_
    simp only [kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.v3623, kernelRun0_A.sl.v3630, kernelRun0_A.sl.v3637, kernelRun0_A.sl.v3644, kernelRun0_A.sl.v3651, kernelRun0_A.sl.v3658, kernelRun0_A.sl.v3665, kernelRun0_A.sl.v3672, kernelRun0_A.sl.v3679, kernelRun0_A.sl.v3686, kernelRun0_A.sl.v3693, kernelRun0_A.sl.v3700, kernelRun0_A.sl.v3707, kernelRun0_A.sl.v3714, kernelRun0_A.sl.v3721, kernelRun0_A.sl.v3728, kernelRun0_A.sl.v3735, kernelRun0_A.sl.v3742, kernelRun0_A.sl.v3749, kernelRun0_A.sl.v3756, kernelRun0_A.sl.v3763, kernelRun0_A.sl.v3770, kernelRun0_A.sl.v3777, kernelRun0_A.sl.v3784, kernelRun0_A.sl.v3791, kernelRun0_A.sl.v3798, kernelRun0_A.sl.v3805, kernelRun0_A.sl.v3812, kernelRun0_A.sl.v3819, kernelRun0_A.sl.v3826, kernelRun0_A.sl.v3833, wvA, bvA]
    simp (discharger := decide) only [ecA_7]
    exact (conv_7_128 (bv x10 7) (fun j => wv x9 7 j) (fun j => ev (ext (fresh x8) (kernelRun0_A.sl.r_1 c arg1 harg1 arg2 harg2 arg3 harg3 x0 x1 x2)) 7 (128 + 2 + j)) (x 1) (x 2)).trans (cv_eq _ _ _ 7 128 _ _ _ (chunk_coords 7 128 _ x).1 (chunk_coords 7 128 _ x).2.1 (chunk_coords 7 128 _ x).2.2)
  refine blocks_cons (fun x _ => ?_) ?_
  · refine (congrArg _ (ix3_zero x)).trans ?_
    simp only [kernelRun0_A.sl.r_188, kernelRun0_A.sl.r_189, kernelRun0_A.sl.r_190, kernelRun0_A.sl.r_191, kernelRun0_A.sl.r_192, kernelRun0_A.sl.r_193, kernelRun0_A.sl.r_194, kernelRun0_A.sl.r_195, kernelRun0_A.sl.r_196, kernelRun0_A.sl.r_197, kernelRun0_A.sl.v3399, kernelRun0_A.sl.v3406, kernelRun0_A.sl.v3413, kernelRun0_A.sl.v3420, kernelRun0_A.sl.v3427, kernelRun0_A.sl.v3434, kernelRun0_A.sl.v3441, kernelRun0_A.sl.v3448, kernelRun0_A.sl.v3455, kernelRun0_A.sl.v3462, kernelRun0_A.sl.v3469, kernelRun0_A.sl.v3476, kernelRun0_A.sl.v3483, kernelRun0_A.sl.v3490, kernelRun0_A.sl.v3497, kernelRun0_A.sl.v3504, kernelRun0_A.sl.v3511, kernelRun0_A.sl.v3518, kernelRun0_A.sl.v3525, kernelRun0_A.sl.v3532, kernelRun0_A.sl.v3539, kernelRun0_A.sl.v3546, kernelRun0_A.sl.v3553, kernelRun0_A.sl.v3560, kernelRun0_A.sl.v3567, kernelRun0_A.sl.v3574, kernelRun0_A.sl.v3581, kernelRun0_A.sl.v3588, kernelRun0_A.sl.v3595, kernelRun0_A.sl.v3602, kernelRun0_A.sl.v3609, wvA, bvA]
    simp (discharger := decide) only [ecA_7]
    exact (conv_7_0 (bv x10 7) (fun j => wv x9 7 j) (fun j => ev (ext (fresh x8) (kernelRun0_A.sl.r_1 c arg1 harg1 arg2 harg2 arg3 harg3 x0 x1 x2)) 7 (0 + 2 + j)) (x 1) (x 2)).trans (cv_eq _ _ _ 7 0 _ _ _ (chunk_coords 7 0 _ x).1 (chunk_coords 7 0 _ x).2.1 (chunk_coords 7 0 _ x).2.2)
  refine blocks_cons (fun x _ => ?_) ?_
  · refine (congrArg _ (ix3_zero x)).trans ?_
    simp only [kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.v3159, kernelRun0_A.sl.v3166, kernelRun0_A.sl.v3173, kernelRun0_A.sl.v3180, kernelRun0_A.sl.v3187, kernelRun0_A.sl.v3194, kernelRun0_A.sl.v3201, kernelRun0_A.sl.v3208, kernelRun0_A.sl.v3215, kernelRun0_A.sl.v3222, kernelRun0_A.sl.v3229, kernelRun0_A.sl.v3236, kernelRun0_A.sl.v3243, kernelRun0_A.sl.v3250, kernelRun0_A.sl.v3257, kernelRun0_A.sl.v3264, kernelRun0_A.sl.v3271, kernelRun0_A.sl.v3278, kernelRun0_A.sl.v3285, kernelRun0_A.sl.v3292, kernelRun0_A.sl.v3299, kernelRun0_A.sl.v3306, kernelRun0_A.sl.v3313, kernelRun0_A.sl.v3320, kernelRun0_A.sl.v3327, kernelRun0_A.sl.v3334, kernelRun0_A.sl.v3341, kernelRun0_A.sl.v3348, kernelRun0_A.sl.v3355, kernelRun0_A.sl.v3362, kernelRun0_A.sl.v3369, wvA, bvA]
    simp (discharger := decide) only [ecA_6]
    exact (conv_6_128 (bv x10 6) (fun j => wv x9 6 j) (fun j => ev (ext (fresh x8) (kernelRun0_A.sl.r_1 c arg1 harg1 arg2 harg2 arg3 harg3 x0 x1 x2)) 6 (128 + 2 + j)) (x 1) (x 2)).trans (cv_eq _ _ _ 6 128 _ _ _ (chunk_coords 6 128 _ x).1 (chunk_coords 6 128 _ x).2.1 (chunk_coords 6 128 _ x).2.2)
  refine blocks_cons (fun x _ => ?_) ?_
  · refine (congrArg _ (ix3_zero x)).trans ?_
    simp only [kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.v2935, kernelRun0_A.sl.v2942, kernelRun0_A.sl.v2949, kernelRun0_A.sl.v2956, kernelRun0_A.sl.v2963, kernelRun0_A.sl.v2970, kernelRun0_A.sl.v2977, kernelRun0_A.sl.v2984, kernelRun0_A.sl.v2991, kernelRun0_A.sl.v2998, kernelRun0_A.sl.v3005, kernelRun0_A.sl.v3012, kernelRun0_A.sl.v3019, kernelRun0_A.sl.v3026, kernelRun0_A.sl.v3033, kernelRun0_A.sl.v3040, kernelRun0_A.sl.v3047, kernelRun0_A.sl.v3054, kernelRun0_A.sl.v3061, kernelRun0_A.sl.v3068, kernelRun0_A.sl.v3075, kernelRun0_A.sl.v3082, kernelRun0_A.sl.v3089, kernelRun0_A.sl.v3096, kernelRun0_A.sl.v3103, kernelRun0_A.sl.v3110, kernelRun0_A.sl.v3117, kernelRun0_A.sl.v3124, kernelRun0_A.sl.v3131, kernelRun0_A.sl.v3138, kernelRun0_A.sl.v3145, wvA, bvA]
    simp (discharger := decide) only [ecA_6]
    exact (conv_6_0 (bv x10 6) (fun j => wv x9 6 j) (fun j => ev (ext (fresh x8) (kernelRun0_A.sl.r_1 c arg1 harg1 arg2 harg2 arg3 harg3 x0 x1 x2)) 6 (0 + 2 + j)) (x 1) (x 2)).trans (cv_eq _ _ _ 6 0 _ _ _ (chunk_coords 6 0 _ x).1 (chunk_coords 6 0 _ x).2.1 (chunk_coords 6 0 _ x).2.2)
  refine blocks_cons (fun x _ => ?_) ?_
  · refine (congrArg _ (ix3_zero x)).trans ?_
    simp only [kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.v2694, kernelRun0_A.sl.v2701, kernelRun0_A.sl.v2708, kernelRun0_A.sl.v2715, kernelRun0_A.sl.v2722, kernelRun0_A.sl.v2729, kernelRun0_A.sl.v2736, kernelRun0_A.sl.v2743, kernelRun0_A.sl.v2750, kernelRun0_A.sl.v2757, kernelRun0_A.sl.v2764, kernelRun0_A.sl.v2771, kernelRun0_A.sl.v2778, kernelRun0_A.sl.v2785, kernelRun0_A.sl.v2792, kernelRun0_A.sl.v2799, kernelRun0_A.sl.v2806, kernelRun0_A.sl.v2813, kernelRun0_A.sl.v2820, kernelRun0_A.sl.v2827, kernelRun0_A.sl.v2834, kernelRun0_A.sl.v2841, kernelRun0_A.sl.v2848, kernelRun0_A.sl.v2855, kernelRun0_A.sl.v2862, kernelRun0_A.sl.v2869, kernelRun0_A.sl.v2876, kernelRun0_A.sl.v2883, kernelRun0_A.sl.v2890, kernelRun0_A.sl.v2897, kernelRun0_A.sl.v2904, wvA, bvA]
    simp (discharger := decide) only [ecA_5]
    exact (conv_5_128 (bv x10 5) (fun j => wv x9 5 j) (fun j => ev (ext (fresh x8) (kernelRun0_A.sl.r_1 c arg1 harg1 arg2 harg2 arg3 harg3 x0 x1 x2)) 5 (128 + 2 + j)) (x 1) (x 2)).trans (cv_eq _ _ _ 5 128 _ _ _ (chunk_coords 5 128 _ x).1 (chunk_coords 5 128 _ x).2.1 (chunk_coords 5 128 _ x).2.2)
  refine blocks_cons (fun x _ => ?_) ?_
  · refine (congrArg _ (ix3_zero x)).trans ?_
    simp only [kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.v2470, kernelRun0_A.sl.v2477, kernelRun0_A.sl.v2484, kernelRun0_A.sl.v2491, kernelRun0_A.sl.v2498, kernelRun0_A.sl.v2505, kernelRun0_A.sl.v2512, kernelRun0_A.sl.v2519, kernelRun0_A.sl.v2526, kernelRun0_A.sl.v2533, kernelRun0_A.sl.v2540, kernelRun0_A.sl.v2547, kernelRun0_A.sl.v2554, kernelRun0_A.sl.v2561, kernelRun0_A.sl.v2568, kernelRun0_A.sl.v2575, kernelRun0_A.sl.v2582, kernelRun0_A.sl.v2589, kernelRun0_A.sl.v2596, kernelRun0_A.sl.v2603, kernelRun0_A.sl.v2610, kernelRun0_A.sl.v2617, kernelRun0_A.sl.v2624, kernelRun0_A.sl.v2631, kernelRun0_A.sl.v2638, kernelRun0_A.sl.v2645, kernelRun0_A.sl.v2652, kernelRun0_A.sl.v2659, kernelRun0_A.sl.v2666, kernelRun0_A.sl.v2673, kernelRun0_A.sl.v2680, wvA, bvA]
    simp (discharger := decide) only [ecA_5]
    exact (conv_5_0 (bv x10 5) (fun j => wv x9 5 j) (fun j => ev (ext (fresh x8) (kernelRun0_A.sl.r_1 c arg1 harg1 arg2 harg2 arg3 harg3 x0 x1 x2)) 5 (0 + 2 + j)) (x 1) (x 2)).trans (cv_eq _ _ _ 5 0 _ _ _ (chunk_coords 5 0 _ x).1 (chunk_coords 5 0 _ x).2.1 (chunk_coords 5 0 _ x).2.2)
  refine blocks_cons (fun x _ => ?_) ?_
  · refine (congrArg _ (ix3_zero x)).trans ?_
    simp only [kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.v2229, kernelRun0_A.sl.v2236, kernelRun0_A.sl.v2243, kernelRun0_A.sl.v2250, kernelRun0_A.sl.v2257, kernelRun0_A.sl.v2264, kernelRun0_A.sl.v2271, kernelRun0_A.sl.v2278, kernelRun0_A.sl.v2285, kernelRun0_A.sl.v2292, kernelRun0_A.sl.v2299, kernelRun0_A.sl.v2306, kernelRun0_A.sl.v2313, kernelRun0_A.sl.v2320, kernelRun0_A.sl.v2327, kernelRun0_A.sl.v2334, kernelRun0_A.sl.v2341, kernelRun0_A.sl.v2348, kernelRun0_A.sl.v2355, kernelRun0_A.sl.v2362, kernelRun0_A.sl.v2369, kernelRun0_A.sl.v2376, kernelRun0_A.sl.v2383, kernelRun0_A.sl.v2390, kernelRun0_A.sl.v2397, kernelRun0_A.sl.v2404, kernelRun0_A.sl.v2411, kernelRun0_A.sl.v2418, kernelRun0_A.sl.v2425, kernelRun0_A.sl.v2432, kernelRun0_A.sl.v2439, wvA, bvA]
    simp (discharger := decide) only [ecA_4]
    exact (conv_4_128 (bv x10 4) (fun j => wv x9 4 j) (fun j => ev (ext (fresh x8) (kernelRun0_A.sl.r_1 c arg1 harg1 arg2 harg2 arg3 harg3 x0 x1 x2)) 4 (128 + 2 + j)) (x 1) (x 2)).trans (cv_eq _ _ _ 4 128 _ _ _ (chunk_coords 4 128 _ x).1 (chunk_coords 4 128 _ x).2.1 (chunk_coords 4 128 _ x).2.2)
  refine blocks_cons (fun x _ => ?_) ?_
  · refine (congrArg _ (ix3_zero x)).trans ?_
    simp only [kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.v2005, kernelRun0_A.sl.v2012, kernelRun0_A.sl.v2019, kernelRun0_A.sl.v2026, kernelRun0_A.sl.v2033, kernelRun0_A.sl.v2040, kernelRun0_A.sl.v2047, kernelRun0_A.sl.v2054, kernelRun0_A.sl.v2061, kernelRun0_A.sl.v2068, kernelRun0_A.sl.v2075, kernelRun0_A.sl.v2082, kernelRun0_A.sl.v2089, kernelRun0_A.sl.v2096, kernelRun0_A.sl.v2103, kernelRun0_A.sl.v2110, kernelRun0_A.sl.v2117, kernelRun0_A.sl.v2124, kernelRun0_A.sl.v2131, kernelRun0_A.sl.v2138, kernelRun0_A.sl.v2145, kernelRun0_A.sl.v2152, kernelRun0_A.sl.v2159, kernelRun0_A.sl.v2166, kernelRun0_A.sl.v2173, kernelRun0_A.sl.v2180, kernelRun0_A.sl.v2187, kernelRun0_A.sl.v2194, kernelRun0_A.sl.v2201, kernelRun0_A.sl.v2208, kernelRun0_A.sl.v2215, wvA, bvA]
    simp (discharger := decide) only [ecA_4]
    exact (conv_4_0 (bv x10 4) (fun j => wv x9 4 j) (fun j => ev (ext (fresh x8) (kernelRun0_A.sl.r_1 c arg1 harg1 arg2 harg2 arg3 harg3 x0 x1 x2)) 4 (0 + 2 + j)) (x 1) (x 2)).trans (cv_eq _ _ _ 4 0 _ _ _ (chunk_coords 4 0 _ x).1 (chunk_coords 4 0 _ x).2.1 (chunk_coords 4 0 _ x).2.2)
  refine blocks_cons (fun x _ => ?_) ?_
  · refine (congrArg _ (ix3_zero x)).trans ?_
    simp only [kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_95, kernelRun0_A.sl.r_96, kernelRun0_A.sl.r_97, kernelRun0_A.sl.r_98, kernelRun0_A.sl.r_99, kernelRun0_A.sl.v1741, kernelRun0_A.sl.v1748, kernelRun0_A.sl.v1755, kernelRun0_A.sl.v1762, kernelRun0_A.sl.v1769, kernelRun0_A.sl.v1776, kernelRun0_A.sl.v1783, kernelRun0_A.sl.v1790, kernelRun0_A.sl.v1797, kernelRun0_A.sl.v1804, kernelRun0_A.sl.v1811, kernelRun0_A.sl.v1818, kernelRun0_A.sl.v1825, kernelRun0_A.sl.v1832, kernelRun0_A.sl.v1839, kernelRun0_A.sl.v1846, kernelRun0_A.sl.v1853, kernelRun0_A.sl.v1860, kernelRun0_A.sl.v1867, kernelRun0_A.sl.v1874, kernelRun0_A.sl.v1881, kernelRun0_A.sl.v1888, kernelRun0_A.sl.v1895, kernelRun0_A.sl.v1902, kernelRun0_A.sl.v1909, kernelRun0_A.sl.v1916, kernelRun0_A.sl.v1923, kernelRun0_A.sl.v1930, kernelRun0_A.sl.v1937, kernelRun0_A.sl.v1944, kernelRun0_A.sl.v1951, wvA, bvA]
    simp (discharger := decide) only [ecA_3]
    exact (conv_3_128 (bv x10 3) (fun j => wv x9 3 j) (fun j => ev (ext (fresh x8) (kernelRun0_A.sl.r_1 c arg1 harg1 arg2 harg2 arg3 harg3 x0 x1 x2)) 3 (128 + 2 + j)) (x 1) (x 2)).trans (cv_eq _ _ _ 3 128 _ _ _ (chunk_coords 3 128 _ x).1 (chunk_coords 3 128 _ x).2.1 (chunk_coords 3 128 _ x).2.2)
  refine blocks_cons (fun x _ => ?_) ?_
  · refine (congrArg _ (ix3_zero x)).trans ?_
    simp only [kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.v1517, kernelRun0_A.sl.v1524, kernelRun0_A.sl.v1531, kernelRun0_A.sl.v1538, kernelRun0_A.sl.v1545, kernelRun0_A.sl.v1552, kernelRun0_A.sl.v1559, kernelRun0_A.sl.v1566, kernelRun0_A.sl.v1573, kernelRun0_A.sl.v1580, kernelRun0_A.sl.v1587, kernelRun0_A.sl.v1594, kernelRun0_A.sl.v1601, kernelRun0_A.sl.v1608, kernelRun0_A.sl.v1615, kernelRun0_A.sl.v1622, kernelRun0_A.sl.v1629, kernelRun0_A.sl.v1636, kernelRun0_A.sl.v1643, kernelRun0_A.sl.v1650, kernelRun0_A.sl.v1657, kernelRun0_A.sl.v1664, kernelRun0_A.sl.v1671, kernelRun0_A.sl.v1678, kernelRun0_A.sl.v1685, kernelRun0_A.sl.v1692, kernelRun0_A.sl.v1699, kernelRun0_A.sl.v1706, kernelRun0_A.sl.v1713, kernelRun0_A.sl.v1720, kernelRun0_A.sl.v1727, wvA, bvA]
    simp (discharger := decide) only [ecA_3]
    exact (conv_3_0 (bv x10 3) (fun j => wv x9 3 j) (fun j => ev (ext (fresh x8) (kernelRun0_A.sl.r_1 c arg1 harg1 arg2 harg2 arg3 harg3 x0 x1 x2)) 3 (0 + 2 + j)) (x 1) (x 2)).trans (cv_eq _ _ _ 3 0 _ _ _ (chunk_coords 3 0 _ x).1 (chunk_coords 3 0 _ x).2.1 (chunk_coords 3 0 _ x).2.2)
  refine blocks_cons (fun x _ => ?_) ?_
  · refine (congrArg _ (ix3_zero x)).trans ?_
    simp only [kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.v1276, kernelRun0_A.sl.v1283, kernelRun0_A.sl.v1290, kernelRun0_A.sl.v1297, kernelRun0_A.sl.v1304, kernelRun0_A.sl.v1311, kernelRun0_A.sl.v1318, kernelRun0_A.sl.v1325, kernelRun0_A.sl.v1332, kernelRun0_A.sl.v1339, kernelRun0_A.sl.v1346, kernelRun0_A.sl.v1353, kernelRun0_A.sl.v1360, kernelRun0_A.sl.v1367, kernelRun0_A.sl.v1374, kernelRun0_A.sl.v1381, kernelRun0_A.sl.v1388, kernelRun0_A.sl.v1395, kernelRun0_A.sl.v1402, kernelRun0_A.sl.v1409, kernelRun0_A.sl.v1416, kernelRun0_A.sl.v1423, kernelRun0_A.sl.v1430, kernelRun0_A.sl.v1437, kernelRun0_A.sl.v1444, kernelRun0_A.sl.v1451, kernelRun0_A.sl.v1458, kernelRun0_A.sl.v1465, kernelRun0_A.sl.v1472, kernelRun0_A.sl.v1479, kernelRun0_A.sl.v1486, wvA, bvA]
    simp (discharger := decide) only [ecA_2]
    exact (conv_2_128 (bv x10 2) (fun j => wv x9 2 j) (fun j => ev (ext (fresh x8) (kernelRun0_A.sl.r_1 c arg1 harg1 arg2 harg2 arg3 harg3 x0 x1 x2)) 2 (128 + 2 + j)) (x 1) (x 2)).trans (cv_eq _ _ _ 2 128 _ _ _ (chunk_coords 2 128 _ x).1 (chunk_coords 2 128 _ x).2.1 (chunk_coords 2 128 _ x).2.2)
  refine blocks_cons (fun x _ => ?_) ?_
  · refine (congrArg _ (ix3_zero x)).trans ?_
    simp only [kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.v1052, kernelRun0_A.sl.v1059, kernelRun0_A.sl.v1066, kernelRun0_A.sl.v1073, kernelRun0_A.sl.v1080, kernelRun0_A.sl.v1087, kernelRun0_A.sl.v1094, kernelRun0_A.sl.v1101, kernelRun0_A.sl.v1108, kernelRun0_A.sl.v1115, kernelRun0_A.sl.v1122, kernelRun0_A.sl.v1129, kernelRun0_A.sl.v1136, kernelRun0_A.sl.v1143, kernelRun0_A.sl.v1150, kernelRun0_A.sl.v1157, kernelRun0_A.sl.v1164, kernelRun0_A.sl.v1171, kernelRun0_A.sl.v1178, kernelRun0_A.sl.v1185, kernelRun0_A.sl.v1192, kernelRun0_A.sl.v1199, kernelRun0_A.sl.v1206, kernelRun0_A.sl.v1213, kernelRun0_A.sl.v1220, kernelRun0_A.sl.v1227, kernelRun0_A.sl.v1234, kernelRun0_A.sl.v1241, kernelRun0_A.sl.v1248, kernelRun0_A.sl.v1255, kernelRun0_A.sl.v1262, wvA, bvA]
    simp (discharger := decide) only [ecA_2]
    exact (conv_2_0 (bv x10 2) (fun j => wv x9 2 j) (fun j => ev (ext (fresh x8) (kernelRun0_A.sl.r_1 c arg1 harg1 arg2 harg2 arg3 harg3 x0 x1 x2)) 2 (0 + 2 + j)) (x 1) (x 2)).trans (cv_eq _ _ _ 2 0 _ _ _ (chunk_coords 2 0 _ x).1 (chunk_coords 2 0 _ x).2.1 (chunk_coords 2 0 _ x).2.2)
  refine blocks_cons (fun x _ => ?_) ?_
  · refine (congrArg _ (ix3_zero x)).trans ?_
    simp only [kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v1001, kernelRun0_A.sl.v791, kernelRun0_A.sl.v798, kernelRun0_A.sl.v805, kernelRun0_A.sl.v812, kernelRun0_A.sl.v819, kernelRun0_A.sl.v826, kernelRun0_A.sl.v833, kernelRun0_A.sl.v840, kernelRun0_A.sl.v847, kernelRun0_A.sl.v854, kernelRun0_A.sl.v861, kernelRun0_A.sl.v868, kernelRun0_A.sl.v875, kernelRun0_A.sl.v882, kernelRun0_A.sl.v889, kernelRun0_A.sl.v896, kernelRun0_A.sl.v903, kernelRun0_A.sl.v910, kernelRun0_A.sl.v917, kernelRun0_A.sl.v924, kernelRun0_A.sl.v931, kernelRun0_A.sl.v938, kernelRun0_A.sl.v945, kernelRun0_A.sl.v952, kernelRun0_A.sl.v959, kernelRun0_A.sl.v966, kernelRun0_A.sl.v973, kernelRun0_A.sl.v980, kernelRun0_A.sl.v987, kernelRun0_A.sl.v994, wvA, bvA]
    simp (discharger := decide) only [ecA_1]
    exact (conv_1_128 (bv x10 1) (fun j => wv x9 1 j) (fun j => ev (ext (fresh x8) (kernelRun0_A.sl.r_1 c arg1 harg1 arg2 harg2 arg3 harg3 x0 x1 x2)) 1 (128 + 2 + j)) (x 1) (x 2)).trans (cv_eq _ _ _ 1 128 _ _ _ (chunk_coords 1 128 _ x).1 (chunk_coords 1 128 _ x).2.1 (chunk_coords 1 128 _ x).2.2)
  refine blocks_cons (fun x _ => ?_) ?_
  · refine (congrArg _ (ix3_zero x)).trans ?_
    simp only [kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.v567, kernelRun0_A.sl.v574, kernelRun0_A.sl.v581, kernelRun0_A.sl.v588, kernelRun0_A.sl.v595, kernelRun0_A.sl.v602, kernelRun0_A.sl.v609, kernelRun0_A.sl.v616, kernelRun0_A.sl.v623, kernelRun0_A.sl.v630, kernelRun0_A.sl.v637, kernelRun0_A.sl.v644, kernelRun0_A.sl.v651, kernelRun0_A.sl.v658, kernelRun0_A.sl.v665, kernelRun0_A.sl.v672, kernelRun0_A.sl.v679, kernelRun0_A.sl.v686, kernelRun0_A.sl.v693, kernelRun0_A.sl.v700, kernelRun0_A.sl.v707, kernelRun0_A.sl.v714, kernelRun0_A.sl.v721, kernelRun0_A.sl.v728, kernelRun0_A.sl.v735, kernelRun0_A.sl.v742, kernelRun0_A.sl.v749, kernelRun0_A.sl.v756, kernelRun0_A.sl.v763, kernelRun0_A.sl.v770, kernelRun0_A.sl.v777, wvA, bvA]
    simp (discharger := decide) only [ecA_1]
    exact (conv_1_0 (bv x10 1) (fun j => wv x9 1 j) (fun j => ev (ext (fresh x8) (kernelRun0_A.sl.r_1 c arg1 harg1 arg2 harg2 arg3 harg3 x0 x1 x2)) 1 (0 + 2 + j)) (x 1) (x 2)).trans (cv_eq _ _ _ 1 0 _ _ _ (chunk_coords 1 0 _ x).1 (chunk_coords 1 0 _ x).2.1 (chunk_coords 1 0 _ x).2.2)
  refine blocks_cons (fun x _ => ?_) ?_
  · refine (congrArg _ (ix3_zero x)).trans ?_
    simp only [kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.v310, kernelRun0_A.sl.v317, kernelRun0_A.sl.v324, kernelRun0_A.sl.v331, kernelRun0_A.sl.v338, kernelRun0_A.sl.v345, kernelRun0_A.sl.v352, kernelRun0_A.sl.v359, kernelRun0_A.sl.v366, kernelRun0_A.sl.v373, kernelRun0_A.sl.v380, kernelRun0_A.sl.v387, kernelRun0_A.sl.v394, kernelRun0_A.sl.v401, kernelRun0_A.sl.v408, kernelRun0_A.sl.v415, kernelRun0_A.sl.v422, kernelRun0_A.sl.v429, kernelRun0_A.sl.v436, kernelRun0_A.sl.v443, kernelRun0_A.sl.v450, kernelRun0_A.sl.v457, kernelRun0_A.sl.v464, kernelRun0_A.sl.v471, kernelRun0_A.sl.v478, kernelRun0_A.sl.v485, kernelRun0_A.sl.v492, kernelRun0_A.sl.v499, kernelRun0_A.sl.v506, kernelRun0_A.sl.v513, kernelRun0_A.sl.v520, wvA, bvA]
    simp (discharger := decide) only [ecA_0]
    exact (conv_0_128 (bv x10 0) (fun j => wv x9 0 j) (fun j => ev (ext (fresh x8) (kernelRun0_A.sl.r_1 c arg1 harg1 arg2 harg2 arg3 harg3 x0 x1 x2)) 0 (128 + 2 + j)) (x 1) (x 2)).trans (cv_eq _ _ _ 0 128 _ _ _ (chunk_coords 0 128 _ x).1 (chunk_coords 0 128 _ x).2.1 (chunk_coords 0 128 _ x).2.2)
  refine blocks_cons (fun x _ => ?_) ?_
  · refine (congrArg _ (ix3_zero x)).trans ?_
    simp only [kernelRun0_A.sl.r_10, kernelRun0_A.sl.r_11, kernelRun0_A.sl.r_12, kernelRun0_A.sl.r_13, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v100, kernelRun0_A.sl.v107, kernelRun0_A.sl.v114, kernelRun0_A.sl.v121, kernelRun0_A.sl.v128, kernelRun0_A.sl.v135, kernelRun0_A.sl.v142, kernelRun0_A.sl.v149, kernelRun0_A.sl.v156, kernelRun0_A.sl.v163, kernelRun0_A.sl.v170, kernelRun0_A.sl.v177, kernelRun0_A.sl.v184, kernelRun0_A.sl.v191, kernelRun0_A.sl.v198, kernelRun0_A.sl.v205, kernelRun0_A.sl.v212, kernelRun0_A.sl.v219, kernelRun0_A.sl.v226, kernelRun0_A.sl.v233, kernelRun0_A.sl.v240, kernelRun0_A.sl.v247, kernelRun0_A.sl.v254, kernelRun0_A.sl.v261, kernelRun0_A.sl.v268, kernelRun0_A.sl.v275, kernelRun0_A.sl.v282, kernelRun0_A.sl.v289, kernelRun0_A.sl.v296, kernelRun0_A.sl.v86, kernelRun0_A.sl.v93, wvA, bvA]
    simp (discharger := decide) only [ecA_0]
    exact (conv_0_0 (bv x10 0) (fun j => wv x9 0 j) (fun j => ev (ext (fresh x8) (kernelRun0_A.sl.r_1 c arg1 harg1 arg2 harg2 arg3 harg3 x0 x1 x2)) 0 (0 + 2 + j)) (x 1) (x 2)).trans (cv_eq _ _ _ 0 0 _ _ _ (chunk_coords 0 0 _ x).1 (chunk_coords 0 0 _ x).2.1 (chunk_coords 0 0 _ x).2.2)
  exact blocks_nil

theorem xvA (k : ℕ) (inb) :
    arg27.view.readCov (kernelRun0_A.sl.HS1_16 c arg1 harg1 arg2 harg2 arg3 harg3 arg9 harg9 arg10 harg10 arg11 harg11 arg26 x0 x1 x2 x8 x9 x10) (Rect.unit (s := S8x256x128) ![k, 0, 0] ![1, 256, 128] inb).toLoadRect = xv (CV (ext (fresh x8) (kernelRun0_A.sl.r_1 c arg1 harg1 arg2 harg2 arg3 harg3 x0 x1 x2)) x9 x10) k :=
  xv_cov _ _ _ convA (fun y => View.cover_of_tiledL _ ![1, 128, 128] (by sl_kernel_rfl) y) k inb
theorem gvA (k : ℕ) (inb) : View.readAt (Elt Ideal) arg12.view (Rect.unit (s := S1x1024) ![0, k] ![1, 128] inb).toLoadRect (harg12.unread x11) = gv x11 k := by
  rw [View.readAt_eq_ld, harg12.read_unread, gv_ld]
theorem hvA (k : ℕ) (inb) : View.readAt (Elt Ideal) arg13.view (Rect.unit (s := S1x1024) ![0, k] ![1, 128] inb).toLoadRect (harg13.unread x12) = gv x12 k := by
  rw [View.readAt_eq_ld, harg13.read_unread, gv_ld]

end Cert.InpIdeal.Rows
-- ==== Proof.Hand.InpConvB.lean ====
/- The convolution's buffers at the later tiles of a sequence: what their loads read, and the convolved tile. -/
module

public import proofs.«01_k».proof.Proof.Hand.InpHalo

@[expose] public section

set_option maxHeartbeats 8000000
set_option maxRecDepth 16384

noncomputable section

namespace Cert.InpIdeal.Rows

open Idealize.ShloMosaic Idealize.ShloMosaic.TcCoe Idealize.SL.Sem Cert.InpIdeal Cert.InpIdeal.Gen Cert.InpSpec

variable {c : Dev nD} {arg1 : Memref sig .tc .vmem S256x1024 .f32} {harg1 : arg1.IsWhole} {arg2 : Memref sig .tc .vmem S1x1024 .f32} {harg2 : arg2.IsWhole} {arg3 : Memref sig .tc .vmem S1024x9344 .bf16} {harg3 : arg3.IsWhole} {arg10 : Memref sig .tc .vmem S8x32x128 .f32} {harg10 : arg10.IsWhole} {arg11 : Memref sig .tc .vmem S8x1x128 .f32} {harg11 : arg11.IsWhole} {arg12 : Memref sig .tc .vmem S1x1024 .f32} {harg12 : arg12.IsWhole} {arg13 : Memref sig .tc .vmem S1x1024 .f32} {harg13 : arg13.IsWhole} {arg26 : Memref sig .tc .vmem S8x288x128 .f32} {harg26 : arg26.IsWhole} {arg27 : Memref sig .tc .vmem S8x256x128 .f32} {x0 : Vec Ideal S256x1024 .f32} {x1 : Vec Ideal S1x1024 .f32} {x2 : Vec Ideal S1024x9344 .bf16} {x9 : Vec Ideal S8x32x128 .f32} {x10 : Vec Ideal S8x1x128 .f32} {x11 : Vec Ideal S1x1024 .f32} {x12 : Vec Ideal S1x1024 .f32} {xs0 : Vec Ideal S8x288x128 .f32}

theorem blocksB_0 : Blocks (fun y => 0 ≤ (y 0).val) (ext xs0 (kernelRun0_B.sl.r_1 c arg1 harg1 arg2 harg2 arg3 harg3 x0 x1 x2)) (kernelRun0_B.sl.HS0_8 c arg1 harg1 arg2 harg2 arg3 harg3 x0 x1 x2) := by
  unfold kernelRun0_B.sl.HS0_8
  refine blocks_cons (fun x _ => ?_) ?_
  · exact blk_u_7 xs0 (kernelRun0_B.sl.r_1 c arg1 harg1 arg2 harg2 arg3 harg3 x0 x1 x2) _ (by decide) (by decide) x
  refine blocks_cons (fun x _ => ?_) ?_
  · exact blk_u_6 xs0 (kernelRun0_B.sl.r_1 c arg1 harg1 arg2 harg2 arg3 harg3 x0 x1 x2) _ (by decide) (by decide) x
  refine blocks_cons (fun x _ => ?_) ?_
  · exact blk_u_5 xs0 (kernelRun0_B.sl.r_1 c arg1 harg1 arg2 harg2 arg3 harg3 x0 x1 x2) _ (by decide) (by decide) x
  refine blocks_cons (fun x _ => ?_) ?_
  · exact blk_u_4 xs0 (kernelRun0_B.sl.r_1 c arg1 harg1 arg2 harg2 arg3 harg3 x0 x1 x2) _ (by decide) (by decide) x
  refine blocks_cons (fun x _ => ?_) ?_
  · exact blk_u_3 xs0 (kernelRun0_B.sl.r_1 c arg1 harg1 arg2 harg2 arg3 harg3 x0 x1 x2) _ (by decide) (by decide) x
  refine blocks_cons (fun x _ => ?_) ?_
  · exact blk_u_2 xs0 (kernelRun0_B.sl.r_1 c arg1 harg1 arg2 harg2 arg3 harg3 x0 x1 x2) _ (by decide) (by decide) x
  refine blocks_cons (fun x _ => ?_) ?_
  · exact blk_u_1 xs0 (kernelRun0_B.sl.r_1 c arg1 harg1 arg2 harg2 arg3 harg3 x0 x1 x2) _ (by decide) (by decide) x
  refine blocks_cons (fun x _ => ?_) ?_
  · exact blk_u_0 xs0 (kernelRun0_B.sl.r_1 c arg1 harg1 arg2 harg2 arg3 harg3 x0 x1 x2) _ (by decide) (by decide) x
  exact blocks_nil

theorem blocksB_1 : Blocks (fun y => 1 ≤ (y 0).val) (ext xs0 (kernelRun0_B.sl.r_1 c arg1 harg1 arg2 harg2 arg3 harg3 x0 x1 x2)) (kernelRun0_B.sl.HS0_9 c arg1 harg1 arg2 harg2 arg3 harg3 arg26 x0 x1 x2) := by
  unfold kernelRun0_B.sl.HS0_9
  exact blocks_move _ _ 0 _ _ blocksB_0

theorem blocksB_2 : Blocks (fun y => 2 ≤ (y 0).val) (ext xs0 (kernelRun0_B.sl.r_1 c arg1 harg1 arg2 harg2 arg3 harg3 x0 x1 x2)) (kernelRun0_B.sl.HS0_10 c arg1 harg1 arg2 harg2 arg3 harg3 arg26 x0 x1 x2) := by
  unfold kernelRun0_B.sl.HS0_10
  exact blocks_move _ _ 1 _ _ blocksB_1

theorem blocksB_3 : Blocks (fun y => 3 ≤ (y 0).val) (ext xs0 (kernelRun0_B.sl.r_1 c arg1 harg1 arg2 harg2 arg3 harg3 x0 x1 x2)) (kernelRun0_B.sl.HS0_11 c arg1 harg1 arg2 harg2 arg3 harg3 arg26 x0 x1 x2) := by
  unfold kernelRun0_B.sl.HS0_11
  exact blocks_move _ _ 2 _ _ blocksB_2

theorem blocksB_4 : Blocks (fun y => 4 ≤ (y 0).val) (ext xs0 (kernelRun0_B.sl.r_1 c arg1 harg1 arg2 harg2 arg3 harg3 x0 x1 x2)) (kernelRun0_B.sl.HS0_12 c arg1 harg1 arg2 harg2 arg3 harg3 arg26 x0 x1 x2) := by
  unfold kernelRun0_B.sl.HS0_12
  exact blocks_move _ _ 3 _ _ blocksB_3

theorem blocksB_5 : Blocks (fun y => 5 ≤ (y 0).val) (ext xs0 (kernelRun0_B.sl.r_1 c arg1 harg1 arg2 harg2 arg3 harg3 x0 x1 x2)) (kernelRun0_B.sl.HS0_13 c arg1 harg1 arg2 harg2 arg3 harg3 arg26 x0 x1 x2) := by
  unfold kernelRun0_B.sl.HS0_13
  exact blocks_move _ _ 4 _ _ blocksB_4

theorem blocksB_6 : Blocks (fun y => 6 ≤ (y 0).val) (ext xs0 (kernelRun0_B.sl.r_1 c arg1 harg1 arg2 harg2 arg3 harg3 x0 x1 x2)) (kernelRun0_B.sl.HS0_14 c arg1 harg1 arg2 harg2 arg3 harg3 arg26 x0 x1 x2) := by
  unfold kernelRun0_B.sl.HS0_14
  exact blocks_move _ _ 5 _ _ blocksB_5

theorem blocksB_7 : Blocks (fun y => 7 ≤ (y 0).val) (ext xs0 (kernelRun0_B.sl.r_1 c arg1 harg1 arg2 harg2 arg3 harg3 x0 x1 x2)) (kernelRun0_B.sl.HS0_15 c arg1 harg1 arg2 harg2 arg3 harg3 arg26 x0 x1 x2) := by
  unfold kernelRun0_B.sl.HS0_15
  exact blocks_move _ _ 6 _ _ blocksB_6

theorem covB_0 (y : S8x288x128.Idx) (hm : 32 ≤ (y 1).val) : ∃ p ∈ (kernelRun0_B.sl.HS0_8 c arg1 harg1 arg2 harg2 arg3 harg3 x0 x1 x2), y ∈ p.1.set := by
  have b0 : (y 0).val < 8 := (y 0).isLt
  have b1 : (y 1).val < 288 := (y 1).isLt
  unfold kernelRun0_B.sl.HS0_8
  have hc : (y 0).val = 0 ∨ (y 0).val = 1 ∨ (y 0).val = 2 ∨ (y 0).val = 3 ∨ (y 0).val = 4 ∨ (y 0).val = 5 ∨ (y 0).val = 6 ∨ (y 0).val = 7 := by omega
  rcases hc with h | h | h | h | h | h | h | h
  · exact (cov_there (cov_there (cov_there (cov_there (cov_there (cov_there (cov_there (cov_here (mem_chunk (o := 32) (d := 256) 0 _ y h (by omega) (by omega))))))))))
  · exact (cov_there (cov_there (cov_there (cov_there (cov_there (cov_there (cov_here (mem_chunk (o := 32) (d := 256) 1 _ y h (by omega) (by omega)))))))))
  · exact (cov_there (cov_there (cov_there (cov_there (cov_there (cov_here (mem_chunk (o := 32) (d := 256) 2 _ y h (by omega) (by omega))))))))
  · exact (cov_there (cov_there (cov_there (cov_there (cov_here (mem_chunk (o := 32) (d := 256) 3 _ y h (by omega) (by omega)))))))
  · exact (cov_there (cov_there (cov_there (cov_here (mem_chunk (o := 32) (d := 256) 4 _ y h (by omega) (by omega))))))
  · exact (cov_there (cov_there (cov_here (mem_chunk (o := 32) (d := 256) 5 _ y h (by omega) (by omega)))))
  · exact (cov_there (cov_here (mem_chunk (o := 32) (d := 256) 6 _ y h (by omega) (by omega))))
  · exact (cov_here (mem_chunk (o := 32) (d := 256) 7 _ y h (by omega) (by omega)))

theorem covB_1 (y : S8x288x128.Idx) (hm : 32 ≤ (y 1).val) : ∃ p ∈ (kernelRun0_B.sl.HS0_9 c arg1 harg1 arg2 harg2 arg3 harg3 arg26 x0 x1 x2), y ∈ p.1.set := by
  unfold kernelRun0_B.sl.HS0_9
  exact cov_there (covB_0 y hm)
theorem covB_2 (y : S8x288x128.Idx) (hm : 32 ≤ (y 1).val) : ∃ p ∈ (kernelRun0_B.sl.HS0_10 c arg1 harg1 arg2 harg2 arg3 harg3 arg26 x0 x1 x2), y ∈ p.1.set := by
  unfold kernelRun0_B.sl.HS0_10
  exact cov_there (covB_1 y hm)
theorem covB_3 (y : S8x288x128.Idx) (hm : 32 ≤ (y 1).val) : ∃ p ∈ (kernelRun0_B.sl.HS0_11 c arg1 harg1 arg2 harg2 arg3 harg3 arg26 x0 x1 x2), y ∈ p.1.set := by
  unfold kernelRun0_B.sl.HS0_11
  exact cov_there (covB_2 y hm)
theorem covB_4 (y : S8x288x128.Idx) (hm : 32 ≤ (y 1).val) : ∃ p ∈ (kernelRun0_B.sl.HS0_12 c arg1 harg1 arg2 harg2 arg3 harg3 arg26 x0 x1 x2), y ∈ p.1.set := by
  unfold kernelRun0_B.sl.HS0_12
  exact cov_there (covB_3 y hm)
theorem covB_5 (y : S8x288x128.Idx) (hm : 32 ≤ (y 1).val) : ∃ p ∈ (kernelRun0_B.sl.HS0_13 c arg1 harg1 arg2 harg2 arg3 harg3 arg26 x0 x1 x2), y ∈ p.1.set := by
  unfold kernelRun0_B.sl.HS0_13
  exact cov_there (covB_4 y hm)
theorem covB_6 (y : S8x288x128.Idx) (hm : 32 ≤ (y 1).val) : ∃ p ∈ (kernelRun0_B.sl.HS0_14 c arg1 harg1 arg2 harg2 arg3 harg3 arg26 x0 x1 x2), y ∈ p.1.set := by
  unfold kernelRun0_B.sl.HS0_14
  exact cov_there (covB_5 y hm)
theorem covB_7 (y : S8x288x128.Idx) (hm : 32 ≤ (y 1).val) : ∃ p ∈ (kernelRun0_B.sl.HS0_15 c arg1 harg1 arg2 harg2 arg3 harg3 arg26 x0 x1 x2), y ∈ p.1.set := by
  unfold kernelRun0_B.sl.HS0_15
  exact cov_there (covB_6 y hm)

theorem evB_0 (r : ℕ) (inb) :
    View.readAt (Elt Ideal) arg26.view (Rect.unit (s := S8x288x128) ![0, r, 0] ![1, 128, 128] inb).toLoadRect
      (arg26.view.writes (Elt Ideal) (harg26.unread xs0) (kernelRun0_B.sl.HS0_8 c arg1 harg1 arg2 harg2 arg3 harg3 x0 x1 x2)) = ev (ext xs0 (kernelRun0_B.sl.r_1 c arg1 harg1 arg2 harg2 arg3 harg3 x0 x1 x2)) 0 r :=
  ev_over _ _ _ _ 0 blocksB_0 (fun y => by
    rcases Nat.lt_or_ge (y 1).val 32 with h | h
    · exact Or.inl ((congrFun (harg26.read_unread xs0) y).trans (ext_lo _ _ y h).symm)
    · exact Or.inr (covB_0 y h)) r inb
theorem ecB_0 (r : ℕ) (hr : 32 ≤ r) (inb) :
    arg26.view.readCov (kernelRun0_B.sl.HS0_8 c arg1 harg1 arg2 harg2 arg3 harg3 x0 x1 x2) (Rect.unit (s := S8x288x128) ![0, r, 0] ![1, 128, 128] inb).toLoadRect = ev (ext xs0 (kernelRun0_B.sl.r_1 c arg1 harg1 arg2 harg2 arg3 harg3 x0 x1 x2)) 0 r :=
  ev_cov _ _ _ 0 32 blocksB_0 (fun y _ h => covB_0 y h) r hr inb
theorem emB_0 (r : ℕ) (hr : 32 ≤ r) (inb) :
    arg26.view.readCov (kernelRun0_B.sl.HS0_8 c arg1 harg1 arg2 harg2 arg3 harg3 x0 x1 x2) (Rect.unit (s := S8x288x128) ![0, r, 0] S1x32x128.size inb).toLoadRect = ev32 (ext xs0 (kernelRun0_B.sl.r_1 c arg1 harg1 arg2 harg2 arg3 harg3 x0 x1 x2)) 0 r :=
  ev32_cov _ _ _ 0 32 blocksB_0 (fun y _ h => covB_0 y h) r hr inb
theorem evB_1 (r : ℕ) (inb) :
    View.readAt (Elt Ideal) arg26.view (Rect.unit (s := S8x288x128) ![1, r, 0] ![1, 128, 128] inb).toLoadRect
      (arg26.view.writes (Elt Ideal) (harg26.unread xs0) (kernelRun0_B.sl.HS0_9 c arg1 harg1 arg2 harg2 arg3 harg3 arg26 x0 x1 x2)) = ev (ext xs0 (kernelRun0_B.sl.r_1 c arg1 harg1 arg2 harg2 arg3 harg3 x0 x1 x2)) 1 r :=
  ev_over _ _ _ _ 1 blocksB_1 (fun y => by
    rcases Nat.lt_or_ge (y 1).val 32 with h | h
    · exact Or.inl ((congrFun (harg26.read_unread xs0) y).trans (ext_lo _ _ y h).symm)
    · exact Or.inr (covB_1 y h)) r inb
theorem ecB_1 (r : ℕ) (hr : 32 ≤ r) (inb) :
    arg26.view.readCov (kernelRun0_B.sl.HS0_9 c arg1 harg1 arg2 harg2 arg3 harg3 arg26 x0 x1 x2) (Rect.unit (s := S8x288x128) ![1, r, 0] ![1, 128, 128] inb).toLoadRect = ev (ext xs0 (kernelRun0_B.sl.r_1 c arg1 harg1 arg2 harg2 arg3 harg3 x0 x1 x2)) 1 r :=
  ev_cov _ _ _ 1 32 blocksB_1 (fun y _ h => covB_1 y h) r hr inb
theorem emB_1 (r : ℕ) (hr : 32 ≤ r) (inb) :
    arg26.view.readCov (kernelRun0_B.sl.HS0_9 c arg1 harg1 arg2 harg2 arg3 harg3 arg26 x0 x1 x2) (Rect.unit (s := S8x288x128) ![1, r, 0] S1x32x128.size inb).toLoadRect = ev32 (ext xs0 (kernelRun0_B.sl.r_1 c arg1 harg1 arg2 harg2 arg3 harg3 x0 x1 x2)) 1 r :=
  ev32_cov _ _ _ 1 32 blocksB_1 (fun y _ h => covB_1 y h) r hr inb
theorem evB_2 (r : ℕ) (inb) :
    View.readAt (Elt Ideal) arg26.view (Rect.unit (s := S8x288x128) ![2, r, 0] ![1, 128, 128] inb).toLoadRect
      (arg26.view.writes (Elt Ideal) (harg26.unread xs0) (kernelRun0_B.sl.HS0_10 c arg1 harg1 arg2 harg2 arg3 harg3 arg26 x0 x1 x2)) = ev (ext xs0 (kernelRun0_B.sl.r_1 c arg1 harg1 arg2 harg2 arg3 harg3 x0 x1 x2)) 2 r :=
  ev_over _ _ _ _ 2 blocksB_2 (fun y => by
    rcases Nat.lt_or_ge (y 1).val 32 with h | h
    · exact Or.inl ((congrFun (harg26.read_unread xs0) y).trans (ext_lo _ _ y h).symm)
    · exact Or.inr (covB_2 y h)) r inb
theorem ecB_2 (r : ℕ) (hr : 32 ≤ r) (inb) :
    arg26.view.readCov (kernelRun0_B.sl.HS0_10 c arg1 harg1 arg2 harg2 arg3 harg3 arg26 x0 x1 x2) (Rect.unit (s := S8x288x128) ![2, r, 0] ![1, 128, 128] inb).toLoadRect = ev (ext xs0 (kernelRun0_B.sl.r_1 c arg1 harg1 arg2 harg2 arg3 harg3 x0 x1 x2)) 2 r :=
  ev_cov _ _ _ 2 32 blocksB_2 (fun y _ h => covB_2 y h) r hr inb
theorem emB_2 (r : ℕ) (hr : 32 ≤ r) (inb) :
    arg26.view.readCov (kernelRun0_B.sl.HS0_10 c arg1 harg1 arg2 harg2 arg3 harg3 arg26 x0 x1 x2) (Rect.unit (s := S8x288x128) ![2, r, 0] S1x32x128.size inb).toLoadRect = ev32 (ext xs0 (kernelRun0_B.sl.r_1 c arg1 harg1 arg2 harg2 arg3 harg3 x0 x1 x2)) 2 r :=
  ev32_cov _ _ _ 2 32 blocksB_2 (fun y _ h => covB_2 y h) r hr inb
theorem evB_3 (r : ℕ) (inb) :
    View.readAt (Elt Ideal) arg26.view (Rect.unit (s := S8x288x128) ![3, r, 0] ![1, 128, 128] inb).toLoadRect
      (arg26.view.writes (Elt Ideal) (harg26.unread xs0) (kernelRun0_B.sl.HS0_11 c arg1 harg1 arg2 harg2 arg3 harg3 arg26 x0 x1 x2)) = ev (ext xs0 (kernelRun0_B.sl.r_1 c arg1 harg1 arg2 harg2 arg3 harg3 x0 x1 x2)) 3 r :=
  ev_over _ _ _ _ 3 blocksB_3 (fun y => by
    rcases Nat.lt_or_ge (y 1).val 32 with h | h
    · exact Or.inl ((congrFun (harg26.read_unread xs0) y).trans (ext_lo _ _ y h).symm)
    · exact Or.inr (covB_3 y h)) r inb
theorem ecB_3 (r : ℕ) (hr : 32 ≤ r) (inb) :
    arg26.view.readCov (kernelRun0_B.sl.HS0_11 c arg1 harg1 arg2 harg2 arg3 harg3 arg26 x0 x1 x2) (Rect.unit (s := S8x288x128) ![3, r, 0] ![1, 128, 128] inb).toLoadRect = ev (ext xs0 (kernelRun0_B.sl.r_1 c arg1 harg1 arg2 harg2 arg3 harg3 x0 x1 x2)) 3 r :=
  ev_cov _ _ _ 3 32 blocksB_3 (fun y _ h => covB_3 y h) r hr inb
theorem emB_3 (r : ℕ) (hr : 32 ≤ r) (inb) :
    arg26.view.readCov (kernelRun0_B.sl.HS0_11 c arg1 harg1 arg2 harg2 arg3 harg3 arg26 x0 x1 x2) (Rect.unit (s := S8x288x128) ![3, r, 0] S1x32x128.size inb).toLoadRect = ev32 (ext xs0 (kernelRun0_B.sl.r_1 c arg1 harg1 arg2 harg2 arg3 harg3 x0 x1 x2)) 3 r :=
  ev32_cov _ _ _ 3 32 blocksB_3 (fun y _ h => covB_3 y h) r hr inb
theorem evB_4 (r : ℕ) (inb) :
    View.readAt (Elt Ideal) arg26.view (Rect.unit (s := S8x288x128) ![4, r, 0] ![1, 128, 128] inb).toLoadRect
      (arg26.view.writes (Elt Ideal) (harg26.unread xs0) (kernelRun0_B.sl.HS0_12 c arg1 harg1 arg2 harg2 arg3 harg3 arg26 x0 x1 x2)) = ev (ext xs0 (kernelRun0_B.sl.r_1 c arg1 harg1 arg2 harg2 arg3 harg3 x0 x1 x2)) 4 r :=
  ev_over _ _ _ _ 4 blocksB_4 (fun y => by
    rcases Nat.lt_or_ge (y 1).val 32 with h | h
    · exact Or.inl ((congrFun (harg26.read_unread xs0) y).trans (ext_lo _ _ y h).symm)
    · exact Or.inr (covB_4 y h)) r inb
theorem ecB_4 (r : ℕ) (hr : 32 ≤ r) (inb) :
    arg26.view.readCov (kernelRun0_B.sl.HS0_12 c arg1 harg1 arg2 harg2 arg3 harg3 arg26 x0 x1 x2) (Rect.unit (s := S8x288x128) ![4, r, 0] ![1, 128, 128] inb).toLoadRect = ev (ext xs0 (kernelRun0_B.sl.r_1 c arg1 harg1 arg2 harg2 arg3 harg3 x0 x1 x2)) 4 r :=
  ev_cov _ _ _ 4 32 blocksB_4 (fun y _ h => covB_4 y h) r hr inb
theorem emB_4 (r : ℕ) (hr : 32 ≤ r) (inb) :
    arg26.view.readCov (kernelRun0_B.sl.HS0_12 c arg1 harg1 arg2 harg2 arg3 harg3 arg26 x0 x1 x2) (Rect.unit (s := S8x288x128) ![4, r, 0] S1x32x128.size inb).toLoadRect = ev32 (ext xs0 (kernelRun0_B.sl.r_1 c arg1 harg1 arg2 harg2 arg3 harg3 x0 x1 x2)) 4 r :=
  ev32_cov _ _ _ 4 32 blocksB_4 (fun y _ h => covB_4 y h) r hr inb
theorem evB_5 (r : ℕ) (inb) :
    View.readAt (Elt Ideal) arg26.view (Rect.unit (s := S8x288x128) ![5, r, 0] ![1, 128, 128] inb).toLoadRect
      (arg26.view.writes (Elt Ideal) (harg26.unread xs0) (kernelRun0_B.sl.HS0_13 c arg1 harg1 arg2 harg2 arg3 harg3 arg26 x0 x1 x2)) = ev (ext xs0 (kernelRun0_B.sl.r_1 c arg1 harg1 arg2 harg2 arg3 harg3 x0 x1 x2)) 5 r :=
  ev_over _ _ _ _ 5 blocksB_5 (fun y => by
    rcases Nat.lt_or_ge (y 1).val 32 with h | h
    · exact Or.inl ((congrFun (harg26.read_unread xs0) y).trans (ext_lo _ _ y h).symm)
    · exact Or.inr (covB_5 y h)) r inb
theorem ecB_5 (r : ℕ) (hr : 32 ≤ r) (inb) :
    arg26.view.readCov (kernelRun0_B.sl.HS0_13 c arg1 harg1 arg2 harg2 arg3 harg3 arg26 x0 x1 x2) (Rect.unit (s := S8x288x128) ![5, r, 0] ![1, 128, 128] inb).toLoadRect = ev (ext xs0 (kernelRun0_B.sl.r_1 c arg1 harg1 arg2 harg2 arg3 harg3 x0 x1 x2)) 5 r :=
  ev_cov _ _ _ 5 32 blocksB_5 (fun y _ h => covB_5 y h) r hr inb
theorem emB_5 (r : ℕ) (hr : 32 ≤ r) (inb) :
    arg26.view.readCov (kernelRun0_B.sl.HS0_13 c arg1 harg1 arg2 harg2 arg3 harg3 arg26 x0 x1 x2) (Rect.unit (s := S8x288x128) ![5, r, 0] S1x32x128.size inb).toLoadRect = ev32 (ext xs0 (kernelRun0_B.sl.r_1 c arg1 harg1 arg2 harg2 arg3 harg3 x0 x1 x2)) 5 r :=
  ev32_cov _ _ _ 5 32 blocksB_5 (fun y _ h => covB_5 y h) r hr inb
theorem evB_6 (r : ℕ) (inb) :
    View.readAt (Elt Ideal) arg26.view (Rect.unit (s := S8x288x128) ![6, r, 0] ![1, 128, 128] inb).toLoadRect
      (arg26.view.writes (Elt Ideal) (harg26.unread xs0) (kernelRun0_B.sl.HS0_14 c arg1 harg1 arg2 harg2 arg3 harg3 arg26 x0 x1 x2)) = ev (ext xs0 (kernelRun0_B.sl.r_1 c arg1 harg1 arg2 harg2 arg3 harg3 x0 x1 x2)) 6 r :=
  ev_over _ _ _ _ 6 blocksB_6 (fun y => by
    rcases Nat.lt_or_ge (y 1).val 32 with h | h
    · exact Or.inl ((congrFun (harg26.read_unread xs0) y).trans (ext_lo _ _ y h).symm)
    · exact Or.inr (covB_6 y h)) r inb
theorem ecB_6 (r : ℕ) (hr : 32 ≤ r) (inb) :
    arg26.view.readCov (kernelRun0_B.sl.HS0_14 c arg1 harg1 arg2 harg2 arg3 harg3 arg26 x0 x1 x2) (Rect.unit (s := S8x288x128) ![6, r, 0] ![1, 128, 128] inb).toLoadRect = ev (ext xs0 (kernelRun0_B.sl.r_1 c arg1 harg1 arg2 harg2 arg3 harg3 x0 x1 x2)) 6 r :=
  ev_cov _ _ _ 6 32 blocksB_6 (fun y _ h => covB_6 y h) r hr inb
theorem emB_6 (r : ℕ) (hr : 32 ≤ r) (inb) :
    arg26.view.readCov (kernelRun0_B.sl.HS0_14 c arg1 harg1 arg2 harg2 arg3 harg3 arg26 x0 x1 x2) (Rect.unit (s := S8x288x128) ![6, r, 0] S1x32x128.size inb).toLoadRect = ev32 (ext xs0 (kernelRun0_B.sl.r_1 c arg1 harg1 arg2 harg2 arg3 harg3 x0 x1 x2)) 6 r :=
  ev32_cov _ _ _ 6 32 blocksB_6 (fun y _ h => covB_6 y h) r hr inb
theorem evB_7 (r : ℕ) (inb) :
    View.readAt (Elt Ideal) arg26.view (Rect.unit (s := S8x288x128) ![7, r, 0] ![1, 128, 128] inb).toLoadRect
      (arg26.view.writes (Elt Ideal) (harg26.unread xs0) (kernelRun0_B.sl.HS0_15 c arg1 harg1 arg2 harg2 arg3 harg3 arg26 x0 x1 x2)) = ev (ext xs0 (kernelRun0_B.sl.r_1 c arg1 harg1 arg2 harg2 arg3 harg3 x0 x1 x2)) 7 r :=
  ev_over _ _ _ _ 7 blocksB_7 (fun y => by
    rcases Nat.lt_or_ge (y 1).val 32 with h | h
    · exact Or.inl ((congrFun (harg26.read_unread xs0) y).trans (ext_lo _ _ y h).symm)
    · exact Or.inr (covB_7 y h)) r inb
theorem ecB_7 (r : ℕ) (hr : 32 ≤ r) (inb) :
    arg26.view.readCov (kernelRun0_B.sl.HS0_15 c arg1 harg1 arg2 harg2 arg3 harg3 arg26 x0 x1 x2) (Rect.unit (s := S8x288x128) ![7, r, 0] ![1, 128, 128] inb).toLoadRect = ev (ext xs0 (kernelRun0_B.sl.r_1 c arg1 harg1 arg2 harg2 arg3 harg3 x0 x1 x2)) 7 r :=
  ev_cov _ _ _ 7 32 blocksB_7 (fun y _ h => covB_7 y h) r hr inb
theorem emB_7 (r : ℕ) (hr : 32 ≤ r) (inb) :
    arg26.view.readCov (kernelRun0_B.sl.HS0_15 c arg1 harg1 arg2 harg2 arg3 harg3 arg26 x0 x1 x2) (Rect.unit (s := S8x288x128) ![7, r, 0] S1x32x128.size inb).toLoadRect = ev32 (ext xs0 (kernelRun0_B.sl.r_1 c arg1 harg1 arg2 harg2 arg3 harg3 x0 x1 x2)) 7 r :=
  ev32_cov _ _ _ 7 32 blocksB_7 (fun y _ h => covB_7 y h) r hr inb

theorem movedB_0 (y : S8x288x128.Idx) (h0 : (y 0).val < 0) (h1 : (y 1).val < 32) :
    View.canon (kernelRun0_B.sl.HS0_8 c arg1 harg1 arg2 harg2 arg3 harg3 x0 x1 x2) y = at3 (ext xs0 (kernelRun0_B.sl.r_1 c arg1 harg1 arg2 harg2 arg3 harg3 x0 x1 x2)) (y 0).val (256 + (y 1).val) (y 2).val := absurd h0 (Nat.not_lt_zero _)
theorem movedB_1 (y : S8x288x128.Idx) (h0 : (y 0).val < 1) (h1 : (y 1).val < 32) :
    View.canon (kernelRun0_B.sl.HS0_9 c arg1 harg1 arg2 harg2 arg3 harg3 arg26 x0 x1 x2) y = at3 (ext xs0 (kernelRun0_B.sl.r_1 c arg1 harg1 arg2 harg2 arg3 harg3 x0 x1 x2)) (y 0).val (256 + (y 1).val) (y 2).val := by
  unfold kernelRun0_B.sl.HS0_9
  refine moved_step (ext xs0 (kernelRun0_B.sl.r_1 c arg1 harg1 arg2 harg2 arg3 harg3 x0 x1 x2)) _ 0 _ _ ?_ movedB_0 y h0 h1
  unfold k0_pay48 kernelRun0_B.sl.v528
  rw [emB_0 256 (by decide)]
  exact round32 (ev32 (ext xs0 (kernelRun0_B.sl.r_1 c arg1 harg1 arg2 harg2 arg3 harg3 x0 x1 x2)) 0 256) (by decide) (by decide)
theorem movedB_2 (y : S8x288x128.Idx) (h0 : (y 0).val < 2) (h1 : (y 1).val < 32) :
    View.canon (kernelRun0_B.sl.HS0_10 c arg1 harg1 arg2 harg2 arg3 harg3 arg26 x0 x1 x2) y = at3 (ext xs0 (kernelRun0_B.sl.r_1 c arg1 harg1 arg2 harg2 arg3 harg3 x0 x1 x2)) (y 0).val (256 + (y 1).val) (y 2).val := by
  unfold kernelRun0_B.sl.HS0_10
  refine moved_step (ext xs0 (kernelRun0_B.sl.r_1 c arg1 harg1 arg2 harg2 arg3 harg3 x0 x1 x2)) _ 1 _ _ ?_ movedB_1 y h0 h1
  unfold k0_pay80 kernelRun0_B.sl.v1009
  rw [emB_1 256 (by decide)]
  exact round32 (ev32 (ext xs0 (kernelRun0_B.sl.r_1 c arg1 harg1 arg2 harg2 arg3 harg3 x0 x1 x2)) 1 256) (by decide) (by decide)
theorem movedB_3 (y : S8x288x128.Idx) (h0 : (y 0).val < 3) (h1 : (y 1).val < 32) :
    View.canon (kernelRun0_B.sl.HS0_11 c arg1 harg1 arg2 harg2 arg3 harg3 arg26 x0 x1 x2) y = at3 (ext xs0 (kernelRun0_B.sl.r_1 c arg1 harg1 arg2 harg2 arg3 harg3 x0 x1 x2)) (y 0).val (256 + (y 1).val) (y 2).val := by
  unfold kernelRun0_B.sl.HS0_11
  refine moved_step (ext xs0 (kernelRun0_B.sl.r_1 c arg1 harg1 arg2 harg2 arg3 harg3 x0 x1 x2)) _ 2 _ _ ?_ movedB_2 y h0 h1
  unfold k0_pay111 kernelRun0_B.sl.v1494
  rw [emB_2 256 (by decide)]
  exact round32 (ev32 (ext xs0 (kernelRun0_B.sl.r_1 c arg1 harg1 arg2 harg2 arg3 harg3 x0 x1 x2)) 2 256) (by decide) (by decide)
theorem movedB_4 (y : S8x288x128.Idx) (h0 : (y 0).val < 4) (h1 : (y 1).val < 32) :
    View.canon (kernelRun0_B.sl.HS0_12 c arg1 harg1 arg2 harg2 arg3 harg3 arg26 x0 x1 x2) y = at3 (ext xs0 (kernelRun0_B.sl.r_1 c arg1 harg1 arg2 harg2 arg3 harg3 x0 x1 x2)) (y 0).val (256 + (y 1).val) (y 2).val := by
  unfold kernelRun0_B.sl.HS0_12
  refine moved_step (ext xs0 (kernelRun0_B.sl.r_1 c arg1 harg1 arg2 harg2 arg3 harg3 x0 x1 x2)) _ 3 _ _ ?_ movedB_3 y h0 h1
  unfold k0_pay141 kernelRun0_B.sl.v1959
  rw [emB_3 256 (by decide)]
  exact round32 (ev32 (ext xs0 (kernelRun0_B.sl.r_1 c arg1 harg1 arg2 harg2 arg3 harg3 x0 x1 x2)) 3 256) (by decide) (by decide)
theorem movedB_5 (y : S8x288x128.Idx) (h0 : (y 0).val < 5) (h1 : (y 1).val < 32) :
    View.canon (kernelRun0_B.sl.HS0_13 c arg1 harg1 arg2 harg2 arg3 harg3 arg26 x0 x1 x2) y = at3 (ext xs0 (kernelRun0_B.sl.r_1 c arg1 harg1 arg2 harg2 arg3 harg3 x0 x1 x2)) (y 0).val (256 + (y 1).val) (y 2).val := by
  unfold kernelRun0_B.sl.HS0_13
  refine moved_step (ext xs0 (kernelRun0_B.sl.r_1 c arg1 harg1 arg2 harg2 arg3 harg3 x0 x1 x2)) _ 4 _ _ ?_ movedB_4 y h0 h1
  unfold k0_pay176 kernelRun0_B.sl.v2447
  rw [emB_4 256 (by decide)]
  exact round32 (ev32 (ext xs0 (kernelRun0_B.sl.r_1 c arg1 harg1 arg2 harg2 arg3 harg3 x0 x1 x2)) 4 256) (by decide) (by decide)
theorem movedB_6 (y : S8x288x128.Idx) (h0 : (y 0).val < 6) (h1 : (y 1).val < 32) :
    View.canon (kernelRun0_B.sl.HS0_14 c arg1 harg1 arg2 harg2 arg3 harg3 arg26 x0 x1 x2) y = at3 (ext xs0 (kernelRun0_B.sl.r_1 c arg1 harg1 arg2 harg2 arg3 harg3 x0 x1 x2)) (y 0).val (256 + (y 1).val) (y 2).val := by
  unfold kernelRun0_B.sl.HS0_14
  refine moved_step (ext xs0 (kernelRun0_B.sl.r_1 c arg1 harg1 arg2 harg2 arg3 harg3 x0 x1 x2)) _ 5 _ _ ?_ movedB_5 y h0 h1
  unfold k0_pay205 kernelRun0_B.sl.v2912
  rw [emB_5 256 (by decide)]
  exact round32 (ev32 (ext xs0 (kernelRun0_B.sl.r_1 c arg1 harg1 arg2 harg2 arg3 harg3 x0 x1 x2)) 5 256) (by decide) (by decide)
theorem movedB_7 (y : S8x288x128.Idx) (h0 : (y 0).val < 7) (h1 : (y 1).val < 32) :
    View.canon (kernelRun0_B.sl.HS0_15 c arg1 harg1 arg2 harg2 arg3 harg3 arg26 x0 x1 x2) y = at3 (ext xs0 (kernelRun0_B.sl.r_1 c arg1 harg1 arg2 harg2 arg3 harg3 x0 x1 x2)) (y 0).val (256 + (y 1).val) (y 2).val := by
  unfold kernelRun0_B.sl.HS0_15
  refine moved_step (ext xs0 (kernelRun0_B.sl.r_1 c arg1 harg1 arg2 harg2 arg3 harg3 x0 x1 x2)) _ 6 _ _ ?_ movedB_6 y h0 h1
  unfold k0_pay232 kernelRun0_B.sl.v3377
  rw [emB_6 256 (by decide)]
  exact round32 (ev32 (ext xs0 (kernelRun0_B.sl.r_1 c arg1 harg1 arg2 harg2 arg3 harg3 x0 x1 x2)) 6 256) (by decide) (by decide)
theorem movedB_8 (y : S8x288x128.Idx) (h1 : (y 1).val < 32) :
    View.canon (⟨Rect.unit (s := S8x288x128) ![7, 0, 0] S1x32x128.size inb_S8x288x128_S1x32x128_7_0_0,
    k0_pay257 (kernelRun0_B.sl.r_210 c arg1 harg1 arg2 harg2 arg3 harg3 arg26 x0 x1 x2)⟩ ::
  kernelRun0_B.sl.HS0_15 c arg1 harg1 arg2 harg2 arg3 harg3 arg26 x0 x1 x2) y = at3 (ext xs0 (kernelRun0_B.sl.r_1 c arg1 harg1 arg2 harg2 arg3 harg3 x0 x1 x2)) (y 0).val (256 + (y 1).val) (y 2).val := by
  have h0 : (y 0).val < 8 := (y 0).isLt
  refine moved_step (ext xs0 (kernelRun0_B.sl.r_1 c arg1 harg1 arg2 harg2 arg3 harg3 x0 x1 x2)) _ 7 _ _ ?_ movedB_7 y h0 h1
  unfold k0_pay257 kernelRun0_B.sl.r_210 kernelRun0_B.sl.v3841 k0_pay256
  rw [emB_7 256 (by decide)]
  exact round32 (ev32 (ext xs0 (kernelRun0_B.sl.r_1 c arg1 harg1 arg2 harg2 arg3 harg3 x0 x1 x2)) 7 256) (by decide) (by decide)

theorem wvB (k j : ℕ) (inb) : View.readAt (Elt Ideal) arg10.view (Rect.unit (s := S8x32x128) ![k, j, 0] ![1, 1, 128] inb).toLoadRect (harg10.unread x9) = wv x9 k j := by
  rw [View.readAt_eq_ld, harg10.read_unread, wv_ld]
theorem bvB (k : ℕ) (inb) : View.readAt (Elt Ideal) arg11.view (Rect.unit (s := S8x1x128) ![k, 0, 0] ![1, 1, 128] inb).toLoadRect (harg11.unread x10) = bv x10 k := by
  rw [View.readAt_eq_ld, harg11.read_unread, bv_ld]

theorem convB : Blocks (fun _ => True) (CV (ext xs0 (kernelRun0_B.sl.r_1 c arg1 harg1 arg2 harg2 arg3 harg3 x0 x1 x2)) x9 x10) (kernelRun0_B.sl.HS1_16 c arg1 harg1 arg2 harg2 arg3 harg3 arg10 harg10 arg11 harg11 arg26 harg26 x0 x1 x2 x9 x10 xs0) := by
  unfold kernelRun0_B.sl.HS1_16
  refine blocks_cons (fun x _ => ?_) ?_
  · refine (congrArg _ (ix3_zero x)).trans ?_
    simp only [kernelRun0_B.sl.r_198, kernelRun0_B.sl.r_199, kernelRun0_B.sl.r_200, kernelRun0_B.sl.r_201, kernelRun0_B.sl.r_202, kernelRun0_B.sl.r_203, kernelRun0_B.sl.r_204, kernelRun0_B.sl.r_205, kernelRun0_B.sl.r_206, kernelRun0_B.sl.r_207, kernelRun0_B.sl.r_208, kernelRun0_B.sl.r_209, kernelRun0_B.sl.v3623, kernelRun0_B.sl.v3630, kernelRun0_B.sl.v3637, kernelRun0_B.sl.v3644, kernelRun0_B.sl.v3651, kernelRun0_B.sl.v3658, kernelRun0_B.sl.v3665, kernelRun0_B.sl.v3672, kernelRun0_B.sl.v3679, kernelRun0_B.sl.v3686, kernelRun0_B.sl.v3693, kernelRun0_B.sl.v3700, kernelRun0_B.sl.v3707, kernelRun0_B.sl.v3714, kernelRun0_B.sl.v3721, kernelRun0_B.sl.v3728, kernelRun0_B.sl.v3735, kernelRun0_B.sl.v3742, kernelRun0_B.sl.v3749, kernelRun0_B.sl.v3756, kernelRun0_B.sl.v3763, kernelRun0_B.sl.v3770, kernelRun0_B.sl.v3777, kernelRun0_B.sl.v3784, kernelRun0_B.sl.v3791, kernelRun0_B.sl.v3798, kernelRun0_B.sl.v3805, kernelRun0_B.sl.v3812, kernelRun0_B.sl.v3819, kernelRun0_B.sl.v3826, kernelRun0_B.sl.v3833, wvB, bvB]
    simp (discharger := decide) only [ecB_7 (xs0 := xs0)]
    exact (conv_7_128 (bv x10 7) (fun j => wv x9 7 j) (fun j => ev (ext xs0 (kernelRun0_B.sl.r_1 c arg1 harg1 arg2 harg2 arg3 harg3 x0 x1 x2)) 7 (128 + 2 + j)) (x 1) (x 2)).trans (cv_eq _ _ _ 7 128 _ _ _ (chunk_coords 7 128 _ x).1 (chunk_coords 7 128 _ x).2.1 (chunk_coords 7 128 _ x).2.2)
  refine blocks_cons (fun x _ => ?_) ?_
  · refine (congrArg _ (ix3_zero x)).trans ?_
    simp only [kernelRun0_B.sl.r_188, kernelRun0_B.sl.r_189, kernelRun0_B.sl.r_190, kernelRun0_B.sl.r_191, kernelRun0_B.sl.r_192, kernelRun0_B.sl.r_193, kernelRun0_B.sl.r_194, kernelRun0_B.sl.r_195, kernelRun0_B.sl.r_196, kernelRun0_B.sl.r_197, kernelRun0_B.sl.v3399, kernelRun0_B.sl.v3406, kernelRun0_B.sl.v3413, kernelRun0_B.sl.v3420, kernelRun0_B.sl.v3427, kernelRun0_B.sl.v3434, kernelRun0_B.sl.v3441, kernelRun0_B.sl.v3448, kernelRun0_B.sl.v3455, kernelRun0_B.sl.v3462, kernelRun0_B.sl.v3469, kernelRun0_B.sl.v3476, kernelRun0_B.sl.v3483, kernelRun0_B.sl.v3490, kernelRun0_B.sl.v3497, kernelRun0_B.sl.v3504, kernelRun0_B.sl.v3511, kernelRun0_B.sl.v3518, kernelRun0_B.sl.v3525, kernelRun0_B.sl.v3532, kernelRun0_B.sl.v3539, kernelRun0_B.sl.v3546, kernelRun0_B.sl.v3553, kernelRun0_B.sl.v3560, kernelRun0_B.sl.v3567, kernelRun0_B.sl.v3574, kernelRun0_B.sl.v3581, kernelRun0_B.sl.v3588, kernelRun0_B.sl.v3595, kernelRun0_B.sl.v3602, kernelRun0_B.sl.v3609, wvB, bvB]
    simp only [evB_7]
    simp (discharger := decide) only [ecB_7 (xs0 := xs0)]
    exact (conv_7_0 (bv x10 7) (fun j => wv x9 7 j) (fun j => ev (ext xs0 (kernelRun0_B.sl.r_1 c arg1 harg1 arg2 harg2 arg3 harg3 x0 x1 x2)) 7 (0 + 2 + j)) (x 1) (x 2)).trans (cv_eq _ _ _ 7 0 _ _ _ (chunk_coords 7 0 _ x).1 (chunk_coords 7 0 _ x).2.1 (chunk_coords 7 0 _ x).2.2)
  refine blocks_cons (fun x _ => ?_) ?_
  · refine (congrArg _ (ix3_zero x)).trans ?_
    simp only [kernelRun0_B.sl.r_175, kernelRun0_B.sl.r_176, kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185, kernelRun0_B.sl.r_186, kernelRun0_B.sl.v3159, kernelRun0_B.sl.v3166, kernelRun0_B.sl.v3173, kernelRun0_B.sl.v3180, kernelRun0_B.sl.v3187, kernelRun0_B.sl.v3194, kernelRun0_B.sl.v3201, kernelRun0_B.sl.v3208, kernelRun0_B.sl.v3215, kernelRun0_B.sl.v3222, kernelRun0_B.sl.v3229, kernelRun0_B.sl.v3236, kernelRun0_B.sl.v3243, kernelRun0_B.sl.v3250, kernelRun0_B.sl.v3257, kernelRun0_B.sl.v3264, kernelRun0_B.sl.v3271, kernelRun0_B.sl.v3278, kernelRun0_B.sl.v3285, kernelRun0_B.sl.v3292, kernelRun0_B.sl.v3299, kernelRun0_B.sl.v3306, kernelRun0_B.sl.v3313, kernelRun0_B.sl.v3320, kernelRun0_B.sl.v3327, kernelRun0_B.sl.v3334, kernelRun0_B.sl.v3341, kernelRun0_B.sl.v3348, kernelRun0_B.sl.v3355, kernelRun0_B.sl.v3362, kernelRun0_B.sl.v3369, wvB, bvB]
    simp (discharger := decide) only [ecB_6 (xs0 := xs0)]
    exact (conv_6_128 (bv x10 6) (fun j => wv x9 6 j) (fun j => ev (ext xs0 (kernelRun0_B.sl.r_1 c arg1 harg1 arg2 harg2 arg3 harg3 x0 x1 x2)) 6 (128 + 2 + j)) (x 1) (x 2)).trans (cv_eq _ _ _ 6 128 _ _ _ (chunk_coords 6 128 _ x).1 (chunk_coords 6 128 _ x).2.1 (chunk_coords 6 128 _ x).2.2)
  refine blocks_cons (fun x _ => ?_) ?_
  · refine (congrArg _ (ix3_zero x)).trans ?_
    simp only [kernelRun0_B.sl.r_162, kernelRun0_B.sl.r_163, kernelRun0_B.sl.r_164, kernelRun0_B.sl.r_165, kernelRun0_B.sl.r_166, kernelRun0_B.sl.r_167, kernelRun0_B.sl.r_168, kernelRun0_B.sl.r_169, kernelRun0_B.sl.r_170, kernelRun0_B.sl.r_171, kernelRun0_B.sl.r_172, kernelRun0_B.sl.r_173, kernelRun0_B.sl.r_174, kernelRun0_B.sl.v2935, kernelRun0_B.sl.v2942, kernelRun0_B.sl.v2949, kernelRun0_B.sl.v2956, kernelRun0_B.sl.v2963, kernelRun0_B.sl.v2970, kernelRun0_B.sl.v2977, kernelRun0_B.sl.v2984, kernelRun0_B.sl.v2991, kernelRun0_B.sl.v2998, kernelRun0_B.sl.v3005, kernelRun0_B.sl.v3012, kernelRun0_B.sl.v3019, kernelRun0_B.sl.v3026, kernelRun0_B.sl.v3033, kernelRun0_B.sl.v3040, kernelRun0_B.sl.v3047, kernelRun0_B.sl.v3054, kernelRun0_B.sl.v3061, kernelRun0_B.sl.v3068, kernelRun0_B.sl.v3075, kernelRun0_B.sl.v3082, kernelRun0_B.sl.v3089, kernelRun0_B.sl.v3096, kernelRun0_B.sl.v3103, kernelRun0_B.sl.v3110, kernelRun0_B.sl.v3117, kernelRun0_B.sl.v3124, kernelRun0_B.sl.v3131, kernelRun0_B.sl.v3138, kernelRun0_B.sl.v3145, wvB, bvB]
    simp only [evB_6]
    simp (discharger := decide) only [ecB_6 (xs0 := xs0)]
    exact (conv_6_0 (bv x10 6) (fun j => wv x9 6 j) (fun j => ev (ext xs0 (kernelRun0_B.sl.r_1 c arg1 harg1 arg2 harg2 arg3 harg3 x0 x1 x2)) 6 (0 + 2 + j)) (x 1) (x 2)).trans (cv_eq _ _ _ 6 0 _ _ _ (chunk_coords 6 0 _ x).1 (chunk_coords 6 0 _ x).2.1 (chunk_coords 6 0 _ x).2.2)
  refine blocks_cons (fun x _ => ?_) ?_
  · refine (congrArg _ (ix3_zero x)).trans ?_
    simp only [kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.v2694, kernelRun0_B.sl.v2701, kernelRun0_B.sl.v2708, kernelRun0_B.sl.v2715, kernelRun0_B.sl.v2722, kernelRun0_B.sl.v2729, kernelRun0_B.sl.v2736, kernelRun0_B.sl.v2743, kernelRun0_B.sl.v2750, kernelRun0_B.sl.v2757, kernelRun0_B.sl.v2764, kernelRun0_B.sl.v2771, kernelRun0_B.sl.v2778, kernelRun0_B.sl.v2785, kernelRun0_B.sl.v2792, kernelRun0_B.sl.v2799, kernelRun0_B.sl.v2806, kernelRun0_B.sl.v2813, kernelRun0_B.sl.v2820, kernelRun0_B.sl.v2827, kernelRun0_B.sl.v2834, kernelRun0_B.sl.v2841, kernelRun0_B.sl.v2848, kernelRun0_B.sl.v2855, kernelRun0_B.sl.v2862, kernelRun0_B.sl.v2869, kernelRun0_B.sl.v2876, kernelRun0_B.sl.v2883, kernelRun0_B.sl.v2890, kernelRun0_B.sl.v2897, kernelRun0_B.sl.v2904, wvB, bvB]
    simp (discharger := decide) only [ecB_5 (xs0 := xs0)]
    exact (conv_5_128 (bv x10 5) (fun j => wv x9 5 j) (fun j => ev (ext xs0 (kernelRun0_B.sl.r_1 c arg1 harg1 arg2 harg2 arg3 harg3 x0 x1 x2)) 5 (128 + 2 + j)) (x 1) (x 2)).trans (cv_eq _ _ _ 5 128 _ _ _ (chunk_coords 5 128 _ x).1 (chunk_coords 5 128 _ x).2.1 (chunk_coords 5 128 _ x).2.2)
  refine blocks_cons (fun x _ => ?_) ?_
  · refine (congrArg _ (ix3_zero x)).trans ?_
    simp only [kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.v2470, kernelRun0_B.sl.v2477, kernelRun0_B.sl.v2484, kernelRun0_B.sl.v2491, kernelRun0_B.sl.v2498, kernelRun0_B.sl.v2505, kernelRun0_B.sl.v2512, kernelRun0_B.sl.v2519, kernelRun0_B.sl.v2526, kernelRun0_B.sl.v2533, kernelRun0_B.sl.v2540, kernelRun0_B.sl.v2547, kernelRun0_B.sl.v2554, kernelRun0_B.sl.v2561, kernelRun0_B.sl.v2568, kernelRun0_B.sl.v2575, kernelRun0_B.sl.v2582, kernelRun0_B.sl.v2589, kernelRun0_B.sl.v2596, kernelRun0_B.sl.v2603, kernelRun0_B.sl.v2610, kernelRun0_B.sl.v2617, kernelRun0_B.sl.v2624, kernelRun0_B.sl.v2631, kernelRun0_B.sl.v2638, kernelRun0_B.sl.v2645, kernelRun0_B.sl.v2652, kernelRun0_B.sl.v2659, kernelRun0_B.sl.v2666, kernelRun0_B.sl.v2673, kernelRun0_B.sl.v2680, wvB, bvB]
    simp only [evB_5]
    simp (discharger := decide) only [ecB_5 (xs0 := xs0)]
    exact (conv_5_0 (bv x10 5) (fun j => wv x9 5 j) (fun j => ev (ext xs0 (kernelRun0_B.sl.r_1 c arg1 harg1 arg2 harg2 arg3 harg3 x0 x1 x2)) 5 (0 + 2 + j)) (x 1) (x 2)).trans (cv_eq _ _ _ 5 0 _ _ _ (chunk_coords 5 0 _ x).1 (chunk_coords 5 0 _ x).2.1 (chunk_coords 5 0 _ x).2.2)
  refine blocks_cons (fun x _ => ?_) ?_
  · refine (congrArg _ (ix3_zero x)).trans ?_
    simp only [kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.v2229, kernelRun0_B.sl.v2236, kernelRun0_B.sl.v2243, kernelRun0_B.sl.v2250, kernelRun0_B.sl.v2257, kernelRun0_B.sl.v2264, kernelRun0_B.sl.v2271, kernelRun0_B.sl.v2278, kernelRun0_B.sl.v2285, kernelRun0_B.sl.v2292, kernelRun0_B.sl.v2299, kernelRun0_B.sl.v2306, kernelRun0_B.sl.v2313, kernelRun0_B.sl.v2320, kernelRun0_B.sl.v2327, kernelRun0_B.sl.v2334, kernelRun0_B.sl.v2341, kernelRun0_B.sl.v2348, kernelRun0_B.sl.v2355, kernelRun0_B.sl.v2362, kernelRun0_B.sl.v2369, kernelRun0_B.sl.v2376, kernelRun0_B.sl.v2383, kernelRun0_B.sl.v2390, kernelRun0_B.sl.v2397, kernelRun0_B.sl.v2404, kernelRun0_B.sl.v2411, kernelRun0_B.sl.v2418, kernelRun0_B.sl.v2425, kernelRun0_B.sl.v2432, kernelRun0_B.sl.v2439, wvB, bvB]
    simp (discharger := decide) only [ecB_4 (xs0 := xs0)]
    exact (conv_4_128 (bv x10 4) (fun j => wv x9 4 j) (fun j => ev (ext xs0 (kernelRun0_B.sl.r_1 c arg1 harg1 arg2 harg2 arg3 harg3 x0 x1 x2)) 4 (128 + 2 + j)) (x 1) (x 2)).trans (cv_eq _ _ _ 4 128 _ _ _ (chunk_coords 4 128 _ x).1 (chunk_coords 4 128 _ x).2.1 (chunk_coords 4 128 _ x).2.2)
  refine blocks_cons (fun x _ => ?_) ?_
  · refine (congrArg _ (ix3_zero x)).trans ?_
    simp only [kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.v2005, kernelRun0_B.sl.v2012, kernelRun0_B.sl.v2019, kernelRun0_B.sl.v2026, kernelRun0_B.sl.v2033, kernelRun0_B.sl.v2040, kernelRun0_B.sl.v2047, kernelRun0_B.sl.v2054, kernelRun0_B.sl.v2061, kernelRun0_B.sl.v2068, kernelRun0_B.sl.v2075, kernelRun0_B.sl.v2082, kernelRun0_B.sl.v2089, kernelRun0_B.sl.v2096, kernelRun0_B.sl.v2103, kernelRun0_B.sl.v2110, kernelRun0_B.sl.v2117, kernelRun0_B.sl.v2124, kernelRun0_B.sl.v2131, kernelRun0_B.sl.v2138, kernelRun0_B.sl.v2145, kernelRun0_B.sl.v2152, kernelRun0_B.sl.v2159, kernelRun0_B.sl.v2166, kernelRun0_B.sl.v2173, kernelRun0_B.sl.v2180, kernelRun0_B.sl.v2187, kernelRun0_B.sl.v2194, kernelRun0_B.sl.v2201, kernelRun0_B.sl.v2208, kernelRun0_B.sl.v2215, wvB, bvB]
    simp only [evB_4]
    simp (discharger := decide) only [ecB_4 (xs0 := xs0)]
    exact (conv_4_0 (bv x10 4) (fun j => wv x9 4 j) (fun j => ev (ext xs0 (kernelRun0_B.sl.r_1 c arg1 harg1 arg2 harg2 arg3 harg3 x0 x1 x2)) 4 (0 + 2 + j)) (x 1) (x 2)).trans (cv_eq _ _ _ 4 0 _ _ _ (chunk_coords 4 0 _ x).1 (chunk_coords 4 0 _ x).2.1 (chunk_coords 4 0 _ x).2.2)
  refine blocks_cons (fun x _ => ?_) ?_
  · refine (congrArg _ (ix3_zero x)).trans ?_
    simp only [kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_95, kernelRun0_B.sl.r_96, kernelRun0_B.sl.r_97, kernelRun0_B.sl.r_98, kernelRun0_B.sl.r_99, kernelRun0_B.sl.v1741, kernelRun0_B.sl.v1748, kernelRun0_B.sl.v1755, kernelRun0_B.sl.v1762, kernelRun0_B.sl.v1769, kernelRun0_B.sl.v1776, kernelRun0_B.sl.v1783, kernelRun0_B.sl.v1790, kernelRun0_B.sl.v1797, kernelRun0_B.sl.v1804, kernelRun0_B.sl.v1811, kernelRun0_B.sl.v1818, kernelRun0_B.sl.v1825, kernelRun0_B.sl.v1832, kernelRun0_B.sl.v1839, kernelRun0_B.sl.v1846, kernelRun0_B.sl.v1853, kernelRun0_B.sl.v1860, kernelRun0_B.sl.v1867, kernelRun0_B.sl.v1874, kernelRun0_B.sl.v1881, kernelRun0_B.sl.v1888, kernelRun0_B.sl.v1895, kernelRun0_B.sl.v1902, kernelRun0_B.sl.v1909, kernelRun0_B.sl.v1916, kernelRun0_B.sl.v1923, kernelRun0_B.sl.v1930, kernelRun0_B.sl.v1937, kernelRun0_B.sl.v1944, kernelRun0_B.sl.v1951, wvB, bvB]
    simp (discharger := decide) only [ecB_3 (xs0 := xs0)]
    exact (conv_3_128 (bv x10 3) (fun j => wv x9 3 j) (fun j => ev (ext xs0 (kernelRun0_B.sl.r_1 c arg1 harg1 arg2 harg2 arg3 harg3 x0 x1 x2)) 3 (128 + 2 + j)) (x 1) (x 2)).trans (cv_eq _ _ _ 3 128 _ _ _ (chunk_coords 3 128 _ x).1 (chunk_coords 3 128 _ x).2.1 (chunk_coords 3 128 _ x).2.2)
  refine blocks_cons (fun x _ => ?_) ?_
  · refine (congrArg _ (ix3_zero x)).trans ?_
    simp only [kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.v1517, kernelRun0_B.sl.v1524, kernelRun0_B.sl.v1531, kernelRun0_B.sl.v1538, kernelRun0_B.sl.v1545, kernelRun0_B.sl.v1552, kernelRun0_B.sl.v1559, kernelRun0_B.sl.v1566, kernelRun0_B.sl.v1573, kernelRun0_B.sl.v1580, kernelRun0_B.sl.v1587, kernelRun0_B.sl.v1594, kernelRun0_B.sl.v1601, kernelRun0_B.sl.v1608, kernelRun0_B.sl.v1615, kernelRun0_B.sl.v1622, kernelRun0_B.sl.v1629, kernelRun0_B.sl.v1636, kernelRun0_B.sl.v1643, kernelRun0_B.sl.v1650, kernelRun0_B.sl.v1657, kernelRun0_B.sl.v1664, kernelRun0_B.sl.v1671, kernelRun0_B.sl.v1678, kernelRun0_B.sl.v1685, kernelRun0_B.sl.v1692, kernelRun0_B.sl.v1699, kernelRun0_B.sl.v1706, kernelRun0_B.sl.v1713, kernelRun0_B.sl.v1720, kernelRun0_B.sl.v1727, wvB, bvB]
    simp only [evB_3]
    simp (discharger := decide) only [ecB_3 (xs0 := xs0)]
    exact (conv_3_0 (bv x10 3) (fun j => wv x9 3 j) (fun j => ev (ext xs0 (kernelRun0_B.sl.r_1 c arg1 harg1 arg2 harg2 arg3 harg3 x0 x1 x2)) 3 (0 + 2 + j)) (x 1) (x 2)).trans (cv_eq _ _ _ 3 0 _ _ _ (chunk_coords 3 0 _ x).1 (chunk_coords 3 0 _ x).2.1 (chunk_coords 3 0 _ x).2.2)
  refine blocks_cons (fun x _ => ?_) ?_
  · refine (congrArg _ (ix3_zero x)).trans ?_
    simp only [kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.v1276, kernelRun0_B.sl.v1283, kernelRun0_B.sl.v1290, kernelRun0_B.sl.v1297, kernelRun0_B.sl.v1304, kernelRun0_B.sl.v1311, kernelRun0_B.sl.v1318, kernelRun0_B.sl.v1325, kernelRun0_B.sl.v1332, kernelRun0_B.sl.v1339, kernelRun0_B.sl.v1346, kernelRun0_B.sl.v1353, kernelRun0_B.sl.v1360, kernelRun0_B.sl.v1367, kernelRun0_B.sl.v1374, kernelRun0_B.sl.v1381, kernelRun0_B.sl.v1388, kernelRun0_B.sl.v1395, kernelRun0_B.sl.v1402, kernelRun0_B.sl.v1409, kernelRun0_B.sl.v1416, kernelRun0_B.sl.v1423, kernelRun0_B.sl.v1430, kernelRun0_B.sl.v1437, kernelRun0_B.sl.v1444, kernelRun0_B.sl.v1451, kernelRun0_B.sl.v1458, kernelRun0_B.sl.v1465, kernelRun0_B.sl.v1472, kernelRun0_B.sl.v1479, kernelRun0_B.sl.v1486, wvB, bvB]
    simp (discharger := decide) only [ecB_2 (xs0 := xs0)]
    exact (conv_2_128 (bv x10 2) (fun j => wv x9 2 j) (fun j => ev (ext xs0 (kernelRun0_B.sl.r_1 c arg1 harg1 arg2 harg2 arg3 harg3 x0 x1 x2)) 2 (128 + 2 + j)) (x 1) (x 2)).trans (cv_eq _ _ _ 2 128 _ _ _ (chunk_coords 2 128 _ x).1 (chunk_coords 2 128 _ x).2.1 (chunk_coords 2 128 _ x).2.2)
  refine blocks_cons (fun x _ => ?_) ?_
  · refine (congrArg _ (ix3_zero x)).trans ?_
    simp only [kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.v1052, kernelRun0_B.sl.v1059, kernelRun0_B.sl.v1066, kernelRun0_B.sl.v1073, kernelRun0_B.sl.v1080, kernelRun0_B.sl.v1087, kernelRun0_B.sl.v1094, kernelRun0_B.sl.v1101, kernelRun0_B.sl.v1108, kernelRun0_B.sl.v1115, kernelRun0_B.sl.v1122, kernelRun0_B.sl.v1129, kernelRun0_B.sl.v1136, kernelRun0_B.sl.v1143, kernelRun0_B.sl.v1150, kernelRun0_B.sl.v1157, kernelRun0_B.sl.v1164, kernelRun0_B.sl.v1171, kernelRun0_B.sl.v1178, kernelRun0_B.sl.v1185, kernelRun0_B.sl.v1192, kernelRun0_B.sl.v1199, kernelRun0_B.sl.v1206, kernelRun0_B.sl.v1213, kernelRun0_B.sl.v1220, kernelRun0_B.sl.v1227, kernelRun0_B.sl.v1234, kernelRun0_B.sl.v1241, kernelRun0_B.sl.v1248, kernelRun0_B.sl.v1255, kernelRun0_B.sl.v1262, wvB, bvB]
    simp only [evB_2]
    simp (discharger := decide) only [ecB_2 (xs0 := xs0)]
    exact (conv_2_0 (bv x10 2) (fun j => wv x9 2 j) (fun j => ev (ext xs0 (kernelRun0_B.sl.r_1 c arg1 harg1 arg2 harg2 arg3 harg3 x0 x1 x2)) 2 (0 + 2 + j)) (x 1) (x 2)).trans (cv_eq _ _ _ 2 0 _ _ _ (chunk_coords 2 0 _ x).1 (chunk_coords 2 0 _ x).2.1 (chunk_coords 2 0 _ x).2.2)
  refine blocks_cons (fun x _ => ?_) ?_
  · refine (congrArg _ (ix3_zero x)).trans ?_
    simp only [kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.v1001, kernelRun0_B.sl.v791, kernelRun0_B.sl.v798, kernelRun0_B.sl.v805, kernelRun0_B.sl.v812, kernelRun0_B.sl.v819, kernelRun0_B.sl.v826, kernelRun0_B.sl.v833, kernelRun0_B.sl.v840, kernelRun0_B.sl.v847, kernelRun0_B.sl.v854, kernelRun0_B.sl.v861, kernelRun0_B.sl.v868, kernelRun0_B.sl.v875, kernelRun0_B.sl.v882, kernelRun0_B.sl.v889, kernelRun0_B.sl.v896, kernelRun0_B.sl.v903, kernelRun0_B.sl.v910, kernelRun0_B.sl.v917, kernelRun0_B.sl.v924, kernelRun0_B.sl.v931, kernelRun0_B.sl.v938, kernelRun0_B.sl.v945, kernelRun0_B.sl.v952, kernelRun0_B.sl.v959, kernelRun0_B.sl.v966, kernelRun0_B.sl.v973, kernelRun0_B.sl.v980, kernelRun0_B.sl.v987, kernelRun0_B.sl.v994, wvB, bvB]
    simp (discharger := decide) only [ecB_1 (xs0 := xs0)]
    exact (conv_1_128 (bv x10 1) (fun j => wv x9 1 j) (fun j => ev (ext xs0 (kernelRun0_B.sl.r_1 c arg1 harg1 arg2 harg2 arg3 harg3 x0 x1 x2)) 1 (128 + 2 + j)) (x 1) (x 2)).trans (cv_eq _ _ _ 1 128 _ _ _ (chunk_coords 1 128 _ x).1 (chunk_coords 1 128 _ x).2.1 (chunk_coords 1 128 _ x).2.2)
  refine blocks_cons (fun x _ => ?_) ?_
  · refine (congrArg _ (ix3_zero x)).trans ?_
    simp only [kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.v567, kernelRun0_B.sl.v574, kernelRun0_B.sl.v581, kernelRun0_B.sl.v588, kernelRun0_B.sl.v595, kernelRun0_B.sl.v602, kernelRun0_B.sl.v609, kernelRun0_B.sl.v616, kernelRun0_B.sl.v623, kernelRun0_B.sl.v630, kernelRun0_B.sl.v637, kernelRun0_B.sl.v644, kernelRun0_B.sl.v651, kernelRun0_B.sl.v658, kernelRun0_B.sl.v665, kernelRun0_B.sl.v672, kernelRun0_B.sl.v679, kernelRun0_B.sl.v686, kernelRun0_B.sl.v693, kernelRun0_B.sl.v700, kernelRun0_B.sl.v707, kernelRun0_B.sl.v714, kernelRun0_B.sl.v721, kernelRun0_B.sl.v728, kernelRun0_B.sl.v735, kernelRun0_B.sl.v742, kernelRun0_B.sl.v749, kernelRun0_B.sl.v756, kernelRun0_B.sl.v763, kernelRun0_B.sl.v770, kernelRun0_B.sl.v777, wvB, bvB]
    simp only [evB_1]
    simp (discharger := decide) only [ecB_1 (xs0 := xs0)]
    exact (conv_1_0 (bv x10 1) (fun j => wv x9 1 j) (fun j => ev (ext xs0 (kernelRun0_B.sl.r_1 c arg1 harg1 arg2 harg2 arg3 harg3 x0 x1 x2)) 1 (0 + 2 + j)) (x 1) (x 2)).trans (cv_eq _ _ _ 1 0 _ _ _ (chunk_coords 1 0 _ x).1 (chunk_coords 1 0 _ x).2.1 (chunk_coords 1 0 _ x).2.2)
  refine blocks_cons (fun x _ => ?_) ?_
  · refine (congrArg _ (ix3_zero x)).trans ?_
    simp only [kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.v310, kernelRun0_B.sl.v317, kernelRun0_B.sl.v324, kernelRun0_B.sl.v331, kernelRun0_B.sl.v338, kernelRun0_B.sl.v345, kernelRun0_B.sl.v352, kernelRun0_B.sl.v359, kernelRun0_B.sl.v366, kernelRun0_B.sl.v373, kernelRun0_B.sl.v380, kernelRun0_B.sl.v387, kernelRun0_B.sl.v394, kernelRun0_B.sl.v401, kernelRun0_B.sl.v408, kernelRun0_B.sl.v415, kernelRun0_B.sl.v422, kernelRun0_B.sl.v429, kernelRun0_B.sl.v436, kernelRun0_B.sl.v443, kernelRun0_B.sl.v450, kernelRun0_B.sl.v457, kernelRun0_B.sl.v464, kernelRun0_B.sl.v471, kernelRun0_B.sl.v478, kernelRun0_B.sl.v485, kernelRun0_B.sl.v492, kernelRun0_B.sl.v499, kernelRun0_B.sl.v506, kernelRun0_B.sl.v513, kernelRun0_B.sl.v520, wvB, bvB]
    simp (discharger := decide) only [ecB_0 (xs0 := xs0)]
    exact (conv_0_128 (bv x10 0) (fun j => wv x9 0 j) (fun j => ev (ext xs0 (kernelRun0_B.sl.r_1 c arg1 harg1 arg2 harg2 arg3 harg3 x0 x1 x2)) 0 (128 + 2 + j)) (x 1) (x 2)).trans (cv_eq _ _ _ 0 128 _ _ _ (chunk_coords 0 128 _ x).1 (chunk_coords 0 128 _ x).2.1 (chunk_coords 0 128 _ x).2.2)
  refine blocks_cons (fun x _ => ?_) ?_
  · refine (congrArg _ (ix3_zero x)).trans ?_
    simp only [kernelRun0_B.sl.r_10, kernelRun0_B.sl.r_11, kernelRun0_B.sl.r_12, kernelRun0_B.sl.r_13, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v100, kernelRun0_B.sl.v107, kernelRun0_B.sl.v114, kernelRun0_B.sl.v121, kernelRun0_B.sl.v128, kernelRun0_B.sl.v135, kernelRun0_B.sl.v142, kernelRun0_B.sl.v149, kernelRun0_B.sl.v156, kernelRun0_B.sl.v163, kernelRun0_B.sl.v170, kernelRun0_B.sl.v177, kernelRun0_B.sl.v184, kernelRun0_B.sl.v191, kernelRun0_B.sl.v198, kernelRun0_B.sl.v205, kernelRun0_B.sl.v212, kernelRun0_B.sl.v219, kernelRun0_B.sl.v226, kernelRun0_B.sl.v233, kernelRun0_B.sl.v240, kernelRun0_B.sl.v247, kernelRun0_B.sl.v254, kernelRun0_B.sl.v261, kernelRun0_B.sl.v268, kernelRun0_B.sl.v275, kernelRun0_B.sl.v282, kernelRun0_B.sl.v289, kernelRun0_B.sl.v296, kernelRun0_B.sl.v86, kernelRun0_B.sl.v93, wvB, bvB]
    simp only [evB_0]
    simp (discharger := decide) only [ecB_0 (xs0 := xs0)]
    exact (conv_0_0 (bv x10 0) (fun j => wv x9 0 j) (fun j => ev (ext xs0 (kernelRun0_B.sl.r_1 c arg1 harg1 arg2 harg2 arg3 harg3 x0 x1 x2)) 0 (0 + 2 + j)) (x 1) (x 2)).trans (cv_eq _ _ _ 0 0 _ _ _ (chunk_coords 0 0 _ x).1 (chunk_coords 0 0 _ x).2.1 (chunk_coords 0 0 _ x).2.2)
  exact blocks_nil

theorem xvB (k : ℕ) (inb) :
    arg27.view.readCov (kernelRun0_B.sl.HS1_16 c arg1 harg1 arg2 harg2 arg3 harg3 arg10 harg10 arg11 harg11 arg26 harg26 x0 x1 x2 x9 x10 xs0) (Rect.unit (s := S8x256x128) ![k, 0, 0] ![1, 256, 128] inb).toLoadRect = xv (CV (ext xs0 (kernelRun0_B.sl.r_1 c arg1 harg1 arg2 harg2 arg3 harg3 x0 x1 x2)) x9 x10) k :=
  xv_cov _ _ _ convB (fun y => View.cover_of_tiledL _ ![1, 128, 128] (by sl_kernel_rfl) y) k inb
theorem gvB (k : ℕ) (inb) : View.readAt (Elt Ideal) arg12.view (Rect.unit (s := S1x1024) ![0, k] ![1, 128] inb).toLoadRect (harg12.unread x11) = gv x11 k := by
  rw [View.readAt_eq_ld, harg12.read_unread, gv_ld]
theorem hvB (k : ℕ) (inb) : View.readAt (Elt Ideal) arg13.view (Rect.unit (s := S1x1024) ![0, k] ![1, 128] inb).toLoadRect (harg13.unread x12) = gv x12 k := by
  rw [View.readAt_eq_ld, harg13.read_unread, gv_ld]

end Cert.InpIdeal.Rows
-- ==== Proof.Hand.InpTile.lean ====
/- The gated convolution's block after a point: the convolved tile, normalised over its channels and gated. -/
module

public import proofs.«01_k».proof.Proof.Hand.InpConvA
public import proofs.«01_k».proof.Proof.Hand.InpConvB

@[expose] public section

set_option maxHeartbeats 8000000
set_option maxRecDepth 16384

noncomputable section

namespace Cert.InpIdeal.Rows

open Idealize.ShloMosaic Idealize.ShloMosaic.TcCoe Idealize.SL.Sem Cert.InpIdeal Cert.InpIdeal.Gen Cert.InpSpec

/-- One row of the convolved tile, by lane chunks. -/
def chunks (V : Vec Ideal S8x256x128 .f32) (r : Fin 256) (c : ℕ) (l : Fin 128) : EReal := at3 V c r.val l.val

/-- The convolved tile, normalised over its channels, through silu, times the gate. -/
def cgT (V : Vec Ideal S8x256x128 .f32) (g b : Vec Ideal S1x1024 .f32) (S : FVec Ideal S256x1024 .f32) : Vec Ideal S256x1024 .bf16 :=
  fun y => (chNorm (chunks V (y 0)) ((y 1).val / 128) (Fin.ofNat 128 (y 1).val) (g (ix2 0 (y 1))) (b (ix2 0 (y 1)))
      * sigm (chNorm (chunks V (y 0)) ((y 1).val / 128) (Fin.ofNat 128 (y 1).val) (g (ix2 0 (y 1))) (b (ix2 0 (y 1)))))
    * S (ix2 (y 0) (y 1))

theorem cg_eq (V : Vec Ideal S8x256x128 .f32) (g b : Vec Ideal S1x1024 .f32) (S : FVec Ideal S256x1024 .f32) (k : ℕ) (r : Fin 256) (l : Fin 128)
    (h : 128 * k + l.val < 1024) (y : S256x1024.Idx) (h0 : (y 0).val = r.val) (h1 : (y 1).val = 128 * k + l.val) :
    (chNorm (fun c l => xv V c (ix3 0 r l)) k l (gv g (128 * k) (ix2 0 l)) (gv b (128 * k) (ix2 0 l))
        * sigm (chNorm (fun c l => xv V c (ix3 0 r l)) k l (gv g (128 * k) (ix2 0 l)) (gv b (128 * k) (ix2 0 l))))
      * S (ix2 r ⟨128 * k + l.val, h⟩) = cgT V g b S y := by
  have hl : l.val < 128 := l.isLt
  have e0 : y 0 = r := Fin.ext h0
  have e1 : y 1 = (⟨128 * k + l.val, h⟩ : Fin 1024) := Fin.ext h1
  have ek : (y 1).val / 128 = k := by omega
  have el : Fin.ofNat 128 (y 1).val = l := Fin.ext (by show (y 1).val % 128 = l.val; omega)
  have eg : ∀ x : Vec Ideal S1x1024 .f32, gv x (128 * k) (ix2 0 l) = x (ix2 0 (⟨128 * k + l.val, h⟩ : Fin 1024)) := fun x =>
    congrArg (fun q => x (ix2 0 q)) (Fin.ext (by show (128 * k + l.val) % 1024 = 128 * k + l.val; omega))
  unfold cgT
  rw [ek, el, e0, e1, eg g, eg b]
  rfl

variable (m : (ℓ : Loc nD τ sig) → Buf (Elt Ideal) ℓ)

/-- The convolution's gated input in a tile, and the gate its output meets. -/
def uB (c : Dev nD) (t : Fin cfg0.N) : FVec Ideal S256x1024 .f32 :=
  k0_pay8 (iblk m c 0 t) (iblk m c 1 t) (wB m c t 4096 (by decide)) (wB m c t 5120 (by decide))
def sB (c : Dev nD) (t : Fin cfg0.N) : FVec Ideal S256x1024 .f32 := k0_pay233 (hidB m c t) (wB m c t 6144 (by decide))

theorem uA_eq (c : Dev nD) (t : Fin cfg0.N) : kernelRun0_A.sl.r_1 c (ms0_0 t) (hs0_0 t) (ms0_1 t) (hs0_1 t) (ms0_2 t) (hs0_2 t) (iblk m c 0 t) (iblk m c 1 t) (iblk m c 2 t) = uB m c t := by
  unfold kernelRun0_A.sl.r_1
  simp only [View.readAt_eq_ld, (hs0_0 t).read_unread, (hs0_1 t).read_unread, (hs0_2 t).read_unread, View.ld_unit_zero (S := S256x1024) hz2,
    View.ld_unit_zero (S := S1x1024) hz2, ld_cols _ (by decide : 4096 + 1024 ≤ 9344), ld_cols _ (by decide : 5120 + 1024 ≤ 9344)]
  rfl
theorem sA_eq (c : Dev nD) (t : Fin cfg0.N) : kernelRun0_A.sl.r_187 c (ms0_0 t) (hs0_0 t) (ms0_1 t) (hs0_1 t) (ms0_2 t) (hs0_2 t) (iblk m c 0 t) (iblk m c 1 t) (iblk m c 2 t) = sB m c t := by
  unfold kernelRun0_A.sl.r_187 kernelRun0_A.sl.r
  simp only [View.readAt_eq_ld, (hs0_0 t).read_unread, (hs0_1 t).read_unread, (hs0_2 t).read_unread, View.ld_unit_zero (S := S256x1024) hz2,
    View.ld_unit_zero (S := S1x1024) hz2, ld_cols _ (by decide : 6144 + 1024 ≤ 9344)]
  rfl
theorem xvA_at (c : Dev nD) (t : Fin cfg0.N) (k : ℕ) (inb) :
    (View.whole cc0_scratch1).readCov (kernelRun0_A.sl.HS1_16 c (ms0_0 t) (hs0_0 t) (ms0_1 t) (hs0_1 t) (ms0_2 t) (hs0_2 t) (ms0_8 t) (hs0_8 t) (ms0_9 t) (hs0_9 t) (ms0_10 t) (hs0_10 t) scM0_0 (iblk m c 0 t) (iblk m c 1 t) (iblk m c 2 t) (iblk m c 8 t) (iblk m c 9 t) (iblk m c 10 t)) (Rect.unit (s := S8x256x128) ![k, 0, 0] ![1, 256, 128] inb).toLoadRect
      = xv (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t)) k := xvA (arg27 := scM0_1) k inb
theorem A21 (c : Dev nD) (t : Fin cfg0.N) (h0 : t.val % 8 = 0) :
    Data.blkA_21 m c t h0 = cgT (CV (ext (fresh (iblk m c 8 t)) (uB m c t)) (iblk m c 9 t) (iblk m c 10 t)) (iblk m c 11 t) (iblk m c 12 t) (sB m c t) := by
  rw [← uA_eq, ← sA_eq]
  funext y
  refine canon_blocks (Q := fun _ => True) y trivial _ ?_ (Data.coverA_21 m c t h0 y)
  unfold Data.runA kernelRun0_A
  dsimp only
  refine blocks_cons (fun x _ => ?_) ?_
  · refine (congrArg _ (eq_ix2 x)).trans ?_
    simp only [kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.v3847, kernelRun0_A.sl.v3852, kernelRun0_A.sl.v3857, kernelRun0_A.sl.v3862, kernelRun0_A.sl.v3867, kernelRun0_A.sl.v3872, kernelRun0_A.sl.v3877, kernelRun0_A.sl.v3882, xvA_at, gvA, hvA]
    exact (pay_cg_7 _ (xv (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 896) (gv (iblk m c 12 t) 896) (x 0) (x 1)).trans
      (cg_eq (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 7 (x 0) (x 1) (by have : (x 1).val < 128 := (x 1).isLt; omega) _
        (by show 0 + 1 * (x 0).val = (x 0).val; omega) (by show 896 + 1 * (x 1).val = 128 * 7 + (x 1).val; omega))
  refine blocks_cons (fun x _ => ?_) ?_
  · refine (congrArg _ (eq_ix2 x)).trans ?_
    simp only [kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.v3847, kernelRun0_A.sl.v3852, kernelRun0_A.sl.v3857, kernelRun0_A.sl.v3862, kernelRun0_A.sl.v3867, kernelRun0_A.sl.v3872, kernelRun0_A.sl.v3877, kernelRun0_A.sl.v3882, xvA_at, gvA, hvA]
    exact (pay_cg_6 _ (xv (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 768) (gv (iblk m c 12 t) 768) (x 0) (x 1)).trans
      (cg_eq (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 6 (x 0) (x 1) (by have : (x 1).val < 128 := (x 1).isLt; omega) _
        (by show 0 + 1 * (x 0).val = (x 0).val; omega) (by show 768 + 1 * (x 1).val = 128 * 6 + (x 1).val; omega))
  refine blocks_cons (fun x _ => ?_) ?_
  · refine (congrArg _ (eq_ix2 x)).trans ?_
    simp only [kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.v3847, kernelRun0_A.sl.v3852, kernelRun0_A.sl.v3857, kernelRun0_A.sl.v3862, kernelRun0_A.sl.v3867, kernelRun0_A.sl.v3872, kernelRun0_A.sl.v3877, kernelRun0_A.sl.v3882, xvA_at, gvA, hvA]
    exact (pay_cg_5 _ (xv (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 640) (gv (iblk m c 12 t) 640) (x 0) (x 1)).trans
      (cg_eq (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 5 (x 0) (x 1) (by have : (x 1).val < 128 := (x 1).isLt; omega) _
        (by show 0 + 1 * (x 0).val = (x 0).val; omega) (by show 640 + 1 * (x 1).val = 128 * 5 + (x 1).val; omega))
  refine blocks_cons (fun x _ => ?_) ?_
  · refine (congrArg _ (eq_ix2 x)).trans ?_
    simp only [kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.v3847, kernelRun0_A.sl.v3852, kernelRun0_A.sl.v3857, kernelRun0_A.sl.v3862, kernelRun0_A.sl.v3867, kernelRun0_A.sl.v3872, kernelRun0_A.sl.v3877, kernelRun0_A.sl.v3882, xvA_at, gvA, hvA]
    exact (pay_cg_4 _ (xv (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 512) (gv (iblk m c 12 t) 512) (x 0) (x 1)).trans
      (cg_eq (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 4 (x 0) (x 1) (by have : (x 1).val < 128 := (x 1).isLt; omega) _
        (by show 0 + 1 * (x 0).val = (x 0).val; omega) (by show 512 + 1 * (x 1).val = 128 * 4 + (x 1).val; omega))
  refine blocks_cons (fun x _ => ?_) ?_
  · refine (congrArg _ (eq_ix2 x)).trans ?_
    simp only [kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.v3847, kernelRun0_A.sl.v3852, kernelRun0_A.sl.v3857, kernelRun0_A.sl.v3862, kernelRun0_A.sl.v3867, kernelRun0_A.sl.v3872, kernelRun0_A.sl.v3877, kernelRun0_A.sl.v3882, xvA_at, gvA, hvA]
    exact (pay_cg_3 _ (xv (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 384) (gv (iblk m c 12 t) 384) (x 0) (x 1)).trans
      (cg_eq (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 3 (x 0) (x 1) (by have : (x 1).val < 128 := (x 1).isLt; omega) _
        (by show 0 + 1 * (x 0).val = (x 0).val; omega) (by show 384 + 1 * (x 1).val = 128 * 3 + (x 1).val; omega))
  refine blocks_cons (fun x _ => ?_) ?_
  · refine (congrArg _ (eq_ix2 x)).trans ?_
    simp only [kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.v3847, kernelRun0_A.sl.v3852, kernelRun0_A.sl.v3857, kernelRun0_A.sl.v3862, kernelRun0_A.sl.v3867, kernelRun0_A.sl.v3872, kernelRun0_A.sl.v3877, kernelRun0_A.sl.v3882, xvA_at, gvA, hvA]
    exact (pay_cg_2 _ (xv (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 256) (gv (iblk m c 12 t) 256) (x 0) (x 1)).trans
      (cg_eq (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 2 (x 0) (x 1) (by have : (x 1).val < 128 := (x 1).isLt; omega) _
        (by show 0 + 1 * (x 0).val = (x 0).val; omega) (by show 256 + 1 * (x 1).val = 128 * 2 + (x 1).val; omega))
  refine blocks_cons (fun x _ => ?_) ?_
  · refine (congrArg _ (eq_ix2 x)).trans ?_
    simp only [kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.v3847, kernelRun0_A.sl.v3852, kernelRun0_A.sl.v3857, kernelRun0_A.sl.v3862, kernelRun0_A.sl.v3867, kernelRun0_A.sl.v3872, kernelRun0_A.sl.v3877, kernelRun0_A.sl.v3882, xvA_at, gvA, hvA]
    exact (pay_cg_1 _ (xv (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 128) (gv (iblk m c 12 t) 128) (x 0) (x 1)).trans
      (cg_eq (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 1 (x 0) (x 1) (by have : (x 1).val < 128 := (x 1).isLt; omega) _
        (by show 0 + 1 * (x 0).val = (x 0).val; omega) (by show 128 + 1 * (x 1).val = 128 * 1 + (x 1).val; omega))
  refine blocks_cons (fun x _ => ?_) ?_
  · refine (congrArg _ (eq_ix2 x)).trans ?_
    simp only [kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.v3847, kernelRun0_A.sl.v3852, kernelRun0_A.sl.v3857, kernelRun0_A.sl.v3862, kernelRun0_A.sl.v3867, kernelRun0_A.sl.v3872, kernelRun0_A.sl.v3877, kernelRun0_A.sl.v3882, xvA_at, gvA, hvA]
    exact (pay_cg_0 _ (xv (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 0) (gv (iblk m c 12 t) 0) (x 0) (x 1)).trans
      (cg_eq (CV (ext (fresh (iblk m c 8 t)) (kernelRun0_A.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 0 (x 0) (x 1) (by have : (x 1).val < 128 := (x 1).isLt; omega) _
        (by show 0 + 1 * (x 0).val = (x 0).val; omega) (by show 0 + 1 * (x 1).val = 128 * 0 + (x 1).val; omega))
  exact blocks_nil
theorem haloA_front (c : Dev nD) (t : Fin cfg0.N) (h0 : t.val % 8 = 0) (y : S8x288x128.Idx) (hy : (y 1).val < 32) :
    Data.haloA m c t h0 y = at3 (ext (fresh (iblk m c 8 t)) (uB m c t)) (y 0).val (256 + (y 1).val) (y 2).val := by
  rw [← uA_eq]
  unfold Data.haloA Data.runA kernelRun0_A
  dsimp only
  exact movedA_8 y hy
theorem uB_eq (c : Dev nD) (t : Fin cfg0.N) : kernelRun0_B.sl.r_1 c (ms0_0 t) (hs0_0 t) (ms0_1 t) (hs0_1 t) (ms0_2 t) (hs0_2 t) (iblk m c 0 t) (iblk m c 1 t) (iblk m c 2 t) = uB m c t := by
  unfold kernelRun0_B.sl.r_1
  simp only [View.readAt_eq_ld, (hs0_0 t).read_unread, (hs0_1 t).read_unread, (hs0_2 t).read_unread, View.ld_unit_zero (S := S256x1024) hz2,
    View.ld_unit_zero (S := S1x1024) hz2, ld_cols _ (by decide : 4096 + 1024 ≤ 9344), ld_cols _ (by decide : 5120 + 1024 ≤ 9344)]
  rfl
theorem sB_eq (c : Dev nD) (t : Fin cfg0.N) : kernelRun0_B.sl.r_187 c (ms0_0 t) (hs0_0 t) (ms0_1 t) (hs0_1 t) (ms0_2 t) (hs0_2 t) (iblk m c 0 t) (iblk m c 1 t) (iblk m c 2 t) = sB m c t := by
  unfold kernelRun0_B.sl.r_187 kernelRun0_B.sl.r
  simp only [View.readAt_eq_ld, (hs0_0 t).read_unread, (hs0_1 t).read_unread, (hs0_2 t).read_unread, View.ld_unit_zero (S := S256x1024) hz2,
    View.ld_unit_zero (S := S1x1024) hz2, ld_cols _ (by decide : 6144 + 1024 ≤ 9344)]
  rfl
theorem xvB_at (c : Dev nD) (t : Fin cfg0.N) (s : Vec Ideal S8x288x128 .f32) (k : ℕ) (inb) :
    (View.whole cc0_scratch1).readCov (kernelRun0_B.sl.HS1_16 c (ms0_0 t) (hs0_0 t) (ms0_1 t) (hs0_1 t) (ms0_2 t) (hs0_2 t) (ms0_9 t) (hs0_9 t) (ms0_10 t) (hs0_10 t) scM0_0 (Memref.isWhole_whole _) (iblk m c 0 t) (iblk m c 1 t) (iblk m c 2 t) (iblk m c 9 t) (iblk m c 10 t) s) (Rect.unit (s := S8x256x128) ![k, 0, 0] ![1, 256, 128] inb).toLoadRect
      = xv (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t)) k := xvB (arg27 := scM0_1) k inb
theorem B21 (c : Dev nD) (t : Fin cfg0.N) (h0 : ¬t.val % 8 = 0) (s : Vec Ideal S8x288x128 .f32) :
    Data.blkB_21 m c t h0 s = cgT (CV (ext s (uB m c t)) (iblk m c 9 t) (iblk m c 10 t)) (iblk m c 11 t) (iblk m c 12 t) (sB m c t) := by
  rw [← uB_eq, ← sB_eq]
  funext y
  refine canon_blocks (Q := fun _ => True) y trivial _ ?_ (Data.coverB_21 m c t h0 s y)
  unfold Data.runB kernelRun0_B
  dsimp only
  refine blocks_cons (fun x _ => ?_) ?_
  · refine (congrArg _ (eq_ix2 x)).trans ?_
    simp only [kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220, kernelRun0_B.sl.r_221, kernelRun0_B.sl.r_222, kernelRun0_B.sl.r_223, kernelRun0_B.sl.r_224, kernelRun0_B.sl.r_225, kernelRun0_B.sl.v3847, kernelRun0_B.sl.v3852, kernelRun0_B.sl.v3857, kernelRun0_B.sl.v3862, kernelRun0_B.sl.v3867, kernelRun0_B.sl.v3872, kernelRun0_B.sl.v3877, kernelRun0_B.sl.v3882, xvB_at, gvB, hvB]
    exact (pay_cg_7 _ (xv (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 896) (gv (iblk m c 12 t) 896) (x 0) (x 1)).trans
      (cg_eq (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 7 (x 0) (x 1) (by have : (x 1).val < 128 := (x 1).isLt; omega) _
        (by show 0 + 1 * (x 0).val = (x 0).val; omega) (by show 896 + 1 * (x 1).val = 128 * 7 + (x 1).val; omega))
  refine blocks_cons (fun x _ => ?_) ?_
  · refine (congrArg _ (eq_ix2 x)).trans ?_
    simp only [kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220, kernelRun0_B.sl.r_221, kernelRun0_B.sl.r_222, kernelRun0_B.sl.r_223, kernelRun0_B.sl.r_224, kernelRun0_B.sl.r_225, kernelRun0_B.sl.v3847, kernelRun0_B.sl.v3852, kernelRun0_B.sl.v3857, kernelRun0_B.sl.v3862, kernelRun0_B.sl.v3867, kernelRun0_B.sl.v3872, kernelRun0_B.sl.v3877, kernelRun0_B.sl.v3882, xvB_at, gvB, hvB]
    exact (pay_cg_6 _ (xv (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 768) (gv (iblk m c 12 t) 768) (x 0) (x 1)).trans
      (cg_eq (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 6 (x 0) (x 1) (by have : (x 1).val < 128 := (x 1).isLt; omega) _
        (by show 0 + 1 * (x 0).val = (x 0).val; omega) (by show 768 + 1 * (x 1).val = 128 * 6 + (x 1).val; omega))
  refine blocks_cons (fun x _ => ?_) ?_
  · refine (congrArg _ (eq_ix2 x)).trans ?_
    simp only [kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220, kernelRun0_B.sl.r_221, kernelRun0_B.sl.r_222, kernelRun0_B.sl.r_223, kernelRun0_B.sl.r_224, kernelRun0_B.sl.r_225, kernelRun0_B.sl.v3847, kernelRun0_B.sl.v3852, kernelRun0_B.sl.v3857, kernelRun0_B.sl.v3862, kernelRun0_B.sl.v3867, kernelRun0_B.sl.v3872, kernelRun0_B.sl.v3877, kernelRun0_B.sl.v3882, xvB_at, gvB, hvB]
    exact (pay_cg_5 _ (xv (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 640) (gv (iblk m c 12 t) 640) (x 0) (x 1)).trans
      (cg_eq (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 5 (x 0) (x 1) (by have : (x 1).val < 128 := (x 1).isLt; omega) _
        (by show 0 + 1 * (x 0).val = (x 0).val; omega) (by show 640 + 1 * (x 1).val = 128 * 5 + (x 1).val; omega))
  refine blocks_cons (fun x _ => ?_) ?_
  · refine (congrArg _ (eq_ix2 x)).trans ?_
    simp only [kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220, kernelRun0_B.sl.r_221, kernelRun0_B.sl.r_222, kernelRun0_B.sl.r_223, kernelRun0_B.sl.r_224, kernelRun0_B.sl.r_225, kernelRun0_B.sl.v3847, kernelRun0_B.sl.v3852, kernelRun0_B.sl.v3857, kernelRun0_B.sl.v3862, kernelRun0_B.sl.v3867, kernelRun0_B.sl.v3872, kernelRun0_B.sl.v3877, kernelRun0_B.sl.v3882, xvB_at, gvB, hvB]
    exact (pay_cg_4 _ (xv (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 512) (gv (iblk m c 12 t) 512) (x 0) (x 1)).trans
      (cg_eq (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 4 (x 0) (x 1) (by have : (x 1).val < 128 := (x 1).isLt; omega) _
        (by show 0 + 1 * (x 0).val = (x 0).val; omega) (by show 512 + 1 * (x 1).val = 128 * 4 + (x 1).val; omega))
  refine blocks_cons (fun x _ => ?_) ?_
  · refine (congrArg _ (eq_ix2 x)).trans ?_
    simp only [kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220, kernelRun0_B.sl.r_221, kernelRun0_B.sl.r_222, kernelRun0_B.sl.r_223, kernelRun0_B.sl.r_224, kernelRun0_B.sl.r_225, kernelRun0_B.sl.v3847, kernelRun0_B.sl.v3852, kernelRun0_B.sl.v3857, kernelRun0_B.sl.v3862, kernelRun0_B.sl.v3867, kernelRun0_B.sl.v3872, kernelRun0_B.sl.v3877, kernelRun0_B.sl.v3882, xvB_at, gvB, hvB]
    exact (pay_cg_3 _ (xv (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 384) (gv (iblk m c 12 t) 384) (x 0) (x 1)).trans
      (cg_eq (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 3 (x 0) (x 1) (by have : (x 1).val < 128 := (x 1).isLt; omega) _
        (by show 0 + 1 * (x 0).val = (x 0).val; omega) (by show 384 + 1 * (x 1).val = 128 * 3 + (x 1).val; omega))
  refine blocks_cons (fun x _ => ?_) ?_
  · refine (congrArg _ (eq_ix2 x)).trans ?_
    simp only [kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220, kernelRun0_B.sl.r_221, kernelRun0_B.sl.r_222, kernelRun0_B.sl.r_223, kernelRun0_B.sl.r_224, kernelRun0_B.sl.r_225, kernelRun0_B.sl.v3847, kernelRun0_B.sl.v3852, kernelRun0_B.sl.v3857, kernelRun0_B.sl.v3862, kernelRun0_B.sl.v3867, kernelRun0_B.sl.v3872, kernelRun0_B.sl.v3877, kernelRun0_B.sl.v3882, xvB_at, gvB, hvB]
    exact (pay_cg_2 _ (xv (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 256) (gv (iblk m c 12 t) 256) (x 0) (x 1)).trans
      (cg_eq (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 2 (x 0) (x 1) (by have : (x 1).val < 128 := (x 1).isLt; omega) _
        (by show 0 + 1 * (x 0).val = (x 0).val; omega) (by show 256 + 1 * (x 1).val = 128 * 2 + (x 1).val; omega))
  refine blocks_cons (fun x _ => ?_) ?_
  · refine (congrArg _ (eq_ix2 x)).trans ?_
    simp only [kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220, kernelRun0_B.sl.r_221, kernelRun0_B.sl.r_222, kernelRun0_B.sl.r_223, kernelRun0_B.sl.r_224, kernelRun0_B.sl.r_225, kernelRun0_B.sl.v3847, kernelRun0_B.sl.v3852, kernelRun0_B.sl.v3857, kernelRun0_B.sl.v3862, kernelRun0_B.sl.v3867, kernelRun0_B.sl.v3872, kernelRun0_B.sl.v3877, kernelRun0_B.sl.v3882, xvB_at, gvB, hvB]
    exact (pay_cg_1 _ (xv (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 128) (gv (iblk m c 12 t) 128) (x 0) (x 1)).trans
      (cg_eq (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 1 (x 0) (x 1) (by have : (x 1).val < 128 := (x 1).isLt; omega) _
        (by show 0 + 1 * (x 0).val = (x 0).val; omega) (by show 128 + 1 * (x 1).val = 128 * 1 + (x 1).val; omega))
  refine blocks_cons (fun x _ => ?_) ?_
  · refine (congrArg _ (eq_ix2 x)).trans ?_
    simp only [kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220, kernelRun0_B.sl.r_221, kernelRun0_B.sl.r_222, kernelRun0_B.sl.r_223, kernelRun0_B.sl.r_224, kernelRun0_B.sl.r_225, kernelRun0_B.sl.v3847, kernelRun0_B.sl.v3852, kernelRun0_B.sl.v3857, kernelRun0_B.sl.v3862, kernelRun0_B.sl.v3867, kernelRun0_B.sl.v3872, kernelRun0_B.sl.v3877, kernelRun0_B.sl.v3882, xvB_at, gvB, hvB]
    exact (pay_cg_0 _ (xv (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t))) (gv (iblk m c 11 t) 0) (gv (iblk m c 12 t) 0) (x 0) (x 1)).trans
      (cg_eq (CV (ext s (kernelRun0_B.sl.r_1 c (ms0_0 t) (hs0_0 t) (ms0_1 t) (hs0_1 t) (ms0_2 t) (hs0_2 t) (iblk m c 0 t) (iblk m c 1 t) (iblk m c 2 t))) (iblk m c 9 t) (iblk m c 10 t)) (iblk m c 11 t) (iblk m c 12 t) _ 0 (x 0) (x 1) (by have : (x 1).val < 128 := (x 1).isLt; omega) _
        (by show 0 + 1 * (x 0).val = (x 0).val; omega) (by show 0 + 1 * (x 1).val = 128 * 0 + (x 1).val; omega))
  exact blocks_nil
theorem haloB_front (c : Dev nD) (t : Fin cfg0.N) (h0 : ¬t.val % 8 = 0) (s : Vec Ideal S8x288x128 .f32) (y : S8x288x128.Idx) (hy : (y 1).val < 32) :
    Data.haloB m c t h0 s y = at3 (ext s (uB m c t)) (y 0).val (256 + (y 1).val) (y 2).val := by
  rw [← uB_eq]
  unfold Data.haloB Data.runB kernelRun0_B
  dsimp only
  exact movedB_8 y hy

end Cert.InpIdeal.Rows
-- ==== Proof.Hand.InpConvEntry.lean ====
/- What the input projection's host lines hand to the convolution: the zero state, the taps and the bias by lane chunks, the
   layernorm's gain and bias. -/
module

public import proofs.«01_k».proof.Proof.Hand.InpEntry

@[expose] public section

set_option maxHeartbeats 1000000
set_option maxRecDepth 16384

noncomputable section

namespace Cert.InpIdeal.Rows

open Idealize.ShloMosaic Idealize.ShloMosaic.TcCoe Idealize.SL.Sem Cert.InpIdeal Cert.InpIdeal.Gen

def noState : Vec Ideal S32x32x1024 .f32 := broadcastInDim S32x32x1024 ![] bcast_S_S32x32x1024 (constant S_ .f32 0x00000000#32 : FVec Ideal S_ .f32)

def tapRow (w : Vec Ideal S1x31x1024 .f32) : Vec Ideal S8x32x128 .f32 :=
  transpose S8x32x128 [1, 0, 2] (shapeCast S32x8x128 (pad S32x1024 ![0, 0] ![1, 0] ![0, 0]
    (shapeCast S31x1024 w shapeCasts_S1x31x1024_S31x1024 : Vec Ideal S31x1024 .f32) (sitofp .f32 (constantI S_ 32 0#32) : FVec Ideal S_ .f32)
      pads_S31x1024_S32x1024_010_000 h_S_ : Vec Ideal S32x1024 .f32)
    shapeCasts_S32x1024_S32x8x128 : Vec Ideal S32x8x128 .f32) transposes_S32x8x128_S8x32x128_1_0_2

def tapBias (b : Vec Ideal S1x1024 .f32) : Vec Ideal S8x1x128 .f32 :=
  transpose S8x1x128 [1, 0, 2] (shapeCast S1x8x128 (gainRow b) shapeCasts_S1x1024_S1x8x128 : Vec Ideal S1x8x128 .f32) transposes_S1x8x128_S8x1x128_1_0_2

theorem noState_at (b : Fin 32) (r : Fin 32) (j : Fin 1024) : noState (ix3 b r j) = 0 := by
  pointwise [noState]
theorem tapRow_at (w : Vec Ideal S1x31x1024 .f32) (k : Fin 8) (r : Fin 32) (l : Fin 128) (h : r.val < 31) :
    tapRow w (ix3 k r l) = w (ix3 0 ⟨r.val, h⟩ ⟨128 * k.val + l.val, by omega⟩) := by
  pointwise [tapRow]
  rw [dif_pos (by omega)]
  congr 2 <;> apply Fin.ext <;> simp <;> omega
theorem tapBias_at (b : Vec Ideal S1x1024 .f32) (k : Fin 8) (l : Fin 128) :
    tapBias b (ix3 k 0 l) = b (ix2 0 ⟨128 * k.val + l.val, by omega⟩) := by
  pointwise [tapBias, gainRow]
  congr 2 <;> apply Fin.ext <;> simp <;> omega

variable (m : (ℓ : Loc nD τ sig) → Buf (Elt Ideal) ℓ)

theorem entry_st (c : Dev nD) : V m c main_v52 = noState := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  rfl
theorem entry_taps (c : Dev nD) : V m c main_v43 = tapRow (m (c.tc.loc main_arg6)) := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  rfl
theorem entry_tb (c : Dev nD) : V m c main_v46 = tapBias (m (c.tc.loc main_arg7)) := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  rfl
theorem entry_lg (c : Dev nD) : V m c main_v47 = gainRow (m (c.tc.loc main_arg8)) := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  rfl
theorem entry_lb (c : Dev nD) : V m c main_v48 = gainRow (m (c.tc.loc main_arg9)) := by
  simp only [V, hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem map8 : ∀ t : Fin cfg0.N, win0_8.index t 0 = t.val / 8 ∧ win0_8.index t 1 = 0 ∧ win0_8.index t 2 = 0 :=
  (by decide +kernel : ∀ t : Fin grid0.N, win0_8.index t 0 = t.val / 8 ∧ win0_8.index t 1 = 0 ∧ win0_8.index t 2 = 0)
theorem map9 : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)
theorem map10 : ∀ t : Fin cfg0.N, win0_10.index t 0 = 0 ∧ win0_10.index t 1 = 0 ∧ win0_10.index t 2 = 0 :=
  (by decide +kernel : ∀ t : Fin grid0.N, win0_10.index t 0 = 0 ∧ win0_10.index t 1 = 0 ∧ win0_10.index t 2 = 0)
theorem map11 : ∀ t : Fin cfg0.N, win0_11.index t 0 = 0 ∧ win0_11.index t 1 = 0 :=
  (by decide +kernel : ∀ t : Fin grid0.N, win0_11.index t 0 = 0 ∧ win0_11.index t 1 = 0)
theorem map12 : ∀ t : Fin cfg0.N, win0_12.index t 0 = 0 ∧ win0_12.index t 1 = 0 :=
  (by decide +kernel : ∀ t : Fin grid0.N, win0_12.index t 0 = 0 ∧ win0_12.index t 1 = 0)
theorem map21 : ∀ t : Fin cfg0.N, win0_21.index t 0 = t.val ∧ win0_21.index t 1 = 0 :=
  (by decide +kernel : ∀ t : Fin grid0.N, win0_21.index t 0 = t.val ∧ win0_21.index t 1 = 0)

theorem blk8 (c : Dev nD) (t : Fin cfg0.N) (r : Fin 32) (j : Fin 1024) : (iblk m c 8 t : Vec Ideal S1x32x1024 .f32) (ix3 0 r j) = (0 : EReal) := by
  have h := map8 t
  refine Eq.trans ?_ (noState_at (seqOf t) r j)
  rw [← entry_st m c]
  unfold iblk
  rw [View.read_apply]
  show V m c main_v52 _ = V m c main_v52 _
  congr 1; funext a; apply Fin.ext
  match a with
  | ⟨0, _⟩ => show win0_8.index t 0 * 1 + 1 * 0 = t.val / 8; rw [h.1]; omega
  | ⟨1, _⟩ => show win0_8.index t 1 * 32 + 1 * r.val = r.val; rw [h.2.1]; omega
  | ⟨2, _⟩ => show win0_8.index t 2 * 1024 + 1 * j.val = j.val; rw [h.2.2]; omega
theorem blk9 (c : Dev nD) (t : Fin cfg0.N) : (iblk m c 9 t : Vec Ideal S8x32x128 .f32) = tapRow (m (c.tc.loc main_arg6)) := by
  have h := map9 t
  rw [← entry_taps]
  funext (j : S8x32x128.Idx)
  unfold iblk
  rw [View.read_apply]
  show V m c main_v43 _ = V m c main_v43 _
  congr 1; funext a; apply Fin.ext
  match a with
  | ⟨0, _⟩ => show win0_9.index t 0 * 8 + 1 * (j 0).val = (j 0).val; rw [h.1]; omega
  | ⟨1, _⟩ => show win0_9.index t 1 * 32 + 1 * (j 1).val = (j 1).val; rw [h.2.1]; omega
  | ⟨2, _⟩ => show win0_9.index t 2 * 128 + 1 * (j 2).val = (j 2).val; rw [h.2.2]; omega
theorem blk10 (c : Dev nD) (t : Fin cfg0.N) : (iblk m c 10 t : Vec Ideal S8x1x128 .f32) = tapBias (m (c.tc.loc main_arg7)) := by
  have h := map10 t
  rw [← entry_tb]
  funext (j : S8x1x128.Idx)
  unfold iblk
  rw [View.read_apply]
  show V m c main_v46 _ = V m c main_v46 _
  congr 1; funext a; apply Fin.ext
  match a with
  | ⟨0, _⟩ => show win0_10.index t 0 * 8 + 1 * (j 0).val = (j 0).val; rw [h.1]; omega
  | ⟨1, _⟩ => show win0_10.index t 1 * 1 + 1 * (j 1).val = (j 1).val; rw [h.2.1]; omega
  | ⟨2, _⟩ => show win0_10.index t 2 * 128 + 1 * (j 2).val = (j 2).val; rw [h.2.2]; omega
theorem blk11 (c : Dev nD) (t : Fin cfg0.N) : (iblk m c 11 t : Vec Ideal S1x1024 .f32) = gainRow (m (c.tc.loc main_arg8)) := by
  have h := map11 t
  rw [← entry_lg]
  funext (j : S1x1024.Idx)
  unfold iblk
  rw [View.read_apply]
  show V m c main_v47 _ = V m c main_v47 _
  congr 1; funext a; apply Fin.ext
  match a with
  | ⟨0, _⟩ => show win0_11.index t 0 * 1 + 1 * (j 0).val = (j 0).val; rw [h.1]; omega
  | ⟨1, _⟩ => show win0_11.index t 1 * 1024 + 1 * (j 1).val = (j 1).val; rw [h.2]; omega
theorem blk12 (c : Dev nD) (t : Fin cfg0.N) : (iblk m c 12 t : Vec Ideal S1x1024 .f32) = gainRow (m (c.tc.loc main_arg9)) := by
  have h := map12 t
  rw [← entry_lb]
  funext (j : S1x1024.Idx)
  unfold iblk
  rw [View.read_apply]
  show V m c main_v48 _ = V m c main_v48 _
  congr 1; funext a; apply Fin.ext
  match a with
  | ⟨0, _⟩ => show win0_12.index t 0 * 1 + 1 * (j 0).val = (j 0).val; rw [h.1]; omega
  | ⟨1, _⟩ => show win0_12.index t 1 * 1024 + 1 * (j 1).val = (j 1).val; rw [h.2]; omega

end Cert.InpIdeal.Rows
-- ==== Proof.Hand.InpRun.lean ====
/- The input projection's launch, its claimed output arrays named, its arguments unchanged. -/
module

public import proofs.«01_k».proof.Proof.Hand.InpIdealData
public import Idealize.ShloMosaic.PureOps.Ideal.Laws

@[expose] public section

set_option maxHeartbeats 4000000
set_option maxRecDepth 16384

noncomputable section

namespace Cert.InpIdeal.Rows

open Idealize.ShloMosaic Idealize.ShloMosaic.TcCoe Idealize.SL.Sem Cert.InpIdeal Cert.InpIdeal.Gen Cert.InpIdeal.Data

variable (m : (ℓ : Loc nD τ sig) → Buf (Elt Ideal) ℓ) (ρ : Dev nD → PrngReg)

/-- Every claimed output array is what its window's blocks leave in it; no argument changes. -/
theorem run_arrays : θ_run defs (onTc (τ := τ) (main (F := Ideal))) ⟨m, fun _ => 0, ρ⟩ fun r => ∀ c : Dev nD,
      r.2.mem ((c.tc : Thread nD τ).loc main_v54_0) = (dats m 0 c).arrAt 13 cfg0.N
      ∧ r.2.mem ((c.tc : Thread nD τ).loc main_v54_1) = (dats m 0 c).arrAt 14 cfg0.N
      ∧ r.2.mem ((c.tc : Thread nD τ).loc main_v54_2) = (dats m 0 c).arrAt 15 cfg0.N
      ∧ r.2.mem ((c.tc : Thread nD τ).loc main_v54_3) = (dats m 0 c).arrAt 16 cfg0.N
      ∧ r.2.mem ((c.tc : Thread nD τ).loc main_v54_4) = (dats m 0 c).arrAt 17 cfg0.N
      ∧ r.2.mem ((c.tc : Thread nD τ).loc main_v54_5) = (dats m 0 c).arrAt 18 cfg0.N
      ∧ r.2.mem ((c.tc : Thread nD τ).loc main_v54_6) = (dats m 0 c).arrAt 19 cfg0.N
      ∧ r.2.mem ((c.tc : Thread nD τ).loc main_v54_7) = (dats m 0 c).arrAt 20 cfg0.N
      ∧ r.2.mem ((c.tc : Thread nD τ).loc main_v54_8) = (dats m 0 c).arrAt 21 cfg0.N
      ∧ r.2.mem ((c.tc : Thread nD τ).loc main_v54_9) = (dats m 0 c).arrAt 22 cfg0.N
      ∧ r.2.mem ((c.tc : Thread nD τ).loc main_v54_10) = (dats m 0 c).arrAt 23 cfg0.N
      ∧ r.2.mem ((c.tc : Thread nD τ).loc main_v54_11) = (dats m 0 c).arrAt 24 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1 13, (h c).1 14, (h c).1 15, (h c).1 16, (h c).1 17, (h c).1 18, (h c).1 19, (h c).1 20, (h c).1 21, (h c).1 22, (h c).1 23, (h c).1 24,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩)
    (run_main m ρ)

end Cert.InpIdeal.Rows
-- ==== Proof.Hand.InpValue.lean ====
/- The input projection's output arrays over the extended reals: what the 256 tiles leave in each, entry by entry, is the
   mixer's formula. -/
module

public import proofs.«01_k».proof.Proof.Hand.InpBlocks
public import proofs.«01_k».proof.Proof.Hand.InpEntry
public import proofs.«01_k».proof.Proof.Hand.InpPay
public import proofs.«01_k».proof.Proof.Hand.InpRun
public import proofs.«01_k».proof.Proof.Hand.InpSpec
public import Idealize.ShloMosaic.Lib.Tactic

@[expose] public section

set_option maxHeartbeats 1000000
set_option maxRecDepth 16384

noncomputable section

namespace Cert.InpIdeal.Rows

open Idealize.ShloMosaic Idealize.ShloMosaic.TcCoe Idealize.SL.Sem Cert.InpIdeal Cert.InpIdeal.Gen Cert.InpIdeal.Data Cert.InpSpec
open Idealize.ShloMosaic.Pipeline (Dat)

variable (m : (ℓ : Loc nD τ sig) → Buf (Elt Ideal) ℓ) (ρ : Dev nD → PrngReg)

/-- The arguments as arrays. -/
abbrev X (c : Dev nD) : SX.Idx → EReal := m (c.tc.loc main_arg0)
abbrev Gn (c : Dev nD) : SG.Idx → EReal := m (c.tc.loc main_arg1)
abbrev W (c : Dev nD) : SP.Idx → EReal := m (c.tc.loc main_arg2)

theorem hid_at (c : Dev nD) (t : Fin cfg0.N) (r : Fin 256) (d : Fin 1024) :
    hidB m c t (ix2 r d) = hid (fun k => X m c (ix3 (seqOf t) (timeOf t r) k)) (fun k => Gn m c (ix2 0 k)) d := by
  unfold hidB
  rw [pay_hid]
  simp only [blk0, blk1, gainRow_at]

theorem wB_low (c : Dev nD) (t : Fin cfg0.N) (o : Nat) (h : o + 1024 ≤ 9344) (h' : o + 1024 ≤ 3072) (k j : Fin 1024) :
    wB m c t o h (ix2 k j) = W m c (ix3 0 k ⟨o + j.val, by omega⟩) := by
  unfold wB cols
  rw [blk2]
  exact allW_low _ k _ (by show o + j.val < 3072; omega)
theorem wB_mid (c : Dev nD) (t : Fin cfg0.N) (o : Nat) (h : o + 1024 ≤ 9344) (h' : 3072 ≤ o) (h'' : o + 1024 ≤ 9216) (k j : Fin 1024) :
    wB m c t o h (ix2 k j) = W m c (ix3 0 k ⟨o + 16 + j.val, by omega⟩) := by
  unfold wB cols
  rw [blk2]
  refine (allW_mid _ k _ (by show 3072 ≤ o + j.val; omega) (by show o + j.val < 9216; omega)).trans ?_
  exact congrArg (fun q => W m c (ix3 0 k q)) (Fin.ext (by show o + j.val + 16 = o + 16 + j.val; omega))
theorem wF_at (c : Dev nD) (t : Fin cfg0.N) (k : Fin 1024) (j : Fin 16) :
    wF m c t (ix2 k ⟨j.val, by omega⟩) = W m c (ix3 0 k ⟨3072 + j.val, by omega⟩) := by
  unfold wF colsF
  rw [blk2]
  refine (allW_gate _ k _ (by show 9216 ≤ 9216 + j.val; omega) (by show 9216 + j.val < 9232; omega)).trans ?_
  exact congrArg (fun q => W m c (ix3 0 k q)) (Fin.ext (by show 9216 + j.val - 6144 = 3072 + j.val; omega))

/-- A section of the projection, from the point's blocks. -/
theorem sec_low (c : Dev nD) (t : Fin cfg0.N) (o : Nat) (h : o + 1024 ≤ 9344) (h' : o + 1024 ≤ 3072) (r : Fin 256) (j : Fin 1024) :
    (∑ d : Fin 1024, hidB m c t (ix2 r d) * wB m c t o h (ix2 d j)) = sec (X m c) (Gn m c) (W m c) o (by omega) (seqOf t) (timeOf t r) j := by
  unfold sec proj
  exact Finset.sum_congr rfl fun d _ => by rw [hid_at, wB_low m c t o h h']
theorem sec_mid (c : Dev nD) (t : Fin cfg0.N) (o : Nat) (h : o + 1024 ≤ 9344) (h' : 3072 ≤ o) (h'' : o + 1024 ≤ 9216) (r : Fin 256) (j : Fin 1024) :
    (∑ d : Fin 1024, hidB m c t (ix2 r d) * wB m c t o h (ix2 d j)) = sec (X m c) (Gn m c) (W m c) (o + 16) (by omega) (seqOf t) (timeOf t r) j := by
  unfold sec proj
  exact Finset.sum_congr rfl fun d _ => by rw [hid_at, wB_mid m c t o h h' h'']
theorem gate_blk (c : Dev nD) (t : Fin cfg0.N) (r : Fin 256) (j : Fin 16) :
    (∑ d : Fin 1024, hidB m c t (ix2 r d) * wF m c t (ix2 d ⟨j.val, by omega⟩))
      = proj (X m c) (Gn m c) (W m c) (seqOf t) (timeOf t r) ⟨3072 + j.val, by omega⟩ := by
  unfold proj
  exact Finset.sum_congr rfl fun d _ => by rw [hid_at, wF_at]

theorem seqAt_row (t : Fin cfg0.N) (r : Fin 256) : seqAt (row t r) = seqOf t :=
  Fin.ext (by show (256 * t.val + r.val) / 2048 = t.val / 8; omega)
theorem timeAt_row (t : Fin cfg0.N) (r : Fin 256) : timeAt (row t r) = timeOf t r :=
  Fin.ext (by show (256 * t.val + r.val) % 2048 = 256 * (t.val % 8) + r.val; omega)

theorem out13_at (c : Dev nD) (t : Fin cfg0.N) (r : Fin 256) (j : Fin 1024) :
    out13 m c t (ix2 r j) = queries (X m c) (Gn m c) (W m c) (m (c.tc.loc main_arg4)) (seqOf t) (timeOf t r) j := by
  unfold out13 queries
  rw [blk6, blk7, pay_q, blk4, queryRow_at]
  simp only [sec_low m c t 0 (by decide) (by decide)]
/-- What the launch leaves in window 13's array. -/
def R13 (c : Dev nD) : Buf (Elt Ideal) ((c.tc : Thread nD τ).loc main_v54_0) := fun i : (⟨2, ![65536, 1024]⟩ : Shape).Idx =>
  queries (X m c) (Gn m c) (W m c) (m (c.tc.loc main_arg4)) (seqAt (i 0)) (timeAt (i 0)) (i 1)
theorem flushed13 (c : Dev nD) (t : Fin cfg0.N) (_ : (cfg0.win 13).flush t = true) :
    (dats m 0 c).flushed 13 t = ((cfg0.win 13).blk t).view.read (Elt Ideal) (R13 m c) := by
  have h := map13 t
  show (dats m 0 c).after 13 t = _
  rw [after0_13, left13_eq]
  funext (j : S256x1024.Idx)
  rw [View.read_apply]
  idx_vars j
  have hi : (((cfg0.win 13).blk t).view.emb (ix2 j0 j1) : (⟨2, ![65536, 1024]⟩ : Shape).Idx) = ix2 (row t j0) j1 := by
    funext a; apply Fin.ext
    match a with
    | ⟨0, _⟩ => show win0_13.index t 0 * 256 + 1 * j0.val = 256 * t.val + j0.val; rw [h.1]; omega
    | ⟨1, _⟩ => show win0_13.index t 1 * 1024 + 1 * j1.val = j1.val; rw [h.2]; omega
  rw [hi]
  show out13 m c t (ix2 j0 j1) = queries (X m c) (Gn m c) (W m c) (m (c.tc.loc main_arg4)) (seqAt (row t j0)) (timeAt (row t j0)) j1
  rw [out13_at, seqAt_row, timeAt_row]
theorem final13 (c : Dev nD) : (dats m 0 c).arrAt 13 cfg0.N = R13 m c :=
  (dats m 0 c).arrAt_eq_of_cover 13 (R13 m c) (flushed13 m c) fun (i : (⟨2, ![65536, 1024]⟩ : Shape).Idx) => by
    have h0 : (i 0).val < 65536 := (i 0).isLt
    have h1 : (i 1).val < 1024 := (i 1).isLt
    have hN : cfg0.N = 256 := N_0
    have ht : (i 0).val / 256 < cfg0.N := by omega
    have h := map13 ⟨(i 0).val / 256, ht⟩
    refine ⟨⟨(i 0).val / 256, ht⟩, (by decide +kernel : ∀ t : Fin grid0.N, (cfg0.win 13).flush t = true) _, ?_⟩
    show i ∈ ((View.whole main_v54_0).slice (win0_13.rect ⟨(i 0).val / 256, ht⟩)).set
    rw [View.set_slice_whole, Rect.mem_set_unit]
    intro a
    match a with
    | ⟨0, _⟩ =>
      show win0_13.index ⟨(i 0).val / 256, ht⟩ 0 * 256 ≤ (i 0).val ∧ (i 0).val < win0_13.index ⟨(i 0).val / 256, ht⟩ 0 * 256 + 256
      rw [h.1]; constructor <;> dsimp only <;> omega
    | ⟨1, _⟩ =>
      show win0_13.index ⟨(i 0).val / 256, ht⟩ 1 * 1024 ≤ (i 1).val ∧ (i 1).val < win0_13.index ⟨(i 0).val / 256, ht⟩ 1 * 1024 + 1024
      rw [h.2]; omega

theorem out14_at (c : Dev nD) (t : Fin cfg0.N) (j : Fin 1024) (r : Fin 256) :
    out14 m c t (ix3 0 j r) = keys (X m c) (Gn m c) (W m c) (m (c.tc.loc main_arg5)) (seqOf t) (timeOf t r) j := by
  unfold out14 keys
  rw [blk6, blk7, pay_kt, blk5, keyRow_at]
  simp only [sec_low m c t 1024 (by decide) (by decide)]
/-- What the launch leaves in window 14's array, time last. -/
def R14 (c : Dev nD) : Buf (Elt Ideal) ((c.tc : Thread nD τ).loc main_v54_1) := fun i : (⟨3, ![32, 1024, 2048]⟩ : Shape).Idx =>
  keys (X m c) (Gn m c) (W m c) (m (c.tc.loc main_arg5)) (i 0) (i 2) (i 1)
theorem flushed14 (c : Dev nD) (t : Fin cfg0.N) (_ : (cfg0.win 14).flush t = true) :
    (dats m 0 c).flushed 14 t = ((cfg0.win 14).blk t).view.read (Elt Ideal) (R14 m c) := by
  have h := map14 t
  show (dats m 0 c).after 14 t = _
  rw [after0_14, left14_eq]
  funext (j : S1x1024x256.Idx)
  rw [View.read_apply]
  idx_vars j
  obtain rfl : j0 = 0 := Subsingleton.elim _ _
  have hi : (((cfg0.win 14).blk t).view.emb (ix3 0 j1 j2) : (⟨3, ![32, 1024, 2048]⟩ : Shape).Idx) = ix3 (seqOf t) j1 (timeOf t j2) := by
    funext a; apply Fin.ext
    match a with
    | ⟨0, _⟩ => show win0_14.index t 0 * 1 + 1 * 0 = t.val / 8; rw [h.1]; omega
    | ⟨1, _⟩ => show win0_14.index t 1 * 1024 + 1 * j1.val = j1.val; rw [h.2.1]; omega
    | ⟨2, _⟩ => show win0_14.index t 2 * 256 + 1 * j2.val = 256 * (t.val % 8) + j2.val; rw [h.2.2]; omega
  rw [hi]
  show out14 m c t (ix3 0 j1 j2) = keys (X m c) (Gn m c) (W m c) (m (c.tc.loc main_arg5)) (seqOf t) (timeOf t j2) j1
  rw [out14_at]
theorem final14 (c : Dev nD) : (dats m 0 c).arrAt 14 cfg0.N = R14 m c :=
  (dats m 0 c).arrAt_eq_of_cover 14 (R14 m c) (flushed14 m c) fun (i : (⟨3, ![32, 1024, 2048]⟩ : Shape).Idx) => by
    have h0 : (i 0).val < 32 := (i 0).isLt
    have h1 : (i 1).val < 1024 := (i 1).isLt
    have h2 : (i 2).val < 2048 := (i 2).isLt
    have hN : cfg0.N = 256 := N_0
    have ht : 8 * (i 0).val + (i 2).val / 256 < cfg0.N := by omega
    have h := map14 ⟨8 * (i 0).val + (i 2).val / 256, ht⟩
    refine ⟨⟨8 * (i 0).val + (i 2).val / 256, ht⟩, (by decide +kernel : ∀ t : Fin grid0.N, (cfg0.win 14).flush t = true) _, ?_⟩
    show i ∈ ((View.whole main_v54_1).slice (win0_14.rect ⟨8 * (i 0).val + (i 2).val / 256, ht⟩)).set
    rw [View.set_slice_whole, Rect.mem_set_unit]
    intro a
    match a with
    | ⟨0, _⟩ =>
      show win0_14.index ⟨8 * (i 0).val + (i 2).val / 256, ht⟩ 0 * 1 ≤ (i 0).val ∧ (i 0).val < win0_14.index ⟨8 * (i 0).val + (i 2).val / 256, ht⟩ 0 * 1 + 1
      rw [h.1]; constructor <;> dsimp only <;> omega
    | ⟨1, _⟩ =>
      show win0_14.index ⟨8 * (i 0).val + (i 2).val / 256, ht⟩ 1 * 1024 ≤ (i 1).val ∧ (i 1).val < win0_14.index ⟨8 * (i 0).val + (i 2).val / 256, ht⟩ 1 * 1024 + 1024
      rw [h.2.1]; omega
    | ⟨2, _⟩ =>
      show win0_14.index ⟨8 * (i 0).val + (i 2).val / 256, ht⟩ 2 * 256 ≤ (i 2).val ∧ (i 2).val < win0_14.index ⟨8 * (i 0).val + (i 2).val / 256, ht⟩ 2 * 256 + 256
      rw [h.2.2]; constructor <;> dsimp only <;> omega

theorem out15_at (c : Dev nD) (t : Fin cfg0.N) (j : Fin 1024) (r : Fin 256) :
    out15 m c t (ix3 0 j r) = values (X m c) (Gn m c) (W m c) (seqOf t) (timeOf t r) j := by
  unfold out15 values
  rw [pay_v, sec_low m c t 2048 (by decide) (by decide)]
/-- What the launch leaves in window 15's array, time last. -/
def R15 (c : Dev nD) : Buf (Elt Ideal) ((c.tc : Thread nD τ).loc main_v54_2) := fun i : (⟨3, ![32, 1024, 2048]⟩ : Shape).Idx =>
  values (X m c) (Gn m c) (W m c) (i 0) (i 2) (i 1)
theorem flushed15 (c : Dev nD) (t : Fin cfg0.N) (_ : (cfg0.win 15).flush t = true) :
    (dats m 0 c).flushed 15 t = ((cfg0.win 15).blk t).view.read (Elt Ideal) (R15 m c) := by
  have h := map15 t
  show (dats m 0 c).after 15 t = _
  rw [after0_15, left15_eq]
  funext (j : S1x1024x256.Idx)
  rw [View.read_apply]
  idx_vars j
  obtain rfl : j0 = 0 := Subsingleton.elim _ _
  have hi : (((cfg0.win 15).blk t).view.emb (ix3 0 j1 j2) : (⟨3, ![32, 1024, 2048]⟩ : Shape).Idx) = ix3 (seqOf t) j1 (timeOf t j2) := by
    funext a; apply Fin.ext
    match a with
    | ⟨0, _⟩ => show win0_15.index t 0 * 1 + 1 * 0 = t.val / 8; rw [h.1]; omega
    | ⟨1, _⟩ => show win0_15.index t 1 * 1024 + 1 * j1.val = j1.val; rw [h.2.1]; omega
    | ⟨2, _⟩ => show win0_15.index t 2 * 256 + 1 * j2.val = 256 * (t.val % 8) + j2.val; rw [h.2.2]; omega
  rw [hi]
  show out15 m c t (ix3 0 j1 j2) = values (X m c) (Gn m c) (W m c) (seqOf t) (timeOf t j2) j1
  rw [out15_at]
theorem final15 (c : Dev nD) : (dats m 0 c).arrAt 15 cfg0.N = R15 m c :=
  (dats m 0 c).arrAt_eq_of_cover 15 (R15 m c) (flushed15 m c) fun (i : (⟨3, ![32, 1024, 2048]⟩ : Shape).Idx) => by
    have h0 : (i 0).val < 32 := (i 0).isLt
    have h1 : (i 1).val < 1024 := (i 1).isLt
    have h2 : (i 2).val < 2048 := (i 2).isLt
    have hN : cfg0.N = 256 := N_0
    have ht : 8 * (i 0).val + (i 2).val / 256 < cfg0.N := by omega
    have h := map15 ⟨8 * (i 0).val + (i 2).val / 256, ht⟩
    refine ⟨⟨8 * (i 0).val + (i 2).val / 256, ht⟩, (by decide +kernel : ∀ t : Fin grid0.N, (cfg0.win 15).flush t = true) _, ?_⟩
    show i ∈ ((View.whole main_v54_2).slice (win0_15.rect ⟨8 * (i 0).val + (i 2).val / 256, ht⟩)).set
    rw [View.set_slice_whole, Rect.mem_set_unit]
    intro a
    match a with
    | ⟨0, _⟩ =>
      show win0_15.index ⟨8 * (i 0).val + (i 2).val / 256, ht⟩ 0 * 1 ≤ (i 0).val ∧ (i 0).val < win0_15.index ⟨8 * (i 0).val + (i 2).val / 256, ht⟩ 0 * 1 + 1
      rw [h.1]; constructor <;> dsimp only <;> omega
    | ⟨1, _⟩ =>
      show win0_15.index ⟨8 * (i 0).val + (i 2).val / 256, ht⟩ 1 * 1024 ≤ (i 1).val ∧ (i 1).val < win0_15.index ⟨8 * (i 0).val + (i 2).val / 256, ht⟩ 1 * 1024 + 1024
      rw [h.2.1]; omega
    | ⟨2, _⟩ =>
      show win0_15.index ⟨8 * (i 0).val + (i 2).val / 256, ht⟩ 2 * 256 ≤ (i 2).val ∧ (i 2).val < win0_15.index ⟨8 * (i 0).val + (i 2).val / 256, ht⟩ 2 * 256 + 256
      rw [h.2.2]; constructor <;> dsimp only <;> omega

theorem out16_at (c : Dev nD) (t : Fin cfg0.N) (r : Fin 256) (j : Fin 1024) :
    out16 m c t (ix2 r j) = keys (X m c) (Gn m c) (W m c) (m (c.tc.loc main_arg5)) (seqOf t) (timeOf t r) j := by
  unfold out16 keys
  rw [blk6, blk7, pay_k, blk5, keyRow_at]
  simp only [sec_low m c t 1024 (by decide) (by decide)]
/-- What the launch leaves in window 16's array. -/
def R16 (c : Dev nD) : Buf (Elt Ideal) ((c.tc : Thread nD τ).loc main_v54_3) := fun i : (⟨2, ![65536, 1024]⟩ : Shape).Idx =>
  keys (X m c) (Gn m c) (W m c) (m (c.tc.loc main_arg5)) (seqAt (i 0)) (timeAt (i 0)) (i 1)
theorem flushed16 (c : Dev nD) (t : Fin cfg0.N) (_ : (cfg0.win 16).flush t = true) :
    (dats m 0 c).flushed 16 t = ((cfg0.win 16).blk t).view.read (Elt Ideal) (R16 m c) := by
  have h := map16 t
  show (dats m 0 c).after 16 t = _
  rw [after0_16, left16_eq]
  funext (j : S256x1024.Idx)
  rw [View.read_apply]
  idx_vars j
  have hi : (((cfg0.win 16).blk t).view.emb (ix2 j0 j1) : (⟨2, ![65536, 1024]⟩ : Shape).Idx) = ix2 (row t j0) j1 := by
    funext a; apply Fin.ext
    match a with
    | ⟨0, _⟩ => show win0_16.index t 0 * 256 + 1 * j0.val = 256 * t.val + j0.val; rw [h.1]; omega
    | ⟨1, _⟩ => show win0_16.index t 1 * 1024 + 1 * j1.val = j1.val; rw [h.2]; omega
  rw [hi]
  show out16 m c t (ix2 j0 j1) = keys (X m c) (Gn m c) (W m c) (m (c.tc.loc main_arg5)) (seqAt (row t j0)) (timeAt (row t j0)) j1
  rw [out16_at, seqAt_row, timeAt_row]
theorem final16 (c : Dev nD) : (dats m 0 c).arrAt 16 cfg0.N = R16 m c :=
  (dats m 0 c).arrAt_eq_of_cover 16 (R16 m c) (flushed16 m c) fun (i : (⟨2, ![65536, 1024]⟩ : Shape).Idx) => by
    have h0 : (i 0).val < 65536 := (i 0).isLt
    have h1 : (i 1).val < 1024 := (i 1).isLt
    have hN : cfg0.N = 256 := N_0
    have ht : (i 0).val / 256 < cfg0.N := by omega
    have h := map16 ⟨(i 0).val / 256, ht⟩
    refine ⟨⟨(i 0).val / 256, ht⟩, (by decide +kernel : ∀ t : Fin grid0.N, (cfg0.win 16).flush t = true) _, ?_⟩
    show i ∈ ((View.whole main_v54_3).slice (win0_16.rect ⟨(i 0).val / 256, ht⟩)).set
    rw [View.set_slice_whole, Rect.mem_set_unit]
    intro a
    match a with
    | ⟨0, _⟩ =>
      show win0_16.index ⟨(i 0).val / 256, ht⟩ 0 * 256 ≤ (i 0).val ∧ (i 0).val < win0_16.index ⟨(i 0).val / 256, ht⟩ 0 * 256 + 256
      rw [h.1]; constructor <;> dsimp only <;> omega
    | ⟨1, _⟩ =>
      show win0_16.index ⟨(i 0).val / 256, ht⟩ 1 * 1024 ≤ (i 1).val ∧ (i 1).val < win0_16.index ⟨(i 0).val / 256, ht⟩ 1 * 1024 + 1024
      rw [h.2]; omega

theorem out17_at (c : Dev nD) (t : Fin cfg0.N) (j : Fin 1024) (r : Fin 256) :
    out17 m c t (ix3 0 j r) = values (X m c) (Gn m c) (W m c) (seqOf t) (timeOf t r) j := by
  unfold out17 values
  rw [pay_vb, sec_low m c t 2048 (by decide) (by decide)]
/-- What the launch leaves in window 17's array, time last. -/
def R17 (c : Dev nD) : Buf (Elt Ideal) ((c.tc : Thread nD τ).loc main_v54_4) := fun i : (⟨3, ![32, 1024, 2048]⟩ : Shape).Idx =>
  values (X m c) (Gn m c) (W m c) (i 0) (i 2) (i 1)
theorem flushed17 (c : Dev nD) (t : Fin cfg0.N) (_ : (cfg0.win 17).flush t = true) :
    (dats m 0 c).flushed 17 t = ((cfg0.win 17).blk t).view.read (Elt Ideal) (R17 m c) := by
  have h := map17 t
  show (dats m 0 c).after 17 t = _
  rw [after0_17, left17_eq]
  funext (j : S1x1024x256.Idx)
  rw [View.read_apply]
  idx_vars j
  obtain rfl : j0 = 0 := Subsingleton.elim _ _
  have hi : (((cfg0.win 17).blk t).view.emb (ix3 0 j1 j2) : (⟨3, ![32, 1024, 2048]⟩ : Shape).Idx) = ix3 (seqOf t) j1 (timeOf t j2) := by
    funext a; apply Fin.ext
    match a with
    | ⟨0, _⟩ => show win0_17.index t 0 * 1 + 1 * 0 = t.val / 8; rw [h.1]; omega
    | ⟨1, _⟩ => show win0_17.index t 1 * 1024 + 1 * j1.val = j1.val; rw [h.2.1]; omega
    | ⟨2, _⟩ => show win0_17.index t 2 * 256 + 1 * j2.val = 256 * (t.val % 8) + j2.val; rw [h.2.2]; omega
  rw [hi]
  show out17 m c t (ix3 0 j1 j2) = values (X m c) (Gn m c) (W m c) (seqOf t) (timeOf t j2) j1
  rw [out17_at]
theorem final17 (c : Dev nD) : (dats m 0 c).arrAt 17 cfg0.N = R17 m c :=
  (dats m 0 c).arrAt_eq_of_cover 17 (R17 m c) (flushed17 m c) fun (i : (⟨3, ![32, 1024, 2048]⟩ : Shape).Idx) => by
    have h0 : (i 0).val < 32 := (i 0).isLt
    have h1 : (i 1).val < 1024 := (i 1).isLt
    have h2 : (i 2).val < 2048 := (i 2).isLt
    have hN : cfg0.N = 256 := N_0
    have ht : 8 * (i 0).val + (i 2).val / 256 < cfg0.N := by omega
    have h := map17 ⟨8 * (i 0).val + (i 2).val / 256, ht⟩
    refine ⟨⟨8 * (i 0).val + (i 2).val / 256, ht⟩, (by decide +kernel : ∀ t : Fin grid0.N, (cfg0.win 17).flush t = true) _, ?_⟩
    show i ∈ ((View.whole main_v54_4).slice (win0_17.rect ⟨8 * (i 0).val + (i 2).val / 256, ht⟩)).set
    rw [View.set_slice_whole, Rect.mem_set_unit]
    intro a
    match a with
    | ⟨0, _⟩ =>
      show win0_17.index ⟨8 * (i 0).val + (i 2).val / 256, ht⟩ 0 * 1 ≤ (i 0).val ∧ (i 0).val < win0_17.index ⟨8 * (i 0).val + (i 2).val / 256, ht⟩ 0 * 1 + 1
      rw [h.1]; constructor <;> dsimp only <;> omega
    | ⟨1, _⟩ =>
      show win0_17.index ⟨8 * (i 0).val + (i 2).val / 256, ht⟩ 1 * 1024 ≤ (i 1).val ∧ (i 1).val < win0_17.index ⟨8 * (i 0).val + (i 2).val / 256, ht⟩ 1 * 1024 + 1024
      rw [h.2.1]; omega
    | ⟨2, _⟩ =>
      show win0_17.index ⟨8 * (i 0).val + (i 2).val / 256, ht⟩ 2 * 256 ≤ (i 2).val ∧ (i 2).val < win0_17.index ⟨8 * (i 0).val + (i 2).val / 256, ht⟩ 2 * 256 + 256
      rw [h.2.2]; constructor <;> dsimp only <;> omega

theorem out18_at (c : Dev nD) (t : Fin cfg0.N) (r : Fin 256) (j : Fin 16) :
    out18 m c t (ix2 r j) = forget (X m c) (Gn m c) (W m c) (m (c.tc.loc main_arg3)) (seqOf t) (timeOf t r) j := by
  unfold out18 forget
  rw [pay_f, gate_blk, blk3, biasRow_at _ _ (show j.val < 16 from j.isLt)]
/-- What the launch leaves in window 18's array. -/
def R18 (c : Dev nD) : Buf (Elt Ideal) ((c.tc : Thread nD τ).loc main_v54_5) := fun i : (⟨2, ![65536, 16]⟩ : Shape).Idx =>
  forget (X m c) (Gn m c) (W m c) (m (c.tc.loc main_arg3)) (seqAt (i 0)) (timeAt (i 0)) (i 1)
theorem flushed18 (c : Dev nD) (t : Fin cfg0.N) (_ : (cfg0.win 18).flush t = true) :
    (dats m 0 c).flushed 18 t = ((cfg0.win 18).blk t).view.read (Elt Ideal) (R18 m c) := by
  have h := map18 t
  show (dats m 0 c).after 18 t = _
  rw [after0_18, left18_eq]
  funext (j : S256x16.Idx)
  rw [View.read_apply]
  idx_vars j
  have hi : (((cfg0.win 18).blk t).view.emb (ix2 j0 j1) : (⟨2, ![65536, 16]⟩ : Shape).Idx) = ix2 (row t j0) j1 := by
    funext a; apply Fin.ext
    match a with
    | ⟨0, _⟩ => show win0_18.index t 0 * 256 + 1 * j0.val = 256 * t.val + j0.val; rw [h.1]; omega
    | ⟨1, _⟩ => show win0_18.index t 1 * 16 + 1 * j1.val = j1.val; rw [h.2]; omega
  rw [hi]
  show out18 m c t (ix2 j0 j1) = forget (X m c) (Gn m c) (W m c) (m (c.tc.loc main_arg3)) (seqAt (row t j0)) (timeAt (row t j0)) j1
  rw [out18_at, seqAt_row, timeAt_row]
theorem final18 (c : Dev nD) : (dats m 0 c).arrAt 18 cfg0.N = R18 m c :=
  (dats m 0 c).arrAt_eq_of_cover 18 (R18 m c) (flushed18 m c) fun (i : (⟨2, ![65536, 16]⟩ : Shape).Idx) => by
    have h0 : (i 0).val < 65536 := (i 0).isLt
    have h1 : (i 1).val < 16 := (i 1).isLt
    have hN : cfg0.N = 256 := N_0
    have ht : (i 0).val / 256 < cfg0.N := by omega
    have h := map18 ⟨(i 0).val / 256, ht⟩
    refine ⟨⟨(i 0).val / 256, ht⟩, (by decide +kernel : ∀ t : Fin grid0.N, (cfg0.win 18).flush t = true) _, ?_⟩
    show i ∈ ((View.whole main_v54_5).slice (win0_18.rect ⟨(i 0).val / 256, ht⟩)).set
    rw [View.set_slice_whole, Rect.mem_set_unit]
    intro a
    match a with
    | ⟨0, _⟩ =>
      show win0_18.index ⟨(i 0).val / 256, ht⟩ 0 * 256 ≤ (i 0).val ∧ (i 0).val < win0_18.index ⟨(i 0).val / 256, ht⟩ 0 * 256 + 256
      rw [h.1]; constructor <;> dsimp only <;> omega
    | ⟨1, _⟩ =>
      show win0_18.index ⟨(i 0).val / 256, ht⟩ 1 * 16 ≤ (i 1).val ∧ (i 1).val < win0_18.index ⟨(i 0).val / 256, ht⟩ 1 * 16 + 16
      rw [h.2]; omega

theorem out19_at (c : Dev nD) (t : Fin cfg0.N) (j : Fin 16) (r : Fin 256) :
    out19 m c t (ix3 0 j r) = forget (X m c) (Gn m c) (W m c) (m (c.tc.loc main_arg3)) (seqOf t) (timeOf t r) j := by
  unfold out19 forget
  rw [pay_ft, gate_blk, blk3, biasRow_at _ _ (show j.val < 16 from j.isLt)]
/-- What the launch leaves in window 19's array, time last. -/
def R19 (c : Dev nD) : Buf (Elt Ideal) ((c.tc : Thread nD τ).loc main_v54_6) := fun i : (⟨3, ![32, 16, 2048]⟩ : Shape).Idx =>
  forget (X m c) (Gn m c) (W m c) (m (c.tc.loc main_arg3)) (i 0) (i 2) (i 1)
theorem flushed19 (c : Dev nD) (t : Fin cfg0.N) (_ : (cfg0.win 19).flush t = true) :
    (dats m 0 c).flushed 19 t = ((cfg0.win 19).blk t).view.read (Elt Ideal) (R19 m c) := by
  have h := map19 t
  show (dats m 0 c).after 19 t = _
  rw [after0_19, left19_eq]
  funext (j : S1x16x256.Idx)
  rw [View.read_apply]
  idx_vars j
  obtain rfl : j0 = 0 := Subsingleton.elim _ _
  have hi : (((cfg0.win 19).blk t).view.emb (ix3 0 j1 j2) : (⟨3, ![32, 16, 2048]⟩ : Shape).Idx) = ix3 (seqOf t) j1 (timeOf t j2) := by
    funext a; apply Fin.ext
    match a with
    | ⟨0, _⟩ => show win0_19.index t 0 * 1 + 1 * 0 = t.val / 8; rw [h.1]; omega
    | ⟨1, _⟩ => show win0_19.index t 1 * 16 + 1 * j1.val = j1.val; rw [h.2.1]; omega
    | ⟨2, _⟩ => show win0_19.index t 2 * 256 + 1 * j2.val = 256 * (t.val % 8) + j2.val; rw [h.2.2]; omega
  rw [hi]
  show out19 m c t (ix3 0 j1 j2) = forget (X m c) (Gn m c) (W m c) (m (c.tc.loc main_arg3)) (seqOf t) (timeOf t j2) j1
  rw [out19_at]
theorem final19 (c : Dev nD) : (dats m 0 c).arrAt 19 cfg0.N = R19 m c :=
  (dats m 0 c).arrAt_eq_of_cover 19 (R19 m c) (flushed19 m c) fun (i : (⟨3, ![32, 16, 2048]⟩ : Shape).Idx) => by
    have h0 : (i 0).val < 32 := (i 0).isLt
    have h1 : (i 1).val < 16 := (i 1).isLt
    have h2 : (i 2).val < 2048 := (i 2).isLt
    have hN : cfg0.N = 256 := N_0
    have ht : 8 * (i 0).val + (i 2).val / 256 < cfg0.N := by omega
    have h := map19 ⟨8 * (i 0).val + (i 2).val / 256, ht⟩
    refine ⟨⟨8 * (i 0).val + (i 2).val / 256, ht⟩, (by decide +kernel : ∀ t : Fin grid0.N, (cfg0.win 19).flush t = true) _, ?_⟩
    show i ∈ ((View.whole main_v54_6).slice (win0_19.rect ⟨8 * (i 0).val + (i 2).val / 256, ht⟩)).set
    rw [View.set_slice_whole, Rect.mem_set_unit]
    intro a
    match a with
    | ⟨0, _⟩ =>
      show win0_19.index ⟨8 * (i 0).val + (i 2).val / 256, ht⟩ 0 * 1 ≤ (i 0).val ∧ (i 0).val < win0_19.index ⟨8 * (i 0).val + (i 2).val / 256, ht⟩ 0 * 1 + 1
      rw [h.1]; constructor <;> dsimp only <;> omega
    | ⟨1, _⟩ =>
      show win0_19.index ⟨8 * (i 0).val + (i 2).val / 256, ht⟩ 1 * 16 ≤ (i 1).val ∧ (i 1).val < win0_19.index ⟨8 * (i 0).val + (i 2).val / 256, ht⟩ 1 * 16 + 16
      rw [h.2.1]; omega
    | ⟨2, _⟩ =>
      show win0_19.index ⟨8 * (i 0).val + (i 2).val / 256, ht⟩ 2 * 256 ≤ (i 2).val ∧ (i 2).val < win0_19.index ⟨8 * (i 0).val + (i 2).val / 256, ht⟩ 2 * 256 + 256
      rw [h.2.2]; constructor <;> dsimp only <;> omega

theorem out20_at (c : Dev nD) (t : Fin cfg0.N) (r : Fin 256) (j : Fin 1024) :
    out20 m c t (ix2 r j) = gateA (X m c) (Gn m c) (W m c) (seqOf t) (timeOf t r) j := by
  unfold out20 gateA
  rw [pay_ga, sec_mid m c t 3072 (by decide) (by decide) (by decide)]
/-- What the launch leaves in window 20's array. -/
def R20 (c : Dev nD) : Buf (Elt Ideal) ((c.tc : Thread nD τ).loc main_v54_7) := fun i : (⟨2, ![65536, 1024]⟩ : Shape).Idx =>
  gateA (X m c) (Gn m c) (W m c) (seqAt (i 0)) (timeAt (i 0)) (i 1)
theorem flushed20 (c : Dev nD) (t : Fin cfg0.N) (_ : (cfg0.win 20).flush t = true) :
    (dats m 0 c).flushed 20 t = ((cfg0.win 20).blk t).view.read (Elt Ideal) (R20 m c) := by
  have h := map20 t
  show (dats m 0 c).after 20 t = _
  rw [after0_20, left20_eq]
  funext (j : S256x1024.Idx)
  rw [View.read_apply]
  idx_vars j
  have hi : (((cfg0.win 20).blk t).view.emb (ix2 j0 j1) : (⟨2, ![65536, 1024]⟩ : Shape).Idx) = ix2 (row t j0) j1 := by
    funext a; apply Fin.ext
    match a with
    | ⟨0, _⟩ => show win0_20.index t 0 * 256 + 1 * j0.val = 256 * t.val + j0.val; rw [h.1]; omega
    | ⟨1, _⟩ => show win0_20.index t 1 * 1024 + 1 * j1.val = j1.val; rw [h.2]; omega
  rw [hi]
  show out20 m c t (ix2 j0 j1) = gateA (X m c) (Gn m c) (W m c) (seqAt (row t j0)) (timeAt (row t j0)) j1
  rw [out20_at, seqAt_row, timeAt_row]
theorem final20 (c : Dev nD) : (dats m 0 c).arrAt 20 cfg0.N = R20 m c :=
  (dats m 0 c).arrAt_eq_of_cover 20 (R20 m c) (flushed20 m c) fun (i : (⟨2, ![65536, 1024]⟩ : Shape).Idx) => by
    have h0 : (i 0).val < 65536 := (i 0).isLt
    have h1 : (i 1).val < 1024 := (i 1).isLt
    have hN : cfg0.N = 256 := N_0
    have ht : (i 0).val / 256 < cfg0.N := by omega
    have h := map20 ⟨(i 0).val / 256, ht⟩
    refine ⟨⟨(i 0).val / 256, ht⟩, (by decide +kernel : ∀ t : Fin grid0.N, (cfg0.win 20).flush t = true) _, ?_⟩
    show i ∈ ((View.whole main_v54_7).slice (win0_20.rect ⟨(i 0).val / 256, ht⟩)).set
    rw [View.set_slice_whole, Rect.mem_set_unit]
    intro a
    match a with
    | ⟨0, _⟩ =>
      show win0_20.index ⟨(i 0).val / 256, ht⟩ 0 * 256 ≤ (i 0).val ∧ (i 0).val < win0_20.index ⟨(i 0).val / 256, ht⟩ 0 * 256 + 256
      rw [h.1]; constructor <;> dsimp only <;> omega
    | ⟨1, _⟩ =>
      show win0_20.index ⟨(i 0).val / 256, ht⟩ 1 * 1024 ≤ (i 1).val ∧ (i 1).val < win0_20.index ⟨(i 0).val / 256, ht⟩ 1 * 1024 + 1024
      rw [h.2]; omega

theorem out22_at (c : Dev nD) (t : Fin cfg0.N) (r : Fin 32) (j : Fin 1024) :
    out22 m c t (ix3 0 r j) = convIn (X m c) (Gn m c) (W m c) (seqOf t) (timeOf t ⟨224 + r.val, by omega⟩) j := by
  have e : (⟨224 + r.val, by omega⟩ : Fin 256) = ⟨224 + r.val, by omega⟩ := rfl
  have ha := sec_mid m c t 4096 (by decide) (by decide) (by decide) ⟨224 + r.val, by omega⟩ j
  have hb := sec_mid m c t 5120 (by decide) (by decide) (by decide) ⟨224 + r.val, by omega⟩ j
  unfold out22 convIn
  rw [pay_u]
  simp only [hidB, pay_hid] at ha hb
  rw [ha, hb]
/-- What the launch leaves in window 22's array: the last 32 times of each sequence. -/
def R22 (c : Dev nD) : Buf (Elt Ideal) ((c.tc : Thread nD τ).loc main_v54_9) := fun i : (⟨3, ![32, 32, 1024]⟩ : Shape).Idx =>
  convIn (X m c) (Gn m c) (W m c) (i 0) ⟨2016 + (i 1).val, by have : (i 1).val < 32 := (i 1).isLt; omega⟩ (i 2)
theorem last22 : ∀ t : Fin cfg0.N, (cfg0.win 22).flush t = true ↔ t.val % 8 = 7 :=
  (by decide +kernel : ∀ t : Fin grid0.N, (cfg0.win 22).flush t = true ↔ t.val % 8 = 7)
theorem flushed22 (c : Dev nD) (t : Fin cfg0.N) (hf : (cfg0.win 22).flush t = true) :
    (dats m 0 c).flushed 22 t = ((cfg0.win 22).blk t).view.read (Elt Ideal) (R22 m c) := by
  have h := map22 t
  have h7 := (last22 t).mp hf
  show (dats m 0 c).after 22 t = _
  rw [after0_22, left22_eq]
  funext (j : S1x32x1024.Idx)
  rw [View.read_apply]
  idx_vars j
  obtain rfl : j0 = 0 := Subsingleton.elim _ _
  have hi : (((cfg0.win 22).blk t).view.emb (ix3 0 j1 j2) : (⟨3, ![32, 32, 1024]⟩ : Shape).Idx) = ix3 (seqOf t) j1 j2 := by
    funext a; apply Fin.ext
    match a with
    | ⟨0, _⟩ => show win0_22.index t 0 * 1 + 1 * 0 = t.val / 8; rw [h.1]; omega
    | ⟨1, _⟩ => show win0_22.index t 1 * 32 + 1 * j1.val = j1.val; rw [h.2.1]; omega
    | ⟨2, _⟩ => show win0_22.index t 2 * 1024 + 1 * j2.val = j2.val; rw [h.2.2]; omega
  rw [hi]
  show out22 m c t (ix3 0 j1 j2) = convIn (X m c) (Gn m c) (W m c) (seqOf t) ⟨2016 + j1.val, by omega⟩ j2
  rw [out22_at]
  have e : timeOf t ⟨224 + j1.val, by omega⟩ = ⟨2016 + j1.val, by omega⟩ :=
    Fin.ext (by show 256 * (t.val % 8) + (224 + j1.val) = 2016 + j1.val; omega)
  rw [e]
theorem final22 (c : Dev nD) : (dats m 0 c).arrAt 22 cfg0.N = R22 m c :=
  (dats m 0 c).arrAt_eq_of_cover 22 (R22 m c) (flushed22 m c) fun (i : (⟨3, ![32, 32, 1024]⟩ : Shape).Idx) => by
    have h0 : (i 0).val < 32 := (i 0).isLt
    have h1 : (i 1).val < 32 := (i 1).isLt
    have h2 : (i 2).val < 1024 := (i 2).isLt
    have hN : cfg0.N = 256 := N_0
    have ht : 8 * (i 0).val + 7 < cfg0.N := by omega
    have h := map22 ⟨8 * (i 0).val + 7, ht⟩
    refine ⟨⟨8 * (i 0).val + 7, ht⟩, (last22 _).mpr (by show (8 * (i 0).val + 7) % 8 = 7; omega), ?_⟩
    show i ∈ ((View.whole main_v54_9).slice (win0_22.rect ⟨8 * (i 0).val + 7, ht⟩)).set
    rw [View.set_slice_whole, Rect.mem_set_unit]
    intro a
    match a with
    | ⟨0, _⟩ =>
      show win0_22.index ⟨8 * (i 0).val + 7, ht⟩ 0 * 1 ≤ (i 0).val ∧ (i 0).val < win0_22.index ⟨8 * (i 0).val + 7, ht⟩ 0 * 1 + 1
      rw [h.1]; constructor <;> dsimp only <;> omega
    | ⟨1, _⟩ =>
      show win0_22.index ⟨8 * (i 0).val + 7, ht⟩ 1 * 32 ≤ (i 1).val ∧ (i 1).val < win0_22.index ⟨8 * (i 0).val + 7, ht⟩ 1 * 32 + 32
      rw [h.2.1]; omega
    | ⟨2, _⟩ =>
      show win0_22.index ⟨8 * (i 0).val + 7, ht⟩ 2 * 1024 ≤ (i 2).val ∧ (i 2).val < win0_22.index ⟨8 * (i 0).val + 7, ht⟩ 2 * 1024 + 1024
      rw [h.2.2]; omega

theorem out23_at (c : Dev nD) (t : Fin cfg0.N) (r : Fin 256) (j : Fin 1024) :
    out23 m c t (ix2 r j) = mergeA (X m c) (Gn m c) (W m c) (seqOf t) (timeOf t r) j := by
  unfold out23 mergeA
  rw [pay_ma, sec_mid m c t 7168 (by decide) (by decide) (by decide)]
/-- What the launch leaves in window 23's array. -/
def R23 (c : Dev nD) : Buf (Elt Ideal) ((c.tc : Thread nD τ).loc main_v54_10) := fun i : (⟨2, ![65536, 1024]⟩ : Shape).Idx =>
  mergeA (X m c) (Gn m c) (W m c) (seqAt (i 0)) (timeAt (i 0)) (i 1)
theorem flushed23 (c : Dev nD) (t : Fin cfg0.N) (_ : (cfg0.win 23).flush t = true) :
    (dats m 0 c).flushed 23 t = ((cfg0.win 23).blk t).view.read (Elt Ideal) (R23 m c) := by
  have h := map23 t
  show (dats m 0 c).after 23 t = _
  rw [after0_23, left23_eq]
  funext (j : S256x1024.Idx)
  rw [View.read_apply]
  idx_vars j
  have hi : (((cfg0.win 23).blk t).view.emb (ix2 j0 j1) : (⟨2, ![65536, 1024]⟩ : Shape).Idx) = ix2 (row t j0) j1 := by
    funext a; apply Fin.ext
    match a with
    | ⟨0, _⟩ => show win0_23.index t 0 * 256 + 1 * j0.val = 256 * t.val + j0.val; rw [h.1]; omega
    | ⟨1, _⟩ => show win0_23.index t 1 * 1024 + 1 * j1.val = j1.val; rw [h.2]; omega
  rw [hi]
  show out23 m c t (ix2 j0 j1) = mergeA (X m c) (Gn m c) (W m c) (seqAt (row t j0)) (timeAt (row t j0)) j1
  rw [out23_at, seqAt_row, timeAt_row]
theorem final23 (c : Dev nD) : (dats m 0 c).arrAt 23 cfg0.N = R23 m c :=
  (dats m 0 c).arrAt_eq_of_cover 23 (R23 m c) (flushed23 m c) fun (i : (⟨2, ![65536, 1024]⟩ : Shape).Idx) => by
    have h0 : (i 0).val < 65536 := (i 0).isLt
    have h1 : (i 1).val < 1024 := (i 1).isLt
    have hN : cfg0.N = 256 := N_0
    have ht : (i 0).val / 256 < cfg0.N := by omega
    have h := map23 ⟨(i 0).val / 256, ht⟩
    refine ⟨⟨(i 0).val / 256, ht⟩, (by decide +kernel : ∀ t : Fin grid0.N, (cfg0.win 23).flush t = true) _, ?_⟩
    show i ∈ ((View.whole main_v54_10).slice (win0_23.rect ⟨(i 0).val / 256, ht⟩)).set
    rw [View.set_slice_whole, Rect.mem_set_unit]
    intro a
    match a with
    | ⟨0, _⟩ =>
      show win0_23.index ⟨(i 0).val / 256, ht⟩ 0 * 256 ≤ (i 0).val ∧ (i 0).val < win0_23.index ⟨(i 0).val / 256, ht⟩ 0 * 256 + 256
      rw [h.1]; constructor <;> dsimp only <;> omega
    | ⟨1, _⟩ =>
      show win0_23.index ⟨(i 0).val / 256, ht⟩ 1 * 1024 ≤ (i 1).val ∧ (i 1).val < win0_23.index ⟨(i 0).val / 256, ht⟩ 1 * 1024 + 1024
      rw [h.2]; omega

theorem out24_at (c : Dev nD) (t : Fin cfg0.N) (r : Fin 256) (j : Fin 1024) :
    out24 m c t (ix2 r j) = mergeB (X m c) (Gn m c) (W m c) (seqOf t) (timeOf t r) j := by
  unfold out24 mergeB
  rw [pay_mb, sec_mid m c t 8192 (by decide) (by decide) (by decide)]
/-- What the launch leaves in window 24's array. -/
def R24 (c : Dev nD) : Buf (Elt Ideal) ((c.tc : Thread nD τ).loc main_v54_11) := fun i : (⟨2, ![65536, 1024]⟩ : Shape).Idx =>
  mergeB (X m c) (Gn m c) (W m c) (seqAt (i 0)) (timeAt (i 0)) (i 1)
theorem flushed24 (c : Dev nD) (t : Fin cfg0.N) (_ : (cfg0.win 24).flush t = true) :
    (dats m 0 c).flushed 24 t = ((cfg0.win 24).blk t).view.read (Elt Ideal) (R24 m c) := by
  have h := map24 t
  show (dats m 0 c).after 24 t = _
  rw [after0_24, left24_eq]
  funext (j : S256x1024.Idx)
  rw [View.read_apply]
  idx_vars j
  have hi : (((cfg0.win 24).blk t).view.emb (ix2 j0 j1) : (⟨2, ![65536, 1024]⟩ : Shape).Idx) = ix2 (row t j0) j1 := by
    funext a; apply Fin.ext
    match a with
    | ⟨0, _⟩ => show win0_24.index t 0 * 256 + 1 * j0.val = 256 * t.val + j0.val; rw [h.1]; omega
    | ⟨1, _⟩ => show win0_24.index t 1 * 1024 + 1 * j1.val = j1.val; rw [h.2]; omega
  rw [hi]
  show out24 m c t (ix2 j0 j1) = mergeB (X m c) (Gn m c) (W m c) (seqAt (row t j0)) (timeAt (row t j0)) j1
  rw [out24_at, seqAt_row, timeAt_row]
theorem final24 (c : Dev nD) : (dats m 0 c).arrAt 24 cfg0.N = R24 m c :=
  (dats m 0 c).arrAt_eq_of_cover 24 (R24 m c) (flushed24 m c) fun (i : (⟨2, ![65536, 1024]⟩ : Shape).Idx) => by
    have h0 : (i 0).val < 65536 := (i 0).isLt
    have h1 : (i 1).val < 1024 := (i 1).isLt
    have hN : cfg0.N = 256 := N_0
    have ht : (i 0).val / 256 < cfg0.N := by omega
    have h := map24 ⟨(i 0).val / 256, ht⟩
    refine ⟨⟨(i 0).val / 256, ht⟩, (by decide +kernel : ∀ t : Fin grid0.N, (cfg0.win 24).flush t = true) _, ?_⟩
    show i ∈ ((View.whole main_v54_11).slice (win0_24.rect ⟨(i 0).val / 256, ht⟩)).set
    rw [View.set_slice_whole, Rect.mem_set_unit]
    intro a
    match a with
    | ⟨0, _⟩ =>
      show win0_24.index ⟨(i 0).val / 256, ht⟩ 0 * 256 ≤ (i 0).val ∧ (i 0).val < win0_24.index ⟨(i 0).val / 256, ht⟩ 0 * 256 + 256
      rw [h.1]; constructor <;> dsimp only <;> omega
    | ⟨1, _⟩ =>
      show win0_24.index ⟨(i 0).val / 256, ht⟩ 1 * 1024 ≤ (i 1).val ∧ (i 1).val < win0_24.index ⟨(i 0).val / 256, ht⟩ 1 * 1024 + 1024
      rw [h.2]; omega

end Cert.InpIdeal.Rows
-- ==== Proof.Hand.InpGate.lean ====
/- The gated convolution of the input projection: every row the tiles carry is the convolution's input at its time, so
   each block is the convolution branch at its rows, and the array holds it everywhere. -/
module

public import proofs.«01_k».proof.Proof.Hand.InpTile
public import proofs.«01_k».proof.Proof.Hand.InpConvEntry
public import proofs.«01_k».proof.Proof.Hand.InpConvSpec
public import proofs.«01_k».proof.Proof.Hand.InpValue

@[expose] public section

set_option maxHeartbeats 4000000
set_option maxRecDepth 16384

noncomputable section

namespace Cert.InpIdeal.Rows

open Idealize.ShloMosaic Idealize.ShloMosaic.TcCoe Idealize.SL.Sem Cert.InpIdeal Cert.InpIdeal.Gen Cert.InpIdeal.Data Cert.InpSpec
open Idealize.ShloMosaic.Pipeline (Dat)

theorem tap_taps (b : EReal) (f : ℕ → EReal) : ∀ n, tap b f n = taps b f n
  | 0 => rfl
  | n + 1 => by
    show tap b f n + f n = taps b f n + f n
    rw [tap_taps b f n]

/-- A row given by chunks has the row's mean. -/
theorem chMean_eq (Y : ℕ → Fin 128 → EReal) (y : Fin 1024 → EReal)
    (h : ∀ k, k < 8 → ∀ l : Fin 128, Y k l = y (Fin.ofNat 1024 (128 * k + l.val))) : chMean Y = mean y := by
  have e : ∀ k, k < 8 → (∑ l : Fin 128, Y k l) = ∑ l : Fin 128, y (Fin.ofNat 1024 (128 * k + l.val)) := fun k hk =>
    Finset.sum_congr rfl fun l _ => h k hk l
  unfold chMean add8 mean
  dsimp only
  rw [e 0 (by decide), e 1 (by decide), e 2 (by decide), e 3 (by decide), e 4 (by decide), e 5 (by decide), e 6 (by decide), e 7 (by decide),
    sum_chunks y]
  exact mul_inv1024 _
/-- And its layernorm. -/
theorem chNorm_eq (Y : ℕ → Fin 128 → EReal) (y : Fin 1024 → EReal)
    (h : ∀ k, k < 8 → ∀ l : Fin 128, Y k l = y (Fin.ofNat 1024 (128 * k + l.val))) (g b : Fin 1024 → EReal) (j : Fin 1024) :
    chNorm Y (j.val / 128) (Fin.ofNat 128 j.val) (g j) (b j) = layer y g b j := by
  have e : add8 (fun c => ∑ l : Fin 128, (Y c l - mean y) * (Y c l - mean y)) * inv1024
      = Ideal.div (∑ d : Fin 1024, (y d - mean y) * (y d - mean y)) (Ideal.ofBits .f32 0x44800000#32) :=
    chMean_eq (fun c l => (Y c l - mean y) * (Y c l - mean y)) (fun d => (y d - mean y) * (y d - mean y)) fun k hk l => by rw [h k hk l]
  have hj : Y (j.val / 128) (Fin.ofNat 128 j.val) = y j := by
    rw [h _ (by omega)]
    exact congrArg y (Fin.ext (by show (128 * (j.val / 128) + j.val % 128) % 1024 = j.val; omega))
  unfold chNorm chRs layer
  rw [chMean_eq Y y h, e, hj]

variable (m : (ℓ : Loc nD τ sig) → Buf (Elt Ideal) ℓ) (ρ : Dev nD → PrngReg)

theorem uB_at (c : Dev nD) (t : Fin cfg0.N) (r : Fin 256) (j : Fin 1024) :
    uB m c t (ix2 r j) = convIn (X m c) (Gn m c) (W m c) (seqOf t) (timeOf t r) j := by
  have ha := sec_mid m c t 4096 (by decide) (by decide) (by decide) r j
  have hb := sec_mid m c t 5120 (by decide) (by decide) (by decide) r j
  unfold uB convIn
  rw [pay_uu]
  simp only [hidB, pay_hid] at ha hb
  rw [ha, hb]
theorem sB_at (c : Dev nD) (t : Fin cfg0.N) (r : Fin 256) (j : Fin 1024) :
    sB m c t (ix2 r j) = sec (X m c) (Gn m c) (W m c) 6160 (by decide) (seqOf t) (timeOf t r) j
      * sigm (sec (X m c) (Gn m c) (W m c) 6160 (by decide) (seqOf t) (timeOf t r) j) := by
  unfold sB
  rw [pay_sgb, sec_mid m c t 6144 (by decide) (by decide) (by decide)]

/-- A tile's last 32 inputs are what the next one finds in front of its own. -/
theorem halo_front (c : Dev nD) (t : Fin cfg0.N) (y : S8x288x128.Idx) (hy : (y 1).val < 32) (j : Fin 1024)
    (hj : j.val = 128 * (y 0).val + (y 2).val) :
    halo m c t.val t.isLt y = uB m c t (ix2 ⟨224 + (y 1).val, by omega⟩ j) := by
  have b0 : (y 0).val < 8 := (y 0).isLt
  have b2 : (y 2).val < 128 := (y 2).isLt
  have key : ∀ P : Vec Ideal S8x288x128 .f32, at3 (ext P (uB m c t)) (y 0).val (256 + (y 1).val) (y 2).val
      = uB m c t (ix2 ⟨224 + (y 1).val, by omega⟩ j) := fun P => by
    unfold at3
    refine ext_hi P _ _ _ _ ?_ ?_
    · show (256 + (y 1).val) % 288 = 32 + (224 + (y 1).val)
      omega
    · show j.val = 128 * ((y 0).val % 8) + (y 2).val % 128
      omega
  by_cases h0 : t.val % 8 = 0
  · rw [halo_A m c t h0, haloA_front m c t h0 y hy, key]
  · rw [halo_B m c t h0, haloB_front m c t h0 _ y hy, key]

/-- The rows `P` in front of a tile are the convolution's input at the times before it. -/
def Front (c : Dev nD) (t : Fin cfg0.N) (P : Vec Ideal S8x288x128 .f32) : Prop :=
  ∀ y : S8x288x128.Idx, (y 1).val < 32 → 2 ≤ (y 1).val → ∀ j : Fin 1024, j.val = 128 * (y 0).val + (y 2).val →
    P y = past (X m c) (Gn m c) (W m c) (seqOf t) j (256 * (t.val % 8) + (y 1).val - 2)

theorem front_first (c : Dev nD) (t : Fin cfg0.N) (h0 : t.val % 8 = 0) : Front m c t (fresh (iblk m c 8 t)) := fun y hy _ j _ => by
  unfold past
  rw [if_pos (by omega)]
  exact blk8 m c t _ _
theorem front_next (c : Dev nD) (t : Fin cfg0.N) (h0 : ¬t.val % 8 = 0) : Front m c t (before m c t) := fun y hy h2 j hj => by
  have hlt : t.val - 1 < cfg0.N := Nat.lt_of_le_of_lt (Nat.sub_le _ _) t.isLt
  refine (halo_front m c ⟨t.val - 1, hlt⟩ y hy j hj).trans ?_
  rw [uB_at]
  unfold past
  rw [if_neg (by omega)]
  have e0 : seqOf (⟨t.val - 1, hlt⟩ : Fin cfg0.N) = seqOf t := Fin.ext (by show (t.val - 1) / 8 = t.val / 8; omega)
  have e1 : timeOf (⟨t.val - 1, hlt⟩ : Fin cfg0.N) ⟨224 + (y 1).val, by omega⟩ = Fin.ofNat 2048 (256 * (t.val % 8) + (y 1).val - 2 - 30) :=
    Fin.ext (by show 256 * ((t.val - 1) % 8) + (224 + (y 1).val) = (256 * (t.val % 8) + (y 1).val - 2 - 30) % 2048; omega)
  rw [e0, e1]

/-- Behind such rows, every row of the extended tile is the input at its time. -/
theorem rows_at (c : Dev nD) (t : Fin cfg0.N) (P : Vec Ideal S8x288x128 .f32) (hP : Front m c t P) (k q l : ℕ) (hk : k < 8) (hq : q < 288)
    (h2 : 2 ≤ q) (hl : l < 128) (j : Fin 1024) (hj : j.val = 128 * k + l) :
    at3 (ext P (uB m c t)) k q l = past (X m c) (Gn m c) (W m c) (seqOf t) j (256 * (t.val % 8) + q - 2) := by
  unfold at3
  have hm : q % 288 = q := Nat.mod_eq_of_lt hq
  by_cases h : q < 32
  · rw [ext_lo _ _ _ (by show q % 288 < 32; omega)]
    refine (hP _ (by show q % 288 < 32; omega) (by show 2 ≤ q % 288; omega) j (by show j.val = 128 * (k % 8) + l % 128; omega)).trans ?_
    show past _ _ _ _ _ (256 * (t.val % 8) + q % 288 - 2) = _
    rw [hm]
  · rw [ext_hi P _ _ (⟨q - 32, by omega⟩ : Fin 256) j (by show q % 288 = 32 + (q - 32); omega) (by show j.val = 128 * (k % 8) + l % 128; omega), uB_at]
    unfold past
    rw [if_neg (by omega)]
    have e1 : timeOf t ⟨q - 32, by omega⟩ = Fin.ofNat 2048 (256 * (t.val % 8) + q - 2 - 30) :=
      Fin.ext (by show 256 * (t.val % 8) + (q - 32) = (256 * (t.val % 8) + q - 2 - 30) % 2048; omega)
    rw [e1]

theorem bias_chunk (b : Vec Ideal S1x1024 .f32) (k l : ℕ) (hk : k < 8) (hl : l < 128) (j : Fin 1024) (hj : j.val = 128 * k + l) :
    at3 (tapBias b) k 0 l = b (ix2 0 j) := by
  refine (tapBias_at b (Fin.ofNat 8 k) (Fin.ofNat 128 l)).trans ?_
  exact congrArg (fun q => b (ix2 0 q)) (Fin.ext (by show 128 * (k % 8) + l % 128 = j.val; omega))
theorem tap_chunk (w : Vec Ideal S1x31x1024 .f32) (k i l : ℕ) (hk : k < 8) (hi : i < 31) (hl : l < 128) (j : Fin 1024) (hj : j.val = 128 * k + l) :
    at3 (tapRow w) k i l = w (ix3 0 (Fin.ofNat 31 i) j) := by
  refine (tapRow_at w (Fin.ofNat 8 k) (Fin.ofNat 32 i) (Fin.ofNat 128 l) (by show i % 32 < 31; omega)).trans ?_
  have e0 : (⟨(Fin.ofNat 32 i).val, by show i % 32 < 31; omega⟩ : Fin 31) = Fin.ofNat 31 i := Fin.ext (by show i % 32 = i % 31; omega)
  have e1 : (⟨128 * (Fin.ofNat 8 k).val + (Fin.ofNat 128 l).val, by show 128 * (k % 8) + l % 128 < 1024; omega⟩ : Fin 1024) = j :=
    Fin.ext (by show 128 * (k % 8) + l % 128 = j.val; omega)
  rw [e0, e1]

/-- The convolution's parameters as arrays. -/
abbrev Wd (c : Dev nD) : SD.Idx → EReal := m (c.tc.loc main_arg6)
abbrev Bd (c : Dev nD) : SG.Idx → EReal := m (c.tc.loc main_arg7)
abbrev Lg (c : Dev nD) : SG.Idx → EReal := m (c.tc.loc main_arg8)
abbrev Lb (c : Dev nD) : SG.Idx → EReal := m (c.tc.loc main_arg9)

/-- The convolved tile is the convolution at its times. -/
theorem tile_at (c : Dev nD) (t : Fin cfg0.N) (P : Vec Ideal S8x288x128 .f32) (hP : Front m c t P) (r : Fin 256) (k : ℕ) (hk : k < 8) (l : Fin 128) :
    chunks (CV (ext P (uB m c t)) (tapRow (Wd m c)) (tapBias (Bd m c))) r k l
      = convAt (X m c) (Gn m c) (W m c) (Wd m c) (Bd m c) (seqOf t) (timeOf t r) (Fin.ofNat 1024 (128 * k + l.val)) := by
  have hr : r.val < 256 := r.isLt
  have hl : l.val < 128 := l.isLt
  have hj : (Fin.ofNat 1024 (128 * k + l.val)).val = 128 * k + l.val := by show (128 * k + l.val) % 1024 = _; omega
  have e8 : (Fin.ofNat 8 k).val = k := Nat.mod_eq_of_lt hk
  have e256 : (Fin.ofNat 256 r.val).val = r.val := Nat.mod_eq_of_lt hr
  have e128 : (Fin.ofNat 128 l.val).val = l.val := Nat.mod_eq_of_lt hl
  unfold chunks at3 CV
  show tap (at3 (tapBias (Bd m c)) (Fin.ofNat 8 k).val 0 (Fin.ofNat 128 l.val).val)
    (fun i => at3 (tapRow (Wd m c)) (Fin.ofNat 8 k).val i (Fin.ofNat 128 l.val).val
      * at3 (ext P (uB m c t)) (Fin.ofNat 8 k).val ((Fin.ofNat 256 r.val).val + 2 + i) (Fin.ofNat 128 l.val).val) 31 = _
  rw [e8, e256, e128, tap_taps, bias_chunk _ k l.val hk hl _ hj]
  unfold convAt
  refine taps_congr _ 31 fun i hi => ?_
  rw [tap_chunk _ k i l.val hk hi hl _ hj, rows_at m c t P hP k _ l.val hk (by omega) (by omega) hl _ hj]
  refine congrArg _ (congrArg _ ?_)
  show 256 * (t.val % 8) + (r.val + 2 + i) - 2 = 256 * (t.val % 8) + r.val + i
  omega

theorem block_at (c : Dev nD) (t : Fin cfg0.N) (P : Vec Ideal S8x288x128 .f32) (hP : Front m c t P) (r : Fin 256) (j : Fin 1024) :
    cgT (CV (ext P (uB m c t)) (iblk m c 9 t) (iblk m c 10 t)) (iblk m c 11 t) (iblk m c 12 t) (sB m c t) (ix2 r j)
      = gateC (X m c) (Gn m c) (W m c) (Wd m c) (Bd m c) (Lg m c) (Lb m c) (seqOf t) (timeOf t r) j := by
  rw [blk9, blk10, blk11, blk12]
  have hn := chNorm_eq (chunks (CV (ext P (uB m c t)) (tapRow (Wd m c)) (tapBias (Bd m c))) r)
    (convAt (X m c) (Gn m c) (W m c) (Wd m c) (Bd m c) (seqOf t) (timeOf t r)) (fun k hk l => tile_at m c t P hP r k hk l)
    (fun d => Lg m c (ix2 0 d)) (fun d => Lb m c (ix2 0 d)) j
  unfold cgT gateC
  dsimp only
  show (chNorm (chunks _ r) (j.val / 128) (Fin.ofNat 128 j.val) (gainRow (Lg m c) (ix2 0 j)) (gainRow (Lb m c) (ix2 0 j))
      * sigm (chNorm (chunks _ r) (j.val / 128) (Fin.ofNat 128 j.val) (gainRow (Lg m c) (ix2 0 j)) (gainRow (Lb m c) (ix2 0 j))))
    * sB m c t (ix2 r j) = _
  rw [gainRow_at, gainRow_at, sB_at]
  rw [hn]

theorem out21_at (c : Dev nD) (t : Fin cfg0.N) (r : Fin 256) (j : Fin 1024) :
    left21 m c t (ix2 r j) = gateC (X m c) (Gn m c) (W m c) (Wd m c) (Bd m c) (Lg m c) (Lb m c) (seqOf t) (timeOf t r) j := by
  by_cases h0 : t.val % 8 = 0
  · rw [left21_A m c t h0, A21, block_at m c t _ (front_first m c t h0)]
  · rw [left21_B m c t h0, B21, block_at m c t _ (front_next m c t h0)]
/-- What the launch leaves in window 21's array. -/
def R21 (c : Dev nD) : Buf (Elt Ideal) ((c.tc : Thread nD τ).loc main_v54_8) := fun i : (⟨2, ![65536, 1024]⟩ : Shape).Idx =>
  gateC (X m c) (Gn m c) (W m c) (Wd m c) (Bd m c) (Lg m c) (Lb m c) (seqAt (i 0)) (timeAt (i 0)) (i 1)
theorem flushed21 (c : Dev nD) (t : Fin cfg0.N) (_ : (cfg0.win 21).flush t = true) :
    (dats m 0 c).flushed 21 t = ((cfg0.win 21).blk t).view.read (Elt Ideal) (R21 m c) := by
  have h := map21 t
  show (dats m 0 c).after 21 t = _
  rw [after0_21]
  funext (j : S256x1024.Idx)
  rw [View.read_apply]
  idx_vars j
  have hi : (((cfg0.win 21).blk t).view.emb (ix2 j0 j1) : (⟨2, ![65536, 1024]⟩ : Shape).Idx) = ix2 (row t j0) j1 := by
    funext a; apply Fin.ext
    match a with
    | ⟨0, _⟩ => show win0_21.index t 0 * 256 + 1 * j0.val = 256 * t.val + j0.val; rw [h.1]; omega
    | ⟨1, _⟩ => show win0_21.index t 1 * 1024 + 1 * j1.val = j1.val; rw [h.2]; omega
  rw [hi]
  show left21 m c t (ix2 j0 j1) = gateC (X m c) (Gn m c) (W m c) (Wd m c) (Bd m c) (Lg m c) (Lb m c) (seqAt (row t j0)) (timeAt (row t j0)) j1
  rw [out21_at, seqAt_row, timeAt_row]
theorem final21 (c : Dev nD) : (dats m 0 c).arrAt 21 cfg0.N = R21 m c :=
  (dats m 0 c).arrAt_eq_of_cover 21 (R21 m c) (flushed21 m c) fun (i : (⟨2, ![65536, 1024]⟩ : Shape).Idx) => by
    have h0 : (i 0).val < 65536 := (i 0).isLt
    have h1 : (i 1).val < 1024 := (i 1).isLt
    have hN : cfg0.N = 256 := N_0
    have ht : (i 0).val / 256 < cfg0.N := by omega
    have h := map21 ⟨(i 0).val / 256, ht⟩
    refine ⟨⟨(i 0).val / 256, ht⟩, (by decide +kernel : ∀ t : Fin grid0.N, (cfg0.win 21).flush t = true) _, ?_⟩
    show i ∈ ((View.whole main_v54_8).slice (win0_21.rect ⟨(i 0).val / 256, ht⟩)).set
    rw [View.set_slice_whole, Rect.mem_set_unit]
    intro a
    match a with
    | ⟨0, _⟩ =>
      show win0_21.index ⟨(i 0).val / 256, ht⟩ 0 * 256 ≤ (i 0).val ∧ (i 0).val < win0_21.index ⟨(i 0).val / 256, ht⟩ 0 * 256 + 256
      rw [h.1]; constructor <;> dsimp only <;> omega
    | ⟨1, _⟩ =>
      show win0_21.index ⟨(i 0).val / 256, ht⟩ 1 * 1024 ≤ (i 1).val ∧ (i 1).val < win0_21.index ⟨(i 0).val / 256, ht⟩ 1 * 1024 + 1024
      rw [h.2]; omega

/-- The kernel's run leaves the formulas and keeps its arguments. -/
theorem run_mix : θ_run defs (onTc (τ := τ) (main (F := Ideal))) ⟨m, fun _ => 0, ρ⟩ fun r => ∀ c : Dev nD,
      r.2.mem ((c.tc : Thread nD τ).loc main_v54_0) = R13 m c
      ∧ r.2.mem ((c.tc : Thread nD τ).loc main_v54_1) = R14 m c
      ∧ r.2.mem ((c.tc : Thread nD τ).loc main_v54_2) = R15 m c
      ∧ r.2.mem ((c.tc : Thread nD τ).loc main_v54_3) = R16 m c
      ∧ r.2.mem ((c.tc : Thread nD τ).loc main_v54_4) = R17 m c
      ∧ r.2.mem ((c.tc : Thread nD τ).loc main_v54_5) = R18 m c
      ∧ r.2.mem ((c.tc : Thread nD τ).loc main_v54_6) = R19 m c
      ∧ r.2.mem ((c.tc : Thread nD τ).loc main_v54_7) = R20 m c
      ∧ r.2.mem ((c.tc : Thread nD τ).loc main_v54_8) = R21 m c
      ∧ r.2.mem ((c.tc : Thread nD τ).loc main_v54_9) = R22 m c
      ∧ r.2.mem ((c.tc : Thread nD τ).loc main_v54_10) = R23 m c
      ∧ r.2.mem ((c.tc : Thread nD τ).loc main_v54_11) = R24 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
    obtain ⟨h13, h14, h15, h16, h17, h18, h19, h20, h21, h22, h23, h24, rest⟩ := h c
    exact ⟨h13.trans (final13 m c), h14.trans (final14 m c), h15.trans (final15 m c), h16.trans (final16 m c), h17.trans (final17 m c), h18.trans (final18 m c), h19.trans (final19 m c), h20.trans (final20 m c), h21.trans (final21 m c), h22.trans (final22 m c), h23.trans (final23 m c), h24.trans (final24 m c), rest⟩) (run_arrays m ρ)

end Cert.InpIdeal.Rows
-- ==== Proof.Hand.InpClaim.lean ====
/- The input projection: its reference's run, each result named by its stage, and the claim that the kernel computes it. -/
module

public import proofs.«01_k».proof.Proof.Hand.InpRefConv
public import proofs.«01_k».proof.Proof.Hand.InpGate
public import proofs.«01_k».proof.Defs

@[expose] public section

set_option maxHeartbeats 4000000
set_option maxRecDepth 16384

noncomputable section

open Idealize.ShloMosaic Idealize.ShloMosaic.TcCoe Idealize.SL.Sem

namespace Cert.InpRefIdeal.Rows

open Cert.InpRefIdeal Cert.InpRefIdeal.Gen

variable (m : (ℓ : Loc nD τ sig) → Buf (Elt Ideal) ℓ) (ρ : Dev nD → PrngReg)

/-! ## The reference's named terms are the stages -/

theorem v13_eq (c : Dev nD) : Value.res_main_v13 (StableHlo.launchContents m c) = hidden (m (c.tc.loc main_arg0)) (m (c.tc.loc main_arg1)) := by
  unfold Value.res_main_v13; rfl
theorem v73_eq (c : Dev nD) : Value.res_main_v73 (StableHlo.launchContents m c) = convU (m (c.tc.loc main_arg0)) (m (c.tc.loc main_arg1)) (m (c.tc.loc main_arg2)) := by
  unfold Value.res_main_v73; rw [v13_eq m c]; rfl
theorem v75_eq (c : Dev nD) : Value.res_main_v75 (StableHlo.launchContents m c) = section_ 6160 slices_S1024x9232_S1024x1024_0_6160 (m (c.tc.loc main_arg0)) (m (c.tc.loc main_arg1)) (m (c.tc.loc main_arg2)) := by
  unfold Value.res_main_v75; rw [v13_eq m c]; rfl
theorem v81_eq (c : Dev nD) : Value.res_main_v81 (StableHlo.launchContents m c) = convE (convU (m (c.tc.loc main_arg0)) (m (c.tc.loc main_arg1)) (m (c.tc.loc main_arg2))) := by
  unfold Value.res_main_v81; rw [v73_eq m c]; rfl
theorem v159_eq (c : Dev nD) : Value.res_main_v159 (StableHlo.launchContents m c) = conv11 (m (c.tc.loc main_arg6)) (convE (convU (m (c.tc.loc main_arg0)) (m (c.tc.loc main_arg1)) (m (c.tc.loc main_arg2)))) := by
  unfold Value.res_main_v159; rw [v81_eq m c]; rfl
theorem v236_eq (c : Dev nD) : Value.res_main_v236 (StableHlo.launchContents m c) = conv22 (m (c.tc.loc main_arg6)) (convE (convU (m (c.tc.loc main_arg0)) (m (c.tc.loc main_arg1)) (m (c.tc.loc main_arg2)))) := by
  unfold Value.res_main_v236; rw [v159_eq m c, v81_eq m c]; rfl
theorem v303_eq (c : Dev nD) : Value.res_main_v303 (StableHlo.launchContents m c) = conv (m (c.tc.loc main_arg6)) (convE (convU (m (c.tc.loc main_arg0)) (m (c.tc.loc main_arg1)) (m (c.tc.loc main_arg2)))) (m (c.tc.loc main_arg7)) := by
  unfold Value.res_main_v303; rw [v236_eq m c, v81_eq m c]; rfl
theorem v311_eq (c : Dev nD) : Value.res_main_v311 (StableHlo.launchContents m c) = centre (conv (m (c.tc.loc main_arg6)) (convE (convU (m (c.tc.loc main_arg0)) (m (c.tc.loc main_arg1)) (m (c.tc.loc main_arg2)))) (m (c.tc.loc main_arg7))) := by
  unfold Value.res_main_v311; rw [v303_eq m c]; rfl
theorem v327_eq (c : Dev nD) : Value.res_main_v327 (StableHlo.launchContents m c) = scaled (centre (conv (m (c.tc.loc main_arg6)) (convE (convU (m (c.tc.loc main_arg0)) (m (c.tc.loc main_arg1)) (m (c.tc.loc main_arg2)))) (m (c.tc.loc main_arg7)))) (m (c.tc.loc main_arg8)) (m (c.tc.loc main_arg9)) := by
  unfold Value.res_main_v327; rw [v311_eq m c]; rfl
theorem v62_eq (c : Dev nD) : Value.res_main_v62 (StableHlo.launchContents m c) = section_ 3088 slices_S1024x9232_S1024x1024_0_3088 (m (c.tc.loc main_arg0)) (m (c.tc.loc main_arg1)) (m (c.tc.loc main_arg2)) := by
  unfold Value.res_main_v62; rw [v13_eq m c]; rfl

/-- The reference's run, each result at its stage; no argument changes. -/
theorem run_stages : θ_run defs (onTc (τ := τ) (main (F := Ideal))) ⟨m, fun _ => 0, ρ⟩ fun r => ∀ c : Dev nD,
      r.2.mem ((c.tc : Thread nD τ).loc main_v337) = refQ (m (c.tc.loc main_arg0)) (m (c.tc.loc main_arg1)) (m (c.tc.loc main_arg2)) (m (c.tc.loc main_arg4))
      ∧ r.2.mem ((c.tc : Thread nD τ).loc main_v332) = refKt (m (c.tc.loc main_arg0)) (m (c.tc.loc main_arg1)) (m (c.tc.loc main_arg2)) (m (c.tc.loc main_arg5))
      ∧ r.2.mem ((c.tc : Thread nD τ).loc main_v333) = refVt (m (c.tc.loc main_arg0)) (m (c.tc.loc main_arg1)) (m (c.tc.loc main_arg2))
      ∧ r.2.mem ((c.tc : Thread nD τ).loc main_v339) = refK (m (c.tc.loc main_arg0)) (m (c.tc.loc main_arg1)) (m (c.tc.loc main_arg2)) (m (c.tc.loc main_arg5))
      ∧ r.2.mem ((c.tc : Thread nD τ).loc main_v340) = refVb (m (c.tc.loc main_arg0)) (m (c.tc.loc main_arg1)) (m (c.tc.loc main_arg2))
      ∧ r.2.mem ((c.tc : Thread nD τ).loc main_v341) = refF (m (c.tc.loc main_arg0)) (m (c.tc.loc main_arg1)) (m (c.tc.loc main_arg2)) (m (c.tc.loc main_arg3))
      ∧ r.2.mem ((c.tc : Thread nD τ).loc main_v342) = refFt (m (c.tc.loc main_arg0)) (m (c.tc.loc main_arg1)) (m (c.tc.loc main_arg2)) (m (c.tc.loc main_arg3))
      ∧ r.2.mem ((c.tc : Thread nD τ).loc main_v345) = refGA (m (c.tc.loc main_arg0)) (m (c.tc.loc main_arg1)) (m (c.tc.loc main_arg2))
      ∧ r.2.mem ((c.tc : Thread nD τ).loc main_v347) = refCG (m (c.tc.loc main_arg0)) (m (c.tc.loc main_arg1)) (m (c.tc.loc main_arg2)) (m (c.tc.loc main_arg6)) (m (c.tc.loc main_arg7)) (m (c.tc.loc main_arg8)) (m (c.tc.loc main_arg9))
      ∧ r.2.mem ((c.tc : Thread nD τ).loc main_v348) = refU (m (c.tc.loc main_arg0)) (m (c.tc.loc main_arg1)) (m (c.tc.loc main_arg2))
      ∧ r.2.mem ((c.tc : Thread nD τ).loc main_v356) = refMA (m (c.tc.loc main_arg0)) (m (c.tc.loc main_arg1)) (m (c.tc.loc main_arg2))
      ∧ r.2.mem ((c.tc : Thread nD τ).loc main_v364) = refMB (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
    obtain ⟨h337, h332, h333, h339, h340, h341, h342, h345, h347, h348, h356, h364, rest⟩ := h c
    refine ⟨h337.trans ?_, h332.trans ?_, h333.trans ?_, h339.trans ?_, h340.trans ?_, h341.trans ?_, h342.trans ?_, h345.trans ?_, h347.trans ?_, h348.trans ?_, h356.trans ?_, h364.trans ?_, rest⟩
    · rfl
    · rfl
    · rfl
    · rfl
    · rfl
    · rfl
    · rfl
    · rw [v62_eq m c]; rfl
    · rw [v327_eq m c, v75_eq m c]; rfl
    · rw [v73_eq m c]; rfl
    · rfl
    · rfl) (Value.run m ρ)

end Cert.InpRefIdeal.Rows

namespace Cert.Claims

open Cert.InpSpec

/-- The input projection computes its reference. -/
theorem algebraic_inp :
    Cert.algebraic_InpIdeal_InpRefIdeal (hInpIdeal := Cert.InpIdeal.Gen.facts) (hInpRefIdeal := Cert.InpRefIdeal.Gen.facts) := by
  intro m g m' g' _ hag
  refine ⟨fun c => Cert.InpIdeal.Rows.R13 m c, fun c => Cert.InpIdeal.Rows.R14 m c, fun c => Cert.InpIdeal.Rows.R15 m c, fun c => Cert.InpIdeal.Rows.R16 m c, fun c => Cert.InpIdeal.Rows.R17 m c, fun c => Cert.InpIdeal.Rows.R18 m c, fun c => Cert.InpIdeal.Rows.R19 m c, fun c => Cert.InpIdeal.Rows.R20 m c, fun c => Cert.InpIdeal.Rows.R21 m c, fun c => Cert.InpIdeal.Rows.R22 m c, fun c => Cert.InpIdeal.Rows.R23 m c, fun c => Cert.InpIdeal.Rows.R24 m c,
    Cert.InpIdeal.Rows.run_mix m g, (θ_run _ _ _).mono (fun _ h c => ?_) (Cert.InpRefIdeal.Rows.run_stages m' g')⟩
  obtain ⟨a0, a1, a2, a3, a4, a5, a6, a7, a8, a9⟩ := hag c
  obtain ⟨h13, h14, h15, h16, h17, h18, h19, h20, h21, h22, h23, h24, rest⟩ := h c
  rw [a0, a1, a2] at h13 h14 h15 h16 h17 h18 h19 h20 h21 h22 h23 h24
  rw [a6, a7, a8, a9] at h21
  rw [a3] at h18 h19
  rw [a4] at h13
  rw [a5] at h14 h16
  refine ⟨h13.trans ?_, h14.trans ?_, h15.trans ?_, h16.trans ?_, h17.trans ?_, h18.trans ?_, h19.trans ?_, h20.trans ?_, h21.trans ?_, h22.trans ?_, h23.trans ?_, h24.trans ?_, rest⟩
  · funext (i : (⟨2, ![65536, 1024]⟩ : Shape).Idx)
    have e : i = ix2 (i 0) (i 1) := eq_ix2 i
    rw [e]
    exact Cert.InpRefIdeal.Rows.refQ_at _ _ _ _ _ _
  · funext (i : (⟨3, ![32, 1024, 2048]⟩ : Shape).Idx)
    have e : i = ix3 (i 0) (i 1) (i 2) := eq_ix3 i
    rw [e]
    exact Cert.InpRefIdeal.Rows.refKt_at _ _ _ _ _ _ _
  · funext (i : (⟨3, ![32, 1024, 2048]⟩ : Shape).Idx)
    have e : i = ix3 (i 0) (i 1) (i 2) := eq_ix3 i
    rw [e]
    exact Cert.InpRefIdeal.Rows.refVt_at _ _ _ _ _ _
  · funext (i : (⟨2, ![65536, 1024]⟩ : Shape).Idx)
    have e : i = ix2 (i 0) (i 1) := eq_ix2 i
    rw [e]
    exact Cert.InpRefIdeal.Rows.refK_at _ _ _ _ _ _
  · funext (i : (⟨3, ![32, 1024, 2048]⟩ : Shape).Idx)
    have e : i = ix3 (i 0) (i 1) (i 2) := eq_ix3 i
    rw [e]
    exact Cert.InpRefIdeal.Rows.refVb_at _ _ _ _ _ _
  · funext (i : (⟨2, ![65536, 16]⟩ : Shape).Idx)
    have e : i = ix2 (i 0) (i 1) := eq_ix2 i
    rw [e]
    exact Cert.InpRefIdeal.Rows.refF_at _ _ _ _ _ _
  · funext (i : (⟨3, ![32, 16, 2048]⟩ : Shape).Idx)
    have e : i = ix3 (i 0) (i 1) (i 2) := eq_ix3 i
    rw [e]
    exact Cert.InpRefIdeal.Rows.refFt_at _ _ _ _ _ _ _
  · funext (i : (⟨2, ![65536, 1024]⟩ : Shape).Idx)
    have e : i = ix2 (i 0) (i 1) := eq_ix2 i
    rw [e]
    exact Cert.InpRefIdeal.Rows.refGA_at _ _ _ _ _
  · funext (i : (⟨2, ![65536, 1024]⟩ : Shape).Idx)
    have e : i = ix2 (i 0) (i 1) := eq_ix2 i
    rw [e]
    exact Cert.InpRefIdeal.Rows.refCG_at _ _ _ _ _ _ _ _ _
  · funext (i : (⟨3, ![32, 32, 1024]⟩ : Shape).Idx)
    have e : i = ix3 (i 0) (i 1) (i 2) := eq_ix3 i
    rw [e]
    exact Cert.InpRefIdeal.Rows.refU_at _ _ _ _ _ _
  · funext (i : (⟨2, ![65536, 1024]⟩ : Shape).Idx)
    have e : i = ix2 (i 0) (i 1) := eq_ix2 i
    rw [e]
    exact Cert.InpRefIdeal.Rows.refMA_at _ _ _ _ _
  · funext (i : (⟨2, ![65536, 1024]⟩ : Shape).Idx)
    have e : i = ix2 (i 0) (i 1) := eq_ix2 i
    rw [e]
    exact Cert.InpRefIdeal.Rows.refMB_at _ _ _ _ _

end Cert.Claims
-- ==== Proof.Hand.OutValue.lean ====
/- The output projection over the extended reals: what the kernel's 128 row blocks leave in the result array is
   `x + (sma · (oa · w_pa) + smb · (cg · w_pb)) · w_out`, row by row, and so is the reference's result. -/
module

public import proofs.«01_k».proof.Proof.Gen.OutIdeal.Value
public import proofs.«01_k».proof.Proof.Gen.OutRefIdeal
public import proofs.«01_k».proof.Proof.Gen.OutRefIdeal.Run
public import proofs.«01_k».proof.Defs
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.OutIdeal.Rows

open Cert.OutIdeal Cert.OutIdeal.Gen

abbrev SM : Shape := ⟨2, ![65536, 1024]⟩
abbrev SW : Shape := ⟨2, ![1024, 1024]⟩

/-- The layer's output row by row: the residual input plus the merged branches times `w_out`. -/
def Y (x oa cg sma smb : SM.Idx → EReal) (wa wb wo : SW.Idx → EReal) (r : Fin 65536) (j : Fin 1024) : EReal :=
  x (ix2 r j) + ∑ k : Fin 1024, (sma (ix2 r k) * (∑ l : Fin 1024, oa (ix2 r l) * wa (ix2 l k))
    + smb (ix2 r k) * (∑ l : Fin 1024, cg (ix2 r l) * wb (ix2 l k))) * wo (ix2 k j)

variable (m : (ℓ : Loc nD τ sig) → Buf (Elt Ideal) ℓ) (ρ : Dev nD → PrngReg)

theorem entry_x (c : Dev nD) : V m c main_v6 = shapeCast S65536x1024 (m (c.tc.loc main_arg0)) shapeCasts_S32x2048x1024_S65536x1024 := by
  unfold V; after_results <;> rfl
theorem entry_oa (c : Dev nD) : V m c main_v7 = shapeCast S65536x1024 (m (c.tc.loc main_arg1)) shapeCasts_S32x2048x1024_S65536x1024 := by
  unfold V; after_results <;> rfl
theorem entry_wa (c : Dev nD) : V m c main_v1 = shapeCast S1024x1024 (m (c.tc.loc main_arg5)) shapeCasts_S1x1024x1024_S1024x1024 := by
  unfold V; after_results <;> rfl
theorem entry_wb (c : Dev nD) : V m c main_v3 = shapeCast S1024x1024 (m (c.tc.loc main_arg6)) shapeCasts_S1x1024x1024_S1024x1024 := by
  unfold V; after_results <;> rfl
theorem entry_wo (c : Dev nD) : V m c main_v5 = shapeCast S1024x1024 (m (c.tc.loc main_arg7)) shapeCasts_S1x1024x1024_S1024x1024 := by
  unfold V; after_results <;> rfl

/-- The index maps: the row windows and the result move with the point, the weights stay. -/
theorem maps : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0))

theorem lt128 (t : Fin cfg0.N) : t.val < 128 := by have := t.isLt; have h : cfg0.N = 128 := N_0; omega

/-- Row `r` of point `t`'s block is row `512 t + r` of the array. -/
abbrev row (t : Fin cfg0.N) (r : Fin 512) : Fin 65536 := ⟨512 * t.val + r.val, by have := lt128 t; omega⟩

theorem blk0 (c : Dev nD) (t : Fin cfg0.N) (r : Fin 512) (k : Fin 1024) :
    (iblk m c 0 t : Vec Ideal S512x1024 .f32) (ix2 r k) = V m c main_v6 (ix2 (row t r) k) := by
  obtain ⟨h, _⟩ := maps t
  unfold iblk
  rw [View.read_apply]
  show V m c main_v6 _ = V m c main_v6 _
  congr 1; funext a; apply Fin.ext
  match a with
  | ⟨0, _⟩ => show win0_0.index t 0 * 512 + 1 * r.val = 512 * t.val + r.val; rw [h.1]; omega
  | ⟨1, _⟩ => show win0_0.index t 1 * 1024 + 1 * k.val = k.val; rw [h.2]; omega
theorem blk1 (c : Dev nD) (t : Fin cfg0.N) (r : Fin 512) (k : Fin 1024) :
    (iblk m c 1 t : Vec Ideal S512x1024 .bf16) (ix2 r k) = V m c main_v7 (ix2 (row t r) k) := by
  obtain ⟨_, h, _⟩ := maps t
  unfold iblk
  rw [View.read_apply]
  show V m c main_v7 _ = V m c main_v7 _
  congr 1; funext a; apply Fin.ext
  match a with
  | ⟨0, _⟩ => show win0_1.index t 0 * 512 + 1 * r.val = 512 * t.val + r.val; rw [h.1]; omega
  | ⟨1, _⟩ => show win0_1.index t 1 * 1024 + 1 * k.val = k.val; rw [h.2]; omega
theorem blk2 (c : Dev nD) (t : Fin cfg0.N) (r : Fin 512) (k : Fin 1024) :
    (iblk m c 2 t : Vec Ideal S512x1024 .bf16) (ix2 r k) = m (c.tc.loc main_arg2) (ix2 (row t r) k) := by
  obtain ⟨_, _, h, _⟩ := maps t
  unfold iblk
  rw [View.read_apply, ← V_main_arg2 m c]
  show V m c main_arg2 _ = V m c main_arg2 _
  congr 1; funext a; apply Fin.ext
  match a with
  | ⟨0, _⟩ => show win0_2.index t 0 * 512 + 1 * r.val = 512 * t.val + r.val; rw [h.1]; omega
  | ⟨1, _⟩ => show win0_2.index t 1 * 1024 + 1 * k.val = k.val; rw [h.2]; omega
theorem blk3 (c : Dev nD) (t : Fin cfg0.N) (r : Fin 512) (k : Fin 1024) :
    (iblk m c 3 t : Vec Ideal S512x1024 .bf16) (ix2 r k) = m (c.tc.loc main_arg3) (ix2 (row t r) k) := by
  obtain ⟨_, _, _, h, _⟩ := maps t
  unfold iblk
  rw [View.read_apply, ← V_main_arg3 m c]
  show V m c main_arg3 _ = V m c main_arg3 _
  congr 1; funext a; apply Fin.ext
  match a with
  | ⟨0, _⟩ => show win0_3.index t 0 * 512 + 1 * r.val = 512 * t.val + r.val; rw [h.1]; omega
  | ⟨1, _⟩ => show win0_3.index t 1 * 1024 + 1 * k.val = k.val; rw [h.2]; omega
theorem blk4 (c : Dev nD) (t : Fin cfg0.N) (r : Fin 512) (k : Fin 1024) :
    (iblk m c 4 t : Vec Ideal S512x1024 .bf16) (ix2 r k) = m (c.tc.loc main_arg4) (ix2 (row t r) k) := by
  obtain ⟨_, _, _, _, h, _⟩ := maps t
  unfold iblk
  rw [View.read_apply, ← V_main_arg4 m c]
  show V m c main_arg4 _ = V m c main_arg4 _
  congr 1; funext a; apply Fin.ext
  match a with
  | ⟨0, _⟩ => show win0_4.index t 0 * 512 + 1 * r.val = 512 * t.val + r.val; rw [h.1]; omega
  | ⟨1, _⟩ => show win0_4.index t 1 * 1024 + 1 * k.val = k.val; rw [h.2]; omega
theorem blk5 (c : Dev nD) (t : Fin cfg0.N) (r k : Fin 1024) :
    (iblk m c 5 t : Vec Ideal S1024x1024 .bf16) (ix2 r k) = V m c main_v1 (ix2 r k) := by
  obtain ⟨_, _, _, _, _, h, _⟩ := maps t
  unfold iblk
  rw [View.read_apply]
  show V m c main_v1 _ = V m c main_v1 _
  congr 1; funext a; apply Fin.ext
  match a with
  | ⟨0, _⟩ => show win0_5.index t 0 * 1024 + 1 * r.val = r.val; rw [h.1]; omega
  | ⟨1, _⟩ => show win0_5.index t 1 * 1024 + 1 * k.val = k.val; rw [h.2]; omega
theorem blk6 (c : Dev nD) (t : Fin cfg0.N) (r k : Fin 1024) :
    (iblk m c 6 t : Vec Ideal S1024x1024 .bf16) (ix2 r k) = V m c main_v3 (ix2 r k) := by
  obtain ⟨_, _, _, _, _, _, h, _⟩ := maps t
  unfold iblk
  rw [View.read_apply]
  show V m c main_v3 _ = V m c main_v3 _
  congr 1; funext a; apply Fin.ext
  match a with
  | ⟨0, _⟩ => show win0_6.index t 0 * 1024 + 1 * r.val = r.val; rw [h.1]; omega
  | ⟨1, _⟩ => show win0_6.index t 1 * 1024 + 1 * k.val = k.val; rw [h.2]; omega
theorem blk7 (c : Dev nD) (t : Fin cfg0.N) (r k : Fin 1024) :
    (iblk m c 7 t : Vec Ideal S1024x1024 .bf16) (ix2 r k) = V m c main_v5 (ix2 r k) := by
  obtain ⟨_, _, _, _, _, _, _, h, _⟩ := maps t
  unfold iblk
  rw [View.read_apply]
  show V m c main_v5 _ = V m c main_v5 _
  congr 1; funext a; apply Fin.ext
  match a with
  | ⟨0, _⟩ => show win0_7.index t 0 * 1024 + 1 * r.val = r.val; rw [h.1]; omega
  | ⟨1, _⟩ => show win0_7.index t 1 * 1024 + 1 * k.val = k.val; rw [h.2]; omega

/-- The result array as the layer's formula. -/
def R (c : Dev nD) : Buf (Elt Ideal) ((c.tc : Thread nD τ).loc main_v8) := fun i : SM.Idx =>
  Y (V m c main_v6) (V m c main_v7) (m (c.tc.loc main_arg2)) (m (c.tc.loc main_arg3)) (m (c.tc.loc main_arg4))
    (V m c main_v1) (V m c main_v3) (V m c main_v5) (i 0) (i 1)

theorem hz : (![0, 0] : Fin 2 → Nat) = fun _ => 0 := funext fun a => by fin_cases a <;> rfl

/-- One row block of the body's payload. -/
theorem pay (v0 v5 v9 v12 : Vec Ideal S512x1024 .bf16) (v16 : Vec Ideal S512x1024 .f32) (v2 v6 v19 : Vec Ideal S1024x1024 .bf16)
    (r : Fin 512) (j : Fin 1024) :
    k0_pay1 (F := Ideal) v0 v2 v5 v6 v9 v12 v16 v19 (ix2 r j) = v16 (ix2 r j) + ∑ k : Fin 1024,
      (v9 (ix2 r k) * (∑ l : Fin 1024, v0 (ix2 r l) * v2 (ix2 l k)) + v12 (ix2 r k) * (∑ l : Fin 1024, v5 (ix2 r l) * v6 (ix2 l k))) * v19 (ix2 k j) := by
  pointwise [k0_pay1]

/-- What point `t` writes back is block `t` of the layer's formula. -/
theorem flushed_eq (c : Dev nD) (t : Fin cfg0.N) (_ : (cfg0.win 8).flush t = true) :
    (dats m 0 c).flushed 8 t = ((cfg0.win 8).blk t).view.read (Elt Ideal) (R m c) := by
  rw [Value.flushed8]
  unfold out0_8
  rw [View.canon_unit_zero hz]
  simp only [View.ld_unit_zero (S := S512x1024) hz, View.ld_unit_zero (S := S1024x1024) hz]
  obtain ⟨_, _, _, _, _, _, _, _, h⟩ := maps t
  funext (j : S512x1024.Idx)
  rw [View.read_apply]
  idx_vars j
  show k0_pay1 (F := Ideal) _ _ _ _ _ _ _ _ (ix2 j0 j1) = R m c _
  rw [pay]
  simp only [blk0, blk1, blk2, blk3, blk4, blk5, blk6, blk7]
  have hi : (((cfg0.win 8).blk t).view.emb (ix2 j0 j1) : SM.Idx) = ix2 (row t j0) j1 := by
    funext a; apply Fin.ext
    match a with
    | ⟨0, _⟩ => show win0_8.index t 0 * 512 + 1 * j0.val = 512 * t.val + j0.val; rw [h.1]; omega
    | ⟨1, _⟩ => show win0_8.index t 1 * 1024 + 1 * j1.val = j1.val; rw [h.2]; omega
  rw [hi]
  rfl

/-- The 128 row blocks fill the result array. -/
theorem final (c : Dev nD) : (dats m 0 c).arrAt 8 cfg0.N = R m c :=
  (dats m 0 c).arrAt_eq_of_cover 8 (R m c) (flushed_eq m c) fun (i : SM.Idx) => by
    have h0 : (i 0).val < 65536 := (i 0).isLt
    have h1 : (i 1).val < 1024 := (i 1).isLt
    have hN : cfg0.N = 128 := N_0
    have ht : (i 0).val / 512 < cfg0.N := by omega
    refine ⟨⟨(i 0).val / 512, ht⟩, ?_, ?_⟩
    · exact (by decide +kernel : ∀ t : Fin grid0.N, (cfg0.win 8).flush t = true) _
    · obtain ⟨_, _, _, _, _, _, _, _, h⟩ := maps ⟨(i 0).val / 512, ht⟩
      show i ∈ ((View.whole main_v8).slice (win0_8.rect ⟨(i 0).val / 512, ht⟩)).set
      rw [View.set_slice_whole, Rect.mem_set_unit]
      intro a
      match a with
      | ⟨0, _⟩ =>
        show win0_8.index ⟨(i 0).val / 512, ht⟩ 0 * 512 ≤ (i 0).val ∧ (i 0).val < win0_8.index ⟨(i 0).val / 512, ht⟩ 0 * 512 + 512
        rw [h.1]; constructor <;> dsimp only <;> omega
      | ⟨1, _⟩ =>
        show win0_8.index ⟨(i 0).val / 512, ht⟩ 1 * 1024 ≤ (i 1).val ∧ (i 1).val < win0_8.index ⟨(i 0).val / 512, ht⟩ 1 * 1024 + 1024
        rw [h.2]; omega

/-- The kernel's run leaves the formula and keeps its arguments. -/
theorem run_Y : θ_run defs (onTc (τ := τ) (main (F := Ideal))) ⟨m, fun _ => 0, ρ⟩ fun r => ∀ c : Dev nD,
      r.2.mem ((c.tc : Thread nD τ).loc main_v8) = R m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (final m c), (h c).2⟩) (Value.run_blocks m ρ)

end Cert.OutIdeal.Rows

namespace Cert.OutRefIdeal.Mean

open Cert.OutRefIdeal Cert.OutRefIdeal.Gen

/-- The reference's composed term is the layer's formula. -/
theorem term_eq (x : FVec Ideal S32x2048x1024 .f32) (oa : FVec Ideal S32x2048x1024 .bf16) (cg sma smb : FVec Ideal S65536x1024 .bf16)
    (wa wb wo : FVec Ideal S1x1024x1024 .f32) (r : Fin 65536) (j : Fin 1024) :
    addf (shapeCast S65536x1024 x shapeCasts_S32x2048x1024_S65536x1024)
      (Host.dotGeneral dot_S65536x1024_S1024x1024_S65536x1024_1_0_0_1_n_n none
        (addf (mulf (extf .f32 sma bitsLt_bf16_f32) (Host.dotGeneral dot_S65536x1024_S1024x1024_S65536x1024_1_0_0_1_n_n none
            (shapeCast S65536x1024 (extf .f32 oa bitsLt_bf16_f32) shapeCasts_S32x2048x1024_S65536x1024)
            (shapeCast S1024x1024 wa shapeCasts_S1x1024x1024_S1024x1024)))
          (mulf (extf .f32 smb bitsLt_bf16_f32) (Host.dotGeneral dot_S65536x1024_S1024x1024_S65536x1024_1_0_0_1_n_n none
            (extf .f32 cg bitsLt_bf16_f32) (shapeCast S1024x1024 wb shapeCasts_S1x1024x1024_S1024x1024))))
        (shapeCast S1024x1024 wo shapeCasts_S1x1024x1024_S1024x1024)) (ix2 r j)
    = Cert.OutIdeal.Rows.Y (shapeCast S65536x1024 x shapeCasts_S32x2048x1024_S65536x1024)
        (shapeCast S65536x1024 oa shapeCasts_S32x2048x1024_S65536x1024) cg sma smb
        (shapeCast S1024x1024 wa shapeCasts_S1x1024x1024_S1024x1024) (shapeCast S1024x1024 wb shapeCasts_S1x1024x1024_S1024x1024)
        (shapeCast S1024x1024 wo shapeCasts_S1x1024x1024_S1024x1024) r j := by
  pointwise [Cert.OutIdeal.Rows.Y]

end Cert.OutRefIdeal.Mean

namespace Cert.Claims

/-- The output projection computes its reference. -/
theorem algebraic_out :
    Cert.algebraic_OutIdeal_OutRefIdeal (hOutIdeal := Cert.OutIdeal.Gen.facts) (hOutRefIdeal := Cert.OutRefIdeal.Gen.facts) := by
  intro m g m' g' _ hag
  refine ⟨fun c => Cert.OutIdeal.Rows.R m c, Cert.OutIdeal.Rows.run_Y m g,
    (θ_run _ _ _).mono (fun _ h c => ⟨(h c).1.trans ?_, (h c).2⟩) (Cert.OutRefIdeal.Value.run m' g')⟩
  obtain ⟨a0, a1, a2, a3, a4, a5, a6, a7⟩ := hag c
  rw [a0, a1, a2, a3, a4, a5, a6, a7]
  funext (i : Cert.OutIdeal.Rows.SM.Idx)
  have e : (i : Cert.OutIdeal.Rows.SM.Idx) = ix2 (i 0) (i 1) := eq_ix2 i
  rw [e]
  refine (Cert.OutRefIdeal.Mean.term_eq _ _ _ _ _ _ _ _ (i 0) (i 1)).trans ?_
  show _ = Cert.OutIdeal.Rows.Y (Cert.OutIdeal.Gen.V m c Cert.OutIdeal.main_v6) (Cert.OutIdeal.Gen.V m c Cert.OutIdeal.main_v7) _ _ _
    (Cert.OutIdeal.Gen.V m c Cert.OutIdeal.main_v1) (Cert.OutIdeal.Gen.V m c Cert.OutIdeal.main_v3) (Cert.OutIdeal.Gen.V m c Cert.OutIdeal.main_v5) (i 0) (i 1)
  rw [Cert.OutIdeal.Rows.entry_x, Cert.OutIdeal.Rows.entry_oa, Cert.OutIdeal.Rows.entry_wa, Cert.OutIdeal.Rows.entry_wb, Cert.OutIdeal.Rows.entry_wo]

end Cert.Claims
-- ==== Proof.lean ====
module

public import proofs.«01_k».proof.Defs
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpRefIdeal
public import proofs.«01_k».proof.Proof.Gen.InpRefIdeal.Run
public import proofs.«01_k».proof.Proof.Hand.InpData
public import proofs.«01_k».proof.Proof.Hand.InpIdealData
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.Hand.InpClaim
public import proofs.«01_k».proof.Proof.Hand.OutValue
public import Idealize.ShloMosaic.Lib.Quiescent
public import Idealize.ShloMosaic.Adequacy
public import Idealize.ShloMosaic.Init

@[expose] public section

noncomputable section

namespace Cert.Proof

open Idealize.ShloMosaic Idealize.SL.Sem Cert.Out

theorem claim : Cert.Claim := ⟨Cert.Inp.Gen.facts, Cert.InpIdeal.Gen.facts, Cert.InpRefIdeal.Gen.facts,
  Cert.Out.Gen.facts, Cert.OutIdeal.Gen.facts, Cert.OutRefIdeal.Gen.facts,
  fun m ρ _ => Cert.Inp.Data.frame m ρ, fun m ρ _ => Cert.InpIdeal.Data.frame m ρ,
  fun m ρ _ => (θ_run _ _ _).mono (fun _ h => ⟨fun c => (h c).2.2.2.2.2.2.2.2.2.2.2.2, sem_eq_zero_of_no_sems rfl _⟩)
    (Cert.InpRefIdeal.Value.run m ρ),
  fun m ρ _ => Cert.Out.Gen.frame m ρ, fun m ρ _ => Cert.OutIdeal.Gen.frame m ρ,
  fun m ρ _ => (θ_run _ _ _).mono (fun _ h => ⟨fun c => (h c).2, sem_eq_zero_of_no_sems rfl _⟩) (Cert.OutRefIdeal.Value.run m ρ),
  trivial, Cert.Claims.algebraic_inp, trivial, Cert.Claims.algebraic_out⟩

end Cert.Proof

end
